-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjReferenceIdeal (m : (ℓ : Loc Cert.MemProjReferenceIdeal.nD Cert.MemProjReferenceIdeal.τ Cert.MemProjReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores [hPre_finite_scores : Cert.Pre_finite_scores.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))) = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite_scores [hPre_finite_scores : Cert.Pre_finite_scores.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite_scores.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2)
      ∧ r.2.mem ((c.tc : Thread Cert.MemProj.nD Cert.MemProj.τ).loc Cert.MemProj.main_arg3) = m ((c.tc : Thread Cert.MemProj.nD Cert.MemProj.τ).loc Cert.MemProj.main_arg3))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
      ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ r.2.sem = fun _ => 0)

def quiescent_MemProjReferenceIdeal [hMemProjReferenceIdeal : Cert.MemProjReferenceIdeal.Facts] : Prop :=
  ∀ (m : (ℓ : Loc Cert.MemProjReferenceIdeal.nD Cert.MemProjReferenceIdeal.τ Cert.MemProjReferenceIdeal.sig) → Buf (Elt Ideal) ℓ) (g : Dev Cert.MemProjReferenceIdeal.nD → PrngReg), Pre_MemProjReferenceIdeal m →
    θ_run (Cert.MemProjReferenceIdeal.defs (F := Ideal)) (onTc (τ := Cert.MemProjReferenceIdeal.τ) (Cert.MemProjReferenceIdeal.main (F := Ideal))) ⟨m, fun _ => 0, g⟩ (fun r => (∀ c : Dev Cert.MemProjReferenceIdeal.nD,
      r.2.mem ((c.tc : Thread Cert.MemProjReferenceIdeal.nD Cert.MemProjReferenceIdeal.τ).loc Cert.MemProjReferenceIdeal.main_arg0) = m ((c.tc : Thread Cert.MemProjReferenceIdeal.nD Cert.MemProjReferenceIdeal.τ).loc Cert.MemProjReferenceIdeal.main_arg0)
      ∧ r.2.mem ((c.tc : Thread Cert.MemProjReferenceIdeal.nD Cert.MemProjReferenceIdeal.τ).loc Cert.MemProjReferenceIdeal.main_arg1) = m ((c.tc : Thread Cert.MemProjReferenceIdeal.nD Cert.MemProjReferenceIdeal.τ).loc Cert.MemProjReferenceIdeal.main_arg1)
      ∧ r.2.mem ((c.tc : Thread Cert.MemProjReferenceIdeal.nD Cert.MemProjReferenceIdeal.τ).loc Cert.MemProjReferenceIdeal.main_arg2) = m ((c.tc : Thread Cert.MemProjReferenceIdeal.nD Cert.MemProjReferenceIdeal.τ).loc Cert.MemProjReferenceIdeal.main_arg2)
      ∧ r.2.mem ((c.tc : Thread Cert.MemProjReferenceIdeal.nD Cert.MemProjReferenceIdeal.τ).loc Cert.MemProjReferenceIdeal.main_arg3) = m ((c.tc : Thread Cert.MemProjReferenceIdeal.nD Cert.MemProjReferenceIdeal.τ).loc Cert.MemProjReferenceIdeal.main_arg3))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_finite_scores [hCrossIdeal : Cert.CrossIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2))
      ∧ r.2.sem = fun _ => 0)

def quiescent_CrossReferenceIdeal_pre_finite_scores [hCrossReferenceIdeal : Cert.CrossReferenceIdeal.Facts] [hPre_finite_scores : Cert.Pre_finite_scores.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite_scores m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v88_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v31) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)) (v2 : (c : Dev Cert.InProjIdeal.nD) → Buf (Elt Ideal) ((c.tc : Thread Cert.InProjIdeal.nD Cert.InProjIdeal.τ).loc Cert.InProjIdeal.main_v10_2)) (v3 : (c : Dev Cert.InProjIdeal.nD) → Buf (Elt Ideal) ((c.tc : Thread Cert.InProjIdeal.nD Cert.InProjIdeal.τ).loc Cert.InProjIdeal.main_v10_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_v10_2) = v2 c
          ∧ r.2.mem ((c.tc : Thread Cert.InProjIdeal.nD Cert.InProjIdeal.τ).loc Cert.InProjIdeal.main_v10_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v27) = v0 c
          ∧ r.2.mem ((c.tc : Thread Cert.InProjReferenceIdeal.nD Cert.InProjReferenceIdeal.τ).loc Cert.InProjReferenceIdeal.main_v28) = v1 c
          ∧ r.2.mem ((c.tc : Thread Cert.InProjReferenceIdeal.nD Cert.InProjReferenceIdeal.τ).loc Cert.InProjReferenceIdeal.main_v29) = v2 c
          ∧ r.2.mem ((c.tc : Thread Cert.InProjReferenceIdeal.nD Cert.InProjReferenceIdeal.τ).loc Cert.InProjReferenceIdeal.main_v30) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_MemProj_MemProjIdeal : Prop :=
  True

def algebraic_MemProjIdeal_MemProjReferenceIdeal [hMemProjIdeal : Cert.MemProjIdeal.Facts] [hMemProjReferenceIdeal : Cert.MemProjReferenceIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjReferenceIdeal.nD Cert.MemProjReferenceIdeal.τ Cert.MemProjReferenceIdeal.sig) → Buf (Elt Ideal) ℓ) (g' : Dev Cert.MemProjReferenceIdeal.nD → PrngReg), Pre_MemProjIdeal m →
    (∀ c : Dev Cert.MemProjIdeal.nD,
      m' ((c.tc : Thread Cert.MemProjReferenceIdeal.nD Cert.MemProjReferenceIdeal.τ).loc Cert.MemProjReferenceIdeal.main_arg0) = m ((c.tc : Thread Cert.MemProjIdeal.nD Cert.MemProjIdeal.τ).loc Cert.MemProjIdeal.main_arg0)
      ∧ m' ((c.tc : Thread Cert.MemProjReferenceIdeal.nD Cert.MemProjReferenceIdeal.τ).loc Cert.MemProjReferenceIdeal.main_arg1) = m ((c.tc : Thread Cert.MemProjIdeal.nD Cert.MemProjIdeal.τ).loc Cert.MemProjIdeal.main_arg1)
      ∧ m' ((c.tc : Thread Cert.MemProjReferenceIdeal.nD Cert.MemProjReferenceIdeal.τ).loc Cert.MemProjReferenceIdeal.main_arg2) = m ((c.tc : Thread Cert.MemProjIdeal.nD Cert.MemProjIdeal.τ).loc Cert.MemProjIdeal.main_arg2)
      ∧ m' ((c.tc : Thread Cert.MemProjReferenceIdeal.nD Cert.MemProjReferenceIdeal.τ).loc Cert.MemProjReferenceIdeal.main_arg3) = m ((c.tc : Thread Cert.MemProjIdeal.nD Cert.MemProjIdeal.τ).loc Cert.MemProjIdeal.main_arg3)) →
    ∃ (v0 : (c : Dev Cert.MemProjIdeal.nD) → Buf (Elt Ideal) ((c.tc : Thread Cert.MemProjIdeal.nD Cert.MemProjIdeal.τ).loc Cert.MemProjIdeal.main_v4_0)) (v1 : (c : Dev Cert.MemProjIdeal.nD) → Buf (Elt Ideal) ((c.tc : Thread Cert.MemProjIdeal.nD Cert.MemProjIdeal.τ).loc Cert.MemProjIdeal.main_v4_1)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v4_0) = v0 c
          ∧ r.2.mem ((c.tc : Thread Cert.MemProjIdeal.nD Cert.MemProjIdeal.τ).loc Cert.MemProjIdeal.main_v4_1) = v1 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
          ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ θ_run (Cert.MemProjReferenceIdeal.defs (F := Ideal)) (onTc (τ := Cert.MemProjReferenceIdeal.τ) (Cert.MemProjReferenceIdeal.main (F := Ideal))) ⟨m', fun _ => 0, g'⟩ (fun r => ∀ c : Dev Cert.MemProjReferenceIdeal.nD,
          r.2.mem ((c.tc : Thread Cert.MemProjReferenceIdeal.nD Cert.MemProjReferenceIdeal.τ).loc Cert.MemProjReferenceIdeal.main_v17) = v0 c
          ∧ r.2.mem ((c.tc : Thread Cert.MemProjReferenceIdeal.nD Cert.MemProjReferenceIdeal.τ).loc Cert.MemProjReferenceIdeal.main_v18) = v1 c
          ∧ r.2.mem ((c.tc : Thread Cert.MemProjReferenceIdeal.nD Cert.MemProjReferenceIdeal.τ).loc Cert.MemProjReferenceIdeal.main_arg0) = m' ((c.tc : Thread Cert.MemProjReferenceIdeal.nD Cert.MemProjReferenceIdeal.τ).loc Cert.MemProjReferenceIdeal.main_arg0)
          ∧ r.2.mem ((c.tc : Thread Cert.MemProjReferenceIdeal.nD Cert.MemProjReferenceIdeal.τ).loc Cert.MemProjReferenceIdeal.main_arg1) = m' ((c.tc : Thread Cert.MemProjReferenceIdeal.nD Cert.MemProjReferenceIdeal.τ).loc Cert.MemProjReferenceIdeal.main_arg1)
          ∧ r.2.mem ((c.tc : Thread Cert.MemProjReferenceIdeal.nD Cert.MemProjReferenceIdeal.τ).loc Cert.MemProjReferenceIdeal.main_arg2) = m' ((c.tc : Thread Cert.MemProjReferenceIdeal.nD Cert.MemProjReferenceIdeal.τ).loc Cert.MemProjReferenceIdeal.main_arg2)
          ∧ r.2.mem ((c.tc : Thread Cert.MemProjReferenceIdeal.nD Cert.MemProjReferenceIdeal.τ).loc Cert.MemProjReferenceIdeal.main_arg3) = m' ((c.tc : Thread Cert.MemProjReferenceIdeal.nD Cert.MemProjReferenceIdeal.τ).loc Cert.MemProjReferenceIdeal.main_arg3))

def preserves_Cross_CrossIdeal : Prop :=
  True

def algebraic_CrossIdeal_CrossReferenceIdeal_pre_finite_scores [hCrossIdeal : Cert.CrossIdeal.Facts] [hCrossReferenceIdeal : Cert.CrossReferenceIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite_scores m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v20) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMerge : Cert.Merge.Facts) (hMergeIdeal : Cert.MergeIdeal.Facts) (hMergeReferenceIdeal : Cert.MergeReferenceIdeal.Facts) (hInProj : Cert.InProj.Facts) (hInProjIdeal : Cert.InProjIdeal.Facts) (hInProjReferenceIdeal : Cert.InProjReferenceIdeal.Facts) (hMemProj : Cert.MemProj.Facts) (hMemProjIdeal : Cert.MemProjIdeal.Facts) (hMemProjReferenceIdeal : Cert.MemProjReferenceIdeal.Facts) (hCross : Cert.Cross.Facts) (hCrossIdeal : Cert.CrossIdeal.Facts) (hCrossReferenceIdeal : Cert.CrossReferenceIdeal.Facts) (hPre_finite_inputs : Cert.Pre_finite_inputs.Facts) (hPre_finite_scores : Cert.Pre_finite_scores.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_MemProj (hMemProj := hMemProj)
    ∧ quiescent_MemProjIdeal (hMemProjIdeal := hMemProjIdeal)
    ∧ quiescent_MemProjReferenceIdeal (hMemProjReferenceIdeal := hMemProjReferenceIdeal)
    ∧ quiescent_Cross (hCross := hCross)
    ∧ quiescent_CrossIdeal (hCrossIdeal := hCrossIdeal)
    ∧ quiescent_CrossIdeal_pre_finite_scores (hCrossIdeal := hCrossIdeal) (hPre_finite_scores := hPre_finite_scores)
    ∧ quiescent_CrossReferenceIdeal (hCrossReferenceIdeal := hCrossReferenceIdeal)
    ∧ quiescent_CrossReferenceIdeal_pre_finite_scores (hCrossReferenceIdeal := hCrossReferenceIdeal) (hPre_finite_scores := hPre_finite_scores)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Mlp_MlpIdeal
    ∧ algebraic_MlpIdeal_MlpReferenceIdeal (hMlpIdeal := hMlpIdeal) (hMlpReferenceIdeal := hMlpReferenceIdeal)
    ∧ preserves_Merge_MergeIdeal
    ∧ algebraic_MergeIdeal_MergeReferenceIdeal (hMergeIdeal := hMergeIdeal) (hMergeReferenceIdeal := hMergeReferenceIdeal)
    ∧ preserves_InProj_InProjIdeal
    ∧ algebraic_InProjIdeal_InProjReferenceIdeal (hInProjIdeal := hInProjIdeal) (hInProjReferenceIdeal := hInProjReferenceIdeal)
    ∧ preserves_MemProj_MemProjIdeal
    ∧ algebraic_MemProjIdeal_MemProjReferenceIdeal (hMemProjIdeal := hMemProjIdeal) (hMemProjReferenceIdeal := hMemProjReferenceIdeal)
    ∧ preserves_Cross_CrossIdeal
    ∧ algebraic_CrossIdeal_CrossReferenceIdeal_pre_finite_scores (hCrossIdeal := hCrossIdeal) (hCrossReferenceIdeal := hCrossReferenceIdeal) (hPre_finite_scores := hPre_finite_scores)
-- ==== Pre_finite_inputs.lean ====
abbrev S32x8x7176 : Shape := ⟨3, ![32, 8, 7176]⟩
abbrev S32x3x1536 : Shape := ⟨3, ![32, 3, 1536]⟩
abbrev S2x32x4x128x128 : Shape := ⟨5, ![2, 32, 4, 128, 128]⟩
abbrev S4x1536 : Shape := ⟨2, ![4, 1536]⟩
abbrev S4 : Shape := ⟨1, ![4]⟩
abbrev S128 : Shape := ⟨1, ![128]⟩
abbrev S_ : Shape := ⟨0, ![]⟩

class Facts : Prop where
  bcast_S_S32x8x7176 : S_.BroadcastsInDim S32x8x7176 (![] : Fin 0 → Fin S32x8x7176.rank)
  reducesTo_S32x8x7176_S_d0_1_2 : S32x8x7176.ReducesTo [0, 1, 2] S_
  h_S_ : 0 < S_.numel
  bcast_S_S32x3x1536 : S_.BroadcastsInDim S32x3x1536 (![] : Fin 0 → Fin S32x3x1536.rank)
  reducesTo_S32x3x1536_S_d0_1_2 : S32x3x1536.ReducesTo [0, 1, 2] S_
  bcast_S_S2x32x4x128x128 : S_.BroadcastsInDim S2x32x4x128x128 (![] : Fin 0 → Fin S2x32x4x128x128.rank)
  reducesTo_S2x32x4x128x128_S_d0_1_2_3_4 : S2x32x4x128x128.ReducesTo [0, 1, 2, 3, 4] S_
  bcast_S_S4x1536 : S_.BroadcastsInDim S4x1536 (![] : Fin 0 → Fin S4x1536.rank)
  reducesTo_S4x1536_S_d0_1 : S4x1536.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_arg5 : FVec F S4 .f32) (main_v13 : IVec S_ 1) (main_v16 : IVec S4x1536 1) : IVec S_ 1 :=
  let main_c_5 : IVec S_ 1 := constantI S_ 1 1#1
  let main_v17 : IVec S_ 1 := (fun x v => Host.reduce IntOp.andi x v reducesTo_S4x1536_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S32x8x7176 .f32) (main_arg1 : FVec F S32x3x1536 .f32) (main_arg2 : FVec F S2x32x4x128x128 .f32) (main_arg3 : FVec F S4x1536 .f32) (main_arg4 : FVec F S4 .f32) (main_arg5 : FVec F S4 .f32) (main_arg6 : FVec F S128 .f32) : IVec S_ 1 :=
  let main_v0 : FVec F S32x8x7176 .f32 := Host.absf main_arg0
  let main_cst : FVec F S_ .f32 := constant S_ .f32 0x7F800000#32
  let main_v1 : FVec F S32x8x7176 .f32 := broadcastInDim S32x8x7176 ![] bcast_S_S32x8x7176 main_cst
  let main_v2 : IVec S32x8x7176 1 := cmpf .olt main_v0 main_v1
  let main_c : IVec S_ 1 := constantI S_ 1 1#1
  let main_v3 : IVec S_ 1 := (fun x v => Host.reduce IntOp.andi x v reducesTo_S32x8x7176_S_d0_1_2 h_S_) main_v2 main_c
  let main_v4 : FVec F S32x3x1536 .f32 := Host.absf main_arg1
  let main_cst_0 : FVec F S_ .f32 := constant S_ .f32 0x7F800000#32
  let main_v5 : FVec F S32x3x1536 .f32 := broadcastInDim S32x3x1536 ![] bcast_S_S32x3x1536 main_cst_0
  let main_v6 : IVec S32x3x1536 1 := cmpf .olt main_v4 main_v5
  let main_c_1 : IVec S_ 1 := constantI S_ 1 1#1
  let main_v7 : IVec S_ 1 := (fun x v => Host.reduce IntOp.andi x v reducesTo_S32x3x1536_S_d0_1_2 h_S_) main_v6 main_c_1
  let main_v8 : IVec S_ 1 := andi main_v3 main_v7
  let main_v9 : FVec F S2x32x4x128x128 .f32 := Host.absf main_arg2
  let main_cst_2 : FVec F S_ .f32 := constant S_ .f32 0x7F800000#32
  let main_v10 : FVec F S2x32x4x128x128 .f32 := broadcastInDim S2x32x4x128x128 ![] bcast_S_S2x32x4x128x128 main_cst_2
  let main_v11 : IVec S2x32x4x128x128 1 := cmpf .olt main_v9 main_v10
  let main_c_3 : IVec S_ 1 := constantI S_ 1 1#1
  let main_v12 : IVec S_ 1 := (fun x v => Host.reduce IntOp.andi x v reducesTo_S2x32x4x128x128_S_d0_1_2_3_4 h_S_) main_v11 main_c_3
  let main_v13 : IVec S_ 1 := andi main_v8 main_v12
  let main_v14 : FVec F S4x1536 .f32 := Host.absf main_arg3
  let main_cst_4 : FVec F S_ .f32 := constant S_ .f32 0x7F800000#32
  let main_v15 : FVec F S4x1536 .f32 := broadcastInDim S4x1536 ![] bcast_S_S4x1536 main_cst_4
  let main_v16 : IVec S4x1536 1 := cmpf .olt main_v14 main_v15
  fn_part1 (F := F) main_arg4 main_arg5 main_v13 main_v16
-- ==== Pre_finite_scores.lean ====
abbrev S16384x6144 : Shape := ⟨2, ![16384, 6144]⟩
abbrev S8192x128 : Shape := ⟨2, ![8192, 128]⟩
abbrev S16384x512 : Shape := ⟨2, ![16384, 512]⟩
abbrev S_ : Shape := ⟨0, ![]⟩

class Facts : Prop where
  slices_S16384x6144_S16384x512_0_2560 : S16384x6144.Slices ![0, 2560] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S16384x6144 .f32) (main_arg1 : FVec F S8192x128 .f32) (main_arg2 : FVec F S8192x128 .f32) : IVec S_ 1 :=
  let main_v0 : FVec F S16384x512 .f32 := (extractStridedSlice S16384x512 ![0, 2560] · slices_S16384x6144_S16384x512_0_2560) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S8192x128 .f32 := Host.absf main_arg1
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  let main_c_1 : IVec S_ 1 := constantI S_ 1 1#1
  let main_v8 : IVec S_ 1 := (fun x v => Host.reduce IntOp.andi x v reducesTo_S8192x128_S_d0_1 h_S_) main_v7 main_c_1
  let main_v9 : IVec S_ 1 := andi main_v4 main_v8
  main_v9
-- ==== Kernel.lean ====
abbrev S32x8x7176 : Shape := ⟨3, ![32, 8, 7176]⟩
abbrev S32x3x1536 : Shape := ⟨3, ![32, 3, 1536]⟩
abbrev S2x32x4x128x128 : Shape := ⟨5, ![2, 32, 4, 128, 128]⟩
abbrev S4x1536 : Shape := ⟨2, ![4, 1536]⟩
abbrev S4 : Shape := ⟨1, ![4]⟩
abbrev S128 : Shape := ⟨1, ![128]⟩
abbrev S256x7176 : Shape := ⟨2, ![256, 7176]⟩
abbrev S256x2048 : Shape := ⟨2, ![256, 2048]⟩
abbrev S256x512 : Shape := ⟨2, ![256, 512]⟩
abbrev S256x3584 : Shape := ⟨2, ![256, 3584]⟩
abbrev S256x6144 : Shape := ⟨2, ![256, 6144]⟩
abbrev S256x8 : Shape := ⟨2, ![256, 8]⟩
abbrev S_ : Shape := ⟨0, ![]⟩
abbrev S32x8x1536 : Shape := ⟨3, ![32, 8, 1536]⟩
abbrev S64x4x128x128 : Shape := ⟨4, ![64, 4, 128, 128]⟩
abbrev S8 : Shape := ⟨1, ![8]⟩
abbrev S1x8 : Shape := ⟨2, ![1, 8]⟩
abbrev S32x8x6144 : Shape := ⟨3, ![32, 8, 6144]⟩
abbrev S32x8x8 : Shape := ⟨3, ![32, 8, 8]⟩
abbrev S1x128 : Shape := ⟨2, ![1, 128]⟩
abbrev S32x8x512 : Shape := ⟨3, ![32, 8, 512]⟩
abbrev S32x4x128x128 : Shape := ⟨4, ![32, 4, 128, 128]⟩
abbrev S4x8x1536 : Shape := ⟨3, ![4, 8, 1536]⟩
abbrev S4x8x8 : Shape := ⟨3, ![4, 8, 8]⟩
abbrev S4x8x512 : Shape := ⟨3, ![4, 8, 512]⟩
abbrev S4x4x128x128 : Shape := ⟨4, ![4, 4, 128, 128]⟩
abbrev S4x136x1536 : Shape := ⟨3, ![4, 136, 1536]⟩
abbrev S4x128x1536 : Shape := ⟨3, ![4, 128, 1536]⟩
abbrev S128x128 : Shape := ⟨2, ![128, 128]⟩
abbrev S1x8x128 : Shape := ⟨3, ![1, 8, 128]⟩
abbrev S8x128 : Shape := ⟨2, ![8, 128]⟩
abbrev S8x1 : Shape := ⟨2, ![8, 1]⟩
abbrev S120x128 : Shape := ⟨2, ![120, 128]⟩
abbrev S1x120x128 : Shape := ⟨3, ![1, 120, 128]⟩
abbrev S1x8x8 : Shape := ⟨3, ![1, 8, 8]⟩
abbrev S8x8 : Shape := ⟨2, ![8, 8]⟩
abbrev S120x8 : Shape := ⟨2, ![120, 8]⟩
abbrev S128x8 : Shape := ⟨2, ![128, 8]⟩
abbrev S1x128x128 : Shape := ⟨3, ![1, 128, 128]⟩
abbrev S128x1 : Shape := ⟨2, ![128, 1]⟩
abbrev S128x256 : Shape := ⟨2, ![128, 256]⟩
abbrev S1x1 : Shape := ⟨2, ![1, 1]⟩
abbrev S1x1x128x128 : Shape := ⟨4, ![1, 1, 128, 128]⟩

abbrev nBuf : Space → Nat
  | .hbm => 28
  | .vmem => 21
  | .smem => 0
  | _ => 0

abbrev bufTy : (tb : Table) → Fin (tcTables nBuf tb) → BufTy
  | .hbm, ⟨0, _⟩ => ⟨S32x8x7176, .f32⟩
  | .hbm, ⟨1, _⟩ => ⟨S32x3x1536, .f32⟩
  | .hbm, ⟨2, _⟩ => ⟨S2x32x4x128x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S256x7176, .f32⟩
  | .hbm, ⟨8, _⟩ => ⟨S256x2048, .f32⟩
  | .hbm, ⟨9, _⟩ => ⟨S256x512, .f32⟩
  | .hbm, ⟨10, _⟩ => ⟨S256x3584, .f32⟩
  | .hbm, ⟨11, _⟩ => ⟨S256x6144, .f32⟩
  | .hbm, ⟨12, _⟩ => ⟨S256x8, .f32⟩
  | .hbm, ⟨13, _⟩ => ⟨S_, .i32⟩
  | .hbm, ⟨14, _⟩ => ⟨S_, .f32⟩
  | .hbm, ⟨15, _⟩ => ⟨S32x8x1536, .f32⟩
  | .hbm, ⟨16, _⟩ => ⟨S64x4x128x128, .f32⟩
  | .hbm, ⟨17, _⟩ => ⟨S_, .f32⟩
  | .hbm, ⟨18, _⟩ => ⟨S4, .f32⟩
  | .hbm, ⟨19, _⟩ => ⟨S8, .f32⟩
  | .hbm, ⟨20, _⟩ => ⟨S1x8, .f32⟩
  | .hbm, ⟨21, _⟩ => ⟨S8, .f32⟩
  | .hbm, ⟨22, _⟩ => ⟨S1x8, .f32⟩
  | .hbm, ⟨23, _⟩ => ⟨S32x8x6144, .f32⟩
  | .hbm, ⟨24, _⟩ => ⟨S32x8x8, .f32⟩
  | .hbm, ⟨25, _⟩ => ⟨S1x128, .f32⟩
  | .hbm, ⟨26, _⟩ => ⟨S32x8x512, .f32⟩
  | .hbm, ⟨27, _⟩ => ⟨S32x4x128x128, .f32⟩
  | .local _ .vmem, ⟨0, _⟩ => ⟨S4x8x1536, .f32⟩
  | .local _ .vmem, ⟨1, _⟩ => ⟨S4x8x1536, .f32⟩
  | .local _ .vmem, ⟨2, _⟩ => ⟨S4x8x8, .f32⟩
  | .local _ .vmem, ⟨3, _⟩ => ⟨S4x8x8, .f32⟩
  | .local _ .vmem, ⟨4, _⟩ => ⟨S4x8x512, .f32⟩
  | .local _ .vmem, ⟨5, _⟩ => ⟨S4x8x512, .f32⟩
  | .local _ .vmem, ⟨6, _⟩ => ⟨S4x8x1536, .f32⟩
  | .local _ .vmem, ⟨7, _⟩ => ⟨S4x8x1536, .f32⟩
  | .local _ .vmem, ⟨8, _⟩ => ⟨S4x4x128x128, .f32⟩
  | .local _ .vmem, ⟨9, _⟩ => ⟨S4x4x128x128, .f32⟩
  | .local _ .vmem, ⟨10, _⟩ => ⟨S4x1536, .f32⟩
  | .local _ .vmem, ⟨11, _⟩ => ⟨S1x8, .f32⟩
  | .local _ .vmem, ⟨12, _⟩ => ⟨S1x8, .f32⟩
  | .local _ .vmem, ⟨13, _⟩ => ⟨S1x128, .f32⟩
  | .local _ .vmem, ⟨14, _⟩ => ⟨S4x8x512, .f32⟩
  | .local _ .vmem, ⟨15, _⟩ => ⟨S4x8x512, .f32⟩
  | .local _ .vmem, ⟨16, _⟩ => ⟨S4x4x128x128, .f32⟩
  | .local _ .vmem, ⟨17, _⟩ => ⟨S4x4x128x128, .f32⟩
  | .local _ .vmem, ⟨18, _⟩ => ⟨S4x136x1536, .f32⟩
  | .local _ .vmem, ⟨19, _⟩ => ⟨S4x4x128x128, .f32⟩
  | .local _ .vmem, ⟨20, _⟩ => ⟨S4x128x1536, .f32⟩
  | _, _ => ⟨S32x8x7176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_2394 : BitVec 32 := 0#32
  let v4232 : BitVec 1 := Scalar.cmpi .eq arg1 c0_i32_2394
  let v4233 : BitVec 32 := Scalar.extui v4232
  let c0_i32_2395 : BitVec 32 := 0#32
  let v4234 : BitVec 1 := Scalar.cmpi .ne v4233 c0_i32_2395
  v4234

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S32x8x7176 : Shape := ⟨3, ![32, 8, 7176]⟩
abbrev S32x3x1536 : Shape := ⟨3, ![32, 3, 1536]⟩
abbrev S2x32x4x128x128 : Shape := ⟨5, ![2, 32, 4, 128, 128]⟩
abbrev S4x1536 : Shape := ⟨2, ![4, 1536]⟩
abbrev S4 : Shape := ⟨1, ![4]⟩
abbrev S128 : Shape := ⟨1, ![128]⟩
abbrev S1x32x4x128x128 : Shape := ⟨5, ![1, 32, 4, 128, 128]⟩
abbrev S32x4x128x128 : Shape := ⟨4, ![32, 4, 128, 128]⟩
abbrev S32x8x1536 : Shape := ⟨3, ![32, 8, 1536]⟩
abbrev S32x8x512 : Shape := ⟨3, ![32, 8, 512]⟩
abbrev S32x8x4 : Shape := ⟨3, ![32, 8, 4]⟩
abbrev S32x8x3072 : Shape := ⟨3, ![32, 8, 3072]⟩
abbrev S32x11x1536 : Shape := ⟨3, ![32, 11, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S32x8x4x128 : Shape := ⟨4, ![32, 8, 4, 128]⟩
abbrev S32x8x4x1 : Shape := ⟨4, ![32, 8, 4, 1]⟩
abbrev S1x1x4 : Shape := ⟨3, ![1, 1, 4]⟩
abbrev S8x32x4x128 : Shape := ⟨4, ![8, 32, 4, 128]⟩
abbrev S8x32x4 : Shape := ⟨3, ![8, 32, 4]⟩
abbrev S1x32x4x128 : Shape := ⟨4, ![1, 32, 4, 128]⟩
abbrev S32x4x128 : Shape := ⟨3, ![32, 4, 128]⟩
abbrev S1x32x4 : Shape := ⟨3, ![1, 32, 4]⟩
abbrev S32x4 : Shape := ⟨2, ![32, 4]⟩
abbrev S32x4x1x1 : Shape := ⟨4, ![32, 4, 1, 1]⟩
abbrev S32x4x1 : Shape := ⟨3, ![32, 4, 1]⟩
abbrev S32x4x128x1 : Shape := ⟨4, ![32, 4, 128, 1]⟩
abbrev S32x4x1x128 : Shape := ⟨4, ![32, 4, 1, 128]⟩
abbrev S1x1x1x128 : Shape := ⟨4, ![1, 1, 1, 128]⟩

abbrev nBuf : Space → Nat
  | .hbm => 220
  | .vmem => 0
  | .smem => 0
  | _ => 0

abbrev hbmTy0_0 (i : Nat) : BufTy := match i % 128 with
  | 0 => ⟨S32x8x7176, .f32⟩
  | 1 => ⟨S32x3x1536, .f32⟩
  | 2 => ⟨S2x32x4x128x128, .f32⟩
  | 3 => ⟨S4x1536, .f32⟩
  | 4 => ⟨S4, .f32⟩
  | 5 => ⟨S4, .f32⟩
  | 6 => ⟨S128, .f32⟩
  | 7 => ⟨S1x32x4x128x128, .f32⟩
  | 8 => ⟨S32x4x128x128, .f32⟩
  | 9 => ⟨S32x8x1536, .f32⟩
  | 10 => ⟨S32x8x512, .f32⟩
  | 11 => ⟨S32x8x4, .f32⟩
  | 12 => ⟨S32x8x4, .f32⟩
  | 13 => ⟨S32x8x512, .f32⟩
  | 14 => ⟨S32x8x512, .f32⟩
  | 15 => ⟨S32x8x512, .f32⟩
  | 16 => ⟨S32x8x512, .f32⟩
  | 17 => ⟨S32x8x3072, .f32⟩
  | 18 => ⟨S32x11x1536, .f32⟩
  | 19 => ⟨S32x8x1536, .f32⟩
  | 20 => ⟨S1x1536, .f32⟩
  | 21 => ⟨S1536, .f32⟩
  | 22 => ⟨S1x1x1536, .f32⟩
  | 23 => ⟨S32x8x1536, .f32⟩
  | 24 => ⟨S32x8x1536, .f32⟩
  | 25 => ⟨S_, .f32⟩
  | 26 => ⟨S32x8x1536, .f32⟩
  | 27 => ⟨S32x8x1536, .f32⟩
  | 28 => ⟨S32x8x1536, .f32⟩
  | 29 => ⟨S1x1536, .f32⟩
  | 30 => ⟨S1536, .f32⟩
  | 31 => ⟨S1x1x1536, .f32⟩
  | 32 => ⟨S32x8x1536, .f32⟩
  | 33 => ⟨S32x8x1536, .f32⟩
  | 34 => ⟨S32x8x1536, .f32⟩
  | 35 => ⟨S32x8x1536, .f32⟩
  | 36 => ⟨S1x1536, .f32⟩
  | 37 => ⟨S1536, .f32⟩
  | 38 => ⟨S1x1x1536, .f32⟩
  | 39 => ⟨S32x8x1536, .f32⟩
  | 40 => ⟨S32x8x1536, .f32⟩
  | 41 => ⟨S32x8x1536, .f32⟩
  | 42 => ⟨S32x8x1536, .f32⟩
  | 43 => ⟨S1x1536, .f32⟩
  | 44 => ⟨S1536, .f32⟩
  | 45 => ⟨S1x1x1536, .f32⟩
  | 46 => ⟨S32x8x1536, .f32⟩
  | 47 => ⟨S32x8x1536, .f32⟩
  | 48 => ⟨S32x8x1536, .f32⟩
  | 49 => ⟨S32x8x1536, .f32⟩
  | 50 => ⟨S32x8x1536, .f32⟩
  | 51 => ⟨S_, .f32⟩
  | 52 => ⟨S32x8x1536, .f32⟩
  | 53 => ⟨S32x8x1536, .f32⟩
  | 54 => ⟨S_, .f32⟩
  | 55 => ⟨S32x8x1536, .f32⟩
  | 56 => ⟨S32x8x1536, .f32⟩
  | 57 => ⟨S32x8x1536, .f32⟩
  | 58 => ⟨S32x3x1536, .f32⟩
  | 59 => ⟨S32x8x512, .f32⟩
  | 60 => ⟨S32x8x512, .f32⟩
  | 61 => ⟨S32x8x512, .f32⟩
  | 62 => ⟨S32x8x4x128, .f32⟩
  | 63 => ⟨S32x8x4x128, .f32⟩
  | 64 => ⟨S_, .f32⟩
  | 65 => ⟨S32x8x4, .f32⟩
  | 66 => ⟨S32x8x4x1, .f32⟩
  | 67 => ⟨S_, .f32⟩
  | 68 => ⟨S32x8x4x1, .f32⟩
  | 69 => ⟨S32x8x4x1, .f32⟩
  | 70 => ⟨S32x8x4x1, .f32⟩
  | 71 => ⟨S32x8x4x128, .f32⟩
  | 72 => ⟨S32x8x4x128, .f32⟩
  | 73 => ⟨S32x8x4x128, .f32⟩
  | 74 => ⟨S32x8x4x128, .f32⟩
  | 75 => ⟨S_, .f32⟩
  | 76 => ⟨S32x8x4, .f32⟩
  | 77 => ⟨S32x8x4x1, .f32⟩
  | 78 => ⟨S_, .f32⟩
  | 79 => ⟨S32x8x4x1, .f32⟩
  | 80 => ⟨S32x8x4x1, .f32⟩
  | 81 => ⟨S32x8x4x1, .f32⟩
  | 82 => ⟨S32x8x4x128, .f32⟩
  | 83 => ⟨S32x8x4x128, .f32⟩
  | 84 => ⟨S32x8x4x128, .f32⟩
  | 85 => ⟨S32x8x4, .f32⟩
  | 86 => ⟨S32x8x4, .f32⟩
  | 87 => ⟨S_, .f32⟩
  | 88 => ⟨S32x8x4, .f32⟩
  | 89 => ⟨S32x8x4, .f32⟩
  | 90 => ⟨S_, .f32⟩
  | 91 => ⟨S32x8x4, .f32⟩
  | 92 => ⟨S32x8x4, .f32⟩
  | 93 => ⟨S4, .f32⟩
  | 94 => ⟨S4, .f32⟩
  | 95 => ⟨S1x1x4, .f32⟩
  | 96 => ⟨S32x8x4, .f32⟩
  | 97 => ⟨S32x8x4, .f32⟩
  | 98 => ⟨S_, .f32⟩
  | 99 => ⟨S32x8x4, .f32⟩
  | 100 => ⟨S32x8x4, .f32⟩
  | 101 => ⟨S32x8x4, .f32⟩
  | 102 => ⟨S32x8x4, .f32⟩
  | 103 => ⟨S32x8x4, .i1⟩
  | 104 => ⟨S32x8x4, .f32⟩
  | 105 => ⟨S32x8x4, .f32⟩
  | 106 => ⟨S32x8x4, .f32⟩
  | 107 => ⟨S32x8x4, .f32⟩
  | 108 => ⟨S32x8x4, .f32⟩
  | 109 => ⟨S32x8x4, .f32⟩
  | 110 => ⟨S32x8x4, .f32⟩
  | 111 => ⟨S32x8x4, .f32⟩
  | 112 => ⟨S1x1x4, .f32⟩
  | 113 => ⟨S32x8x4, .f32⟩
  | 114 => ⟨S32x8x4, .f32⟩
  | 115 => ⟨S_, .f32⟩
  | 116 => ⟨S32x8x4x128, .f32⟩
  | 117 => ⟨S32x8x4x128, .f32⟩
  | 118 => ⟨S8x32x4x128, .f32⟩
  | 119 => ⟨S8x32x4x128, .f32⟩
  | 120 => ⟨S8x32x4x128, .f32⟩
  | 121 => ⟨S8x32x4, .f32⟩
  | 122 => ⟨S8x32x4, .f32⟩
  | 123 => ⟨S_, .f32⟩
  | 124 => ⟨S8x32x4x128, .f32⟩
  | 125 => ⟨S_, .i32⟩
  | 126 => ⟨S8x32x4x128, .f32⟩
  | 127 => ⟨S8x32x4x128, .f32⟩
  | _ => ⟨S32x8x7176, .f32⟩

abbrev hbmTy0_1 (i : Nat) : BufTy := match i % 128 with
  | 0 => ⟨S8x32x4x128, .f32⟩
  | 1 => ⟨S8x32x4, .f32⟩
  | 2 => ⟨S8x32x4, .f32⟩
  | 3 => ⟨S_, .i32⟩
  | 4 => ⟨S32x4x128x128, .f32⟩
  | 5 => ⟨S8x32x4x128, .f32⟩
  | 6 => ⟨S_, .i32⟩
  | 7 => ⟨S_, .i1⟩
  | 8 => ⟨S_, .i32⟩
  | 9 => ⟨S_, .i32⟩
  | 10 => ⟨S_, .i32⟩
  | 11 => ⟨S1x32x4x128, .f32⟩
  | 12 => ⟨S32x4x128, .f32⟩
  | 13 => ⟨S_, .i32⟩
  | 14 => ⟨S_, .i32⟩
  | 15 => ⟨S_, .i32⟩
  | 16 => ⟨S1x32x4x128, .f32⟩
  | 17 => ⟨S32x4x128, .f32⟩
  | 18 => ⟨S_, .i32⟩
  | 19 => ⟨S_, .i32⟩
  | 20 => ⟨S_, .i32⟩
  | 21 => ⟨S1x32x4x128, .f32⟩
  | 22 => ⟨S32x4x128, .f32⟩
  | 23 => ⟨S_, .i32⟩
  | 24 => ⟨S_, .i32⟩
  | 25 => ⟨S1x32x4, .f32⟩
  | 26 => ⟨S32x4, .f32⟩
  | 27 => ⟨S_, .i32⟩
  | 28 => ⟨S_, .i32⟩
  | 29 => ⟨S1x32x4, .f32⟩
  | 30 => ⟨S32x4, .f32⟩
  | 31 => ⟨S32x4, .f32⟩
  | 32 => ⟨S32x4x1x1, .f32⟩
  | 33 => ⟨S32x4x128x128, .f32⟩
  | 34 => ⟨S32x4x128x128, .f32⟩
  | 35 => ⟨S32x4x1, .f32⟩
  | 36 => ⟨S32x4x128, .f32⟩
  | 37 => ⟨S32x4x128, .f32⟩
  | 38 => ⟨S32x4x128, .f32⟩
  | 39 => ⟨S32x4x128, .f32⟩
  | 40 => ⟨S32x4x128x1, .f32⟩
  | 41 => ⟨S32x4x1x128, .f32⟩
  | 42 => ⟨S32x4x128x128, .f32⟩
  | 43 => ⟨S32x4x128x128, .f32⟩
  | 44 => ⟨S32x4x128x128, .f32⟩
  | 45 => ⟨S32x4x128x128, .f32⟩
  | 46 => ⟨S32x4x128, .f32⟩
  | 47 => ⟨S1x32x4x128, .f32⟩
  | 48 => ⟨S_, .i32⟩
  | 49 => ⟨S_, .i32⟩
  | 50 => ⟨S_, .i32⟩
  | 51 => ⟨S8x32x4x128, .f32⟩
  | 52 => ⟨S_, .i32⟩
  | 53 => ⟨S_, .i32⟩
  | 54 => ⟨S32x8x4x128, .f32⟩
  | 55 => ⟨S32x8x1536, .f32⟩
  | 56 => ⟨S32x8x512, .f32⟩
  | 57 => ⟨S32x8x4, .f32⟩
  | 58 => ⟨S32x8x4, .f32⟩
  | 59 => ⟨S32x8x512, .f32⟩
  | 60 => ⟨S32x8x512, .f32⟩
  | 61 => ⟨S32x8x512, .f32⟩
  | 62 => ⟨S32x8x512, .f32⟩
  | 63 => ⟨S32x8x3072, .f32⟩
  | 64 => ⟨S32x8x4x128, .f32⟩
  | 65 => ⟨S_, .f32⟩
  | 66 => ⟨S32x8x4, .f32⟩
  | 67 => ⟨S32x8x4x1, .f32⟩
  | 68 => ⟨S_, .f32⟩
  | 69 => ⟨S32x8x4x1, .f32⟩
  | 70 => ⟨S32x8x4x1, .f32⟩
  | 71 => ⟨S_, .f32⟩
  | 72 => ⟨S32x8x4x1, .f32⟩
  | 73 => ⟨S32x8x4x1, .f32⟩
  | 74 => ⟨S32x8x4x1, .f32⟩
  | 75 => ⟨S32x8x4x128, .f32⟩
  | 76 => ⟨S32x8x4x128, .f32⟩
  | 77 => ⟨S1x1x1x128, .f32⟩
  | 78 => ⟨S32x8x4x128, .f32⟩
  | 79 => ⟨S32x8x4x128, .f32⟩
  | 80 => ⟨S32x8x4x128, .f32⟩
  | 81 => ⟨S32x8x4x128, .f32⟩
  | 82 => ⟨S32x8x4x128, .f32⟩
  | 83 => ⟨S_, .f32⟩
  | 84 => ⟨S32x8x4x128, .f32⟩
  | 85 => ⟨S32x8x4x128, .f32⟩
  | 86 => ⟨S_, .f32⟩
  | 87 => ⟨S32x8x4x128, .f32⟩
  | 88 => ⟨S32x8x4x128, .f32⟩
  | 89 => ⟨S32x8x4x128, .f32⟩
  | 90 => ⟨S32x8x4x128, .f32⟩
  | 91 => ⟨S32x8x512, .f32⟩
  | _ => ⟨S32x8x7176, .f32⟩

abbrev hbmTy (i : Nat) : BufTy := match i / 128 with
  | 0 => hbmTy0_0 i
  | 1 => hbmTy0_1 i
  | _ => ⟨S32x8x7176, .f32⟩

abbrev bufTy : (tb : Table) → Fin (tcTables nBuf tb) → BufTy
  | .hbm, ⟨i, _⟩ => hbmTy i
  | _, _ => ⟨S32x8x7176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_0 : Ref sig .tc := ⟨.hbm, 64, rfl⟩
abbrev main_v48 : Ref sig .tc := ⟨.hbm, 65, rfl⟩
abbrev main_v49 : Ref sig .tc := ⟨.hbm, 66, rfl⟩
abbrev main_cst_1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_2 : Ref sig .tc := ⟨.hbm, 75, rfl⟩
abbrev main_v57 : Ref sig .tc := ⟨.hbm, 76, rfl⟩
abbrev main_v58 : Ref sig .tc := ⟨.hbm, 77, rfl⟩
abbrev main_cst_3 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_4 : Ref sig .tc := ⟨.hbm, 87, rfl⟩
abbrev main_v67 : Ref sig .tc := ⟨.hbm, 88, rfl⟩
abbrev main_v68 : Ref sig .tc := ⟨.hbm, 89, rfl⟩
abbrev main_cst_5 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_6 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_7 : Ref sig .tc := ⟨.hbm, 123, rfl⟩
abbrev main_v87 : Ref sig .tc := ⟨.hbm, 124, rfl⟩
abbrev main_c : Ref sig .tc := ⟨.hbm, 125, rfl⟩
abbrev main_v88_0 : Ref sig .tc := ⟨.hbm, 126, rfl⟩
abbrev main_v88_1 : Ref sig .tc := ⟨.hbm, 127, rfl⟩
abbrev main_v88_2 : Ref sig .tc := ⟨.hbm, 128, rfl⟩
abbrev main_v88_3 : Ref sig .tc := ⟨.hbm, 129, rfl⟩
abbrev main_v88_4 : Ref sig .tc := ⟨.hbm, 130, rfl⟩
abbrev main_v88_5 : Ref sig .tc := ⟨.hbm, 131, rfl⟩
abbrev main_v88_6 : Ref sig .tc := ⟨.hbm, 132, rfl⟩
abbrev main_v88_7 : Ref sig .tc := ⟨.hbm, 133, rfl⟩
abbrev main_while0c_c_18 : Ref sig .tc := ⟨.hbm, 134, rfl⟩
abbrev main_while0c_v116 : Ref sig .tc := ⟨.hbm, 135, rfl⟩
abbrev main_while0b_call2_c : Ref sig .tc := ⟨.hbm, 136, rfl⟩
abbrev main_while0b_call2_c_0 : Ref sig .tc := ⟨.hbm, 137, rfl⟩
abbrev main_while0b_call2_c_1 : Ref sig .tc := ⟨.hbm, 138, rfl⟩
abbrev main_while0b_call2_v0 : Ref sig .tc := ⟨.hbm, 139, rfl⟩
abbrev main_while0b_v116 : Ref sig .tc := ⟨.hbm, 140, rfl⟩
abbrev main_while0b_call3_c : Ref sig .tc := ⟨.hbm, 141, rfl⟩
abbrev main_while0b_call3_c_0 : Ref sig .tc := ⟨.hbm, 142, rfl⟩
abbrev main_while0b_call3_c_1 : Ref sig .tc := ⟨.hbm, 143, rfl⟩
abbrev main_while0b_call3_v0 : Ref sig .tc := ⟨.hbm, 144, rfl⟩
abbrev main_while0b_v117 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_call4_c_1 : Ref sig .tc := ⟨.hbm, 148, rfl⟩
abbrev main_while0b_call4_v0 : Ref sig .tc := ⟨.hbm, 149, rfl⟩
abbrev main_while0b_v118 : Ref sig .tc := ⟨.hbm, 150, rfl⟩
abbrev main_while0b_call5_c : Ref sig .tc := ⟨.hbm, 151, rfl⟩
abbrev main_while0b_call5_c_0 : Ref sig .tc := ⟨.hbm, 152, rfl⟩
abbrev main_while0b_call5_v0 : Ref sig .tc := ⟨.hbm, 153, rfl⟩
abbrev main_while0b_v119 : Ref sig .tc := ⟨.hbm, 154, rfl⟩
abbrev main_while0b_call6_c : Ref sig .tc := ⟨.hbm, 155, rfl⟩
abbrev main_while0b_call6_c_0 : Ref sig .tc := ⟨.hbm, 156, rfl⟩
abbrev main_while0b_call6_v0 : Ref sig .tc := ⟨.hbm, 157, rfl⟩
abbrev main_while0b_v120 : Ref sig .tc := ⟨.hbm, 158, rfl⟩
abbrev main_while0b_v121 : Ref sig .tc := ⟨.hbm, 159, rfl⟩
abbrev main_while0b_v122 : Ref sig .tc := ⟨.hbm, 160, rfl⟩
abbrev main_while0b_v123 : Ref sig .tc := ⟨.hbm, 161, rfl⟩
abbrev main_while0b_v124 : Ref sig .tc := ⟨.hbm, 162, rfl⟩
abbrev main_while0b_v125 : Ref sig .tc := ⟨.hbm, 163, rfl⟩
abbrev main_while0b_v126 : Ref sig .tc := ⟨.hbm, 164, rfl⟩
abbrev main_while0b_v127 : Ref sig .tc := ⟨.hbm, 165, rfl⟩
abbrev main_while0b_v128 : Ref sig .tc := ⟨.hbm, 166, rfl⟩
abbrev main_while0b_v129 : Ref sig .tc := ⟨.hbm, 167, rfl⟩
abbrev main_while0b_v130 : Ref sig .tc := ⟨.hbm, 168, rfl⟩
abbrev main_while0b_v131 : Ref sig .tc := ⟨.hbm, 169, rfl⟩
abbrev main_while0b_v132 : Ref sig .tc := ⟨.hbm, 170, rfl⟩
abbrev main_while0b_v133 : Ref sig .tc := ⟨.hbm, 171, rfl⟩
abbrev main_while0b_v134 : Ref sig .tc := ⟨.hbm, 172, rfl⟩
abbrev main_while0b_v135 : Ref sig .tc := ⟨.hbm, 173, rfl⟩
abbrev main_while0b_v136 : Ref sig .tc := ⟨.hbm, 174, rfl⟩
abbrev main_while0b_call7_v0 : Ref sig .tc := ⟨.hbm, 175, rfl⟩
abbrev main_while0b_call7_c : Ref sig .tc := ⟨.hbm, 176, rfl⟩
abbrev main_while0b_call7_c_0 : Ref sig .tc := ⟨.hbm, 177, rfl⟩
abbrev main_while0b_call7_c_1 : Ref sig .tc := ⟨.hbm, 178, rfl⟩
abbrev main_while0b_v137 : Ref sig .tc := ⟨.hbm, 179, rfl⟩
abbrev main_while0b_c_18 : Ref sig .tc := ⟨.hbm, 180, rfl⟩
abbrev main_while0b_v138 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_cst_8 : Ref sig .tc := ⟨.hbm, 193, rfl⟩
abbrev main_v100 : Ref sig .tc := ⟨.hbm, 194, rfl⟩
abbrev main_v101 : Ref sig .tc := ⟨.hbm, 195, rfl⟩
abbrev main_cst_9 : Ref sig .tc := ⟨.hbm, 196, rfl⟩
abbrev main_v102 : Ref sig .tc := ⟨.hbm, 197, rfl⟩
abbrev main_v103 : Ref sig .tc := ⟨.hbm, 198, rfl⟩
abbrev main_cst_10 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_call8_v0 : Ref sig .tc := ⟨.hbm, 209, rfl⟩
abbrev main_call8_v1 : Ref sig .tc := ⟨.hbm, 210, rfl⟩
abbrev main_call8_cst : Ref sig .tc := ⟨.hbm, 211, rfl⟩
abbrev main_call8_v2 : Ref sig .tc := ⟨.hbm, 212, rfl⟩
abbrev main_call8_v3 : Ref sig .tc := ⟨.hbm, 213, rfl⟩
abbrev main_call8_cst_0 : Ref sig .tc := ⟨.hbm, 214, rfl⟩
abbrev main_call8_v4 : Ref sig .tc := ⟨.hbm, 215, rfl⟩
abbrev main_call8_v5 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩

abbrev nD : Nat := 1
abbrev τ : Topo := Topo.v7x

variable {F : FTy → Type} [FloatOps F]

abbrev main_while0_count : Scf.Loop 32 := ⟨0#32, 8#32, 1#32⟩
-- ==== Mlp.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0_2 : Index := 0#32
  let arg1 : BitVec 32 := BitVec.ofNat 32 (i 1).val
  let c1024_i32 : BitVec 32 := 1024#32
  let v3 : BitVec 32 := Scalar.muli arg1 c1024_i32
  let v4 : BitVec 32 := v3
  let v6 : Index := Scalar.indexCast v4
  ![0, v6.toNat]
def k0_off2 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v15 : Index := Scalar.indexCast v4
  let c0_6 : Index := 0#32
  ![v15.toNat, 0]
def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Merge.lean ====
abbrev S8x2048x1024 : Shape := ⟨3, ![8, 2048, 1024]⟩
abbrev S16384x512 : Shape := ⟨2, ![16384, 512]⟩
abbrev S16384x6144 : Shape := ⟨2, ![16384, 6144]⟩
abbrev S3x512x1024 : Shape := ⟨3, ![3, 512, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x6144, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S16384x1024, .f32⟩
  | .hbm, ⟨9, _⟩ => ⟨S3x512x1024, .bf16⟩
  | .hbm, ⟨10, _⟩ => ⟨S1024x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S8x2048x1024 : Shape := ⟨3, ![8, 2048, 1024]⟩
abbrev S16384x512 : Shape := ⟨2, ![16384, 512]⟩
abbrev S16384x6144 : Shape := ⟨2, ![16384, 6144]⟩
abbrev S3x512x1024 : Shape := ⟨3, ![3, 512, 1024]⟩
abbrev S1024x1024 : Shape := ⟨2, ![1024, 1024]⟩
abbrev S1024 : Shape := ⟨1, ![1024]⟩
abbrev S16384x3072 : Shape := ⟨2, ![16384, 3072]⟩
abbrev S8x2048x512 : Shape := ⟨3, ![8, 2048, 512]⟩
abbrev S8x2048x1x512 : Shape := ⟨4, ![8, 2048, 1, 512]⟩
abbrev S8x2048x3x512 : Shape := ⟨4, ![8, 2048, 3, 512]⟩
abbrev S3x1024x8x2048 : Shape := ⟨4, ![3, 1024, 8, 2048]⟩
abbrev S8x2048x3x1024 : Shape := ⟨4, ![8, 2048, 3, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x6144, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S16384x3072, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S8x2048x1x512, .f32⟩
  | .hbm, ⟨13, _⟩ => ⟨S8x2048x1x512, .f32⟩
  | .hbm, ⟨14, _⟩ => ⟨S8x2048x1x512, .f32⟩
  | .hbm, ⟨15, _⟩ => ⟨S8x2048x3x512, .f32⟩
  | .hbm, ⟨16, _⟩ => ⟨S3x1024x8x2048, .f32⟩
  | .hbm, ⟨17, _⟩ => ⟨S8x2048x3x1024, .f32⟩
  | .hbm, ⟨18, _⟩ => ⟨S16384x3072, .f32⟩
  | .hbm, ⟨19, _⟩ => ⟨S16384x3072, .f32⟩
  | .hbm, ⟨20, _⟩ => ⟨S_, .f32⟩
  | .hbm, ⟨21, _⟩ => ⟨S16384x3072, .f32⟩
  | .hbm, ⟨22, _⟩ => ⟨S16384x3072, .f32⟩
  | .hbm, ⟨23, _⟩ => ⟨S_, .f32⟩
  | .hbm, ⟨24, _⟩ => ⟨S16384x3072, .f32⟩
  | .hbm, ⟨25, _⟩ => ⟨S16384x3072, .f32⟩
  | .hbm, ⟨26, _⟩ => ⟨S8x2048x3x1024, .f32⟩
  | .hbm, ⟨27, _⟩ => ⟨S8x2048x3x1024, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S1024x7176 : Shape := ⟨2, ![1024, 7176]⟩
abbrev S1024x2048 : Shape := ⟨2, ![1024, 2048]⟩
abbrev S1024x512 : Shape := ⟨2, ![1024, 512]⟩
abbrev S1024x3584 : Shape := ⟨2, ![1024, 3584]⟩
abbrev S1024x1024 : Shape := ⟨2, ![1024, 1024]⟩
abbrev S1024x7168 : Shape := ⟨2, ![1024, 7168]⟩
abbrev S1024x8 : Shape := ⟨2, ![1024, 8]⟩
abbrev S16384x1024 : Shape := ⟨2, ![16384, 1024]⟩
abbrev S1x1024 : Shape := ⟨2, ![1, 1024]⟩
abbrev S16384x6144 : Shape := ⟨2, ![16384, 6144]⟩
abbrev S16384x8 : Shape := ⟨2, ![16384, 8]⟩
abbrev S65536x128 : Shape := ⟨2, ![65536, 128]⟩
abbrev S4096x128 : Shape := ⟨2, ![4096, 128]⟩
abbrev S1024x1 : Shape := ⟨2, ![1024, 1]⟩
abbrev S1024x128 : Shape := ⟨2, ![1024, 128]⟩

abbrev nBuf : Space → Nat
  | .hbm => 17
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x7176, .f32⟩
  | .hbm, ⟨3, _⟩ => ⟨S1024x2048, .f32⟩
  | .hbm, ⟨4, _⟩ => ⟨S1024x512, .f32⟩
  | .hbm, ⟨5, _⟩ => ⟨S1024x3584, .f32⟩
  | .hbm, ⟨6, _⟩ => ⟨S1024x1024, .f32⟩
  | .hbm, ⟨7, _⟩ => ⟨S1024x7168, .f32⟩
  | .hbm, ⟨8, _⟩ => ⟨S1024x7168, .bf16⟩
  | .hbm, ⟨9, _⟩ => ⟨S1024x8, .f32⟩
  | .hbm, ⟨10, _⟩ => ⟨S1024x8, .bf16⟩
  | .hbm, ⟨11, _⟩ => ⟨S16384x1024, .f32⟩
  | .hbm, ⟨12, _⟩ => ⟨S1x1024, .f32⟩
  | .hbm, ⟨13, _⟩ => ⟨S16384x6144, .f32⟩
  | .hbm, ⟨14, _⟩ => ⟨S16384x8, .f32⟩
  | .hbm, ⟨15, _⟩ => ⟨S65536x128, .f32⟩
  | .hbm, ⟨16, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x7168, .bf16⟩
  | .local _ .vmem, ⟨4, _⟩ => ⟨S1024x8, .bf16⟩
  | .local _ .vmem, ⟨5, _⟩ => ⟨S1024x1024, .f32⟩
  | .local _ .vmem, ⟨6, _⟩ => ⟨S1024x1024, .f32⟩
  | .local _ .vmem, ⟨7, _⟩ => ⟨S1024x8, .f32⟩
  | .local _ .vmem, ⟨8, _⟩ => ⟨S1024x8, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v10_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 7], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let c0_2 : Index := 0#32
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  ![0, v6.toNat]
def k0_cond2 (i : grid0.Coords) : BitVec 1 :=
  let arg1 : BitVec 32 := BitVec.ofNat 32 (i 1).val
  let c6_i32 : BitVec 32 := 6#32
  let v10 : BitVec 1 := Scalar.cmpi .slt arg1 c6_i32
  let v11 : BitVec 32 := Scalar.extui v10
  let c0_i32_3 : BitVec 32 := 0#32
  let v12 : BitVec 1 := Scalar.cmpi .ne v11 c0_i32_3
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c6_i32_4 : BitVec 32 := 6#32
  let v13 : BitVec 1 := Scalar.cmpi .eq arg1 c6_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjReferenceIdeal.lean ====
abbrev S8x2048x1024 : Shape := ⟨3, ![8, 2048, 1024]⟩
abbrev S1024 : Shape := ⟨1, ![1024]⟩
abbrev S1024x7176 : Shape := ⟨2, ![1024, 7176]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7176 : Shape := ⟨3, ![8, 2048, 7176]⟩
abbrev S8x2048x1536 : Shape := ⟨3, ![8, 2048, 1536]⟩
abbrev S8x2048x512 : Shape := ⟨3, ![8, 2048, 512]⟩
abbrev S8x2048x4 : Shape := ⟨3, ![8, 2048, 4]⟩
abbrev S8x2048x3072 : Shape := ⟨3, ![8, 2048, 3072]⟩
abbrev S8x2048x4x128 : Shape := ⟨4, ![8, 2048, 4, 128]⟩
abbrev S8x2048x6144 : Shape := ⟨3, ![8, 2048, 6144]⟩
abbrev S8x2048x8 : Shape := ⟨3, ![8, 2048, 8]⟩
abbrev S16384x6144 : Shape := ⟨2, ![16384, 6144]⟩
abbrev S16384x8 : Shape := ⟨2, ![16384, 8]⟩
abbrev S65536x128 : Shape := ⟨2, ![65536, 128]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x7176, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x7176, .f32⟩
  | .hbm, ⟨20, _⟩ => ⟨S8x2048x1536, .f32⟩
  | .hbm, ⟨21, _⟩ => ⟨S8x2048x512, .f32⟩
  | .hbm, ⟨22, _⟩ => ⟨S8x2048x4, .f32⟩
  | .hbm, ⟨23, _⟩ => ⟨S8x2048x4, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x3072, .f32⟩
  | .hbm, ⟨29, _⟩ => ⟨S8x2048x4x128, .f32⟩
  | .hbm, ⟨30, _⟩ => ⟨S8x2048x4x128, .f32⟩
  | .hbm, ⟨31, _⟩ => ⟨S8x2048x6144, .f32⟩
  | .hbm, ⟨32, _⟩ => ⟨S8x2048x8, .f32⟩
  | .hbm, ⟨33, _⟩ => ⟨S16384x6144, .f32⟩
  | .hbm, ⟨34, _⟩ => ⟨S16384x8, .f32⟩
  | .hbm, ⟨35, _⟩ => ⟨S65536x128, .f32⟩
  | .hbm, ⟨36, _⟩ => ⟨S65536x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== MemProj.lean ====
abbrev S8x256x1024 : Shape := ⟨3, ![8, 256, 1024]⟩
abbrev S1024 : Shape := ⟨1, ![1024]⟩
abbrev S1024x512 : Shape := ⟨2, ![1024, 512]⟩
abbrev S2048x1024 : Shape := ⟨2, ![2048, 1024]⟩
abbrev S1024x1024 : Shape := ⟨2, ![1024, 1024]⟩
abbrev S1x1024 : Shape := ⟨2, ![1, 1024]⟩
abbrev S8192x128 : Shape := ⟨2, ![8192, 128]⟩
abbrev S4096x128 : Shape := ⟨2, ![4096, 128]⟩
abbrev S1024x1 : Shape := ⟨2, ![1024, 1]⟩
abbrev S1024x128 : Shape := ⟨2, ![1024, 128]⟩

abbrev nBuf : Space → Nat
  | .hbm => 10
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S2048x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S8192x128, .f32⟩
  | .hbm, ⟨9, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemProjReferenceIdeal.lean ====
abbrev S8x256x1024 : Shape := ⟨3, ![8, 256, 1024]⟩
abbrev S1024 : Shape := ⟨1, ![1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x4x128 : Shape := ⟨4, ![8, 256, 4, 128]⟩
abbrev S8192x128 : Shape := ⟨2, ![8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8x256x4x128, .f32⟩
  | .hbm, ⟨22, _⟩ => ⟨S8x256x512, .f32⟩
  | .hbm, ⟨23, _⟩ => ⟨S8x256x4x128, .f32⟩
  | .hbm, ⟨24, _⟩ => ⟨S8192x128, .f32⟩
  | .hbm, ⟨25, _⟩ => ⟨S8192x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Cross.lean ====
abbrev S16384x6144 : Shape := ⟨2, ![16384, 6144]⟩
abbrev S8192x128 : Shape := ⟨2, ![8192, 128]⟩
abbrev S16384x512 : Shape := ⟨2, ![16384, 512]⟩
abbrev S512x512 : Shape := ⟨2, ![512, 512]⟩
abbrev S1024x128 : Shape := ⟨2, ![1024, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x6144, .f32⟩
  | .hbm, ⟨1, _⟩ => ⟨S8192x128, .f32⟩
  | .hbm, ⟨2, _⟩ => ⟨S8192x128, .f32⟩
  | .hbm, ⟨3, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S512x512, .f32⟩
  | .local _ .vmem, ⟨7, _⟩ => ⟨S512x512, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossReferenceIdeal.lean ====
abbrev S16384x6144 : Shape := ⟨2, ![16384, 6144]⟩
abbrev S8192x128 : Shape := ⟨2, ![8192, 128]⟩
abbrev S16384x512 : Shape := ⟨2, ![16384, 512]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S8192x128, .f32⟩
  | .hbm, ⟨2, _⟩ => ⟨S8192x128, .f32⟩
  | .hbm, ⟨3, _⟩ => ⟨S16384x512, .f32⟩
  | .hbm, ⟨4, _⟩ => ⟨S8x2048x4x128, .f32⟩
  | .hbm, ⟨5, _⟩ => ⟨S8x256x4x128, .f32⟩
  | .hbm, ⟨6, _⟩ => ⟨S8x256x4x128, .f32⟩
  | .hbm, ⟨7, _⟩ => ⟨S8x4x2048x256, .f32⟩
  | .hbm, ⟨8, _⟩ => ⟨S_, .f32⟩
  | .hbm, ⟨9, _⟩ => ⟨S8x4x2048x256, .f32⟩
  | .hbm, ⟨10, _⟩ => ⟨S8x4x2048x256, .f32⟩
  | .hbm, ⟨11, _⟩ => ⟨S_, .f32⟩
  | .hbm, ⟨12, _⟩ => ⟨S8x4x2048, .f32⟩
  | .hbm, ⟨13, _⟩ => ⟨S_, .f32⟩
  | .hbm, ⟨14, _⟩ => ⟨S8x4x2048, .f32⟩
  | .hbm, ⟨15, _⟩ => ⟨S8x4x2048, .f32⟩
  | .hbm, ⟨16, _⟩ => ⟨S8x4x2048x1, .f32⟩
  | .hbm, ⟨17, _⟩ => ⟨S8x4x2048x256, .f32⟩
  | .hbm, ⟨18, _⟩ => ⟨S8x4x2048x256, .f32⟩
  | .hbm, ⟨19, _⟩ => ⟨S8x4x2048x256, .f32⟩
  | .hbm, ⟨20, _⟩ => ⟨S_, .f32⟩
  | .hbm, ⟨21, _⟩ => ⟨S8x4x2048, .f32⟩
  | .hbm, ⟨22, _⟩ => ⟨S8x4x2048x1, .f32⟩
  | .hbm, ⟨23, _⟩ => ⟨S8x4x2048x256, .f32⟩
  | .hbm, ⟨24, _⟩ => ⟨S8x4x2048x256, .f32⟩
  | .hbm, ⟨25, _⟩ => ⟨S8x4x128x2048, .f32⟩
  | .hbm, ⟨26, _⟩ => ⟨S8x2048x4x128, .f32⟩
  | .hbm, ⟨27, _⟩ => ⟨S16384x512, .f32⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Entry.lean ====
module

public import proofs.«01_k».proof.Proof.Gen.KernelIdeal.Frame
public import Idealize.ShloMosaic.Lib.StableHlo.RunClose
public import Idealize.ShloMosaic.Lib.Claim
public import Idealize.ShloMosaic.Lib.Pointwise

/-! The operands as the host leaves them for the call: the projection without the gates' and the other mixers' columns, the
    gates' columns, the padded buffered rows, the flattened states, and the padded decay parameters. -/

@[expose] public section

noncomputable section

namespace Cert.Gdn

open Idealize.ShloMosaic Idealize.ShloMosaic.StableHlo Idealize.ShloMosaic.TcCoe Cert.KernelIdeal Cert.KernelIdeal.Gen

section
variable {F : FTy → Type} [FloatOps F]

def projK (y : FVec F S32x8x7176 .f32) : FVec F S32x8x6144 .f32 :=
  shapeCast S32x8x6144 (concatenate S256x6144 1
    [⟨S256x2048, extractStridedSlice S256x2048 ![0, 0] (shapeCast S256x7176 y shapeCasts_S32x8x7176_S256x7176) slices_S256x7176_S256x2048_0_0⟩,
     ⟨S256x512, extractStridedSlice S256x512 ![0, 2056] (shapeCast S256x7176 y shapeCasts_S32x8x7176_S256x7176) slices_S256x7176_S256x512_0_2056⟩,
     ⟨S256x3584, extractStridedSlice S256x3584 ![0, 3592] (shapeCast S256x7176 y shapeCasts_S32x8x7176_S256x7176) slices_S256x7176_S256x3584_0_3592⟩]
    concatenates_S256x2048_S256x512_S256x3584_S256x6144_d1) shapeCasts_S256x6144_S32x8x6144

def abK (y : FVec F S32x8x7176 .f32) : FVec F S32x8x8 .f32 :=
  shapeCast S32x8x8 (extractStridedSlice S256x8 ![0, 2048] (shapeCast S256x7176 y shapeCasts_S32x8x7176_S256x7176) slices_S256x7176_S256x8_0_2048)
    shapeCasts_S256x8_S32x8x8

def bufK (cache : FVec F S32x3x1536 .f32) : FVec F S32x8x1536 .f32 :=
  pad S32x8x1536 ![0, 5, 0] ![0, 0, 0] ![0, 0, 0] cache (sitofp .f32 (constantI S_ 32 0#32)) pads_S32x3x1536_S32x8x1536_000_500_000 h_S_

def stK (s : FVec F S2x32x4x128x128 .f32) : FVec F S64x4x128x128 .f32 := shapeCast S64x4x128x128 s shapeCasts_S2x32x4x128x128_S64x4x128x128

def parK (a : FVec F S4 .f32) : FVec F S1x8 .f32 :=
  shapeCast S1x8 (concatenate S8 0 [⟨S4, a⟩, ⟨S4, broadcastInDim S4 ![] bcast_S_S4 (constant S_ .f32 0x00000000#32)⟩] concatenates_S4_S4_S8_d0)
    shapeCasts_S8_S1x8

variable (m : (ℓ : Loc nD τ sig) → Buf (Elt F) ℓ) (c : Dev nD)

/-- A three-operand host operation's result, each operand's contents at its own reference. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

set_option maxRecDepth 8192 in
set_option maxHeartbeats 4000000 in
theorem entry13 : V m c main_v13 = projK (m ((c.tc : Thread nD τ).loc main_arg0)) := by
  show StableHlo.after ([hostOps0, hostOps0_1, hostOps0_2].flatten) (fun b => m (c, b)) (Proc.devRef .tc main_v13) = _
  simp only [List.flatten_cons, List.flatten_nil, List.append_nil, List.cons_append, List.nil_append, hostOps0, hostOps0_1, hostOps0_2]
  simp only [after_cons, after_nil]
  repeat first
    | rw [nary3_result] | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide)
    | (rw [nary_result_ne]; rotate_left; decide)
  rfl

set_option maxRecDepth 8192 in
set_option maxHeartbeats 4000000 in
theorem entry14 : V m c main_v14 = abK (m ((c.tc : Thread nD τ).loc main_arg0)) := by
  show StableHlo.after ([hostOps0, hostOps0_1, hostOps0_2].flatten) (fun b => m (c, b)) (Proc.devRef .tc main_v14) = _
  simp only [List.flatten_cons, List.flatten_nil, List.append_nil, List.cons_append, List.nil_append, hostOps0, hostOps0_1, hostOps0_2]
  entry_read
  rfl

set_option maxRecDepth 8192 in
set_option maxHeartbeats 4000000 in
theorem entry6 : V m c main_v6 = bufK (m ((c.tc : Thread nD τ).loc main_arg1)) := by
  show StableHlo.after ([hostOps0, hostOps0_1, hostOps0_2].flatten) (fun b => m (c, b)) (Proc.devRef .tc main_v6) = _
  simp only [List.flatten_cons, List.flatten_nil, List.append_nil, List.cons_append, List.nil_append, hostOps0, hostOps0_1, hostOps0_2]
  entry_read
  rfl

set_option maxRecDepth 8192 in
set_option maxHeartbeats 4000000 in
theorem entry7 : V m c main_v7 = stK (m ((c.tc : Thread nD τ).loc main_arg2)) := by
  show StableHlo.after ([hostOps0, hostOps0_1, hostOps0_2].flatten) (fun b => m (c, b)) (Proc.devRef .tc main_v7) = _
  simp only [List.flatten_cons, List.flatten_nil, List.append_nil, List.cons_append, List.nil_append, hostOps0, hostOps0_1, hostOps0_2]
  entry_read
  rfl

set_option maxRecDepth 8192 in
set_option maxHeartbeats 4000000 in
theorem entry10 : V m c main_v10 = parK (m ((c.tc : Thread nD τ).loc main_arg4)) := by
  show StableHlo.after ([hostOps0, hostOps0_1, hostOps0_2].flatten) (fun b => m (c, b)) (Proc.devRef .tc main_v10) = _
  simp only [List.flatten_cons, List.flatten_nil, List.append_nil, List.cons_append, List.nil_append, hostOps0, hostOps0_1, hostOps0_2]
  entry_read
  rfl

set_option maxRecDepth 8192 in
set_option maxHeartbeats 4000000 in
theorem entry12 : V m c main_v12 = parK (m ((c.tc : Thread nD τ).loc main_arg5)) := by
  show StableHlo.after ([hostOps0, hostOps0_1, hostOps0_2].flatten) (fun b => m (c, b)) (Proc.devRef .tc main_v12) = _
  simp only [List.flatten_cons, List.flatten_nil, List.append_nil, List.cons_append, List.nil_append, hostOps0, hostOps0_1, hostOps0_2]
  entry_read
  rfl

set_option maxRecDepth 8192 in
set_option maxHeartbeats 4000000 in
theorem entry15 : V m c main_v15 = shapeCast S1x128 (m ((c.tc : Thread nD τ).loc main_arg6)) shapeCasts_S128_S1x128 := by
  show StableHlo.after ([hostOps0, hostOps0_1, hostOps0_2].flatten) (fun b => m (c, b)) (Proc.devRef .tc main_v15) = _
  simp only [List.flatten_cons, List.flatten_nil, List.append_nil, List.cons_append, List.nil_append, hostOps0, hostOps0_1, hostOps0_2]
  entry_read
  rfl

end

/-! ## By element -/

theorem projK_apply (y : FVec Ideal S32x8x7176 .f32) (n : Fin 32) (t : Fin 8) (l : Fin 2048) :
    projK y (ix3 n t (⟨l.val, by omega⟩ : Fin 6144)) = y (ix3 n t (⟨l.val, by omega⟩ : Fin 7176)) := by
  pointwise [projK]

theorem abK_apply (y : FVec Ideal S32x8x7176 .f32) (n : Fin 32) (t : Fin 8) (l : Fin 8) :
    abK y (ix3 n t l) = y (ix3 n t (⟨2048 + l.val, by omega⟩ : Fin 7176)) := by
  pointwise [abK]

theorem bufK_apply (cache : FVec Ideal S32x3x1536 .f32) (n : Fin 32) (r : Fin 3) (l : Fin 1536) :
    bufK cache (ix3 n (⟨5 + r.val, by omega⟩ : Fin 8) l) = cache (ix3 n r l) := by
  pointwise [bufK]

theorem stK_apply (s : FVec Ideal S2x32x4x128x128 .f32) (n : Fin 32) (h : Fin 4) (i j : Fin 128) :
    stK s (ix4 (⟨32 + n.val, by omega⟩ : Fin 64) h i j) = s (ix5 (1 : Fin 2) n h i j) := by
  pointwise [stK]
  exact congrArg (fun q => s (ix5 q n h i j)) (Fin.ext (by show (32 + n.val) / 32 = 1; omega))

theorem parK_apply (a : FVec Ideal S4 .f32) (h : Fin 4) : parK a (ix2 (0 : Fin 1) (⟨h.val, by omega⟩ : Fin 8)) = a (ix1 h) := by
  pointwise [parK]

theorem gK_apply (a : FVec Ideal S128 .f32) (j : Fin 128) :
    shapeCast S1x128 a shapeCasts_S128_S1x128 (ix2 (0 : Fin 1) j) = a (ix1 j) := by
  pointwise []

end Cert.Gdn
-- ==== Proof.Blocks.lean ====
module

public import proofs.«01_k».proof.Proof.Entry
public import Idealize.ShloMosaic.Lib.Pipeline.ValueKit.Point
public import Idealize.ShloMosaic.Lib.Pointwise

/-! What the call's windows read at each grid point, in terms of the arguments. -/

@[expose] public section

noncomputable section

namespace Cert.Gdn

open Idealize.ShloMosaic Idealize.ShloMosaic.TcCoe Cert.KernelIdeal Cert.KernelIdeal.Gen

variable (m : (ℓ : Loc nD τ sig) → Buf (Elt Ideal) ℓ) (c : Dev nD)

theorem index0 : ∀ t : Fin grid0.N, win0_0.index t = ![t.val, 0, 0] := by decide +kernel
theorem index1 : ∀ t : Fin grid0.N, win0_1.index t = ![t.val, 0, 0] := by decide +kernel
theorem index2 : ∀ t : Fin grid0.N, win0_2.index t = ![t.val, 0, 3] := by decide +kernel
theorem index3 : ∀ t : Fin grid0.N, win0_3.index t = ![t.val, 0, 0] := by decide +kernel
theorem index4 : ∀ t : Fin grid0.N, win0_4.index t = ![8 + t.val, 0, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![t.val, 0, 0] := by decide +kernel
theorem index10 : ∀ t : Fin grid0.N, win0_10.index t = ![t.val, 0, 0, 0] := by decide +kernel

/-- The sequence of row `g` of the block at point `t`. -/
def seqOf (t : Fin cfg0.N) (g : Fin 4) : Fin 32 := ⟨4 * t.val + g.val, by have h := t.isLt; have : cfg0.N = 8 := N_0; omega⟩

abbrev argY : FVec Ideal S32x8x7176 .f32 := m ((c.tc : Thread nD τ).loc main_arg0)
abbrev argC : FVec Ideal S32x3x1536 .f32 := m ((c.tc : Thread nD τ).loc main_arg1)
abbrev argS : FVec Ideal S2x32x4x128x128 .f32 := m ((c.tc : Thread nD τ).loc main_arg2)
abbrev argW : FVec Ideal S4x1536 .f32 := m ((c.tc : Thread nD τ).loc main_arg3)
abbrev argA : FVec Ideal S4 .f32 := m ((c.tc : Thread nD τ).loc main_arg4)
abbrev argB : FVec Ideal S4 .f32 := m ((c.tc : Thread nD τ).loc main_arg5)
abbrev argG : FVec Ideal S128 .f32 := m ((c.tc : Thread nD τ).loc main_arg6)

set_option maxHeartbeats 1000000 in
theorem blk0 (t : Fin cfg0.N) (g : Fin 4) (r : Fin 8) (l : Fin 1536) :
    (iblk m c 0 t : Vec Ideal S4x8x1536 .f32) (ix3 g r l) = argY m c (ix3 (seqOf t g) r (⟨l.val, by omega⟩ : Fin 7176)) := by
  refine Eq.trans ?_ (projK_apply (argY m c) (seqOf t g) r ⟨l.val, by omega⟩)
  show (V m c main_v13) _ = _
  rw [entry13]
  blk_ext [iblk, index0 t, seqOf]

set_option maxHeartbeats 1000000 in
theorem blk1 (t : Fin cfg0.N) (g : Fin 4) (r : Fin 8) (l : Fin 8) :
    (iblk m c 1 t : Vec Ideal S4x8x8 .f32) (ix3 g r l) = argY m c (ix3 (seqOf t g) r (⟨2048 + l.val, by omega⟩ : Fin 7176)) := by
  refine Eq.trans ?_ (abK_apply (argY m c) (seqOf t g) r l)
  show (V m c main_v14) _ = _
  rw [entry14]
  blk_ext [iblk, index1 t, seqOf]

set_option maxHeartbeats 1000000 in
theorem blk2 (t : Fin cfg0.N) (g : Fin 4) (r : Fin 8) (l : Fin 512) :
    (iblk m c 2 t : Vec Ideal S4x8x512 .f32) (ix3 g r l) = argY m c (ix3 (seqOf t g) r (⟨1536 + l.val, by omega⟩ : Fin 7176)) := by
  refine Eq.trans ?_ (projK_apply (argY m c) (seqOf t g) r ⟨1536 + l.val, by omega⟩)
  show (V m c main_v13) _ = _
  rw [entry13]
  blk_ext [iblk, index2 t, seqOf]

set_option maxHeartbeats 1000000 in
theorem blk3 (t : Fin cfg0.N) (g : Fin 4) (r : Fin 3) (l : Fin 1536) :
    (iblk m c 3 t : Vec Ideal S4x8x1536 .f32) (ix3 g (⟨5 + r.val, by omega⟩ : Fin 8) l) = argC m c (ix3 (seqOf t g) r l) := by
  refine Eq.trans ?_ (bufK_apply (argC m c) (seqOf t g) r l)
  show (V m c main_v6) _ = _
  rw [entry6]
  blk_ext [iblk, index3 t, seqOf]

set_option maxHeartbeats 1000000 in
theorem blk4 (t : Fin cfg0.N) (g h : Fin 4) (i j : Fin 128) :
    (iblk m c 4 t : Vec Ideal S4x4x128x128 .f32) (ix4 g h i j) = argS m c (ix5 (1 : Fin 2) (seqOf t g) h i j) := by
  refine Eq.trans ?_ (stK_apply (argS m c) (seqOf t g) h i j)
  show (V m c main_v7) _ = _
  rw [entry7]
  blk_ext [iblk, index4 t, seqOf]

theorem blk5 (t : Fin cfg0.N) (g : Fin 4) (l : Fin 1536) :
    (iblk m c 5 t : Vec Ideal S4x1536 .f32) (ix2 g l) = argW m c (ix2 g l) := by
  blk_ext [iblk, V, index5 t]

set_option maxHeartbeats 1000000 in
theorem blk6 (t : Fin cfg0.N) (h : Fin 4) :
    (iblk m c 6 t : Vec Ideal S1x8 .f32) (ix2 (0 : Fin 1) (⟨h.val, by omega⟩ : Fin 8)) = argA m c (ix1 h) := by
  refine Eq.trans ?_ (parK_apply (argA m c) h)
  show (V m c main_v10) _ = _
  rw [entry10]
  blk_ext [iblk, index6 t, seqOf]

set_option maxHeartbeats 1000000 in
theorem blk7 (t : Fin cfg0.N) (h : Fin 4) :
    (iblk m c 7 t : Vec Ideal S1x8 .f32) (ix2 (0 : Fin 1) (⟨h.val, by omega⟩ : Fin 8)) = argB m c (ix1 h) := by
  refine Eq.trans ?_ (parK_apply (argB m c) h)
  show (V m c main_v12) _ = _
  rw [entry12]
  blk_ext [iblk, index7 t, seqOf]

set_option maxHeartbeats 1000000 in
theorem blk8 (t : Fin cfg0.N) (j : Fin 128) :
    (iblk m c 8 t : Vec Ideal S1x128 .f32) (ix2 (0 : Fin 1) j) = argG m c (ix1 j) := by
  refine Eq.trans ?_ (gK_apply (argG m c) j)
  show (V m c main_v15) _ = _
  rw [entry15]
  blk_ext [iblk, index8 t, seqOf]

end Cert.Gdn
-- ==== Proof.Stages.lean ====
module

public import proofs.«01_k».proof.Proof.Gen.KernelIdeal.Skeleton

/-! The kernel's block, stage by stage, as functions of the pieces of its operands: the short convolution with its
    activation and normalisation, the gates, and one head's chunk of the delta rule. -/

@[expose] public section

noncomputable section

namespace Cert.Gdn

open Idealize.ShloMosaic Cert.KernelIdeal Cert.KernelIdeal.Gen

variable {F : FTy → Type} [FloatOps F]

/-- `x · 1/(1 + exp(−x))`, on a block of eight tokens. -/
def siluK (x : FVec F S8x128 .f32) : FVec F S8x128 .f32 :=
  mulf x (divf (broadcast S8x128 (Scalar.ofBits .f32 0x3F800000#32))
    (addf (broadcast S8x128 (Scalar.ofBits .f32 0x3F800000#32))
      (exp (subf (broadcast S8x128 (Scalar.ofBits .f32 0x00000000#32)) x))))

/-- The four-tap convolution of eight tokens: the taps `e i` are the rows shifted by `i`, each times its weight row. -/
def convK (e0 e1 e2 e3 : Vec F S1x8x128 .f32) (w0 w1 w2 w3 : Vec F S1x128 .f32) : FVec F S8x128 .f32 :=
  addf (addf (addf
    (mulf (shapeCast S8x128 e0 shapeCasts_S1x8x128_S8x128) (broadcastTo S8x128 w0 broadcasts_S1x128_S8x128))
    (mulf (shapeCast S8x128 e1 shapeCasts_S1x8x128_S8x128) (broadcastTo S8x128 w1 broadcasts_S1x128_S8x128)))
    (mulf (shapeCast S8x128 e2 shapeCasts_S1x8x128_S8x128) (broadcastTo S8x128 w2 broadcasts_S1x128_S8x128)))
    (mulf (shapeCast S8x128 e3 shapeCasts_S1x8x128_S8x128) (broadcastTo S8x128 w3 broadcasts_S1x128_S8x128))

/-- Each token's row over its length: `x / √(Σ x² + ε)`. -/
def l2K (x : FVec F S8x128 .f32) : FVec F S8x128 .f32 :=
  mulf x (broadcastTo S8x128 (rsqrt (addf (shapeCast S8x1
      (multiReduction .add [1] S8 (mulf x x) 0x00000000#32 reduces_S8x128_S8 (.inl rfl) rfl) shapeCasts_S8_S8x1)
    (broadcast S8x1 (Scalar.ofBits .f32 0x358637BD#32)))) broadcasts_S8x1_S8x128)

/-- A value block: convolved and activated. -/
def prepV (e0 e1 e2 e3 : Vec F S1x8x128 .f32) (w0 w1 w2 w3 : Vec F S1x128 .f32) : FVec F S1x8x128 .f32 :=
  shapeCast S1x8x128 (siluK (convK e0 e1 e2 e3 w0 w1 w2 w3)) shapeCasts_S8x128_S1x8x128

/-- A key block: convolved, activated, normalised. -/
def prepK (e0 e1 e2 e3 : Vec F S1x8x128 .f32) (w0 w1 w2 w3 : Vec F S1x128 .f32) : FVec F S1x8x128 .f32 :=
  shapeCast S1x8x128 (l2K (siluK (convK e0 e1 e2 e3 w0 w1 w2 w3))) shapeCasts_S8x128_S1x8x128

/-- A query block: a key block's steps, then scaled by `128^(-1/2)`. -/
def prepQ (e0 e1 e2 e3 : Vec F S1x8x128 .f32) (w0 w1 w2 w3 : Vec F S1x128 .f32) : FVec F S1x8x128 .f32 :=
  shapeCast S1x8x128 (mulf (l2K (siluK (convK e0 e1 e2 e3 w0 w1 w2 w3)))
    (broadcast S8x128 (Scalar.ofBits .f32 0x3DB504F3#32))) shapeCasts_S8x128_S1x8x128

/-- The rows below the live ones: zeros. -/
def prepPad : FVec F S1x120x128 .f32 :=
  shapeCast S1x120x128 (broadcast S120x128 (Scalar.ofBits .f32 0x00000000#32)) shapeCasts_S120x128_S1x120x128

/-! ## Gates -/

/-- A token's log-decay `−exp(a_log) · softplus(ab + dt_bias)`, eight tokens and eight columns. -/
def decayRate (ab : Vec F S1x8x8 .f32) (dtb alog : Vec F S1x8 .f32) : FVec F S8x8 .f32 :=
  let x : FVec F S8x8 .f32 := addf (shapeCast S8x8 ab shapeCasts_S1x8x8_S8x8)
    (broadcastTo S8x8 (shapeCast S1x8 dtb shapeCasts_S1x8_S1x8) broadcasts_S1x8_S8x8)
  mulf (broadcastTo S8x8 (subf (broadcast S1x8 (Scalar.ofBits .f32 0x00000000#32))
      (exp (shapeCast S1x8 alog shapeCasts_S1x8_S1x8))) broadcasts_S1x8_S8x8)
    (addf (maximumf x (broadcast S8x8 (Scalar.ofBits .f32 0x00000000#32)))
      (log (addf (broadcast S8x8 (Scalar.ofBits .f32 0x3F800000#32))
        (exp (subf (broadcast S8x8 (Scalar.ofBits .f32 0x00000000#32)) (absf x))))))

/-- The rows of the mask `row ≥ column`. -/
def inclMask : IVec S128x128 1 :=
  cmpi .sge (iota .tc S128x128 32 [0] iota_S128x128_d0_w32) (iota .tc S128x128 32 [1] iota_S128x128_d1_w32)

/-- The rows of the mask `row > column`. -/
def strictMask : IVec S128x128 1 :=
  cmpi .sgt (iota .tc S128x128 32 [0] iota_S128x128_d0_w32) (iota .tc S128x128 32 [1] iota_S128x128_d1_w32)

/-- The running sums of the log-decays, by a product with the lower triangle of ones. -/
def gcumAll (ab : Vec F S1x8x8 .f32) (dtb alog : Vec F S1x8 .f32) : FVec F S128x8 .f32 :=
  matmul dot_S128x128_S128x8_S128x8_1_0_0_1_n_n (some .fp32)
    (select inclMask (broadcast S128x128 (Scalar.ofBits .f32 0x3F800000#32))
      (broadcast S128x128 (Scalar.ofBits .f32 0x00000000#32)))
    (concatenate S128x8 0 [⟨S8x8, decayRate ab dtb alog⟩,
      ⟨S120x8, broadcast S120x8 (Scalar.ofBits .f32 0x00000000#32)⟩] concatenates_S8x8_S120x8_S128x8_d0)
    (constant S128x8 .f32 0x00000000#32)

/-- The write strengths `1/(1 + exp(−ab))`. -/
def betaAll (ab : Vec F S1x8x8 .f32) : FVec F S128x8 .f32 :=
  concatenate S128x8 0 [⟨S8x8, divf (broadcast S8x8 (Scalar.ofBits .f32 0x3F800000#32))
      (addf (broadcast S8x8 (Scalar.ofBits .f32 0x3F800000#32))
        (exp (subf (broadcast S8x8 (Scalar.ofBits .f32 0x00000000#32))
          (shapeCast S8x8 ab shapeCasts_S1x8x8_S8x8))))⟩,
    ⟨S120x8, broadcast S120x8 (Scalar.ofBits .f32 0x00000000#32)⟩] concatenates_S8x8_S120x8_S128x8_d0

/-! ## One head's chunk -/

/-- `exp(G_row − G_column)` on and below the diagonal, zero above. -/
def decayMat (gc : FVec F S128x1 .f32) : FVec F S128x128 .f32 :=
  let b : FVec F S128x128 .f32 :=
    broadcastTo S128x128 (shapeCast S128x1 gc shapeCasts_S128x1_S128x1) broadcasts_S128x1_S128x128
  let z : FVec F S128x128 .f32 := broadcast S128x128 (Scalar.ofBits .f32 0x00000000#32)
  select inclMask (exp (select inclMask
    (subf b (transpose S128x128 [1, 0] b transposes_S128x128_p1_0_S128x128)) z)) z

/-- Rows scaled by a column. -/
def scaleRows (x : FVec F S128x128 .f32) (c : FVec F S128x1 .f32) : FVec F S128x128 .f32 :=
  mulf x (broadcastTo S128x128 c broadcasts_S128x1_S128x128)

/-- A product with the second operand transposed. -/
def mmNT (a b : FVec F S128x128 .bf16) : FVec F S128x128 .f32 :=
  matmul dot_S128x128_S128x128_S128x128_1_1_0_0_n_n none a b (constant S128x128 .f32 0x00000000#32)

/-- A plain product. -/
def mmNN (a b : FVec F S128x128 .bf16) : FVec F S128x128 .f32 :=
  matmul dot_S128x128_S128x128_S128x128_1_0_0_1_n_n none a b (constant S128x128 .f32 0x00000000#32)

/-- A product with the first operand transposed. -/
def mmTN (a b : FVec F S128x128 .bf16) : FVec F S128x128 .f32 :=
  matmul dot_S128x128_S128x128_S128x128_0_0_1_1_n_n none a b (constant S128x128 .f32 0x00000000#32)

/-- The narrower format. -/
def nar (x : FVec F S128x128 .f32) : FVec F S128x128 .bf16 := truncf .bf16 x bitsLt_bf16_f32

/-- The strictly lower matrix `β_t k_t·k_s exp(G_t − G_s)`. -/
def lMat (k : FVec F S128x128 .f32) (beta gc : FVec F S128x1 .f32) : FVec F S128x128 .f32 :=
  select strictMask (mulf (mmNT (nar (scaleRows k beta)) (nar k)) (decayMat gc))
    (broadcast S128x128 (Scalar.ofBits .f32 0x00000000#32))

/-- The bit length of `row xor column`: 32 less the leading zeros. -/
def levelMat : IVec S128x128 32 :=
  subi (broadcast S128x128 32#32)
    (ctlz (xori (iota .tc S128x128 32 [0] iota_S128x128_d0_w32) (iota .tc S128x128 32 [1] iota_S128x128_d1_w32)))

/-- The identity matrix less the entries of `l` at level at most one. -/
def inv1 (l : FVec F S128x128 .f32) : FVec F S128x128 .f32 :=
  subf (select (cmpi .eq (iota .tc S128x128 32 [0] iota_S128x128_d0_w32)
      (iota .tc S128x128 32 [1] iota_S128x128_d1_w32))
      (broadcast S128x128 (Scalar.ofBits .f32 0x3F800000#32))
      (broadcast S128x128 (Scalar.ofBits .f32 0x00000000#32)))
    (select (cmpi .sle levelMat (broadcast S128x128 1#32)) l (broadcast S128x128 (Scalar.ofBits .f32 0x00000000#32)))

/-- One more level: `t − t (l at that level) t`. -/
def invStep (n : BitVec 32) (l t : FVec F S128x128 .f32) : FVec F S128x128 .f32 :=
  subf t (mmNN (nar t) (nar (mmNN
    (nar (select (cmpi .eq levelMat (broadcast S128x128 n)) l (broadcast S128x128 (Scalar.ofBits .f32 0x00000000#32))))
    (nar t))))

/-- The inverse of `1 + l` for `l` of levels at most three. -/
def inv3 (l : FVec F S128x128 .f32) : FVec F S128x128 .f32 :=
  invStep 3#32 l (invStep 2#32 l (inv1 l))

/-- The inverse applied to `β v` and to `β k exp G`, side by side. -/
def solMat (t k v : FVec F S128x128 .f32) (beta gc : FVec F S128x1 .f32) : FVec F S128x256 .f32 :=
  matmul dot_S128x128_S128x256_S128x256_1_0_0_1_n_n none (nar t)
    (truncf .bf16 (concatenate S128x256 1 [⟨S128x128, scaleRows v beta⟩,
      ⟨S128x128, scaleRows (scaleRows k beta) (exp gc)⟩] concatenates_S128x128_S128x128_S128x256_d1) bitsLt_bf16_f32)
    (constant S128x256 .f32 0x00000000#32)

/-- The chunk's corrections `u`, from the two solutions and the state it starts from. -/
def uMat (sol : FVec F S128x256 .f32) (s : FVec F S128x128 .f32) : FVec F S128x128 .f32 :=
  subf (extractStridedSlice S128x128 ![0, 0] sol slices_S128x256_o0_0_S128x128)
    (mmNN (nar (extractStridedSlice S128x128 ![0, 128] sol slices_S128x256_o0_128_S128x128)) (nar s))

/-- The corrections, from one head's queries on. -/
def uOf (k v : FVec F S128x128 .f32) (beta gc : FVec F S128x1 .f32) (s : FVec F S128x128 .f32) : FVec F S128x128 .f32 :=
  uMat (solMat (inv3 (lMat k beta gc)) k v beta gc) s

/-- The outputs: from the state it starts from and from the corrections. -/
def oMat (q k : FVec F S128x128 .f32) (gc : FVec F S128x1 .f32) (s u : FVec F S128x128 .f32) : FVec F S128x128 .f32 :=
  addf (mmNN (nar (scaleRows q (exp gc))) (nar s))
    (mmNN (nar (mulf (mmNT (nar q) (nar k)) (decayMat gc))) (nar u))

/-- The rms normalisation of the eight live rows, the scale and the gate. -/
def outGate (o : FVec F S128x128 .f32) (z : Vec F S1x8x128 .f32) (gw : Vec F S1x128 .f32) : FVec F S1x8x128 .f32 :=
  let x : FVec F S8x128 .f32 := extractStridedSlice S8x128 ![0, 0] o slices_S128x128_o0_0_S8x128
  let zz : FVec F S8x128 .f32 := shapeCast S8x128 z shapeCasts_S1x8x128_S8x128
  shapeCast S1x8x128
    (mulf (mulf (mulf x (broadcastTo S8x128 (rsqrt (addf (divf (shapeCast S8x1
          (multiReduction .add [1] S8 (mulf x x) 0x00000000#32 reduces_S8x128_S8 (.inl rfl) rfl) shapeCasts_S8_S8x1)
          (broadcast S8x1 (Scalar.ofBits .f32 0x43000000#32)))
          (broadcast S8x1 (Scalar.ofBits .f32 0x358637BD#32)))) broadcasts_S8x1_S8x128))
        (broadcastTo S8x128 (shapeCast S1x128 gw shapeCasts_S1x128_S1x128) broadcasts_S1x128_S8x128))
      (siluK zz)) shapeCasts_S8x128_S1x8x128

/-- The state after the chunk. -/
def sNew (k : FVec F S128x128 .f32) (gc : FVec F S128x1 .f32) (s u : FVec F S128x128 .f32) : FVec F S128x128 .f32 :=
  let last : FVec F S1x1 .f32 := extractStridedSlice S1x1 ![127, 0] gc slices_S128x1_o127_0_S1x1
  addf (mulf s (broadcastTo S128x128 (exp last) broadcasts_S1x1_S128x128))
    (mmTN (nar (scaleRows k (exp (subf (broadcastTo S128x1 last broadcasts_S1x1_S128x1) gc)))) (nar u))

/-- A head's 128 padded rows as a matrix. -/
def asMat (x : Vec F S1x128x128 .f32) : FVec F S128x128 .f32 := shapeCast S128x128 x shapeCasts_S1x128x128_S128x128

/-- A head's state as a matrix. -/
def asSt (x : Vec F S1x1x128x128 .f32) : FVec F S128x128 .f32 :=
  shapeCast S128x128 x shapeCasts_S1x1x128x128_S128x128

/-- One column of the gates. -/
def gateCol (h : Nat) (g : FVec F S128x8 .f32) (hs : S128x8.Slices ![0, h] S128x1) : FVec F S128x1 .f32 :=
  extractStridedSlice S128x1 ![0, h] g hs

/-- One head's output block. -/
def headOut (q k v : Vec F S1x128x128 .f32) (beta gc : FVec F S128x1 .f32) (s : Vec F S1x1x128x128 .f32)
    (z : Vec F S1x8x128 .f32) (gw : Vec F S1x128 .f32) : FVec F S1x8x128 .f32 :=
  outGate (oMat (asMat q) (asMat k) gc (asSt s) (uOf (asMat k) (asMat v) beta gc (asSt s))) z gw

/-- One head's new state. -/
def headSt (k v : Vec F S1x128x128 .f32) (beta gc : FVec F S128x1 .f32) (s : Vec F S1x1x128x128 .f32) :
    FVec F S1x1x128x128 .f32 :=
  shapeCast S1x1x128x128 (sNew (asMat k) gc (asSt s) (uOf (asMat k) (asMat v) beta gc (asSt s)))
    shapeCasts_S128x128_S1x1x128x128

end Cert.Gdn
-- ==== Proof.Block.lean ====
module

public import proofs.«01_k».proof.Proof.Stages
public import Idealize.ShloMosaic.Lib.Pointwise

/-! What one block of the grid holds, as functions of the blocks of the operands: the convolved rows, the prepared
    queries, keys and values, and each head's output and state. -/

@[expose] public section

noncomputable section

namespace Cert.Gdn

open Idealize.ShloMosaic Cert.KernelIdeal Cert.KernelIdeal.Gen

variable {F : FTy → Type} [FloatOps F]

/-- The rows the convolution reads: eight buffered rows `x3`, then the block's eight rows `x0`. -/
def extG (x0 x3 : Vec F S4x8x1536 .f32) : S4x136x1536.Idx → Elt F .f32 := fun y =>
  if h : (y 1).val < 8 then x3 (ix3 (y 0) ⟨(y 1).val, h⟩ (y 2))
  else x0 (ix3 (y 0) ⟨min ((y 1).val - 8) 7, by omega⟩ (y 2))

/-- Eight of those rows from row `i`, at column block `blk`. -/
def tap (x0 x3 : Vec F S4x8x1536 .f32) (g : Fin 4) (i : Fin 9) (blk : Fin 12) : Vec F S1x8x128 .f32 := fun j =>
  extG x0 x3 (ix3 g ⟨i.val + (j 1).val, by have : (j 1).val < 8 := (j 1).isLt; omega⟩
    ⟨128 * blk.val + (j 2).val, by have : (j 2).val < 128 := (j 2).isLt; omega⟩)

/-- The weights of tap `i` at column block `blk`. -/
def wrow (x5 : Vec F S4x1536 .f32) (i : Fin 4) (blk : Fin 12) : Vec F S1x128 .f32 := fun j =>
  x5 (ix2 i ⟨128 * blk.val + (j 1).val, by have : (j 1).val < 128 := (j 1).isLt; omega⟩)

/-- A prepared block of eight tokens: queries in the first four column blocks, keys in the next four, then values. -/
def prepBlk (x0 x3 : Vec F S4x8x1536 .f32) (x5 : Vec F S4x1536 .f32) (g : Fin 4) (blk : Fin 12) : Vec F S1x8x128 .f32 :=
  if blk.val < 4 then
    prepQ (tap x0 x3 g 5 blk) (tap x0 x3 g 6 blk) (tap x0 x3 g 7 blk) (tap x0 x3 g 8 blk)
      (wrow x5 0 blk) (wrow x5 1 blk) (wrow x5 2 blk) (wrow x5 3 blk)
  else if blk.val < 8 then
    prepK (tap x0 x3 g 5 blk) (tap x0 x3 g 6 blk) (tap x0 x3 g 7 blk) (tap x0 x3 g 8 blk)
      (wrow x5 0 blk) (wrow x5 1 blk) (wrow x5 2 blk) (wrow x5 3 blk)
  else
    prepV (tap x0 x3 g 5 blk) (tap x0 x3 g 6 blk) (tap x0 x3 g 7 blk) (tap x0 x3 g 8 blk)
      (wrow x5 0 blk) (wrow x5 1 blk) (wrow x5 2 blk) (wrow x5 3 blk)

/-- The prepared rows, padded to 128 by zeros. -/
def prepG (x0 x3 : Vec F S4x8x1536 .f32) (x5 : Vec F S4x1536 .f32) : S4x128x1536.Idx → Elt F .f32 := fun y =>
  if h : (y 1).val < 8 then
    prepBlk x0 x3 x5 (y 0) ⟨(y 2).val / 128, by have : (y 2).val < 1536 := (y 2).isLt; omega⟩
      (ix3 (0 : Fin 1) ⟨(y 1).val, h⟩ ⟨(y 2).val % 128, Nat.mod_lt _ (by norm_num)⟩)
  else FloatOps.ofBits .f32 0x00000000#32

/-- The prepared rows of one column block. -/
def prepHead (x0 x3 : Vec F S4x8x1536 .f32) (x5 : Vec F S4x1536 .f32) (g : Fin 4) (blk : Fin 12) :
    Vec F S1x128x128 .f32 := fun j =>
  prepG x0 x3 x5 (ix3 g (j 1) ⟨128 * blk.val + (j 2).val, by have : (j 2).val < 128 := (j 2).isLt; omega⟩)

/-- One sequence's gate inputs. -/
def abRow (x1 : Vec F S4x8x8 .f32) (g : Fin 4) : Vec F S1x8x8 .f32 := fun j => x1 (ix3 g (j 1) (j 2))

/-- One head's state at the start. -/
def stHead (x4 : Vec F S4x4x128x128 .f32) (g h : Fin 4) : Vec F S1x1x128x128 .f32 := fun j => x4 (ix4 g h (j 2) (j 3))

/-- One head's gate values `z`. -/
def zHead (x2 : Vec F S4x8x512 .f32) (g h : Fin 4) : Vec F S1x8x128 .f32 := fun j =>
  x2 (ix3 g (j 1) ⟨128 * h.val + (j 2).val, by have : (j 2).val < 128 := (j 2).isLt; omega⟩)

theorem slices_col (h : Fin 8) : S128x8.Slices ![0, h.val] S128x1 := by
  refine ⟨rfl, fun a => ?_⟩
  fin_cases a
  · exact (by decide : 0 + 128 ≤ 128)
  · exact h.isLt

/-- Head `h`'s running log-decays. -/
def gcHead (x1 : Vec F S4x8x8 .f32) (x6 x7 : Vec F S1x8 .f32) (g h : Fin 4) : FVec F S128x1 .f32 :=
  gateCol (⟨h.val, by omega⟩ : Fin 8).val (gcumAll (abRow x1 g) x7 x6) (slices_col _)

/-- Head `h`'s write strengths. -/
def betaHead (x1 : Vec F S4x8x8 .f32) (g h : Fin 4) : FVec F S128x1 .f32 :=
  gateCol (⟨h.val + 4, by omega⟩ : Fin 8).val (betaAll (abRow x1 g)) (slices_col _)

/-- One head's output block from the blocks of the operands. -/
def outHead (x0 x3 : Vec F S4x8x1536 .f32) (x1 : Vec F S4x8x8 .f32) (x2 : Vec F S4x8x512 .f32)
    (x4 : Vec F S4x4x128x128 .f32) (x5 : Vec F S4x1536 .f32) (x6 x7 : Vec F S1x8 .f32) (x8 : Vec F S1x128 .f32)
    (g h : Fin 4) : FVec F S1x8x128 .f32 :=
  headOut (prepHead x0 x3 x5 g ⟨h.val, by omega⟩) (prepHead x0 x3 x5 g ⟨h.val + 4, by omega⟩)
    (prepHead x0 x3 x5 g ⟨h.val + 8, by omega⟩) (betaHead x1 g h) (gcHead x1 x6 x7 g h) (stHead x4 g h) (zHead x2 g h) x8

/-- One head's new state from the blocks of the operands. -/
def newHead (x0 x3 : Vec F S4x8x1536 .f32) (x1 : Vec F S4x8x8 .f32)
    (x4 : Vec F S4x4x128x128 .f32) (x5 : Vec F S4x1536 .f32) (x6 x7 : Vec F S1x8 .f32)
    (g h : Fin 4) : FVec F S1x1x128x128 .f32 :=
  headSt (prepHead x0 x3 x5 g ⟨h.val + 4, by omega⟩)
    (prepHead x0 x3 x5 g ⟨h.val + 8, by omega⟩) (betaHead x1 g h) (gcHead x1 x6 x7 g h) (stHead x4 g h)

/-- The output block. -/
def outBlk (x0 x3 : Vec F S4x8x1536 .f32) (x1 : Vec F S4x8x8 .f32) (x2 : Vec F S4x8x512 .f32)
    (x4 : Vec F S4x4x128x128 .f32) (x5 : Vec F S4x1536 .f32) (x6 x7 : Vec F S1x8 .f32) (x8 : Vec F S1x128 .f32) :
    Vec F S4x8x512 .f32 := fun y =>
  outHead x0 x3 x1 x2 x4 x5 x6 x7 x8 (y 0) ⟨(y 2).val / 128, by have : (y 2).val < 512 := (y 2).isLt; omega⟩
    (ix3 (0 : Fin 1) (y 1) ⟨(y 2).val % 128, Nat.mod_lt _ (by norm_num)⟩)

/-- The block of new states. -/
def stBlk (x0 x3 : Vec F S4x8x1536 .f32) (x1 : Vec F S4x8x8 .f32)
    (x4 : Vec F S4x4x128x128 .f32) (x5 : Vec F S4x1536 .f32) (x6 x7 : Vec F S1x8 .f32) :
    Vec F S4x4x128x128 .f32 := fun y =>
  newHead x0 x3 x1 x4 x5 x6 x7 (y 0) (y 1) (ix4 (0 : Fin 1) (0 : Fin 1) (y 2) (y 3))

end Cert.Gdn
-- ==== Proof.Loads.lean ====
module

public import proofs.«01_k».proof.Proof.Block
public import proofs.«01_k».proof.Proof.Gen.KernelIdeal.Frame

/-! What the block's scratch arrays and loads hold: the rows the convolution reads, and the loads of the operands. -/

@[expose] public section

set_option maxRecDepth 16384

noncomputable section

namespace Cert.Gdn

open Idealize.ShloMosaic Cert.KernelIdeal Cert.KernelIdeal.Gen

variable {F : FTy → Type} [FloatOps F]

/-- A load of a unit-stride box of a whole operand reads the operand at the box's offset. -/
theorem load_apply {s : Shape} (M : Memref sig .tc .vmem s .f32) (hM : M.IsWhole) (d : Vec F s .f32)
    (off size : Fin s.rank → Nat) (inb : ∀ a, off a + size a ≤ s.size a) (j : (Rect.unit off size inb).shape.Idx) :
    View.readAt (Elt F) M.view (Rect.unit (s := s) off size inb).toLoadRect (hM.unread d) j
      = d ((Rect.unit (s := s) off size inb).emb j) := by
  rw [View.readAt_eq_ld, hM.read_unread]; rfl

/-- A load of a unit-stride box of written pieces reads what the pieces leave. -/
theorem cov_apply {s : Shape} (M : Memref sig .tc .vmem s .f32) (L : List (View.Piece (Elt F) s .f32))
    (off size : Fin s.rank → Nat) (inb : ∀ a, off a + size a ≤ s.size a) (j : (Rect.unit off size inb).shape.Idx) :
    M.view.readCov L (Rect.unit (s := s) off size inb).toLoadRect j
      = View.canon L ((Rect.unit (s := s) off size inb).emb j) := by
  rw [View.readCov_eq_canon']; rfl

theorem emb_unit_val {s : Shape} (off size : Fin s.rank → Nat) (inb : ∀ a, off a + size a ≤ s.size a)
    (j : (Rect.unit off size inb).shape.Idx) (a : Fin s.rank) :
    ((Rect.unit off size inb).emb j a : Nat) = off a + (j a : Nat) := by
  rw [Rect.emb_apply]; show off a + 1 * (j a : Nat) = _; omega

/-- Two indices of a rank-three shape with equal coordinates. -/
theorem idx3_ext {n0 n1 n2 : Nat} {x y : (⟨3, ![n0, n1, n2]⟩ : Shape).Idx} (h0 : (x 0).val = (y 0).val)
    (h1 : (x 1).val = (y 1).val) (h2 : (x 2).val = (y 2).val) : x = y := by
  funext a; apply Fin.ext
  match a with
  | ⟨0, _⟩ => exact h0
  | ⟨1, _⟩ => exact h1
  | ⟨2, _⟩ => exact h2

theorem idx2_ext {n0 n1 : Nat} {x y : (⟨2, ![n0, n1]⟩ : Shape).Idx} (h0 : (x 0).val = (y 0).val)
    (h1 : (x 1).val = (y 1).val) : x = y := by
  funext a; apply Fin.ext
  match a with
  | ⟨0, _⟩ => exact h0
  | ⟨1, _⟩ => exact h1

theorem idx4_ext {n0 n1 n2 n3 : Nat} {x y : (⟨4, ![n0, n1, n2, n3]⟩ : Shape).Idx} (h0 : (x 0).val = (y 0).val)
    (h1 : (x 1).val = (y 1).val) (h2 : (x 2).val = (y 2).val) (h3 : (x 3).val = (y 3).val) : x = y := by
  funext a; apply Fin.ext
  match a with
  | ⟨0, _⟩ => exact h0
  | ⟨1, _⟩ => exact h1
  | ⟨2, _⟩ => exact h2
  | ⟨3, _⟩ => exact h3

section loads

variable (c : Dev nD) (arg2 : Memref sig .tc .vmem S4x8x1536 .f32) (harg2 : arg2.IsWhole)
  (arg5 : Memref sig .tc .vmem S4x8x1536 .f32) (harg5 : arg5.IsWhole)
  (arg13 : Memref sig .tc .vmem S4x136x1536 .f32) (x0 x3 : Vec F S4x8x1536 .f32)

theorem hz3 : (![0, 0, 0] : Fin 3 → Nat) = fun _ => 0 := funext fun a => by fin_cases a <;> rfl

theorem hz2 : (![0, 0] : Fin 2 → Nat) = fun _ => 0 := funext fun a => by fin_cases a <;> rfl

theorem hz4 : (![0, 0, 0, 0] : Fin 4 → Nat) = fun _ => 0 := funext fun a => by fin_cases a <;> rfl

/-- The rows the convolution reads, below row sixteen: the buffered rows, then the block's. -/
theorem ext_canon (y : S4x136x1536.Idx) (hy : (y 1).val < 16) :
    View.canon (kernelRun0_A.sl.HS0_2 c arg2 harg2 arg5 harg5 x0 x3) y = extG x0 x3 y := by
  refine View.canon_apply_of_pieces (extG x0 x3) _ ?_ y ?_
  · refine List.forall_mem_cons.mpr ⟨fun x => ?_, List.forall_mem_cons.mpr ⟨fun x => ?_, by simp⟩⟩
    · dsimp only at x ⊢
      unfold k0_pay5
      simp only [shapeCast_self]
      rw [load_apply]
      have h1 := emb_unit_val (s := S4x136x1536) ![0, 8, 0] S4x8x1536.size inb_S4x136x1536_S4x8x1536_0_8_0 x 1
      have e1 : ((Rect.unit (s := S4x136x1536) ![0, 8, 0] S4x8x1536.size inb_S4x136x1536_S4x8x1536_0_8_0).emb x 1).val
          = 8 + (x 1).val := h1
      unfold extG
      rw [dif_neg (by rw [e1]; omega)]
      congr 1
      have hx : (x 1).val < 8 := (x 1).isLt
      refine idx3_ext ?_ ?_ ?_
      · show 0 + 1 * (x 0).val = 0 + 1 * (x 0).val; rfl
      · show 0 + 1 * (x 1).val = min (8 + 1 * (x 1).val - 8) 7; omega
      · show 0 + 1 * (x 2).val = 0 + 1 * (x 2).val; rfl
    · dsimp only at x ⊢
      unfold k0_pay1
      simp only [shapeCast_self]
      rw [load_apply]
      have hx : (x 1).val < 8 := (x 1).isLt
      have e1 : ((Rect.unit (s := S4x136x1536) ![0, 0, 0] S4x8x1536.size inb_S4x136x1536_S4x8x1536_0_0_0).emb x 1).val
          = 0 + (x 1).val := emb_unit_val (s := S4x136x1536) ![0, 0, 0] S4x8x1536.size inb_S4x136x1536_S4x8x1536_0_0_0 x 1
      unfold extG
      rw [dif_pos (by rw [e1]; omega)]
      congr 1
      exact idx3_ext rfl rfl rfl
  · have h0 : (y 0).val < 4 := (y 0).isLt
    have h2 : (y 2).val < 1536 := (y 2).isLt
    by_cases h : (y 1).val < 8
    · refine ⟨_, List.mem_cons_of_mem _ List.mem_cons_self, ?_⟩
      refine (Rect.mem_set_unit (s := S4x136x1536) (inb := inb_S4x136x1536_S4x8x1536_0_0_0)).mpr fun a => ?_
      match a with
      | ⟨0, _⟩ => show 0 ≤ (y 0).val ∧ (y 0).val < 0 + 4; omega
      | ⟨1, _⟩ => show 0 ≤ (y 1).val ∧ (y 1).val < 0 + 8; omega
      | ⟨2, _⟩ => show 0 ≤ (y 2).val ∧ (y 2).val < 0 + 1536; omega
    · refine ⟨_, List.mem_cons_self, ?_⟩
      refine (Rect.mem_set_unit (s := S4x136x1536) (inb := inb_S4x136x1536_S4x8x1536_0_8_0)).mpr fun a => ?_
      match a with
      | ⟨0, _⟩ => show 0 ≤ (y 0).val ∧ (y 0).val < 0 + 4; omega
      | ⟨1, _⟩ => show 8 ≤ (y 1).val ∧ (y 1).val < 8 + 8; omega
      | ⟨2, _⟩ => show 0 ≤ (y 2).val ∧ (y 2).val < 0 + 1536; omega

/-- A shifted load of the rows is the tap. -/
theorem tap_eq (g : Fin 4) (i : Fin 9) (blk : Fin 12) (gn n b : Nat) (hg : gn = g.val) (hi : n = i.val)
    (hb : b = 128 * blk.val) (inb : ∀ a, (![gn, n, b] : Fin 3 → Nat) a + S1x8x128.size a ≤ S4x136x1536.size a) :
    arg13.view.readCov (kernelRun0_A.sl.HS0_2 c arg2 harg2 arg5 harg5 x0 x3)
      (Rect.unit (s := S4x136x1536) ![gn, n, b] S1x8x128.size inb).toLoadRect = tap x0 x3 g i blk := by
  subst hg hi hb
  funext j
  rw [cov_apply]
  have hj0 : (j 0).val < 1 := (j 0).isLt
  have hj1 : (j 1).val < 8 := (j 1).isLt
  rw [ext_canon]
  · unfold tap
    congr 1
    refine idx3_ext ?_ ?_ ?_
    · show g.val + 1 * (j 0).val = g.val; omega
    · show i.val + 1 * (j 1).val = i.val + (j 1).val; omega
    · show 128 * blk.val + 1 * (j 2).val = 128 * blk.val + (j 2).val; omega
  · show i.val + 1 * (j 1).val < 16
    omega

end loads

/-- A load of a weight row. -/
theorem wrow_eq (arg7 : Memref sig .tc .vmem S4x1536 .f32) (harg7 : arg7.IsWhole) (x5 : Vec F S4x1536 .f32)
    (i : Fin 4) (blk : Fin 12) (n b : Nat) (hi : n = i.val) (hb : b = 128 * blk.val)
    (inb : ∀ a, (![n, b] : Fin 2 → Nat) a + S1x128.size a ≤ S4x1536.size a) :
    View.readAt (Elt F) arg7.view (Rect.unit (s := S4x1536) ![n, b] S1x128.size inb).toLoadRect (harg7.unread x5)
      = wrow x5 i blk := by
  subst hi hb
  funext j
  rw [load_apply]
  have hj0 : (j 0).val < 1 := (j 0).isLt
  unfold wrow
  congr 1
  refine idx2_ext ?_ ?_
  · show i.val + 1 * (j 0).val = i.val; omega
  · show 128 * blk.val + 1 * (j 1).val = 128 * blk.val + (j 1).val; omega

/-- A load of a sequence's gate inputs. -/
theorem ab_eq (arg3 : Memref sig .tc .vmem S4x8x8 .f32) (harg3 : arg3.IsWhole) (x1 : Vec F S4x8x8 .f32)
    (g : Fin 4) (gn : Nat) (hg : gn = g.val)
    (inb : ∀ a, (![gn, 0, 0] : Fin 3 → Nat) a + S1x8x8.size a ≤ S4x8x8.size a) :
    View.readAt (Elt F) arg3.view (Rect.unit (s := S4x8x8) ![gn, 0, 0] S1x8x8.size inb).toLoadRect (harg3.unread x1)
      = abRow x1 g := by
  subst hg
  funext j
  rw [load_apply]
  have hj0 : (j 0).val < 1 := (j 0).isLt
  unfold abRow
  congr 1
  refine idx3_ext ?_ ?_ ?_
  · show g.val + 1 * (j 0).val = g.val; omega
  · show 0 + 1 * (j 1).val = (j 1).val; omega
  · show 0 + 1 * (j 2).val = (j 2).val; omega

/-- A load of a head's gate values. -/
theorem z_eq (arg4 : Memref sig .tc .vmem S4x8x512 .f32) (harg4 : arg4.IsWhole) (x2 : Vec F S4x8x512 .f32)
    (g h : Fin 4) (gn b : Nat) (hg : gn = g.val) (hb : b = 128 * h.val)
    (inb : ∀ a, (![gn, 0, b] : Fin 3 → Nat) a + S1x8x128.size a ≤ S4x8x512.size a) :
    View.readAt (Elt F) arg4.view (Rect.unit (s := S4x8x512) ![gn, 0, b] S1x8x128.size inb).toLoadRect (harg4.unread x2)
      = zHead x2 g h := by
  subst hg hb
  funext j
  rw [load_apply]
  have hj0 : (j 0).val < 1 := (j 0).isLt
  unfold zHead
  congr 1
  refine idx3_ext ?_ ?_ ?_
  · show g.val + 1 * (j 0).val = g.val; omega
  · show 0 + 1 * (j 1).val = (j 1).val; omega
  · show 128 * h.val + 1 * (j 2).val = 128 * h.val + (j 2).val; omega

/-- A load of a whole row of eight. -/
theorem row8_eq (M : Memref sig .tc .vmem S1x8 .f32) (hM : M.IsWhole) (x : Vec F S1x8 .f32)
    (inb : ∀ a, (![0, 0] : Fin 2 → Nat) a + S1x8.size a ≤ S1x8.size a) :
    View.readAt (Elt F) M.view (Rect.unit (s := S1x8) ![0, 0] S1x8.size inb).toLoadRect (hM.unread x) = x := by
  rw [View.readAt_eq_ld, hM.read_unread]
  exact View.ld_unit_zero (S := S1x8) hz2 inb x

/-- A load of the whole scale row. -/
theorem row128_eq (M : Memref sig .tc .vmem S1x128 .f32) (hM : M.IsWhole) (x : Vec F S1x128 .f32)
    (inb : ∀ a, (![0, 0] : Fin 2 → Nat) a + S1x128.size a ≤ S1x128.size a) :
    View.readAt (Elt F) M.view (Rect.unit (s := S1x128) ![0, 0] S1x128.size inb).toLoadRect (hM.unread x) = x := by
  rw [View.readAt_eq_ld, hM.read_unread]
  exact View.ld_unit_zero (S := S1x128) hz2 inb x

/-- A load of a head's state at the start. -/
theorem st_eq (c : Dev nD) (arg6 : Memref sig .tc .vmem S4x4x128x128 .f32) (harg6 : arg6.IsWhole)
    (arg14 : Memref sig .tc .vmem S4x4x128x128 .f32) (x4 : Vec F S4x4x128x128 .f32)
    (g h : Fin 4) (gn hn : Nat) (hg : gn = g.val) (hh : hn = h.val)
    (inb : ∀ a, (![gn, hn, 0, 0] : Fin 4 → Nat) a + S1x1x128x128.size a ≤ S4x4x128x128.size a) :
    arg14.view.readCov (kernelRun0_A.sl.HS1_1 c arg6 harg6 x4)
      (Rect.unit (s := S4x4x128x128) ![gn, hn, 0, 0] S1x1x128x128.size inb).toLoadRect = stHead x4 g h := by
  subst hg hh
  funext j
  rw [cov_apply]
  have e : View.canon (kernelRun0_A.sl.HS1_1 c arg6 harg6 x4) = x4 := by
    unfold kernelRun0_A.sl.HS1_1
    rw [View.canon_unit_zero (S := S4x4x128x128) hz4]
    unfold k0_pay2
    simp only [shapeCast_self]
    rw [View.readAt_eq_ld, harg6.read_unread]
    exact View.ld_unit_zero (S := S4x4x128x128) hz4 _ x4
  rw [e]
  have hj0 : (j 0).val < 1 := (j 0).isLt
  have hj1 : (j 1).val < 1 := (j 1).isLt
  unfold stHead
  congr 1
  refine idx4_ext ?_ ?_ ?_ ?_
  · show g.val + 1 * (j 0).val = g.val; omega
  · show h.val + 1 * (j 1).val = h.val; omega
  · show 0 + 1 * (j 2).val = (j 2).val; omega
  · show 0 + 1 * (j 3).val = (j 3).val; omega

end Cert.Gdn
-- ==== Proof.Prep.lean ====
module

public import proofs.«01_k».proof.Proof.Loads

/-! The prepared rows: the queries, keys and values of the four sequences of a block, as the body leaves them. -/

@[expose] public section

set_option maxRecDepth 16384

noncomputable section

namespace Cert.Gdn

open Idealize.ShloMosaic Cert.KernelIdeal Cert.KernelIdeal.Gen

variable {F : FTy → Type} [FloatOps F]

variable (c : Dev nD) (arg2 : Memref sig .tc .vmem S4x8x1536 .f32) (harg2 : arg2.IsWhole) (arg5 : Memref sig .tc .vmem S4x8x1536 .f32) (harg5 : arg5.IsWhole) (arg7 : Memref sig .tc .vmem S4x1536 .f32) (harg7 : arg7.IsWhole) (arg13 : Memref sig .tc .vmem S4x136x1536 .f32) (x0 : Vec F S4x8x1536 .f32) (x3 : Vec F S4x8x1536 .f32) (x5 : Vec F S4x1536 .f32)

/-- A stored block of eight prepared tokens is the prepared rows there. -/
theorem prepBlk_piece (g : Fin 4) (blk : Fin 12) (gn b : Nat) (hg : gn = g.val) (hb : b = 128 * blk.val)
    (inb : ∀ a, (![gn, 0, b] : Fin 3 → Nat) a + S1x8x128.size a ≤ S4x128x1536.size a)
    (w : Vec F S1x8x128 .f32) (hw : w = prepBlk x0 x3 x5 g blk)
    (x : (Rect.unit (s := S4x128x1536) ![gn, 0, b] S1x8x128.size inb).shape.Idx) :
    w x = prepG x0 x3 x5 ((Rect.unit (s := S4x128x1536) ![gn, 0, b] S1x8x128.size inb).emb x) := by
  subst hg hb hw
  have hx0 : (x 0).val < 1 := (x 0).isLt
  have hx1 : (x 1).val < 8 := (x 1).isLt
  have hx2 : (x 2).val < 128 := (x 2).isLt
  unfold prepG
  have e1 : ((Rect.unit (s := S4x128x1536) ![g.val, 0, 128 * blk.val] S1x8x128.size inb).emb x 1).val = 0 + (x 1).val :=
    emb_unit_val (s := S4x128x1536) _ _ inb x 1
  have e0 : ((Rect.unit (s := S4x128x1536) ![g.val, 0, 128 * blk.val] S1x8x128.size inb).emb x 0).val = g.val + (x 0).val :=
    emb_unit_val (s := S4x128x1536) _ _ inb x 0
  have e2 : ((Rect.unit (s := S4x128x1536) ![g.val, 0, 128 * blk.val] S1x8x128.size inb).emb x 2).val
      = 128 * blk.val + (x 2).val := emb_unit_val (s := S4x128x1536) _ _ inb x 2
  rw [dif_pos (by rw [e1]; omega)]
  have hG : (Rect.unit (s := S4x128x1536) ![g.val, 0, 128 * blk.val] S1x8x128.size inb).emb x 0 = g :=
    Fin.ext (by rw [e0]; omega)
  have hB : (⟨((Rect.unit (s := S4x128x1536) ![g.val, 0, 128 * blk.val] S1x8x128.size inb).emb x 2).val / 128,
      by rw [e2]; have := blk.isLt; omega⟩ : Fin 12) = blk := Fin.ext (by show _ / 128 = _; rw [e2]; omega)
  rw [hB]
  rw [show ((Rect.unit (s := S4x128x1536) ![g.val, 0, 128 * blk.val] S1x8x128.size inb).emb x 0 : Fin 4) = g from hG]
  congr 1
  refine idx3_ext ?_ ?_ ?_
  · show (x 0).val = 0; omega
  · show (x 1).val = ((Rect.unit (s := S4x128x1536) ![g.val, 0, 128 * blk.val] S1x8x128.size inb).emb x 1).val; omega
  · show (x 2).val = ((Rect.unit (s := S4x128x1536) ![g.val, 0, 128 * blk.val] S1x8x128.size inb).emb x 2).val % 128
    omega

/-- The zeros stored below are the prepared rows there. -/
theorem pad_piece (gn b : Nat)
    (inb : ∀ a, (![gn, 8, b] : Fin 3 → Nat) a + S1x120x128.size a ≤ S4x128x1536.size a)
    (w : Vec F S1x120x128 .f32) (hw : w = prepPad)
    (x : (Rect.unit (s := S4x128x1536) ![gn, 8, b] S1x120x128.size inb).shape.Idx) :
    w x = prepG x0 x3 x5 ((Rect.unit (s := S4x128x1536) ![gn, 8, b] S1x120x128.size inb).emb x) := by
  subst hw
  have e1 : ((Rect.unit (s := S4x128x1536) ![gn, 8, b] S1x120x128.size inb).emb x 1).val = 8 + (x 1).val :=
    emb_unit_val (s := S4x128x1536) _ _ inb x 1
  unfold prepG
  rw [dif_neg (by rw [e1]; omega)]
  rfl

/-- The taps and weights loaded for a column block make its prepared block. -/
theorem prepQ_eq (g : Fin 4) (blk : Fin 12) (hk : blk.val < 4) (gn b : Nat) (hg : gn = g.val) (hb : b = 128 * blk.val)
    (i5 : ∀ a, (![gn, 5, b] : Fin 3 → Nat) a + S1x8x128.size a ≤ S4x136x1536.size a)
    (i6 : ∀ a, (![gn, 6, b] : Fin 3 → Nat) a + S1x8x128.size a ≤ S4x136x1536.size a)
    (i7 : ∀ a, (![gn, 7, b] : Fin 3 → Nat) a + S1x8x128.size a ≤ S4x136x1536.size a)
    (i8 : ∀ a, (![gn, 8, b] : Fin 3 → Nat) a + S1x8x128.size a ≤ S4x136x1536.size a)
    (j0 : ∀ a, (![0, b] : Fin 2 → Nat) a + S1x128.size a ≤ S4x1536.size a)
    (j1 : ∀ a, (![1, b] : Fin 2 → Nat) a + S1x128.size a ≤ S4x1536.size a)
    (j2 : ∀ a, (![2, b] : Fin 2 → Nat) a + S1x128.size a ≤ S4x1536.size a)
    (j3 : ∀ a, (![3, b] : Fin 2 → Nat) a + S1x128.size a ≤ S4x1536.size a) :
    prepQ
      (arg13.view.readCov (kernelRun0_A.sl.HS0_2 c arg2 harg2 arg5 harg5 x0 x3) (Rect.unit (s := S4x136x1536) ![gn, 5, b] S1x8x128.size i5).toLoadRect)
      (arg13.view.readCov (kernelRun0_A.sl.HS0_2 c arg2 harg2 arg5 harg5 x0 x3) (Rect.unit (s := S4x136x1536) ![gn, 6, b] S1x8x128.size i6).toLoadRect)
      (arg13.view.readCov (kernelRun0_A.sl.HS0_2 c arg2 harg2 arg5 harg5 x0 x3) (Rect.unit (s := S4x136x1536) ![gn, 7, b] S1x8x128.size i7).toLoadRect)
      (arg13.view.readCov (kernelRun0_A.sl.HS0_2 c arg2 harg2 arg5 harg5 x0 x3) (Rect.unit (s := S4x136x1536) ![gn, 8, b] S1x8x128.size i8).toLoadRect)
      (View.readAt (Elt F) arg7.view (Rect.unit (s := S4x1536) ![0, b] S1x128.size j0).toLoadRect (harg7.unread x5))
      (View.readAt (Elt F) arg7.view (Rect.unit (s := S4x1536) ![1, b] S1x128.size j1).toLoadRect (harg7.unread x5))
      (View.readAt (Elt F) arg7.view (Rect.unit (s := S4x1536) ![2, b] S1x128.size j2).toLoadRect (harg7.unread x5))
      (View.readAt (Elt F) arg7.view (Rect.unit (s := S4x1536) ![3, b] S1x128.size j3).toLoadRect (harg7.unread x5))
      = prepBlk x0 x3 x5 g blk := by
  rw [tap_eq c arg2 harg2 arg5 harg5 arg13 x0 x3 g 5 blk gn 5 b hg rfl hb, tap_eq c arg2 harg2 arg5 harg5 arg13 x0 x3 g 6 blk gn 6 b hg rfl hb, tap_eq c arg2 harg2 arg5 harg5 arg13 x0 x3 g 7 blk gn 7 b hg rfl hb, tap_eq c arg2 harg2 arg5 harg5 arg13 x0 x3 g 8 blk gn 8 b hg rfl hb,
    wrow_eq arg7 harg7 x5 0 blk 0 b rfl hb, wrow_eq arg7 harg7 x5 1 blk 1 b rfl hb, wrow_eq arg7 harg7 x5 2 blk 2 b rfl hb, wrow_eq arg7 harg7 x5 3 blk 3 b rfl hb]
  unfold prepBlk; rw [if_pos hk]

/-- The taps and weights loaded for a column block make its prepared block. -/
theorem prepK_eq (g : Fin 4) (blk : Fin 12) (hk : 4 ≤ blk.val ∧ blk.val < 8) (gn b : Nat) (hg : gn = g.val) (hb : b = 128 * blk.val)
    (i5 : ∀ a, (![gn, 5, b] : Fin 3 → Nat) a + S1x8x128.size a ≤ S4x136x1536.size a)
    (i6 : ∀ a, (![gn, 6, b] : Fin 3 → Nat) a + S1x8x128.size a ≤ S4x136x1536.size a)
    (i7 : ∀ a, (![gn, 7, b] : Fin 3 → Nat) a + S1x8x128.size a ≤ S4x136x1536.size a)
    (i8 : ∀ a, (![gn, 8, b] : Fin 3 → Nat) a + S1x8x128.size a ≤ S4x136x1536.size a)
    (j0 : ∀ a, (![0, b] : Fin 2 → Nat) a + S1x128.size a ≤ S4x1536.size a)
    (j1 : ∀ a, (![1, b] : Fin 2 → Nat) a + S1x128.size a ≤ S4x1536.size a)
    (j2 : ∀ a, (![2, b] : Fin 2 → Nat) a + S1x128.size a ≤ S4x1536.size a)
    (j3 : ∀ a, (![3, b] : Fin 2 → Nat) a + S1x128.size a ≤ S4x1536.size a) :
    prepK
      (arg13.view.readCov (kernelRun0_A.sl.HS0_2 c arg2 harg2 arg5 harg5 x0 x3) (Rect.unit (s := S4x136x1536) ![gn, 5, b] S1x8x128.size i5).toLoadRect)
      (arg13.view.readCov (kernelRun0_A.sl.HS0_2 c arg2 harg2 arg5 harg5 x0 x3) (Rect.unit (s := S4x136x1536) ![gn, 6, b] S1x8x128.size i6).toLoadRect)
      (arg13.view.readCov (kernelRun0_A.sl.HS0_2 c arg2 harg2 arg5 harg5 x0 x3) (Rect.unit (s := S4x136x1536) ![gn, 7, b] S1x8x128.size i7).toLoadRect)
      (arg13.view.readCov (kernelRun0_A.sl.HS0_2 c arg2 harg2 arg5 harg5 x0 x3) (Rect.unit (s := S4x136x1536) ![gn, 8, b] S1x8x128.size i8).toLoadRect)
      (View.readAt (Elt F) arg7.view (Rect.unit (s := S4x1536) ![0, b] S1x128.size j0).toLoadRect (harg7.unread x5))
      (View.readAt (Elt F) arg7.view (Rect.unit (s := S4x1536) ![1, b] S1x128.size j1).toLoadRect (harg7.unread x5))
      (View.readAt (Elt F) arg7.view (Rect.unit (s := S4x1536) ![2, b] S1x128.size j2).toLoadRect (harg7.unread x5))
      (View.readAt (Elt F) arg7.view (Rect.unit (s := S4x1536) ![3, b] S1x128.size j3).toLoadRect (harg7.unread x5))
      = prepBlk x0 x3 x5 g blk := by
  rw [tap_eq c arg2 harg2 arg5 harg5 arg13 x0 x3 g 5 blk gn 5 b hg rfl hb, tap_eq c arg2 harg2 arg5 harg5 arg13 x0 x3 g 6 blk gn 6 b hg rfl hb, tap_eq c arg2 harg2 arg5 harg5 arg13 x0 x3 g 7 blk gn 7 b hg rfl hb, tap_eq c arg2 harg2 arg5 harg5 arg13 x0 x3 g 8 blk gn 8 b hg rfl hb,
    wrow_eq arg7 harg7 x5 0 blk 0 b rfl hb, wrow_eq arg7 harg7 x5 1 blk 1 b rfl hb, wrow_eq arg7 harg7 x5 2 blk 2 b rfl hb, wrow_eq arg7 harg7 x5 3 blk 3 b rfl hb]
  unfold prepBlk; rw [if_neg (by omega), if_pos hk.2]

/-- The taps and weights loaded for a column block make its prepared block. -/
theorem prepV_eq (g : Fin 4) (blk : Fin 12) (hk : 8 ≤ blk.val) (gn b : Nat) (hg : gn = g.val) (hb : b = 128 * blk.val)
    (i5 : ∀ a, (![gn, 5, b] : Fin 3 → Nat) a + S1x8x128.size a ≤ S4x136x1536.size a)
    (i6 : ∀ a, (![gn, 6, b] : Fin 3 → Nat) a + S1x8x128.size a ≤ S4x136x1536.size a)
    (i7 : ∀ a, (![gn, 7, b] : Fin 3 → Nat) a + S1x8x128.size a ≤ S4x136x1536.size a)
    (i8 : ∀ a, (![gn, 8, b] : Fin 3 → Nat) a + S1x8x128.size a ≤ S4x136x1536.size a)
    (j0 : ∀ a, (![0, b] : Fin 2 → Nat) a + S1x128.size a ≤ S4x1536.size a)
    (j1 : ∀ a, (![1, b] : Fin 2 → Nat) a + S1x128.size a ≤ S4x1536.size a)
    (j2 : ∀ a, (![2, b] : Fin 2 → Nat) a + S1x128.size a ≤ S4x1536.size a)
    (j3 : ∀ a, (![3, b] : Fin 2 → Nat) a + S1x128.size a ≤ S4x1536.size a) :
    prepV
      (arg13.view.readCov (kernelRun0_A.sl.HS0_2 c arg2 harg2 arg5 harg5 x0 x3) (Rect.unit (s := S4x136x1536) ![gn, 5, b] S1x8x128.size i5).toLoadRect)
      (arg13.view.readCov (kernelRun0_A.sl.HS0_2 c arg2 harg2 arg5 harg5 x0 x3) (Rect.unit (s := S4x136x1536) ![gn, 6, b] S1x8x128.size i6).toLoadRect)
      (arg13.view.readCov (kernelRun0_A.sl.HS0_2 c arg2 harg2 arg5 harg5 x0 x3) (Rect.unit (s := S4x136x1536) ![gn, 7, b] S1x8x128.size i7).toLoadRect)
      (arg13.view.readCov (kernelRun0_A.sl.HS0_2 c arg2 harg2 arg5 harg5 x0 x3) (Rect.unit (s := S4x136x1536) ![gn, 8, b] S1x8x128.size i8).toLoadRect)
      (View.readAt (Elt F) arg7.view (Rect.unit (s := S4x1536) ![0, b] S1x128.size j0).toLoadRect (harg7.unread x5))
      (View.readAt (Elt F) arg7.view (Rect.unit (s := S4x1536) ![1, b] S1x128.size j1).toLoadRect (harg7.unread x5))
      (View.readAt (Elt F) arg7.view (Rect.unit (s := S4x1536) ![2, b] S1x128.size j2).toLoadRect (harg7.unread x5))
      (View.readAt (Elt F) arg7.view (Rect.unit (s := S4x1536) ![3, b] S1x128.size j3).toLoadRect (harg7.unread x5))
      = prepBlk x0 x3 x5 g blk := by
  rw [tap_eq c arg2 harg2 arg5 harg5 arg13 x0 x3 g 5 blk gn 5 b hg rfl hb, tap_eq c arg2 harg2 arg5 harg5 arg13 x0 x3 g 6 blk gn 6 b hg rfl hb, tap_eq c arg2 harg2 arg5 harg5 arg13 x0 x3 g 7 blk gn 7 b hg rfl hb, tap_eq c arg2 harg2 arg5 harg5 arg13 x0 x3 g 8 blk gn 8 b hg rfl hb,
    wrow_eq arg7 harg7 x5 0 blk 0 b rfl hb, wrow_eq arg7 harg7 x5 1 blk 1 b rfl hb, wrow_eq arg7 harg7 x5 2 blk 2 b rfl hb, wrow_eq arg7 harg7 x5 3 blk 3 b rfl hb]
  unfold prepBlk; rw [if_neg (by omega), if_neg (by omega)]

/-- Every stored piece agrees with the prepared rows. -/
theorem prep_pieces : ∀ p ∈ (kernelRun0_A.sl.HS2_96 c arg2 harg2 arg5 harg5 arg7 harg7 arg13 x0 x3 x5), ∀ x : p.1.shape.Idx,
    p.2 x = prepG x0 x3 x5 (p.1.emb x) := by
  unfold kernelRun0_A.sl.HS2_96
  refine List.forall_mem_cons.mpr ⟨pad_piece x0 x3 x5 3 1408 inb_S4x128x1536_S1x120x128_3_8_1408 _ rfl, ?_⟩
  refine List.forall_mem_cons.mpr ⟨prepBlk_piece x0 x3 x5 3 11 3 1408 rfl rfl inb_S4x128x1536_S1x8x128_3_0_1408 _
    (prepV_eq c arg2 harg2 arg5 harg5 arg7 harg7 arg13 x0 x3 x5 3 11 (by decide) 3 1408 rfl rfl inb_S4x136x1536_S1x8x128_3_5_1408 inb_S4x136x1536_S1x8x128_3_6_1408 inb_S4x136x1536_S1x8x128_3_7_1408 inb_S4x136x1536_S1x8x128_3_8_1408 inb_S4x1536_S1x128_0_1408 inb_S4x1536_S1x128_1_1408 inb_S4x1536_S1x128_2_1408 inb_S4x1536_S1x128_3_1408), ?_⟩
  refine List.forall_mem_cons.mpr ⟨pad_piece x0 x3 x5 3 1280 inb_S4x128x1536_S1x120x128_3_8_1280 _ rfl, ?_⟩
  refine List.forall_mem_cons.mpr ⟨prepBlk_piece x0 x3 x5 3 10 3 1280 rfl rfl inb_S4x128x1536_S1x8x128_3_0_1280 _
    (prepV_eq c arg2 harg2 arg5 harg5 arg7 harg7 arg13 x0 x3 x5 3 10 (by decide) 3 1280 rfl rfl inb_S4x136x1536_S1x8x128_3_5_1280 inb_S4x136x1536_S1x8x128_3_6_1280 inb_S4x136x1536_S1x8x128_3_7_1280 inb_S4x136x1536_S1x8x128_3_8_1280 inb_S4x1536_S1x128_0_1280 inb_S4x1536_S1x128_1_1280 inb_S4x1536_S1x128_2_1280 inb_S4x1536_S1x128_3_1280), ?_⟩
  refine List.forall_mem_cons.mpr ⟨pad_piece x0 x3 x5 3 1152 inb_S4x128x1536_S1x120x128_3_8_1152 _ rfl, ?_⟩
  refine List.forall_mem_cons.mpr ⟨prepBlk_piece x0 x3 x5 3 9 3 1152 rfl rfl inb_S4x128x1536_S1x8x128_3_0_1152 _
    (prepV_eq c arg2 harg2 arg5 harg5 arg7 harg7 arg13 x0 x3 x5 3 9 (by decide) 3 1152 rfl rfl inb_S4x136x1536_S1x8x128_3_5_1152 inb_S4x136x1536_S1x8x128_3_6_1152 inb_S4x136x1536_S1x8x128_3_7_1152 inb_S4x136x1536_S1x8x128_3_8_1152 inb_S4x1536_S1x128_0_1152 inb_S4x1536_S1x128_1_1152 inb_S4x1536_S1x128_2_1152 inb_S4x1536_S1x128_3_1152), ?_⟩
  refine List.forall_mem_cons.mpr ⟨pad_piece x0 x3 x5 3 1024 inb_S4x128x1536_S1x120x128_3_8_1024 _ rfl, ?_⟩
  refine List.forall_mem_cons.mpr ⟨prepBlk_piece x0 x3 x5 3 8 3 1024 rfl rfl inb_S4x128x1536_S1x8x128_3_0_1024 _
    (prepV_eq c arg2 harg2 arg5 harg5 arg7 harg7 arg13 x0 x3 x5 3 8 (by decide) 3 1024 rfl rfl inb_S4x136x1536_S1x8x128_3_5_1024 inb_S4x136x1536_S1x8x128_3_6_1024 inb_S4x136x1536_S1x8x128_3_7_1024 inb_S4x136x1536_S1x8x128_3_8_1024 inb_S4x1536_S1x128_0_1024 inb_S4x1536_S1x128_1_1024 inb_S4x1536_S1x128_2_1024 inb_S4x1536_S1x128_3_1024), ?_⟩
  refine List.forall_mem_cons.mpr ⟨pad_piece x0 x3 x5 3 896 inb_S4x128x1536_S1x120x128_3_8_896 _ rfl, ?_⟩
  refine List.forall_mem_cons.mpr ⟨prepBlk_piece x0 x3 x5 3 7 3 896 rfl rfl inb_S4x128x1536_S1x8x128_3_0_896 _
    (prepK_eq c arg2 harg2 arg5 harg5 arg7 harg7 arg13 x0 x3 x5 3 7 (by decide) 3 896 rfl rfl inb_S4x136x1536_S1x8x128_3_5_896 inb_S4x136x1536_S1x8x128_3_6_896 inb_S4x136x1536_S1x8x128_3_7_896 inb_S4x136x1536_S1x8x128_3_8_896 inb_S4x1536_S1x128_0_896 inb_S4x1536_S1x128_1_896 inb_S4x1536_S1x128_2_896 inb_S4x1536_S1x128_3_896), ?_⟩
  refine List.forall_mem_cons.mpr ⟨pad_piece x0 x3 x5 3 768 inb_S4x128x1536_S1x120x128_3_8_768 _ rfl, ?_⟩
  refine List.forall_mem_cons.mpr ⟨prepBlk_piece x0 x3 x5 3 6 3 768 rfl rfl inb_S4x128x1536_S1x8x128_3_0_768 _
    (prepK_eq c arg2 harg2 arg5 harg5 arg7 harg7 arg13 x0 x3 x5 3 6 (by decide) 3 768 rfl rfl inb_S4x136x1536_S1x8x128_3_5_768 inb_S4x136x1536_S1x8x128_3_6_768 inb_S4x136x1536_S1x8x128_3_7_768 inb_S4x136x1536_S1x8x128_3_8_768 inb_S4x1536_S1x128_0_768 inb_S4x1536_S1x128_1_768 inb_S4x1536_S1x128_2_768 inb_S4x1536_S1x128_3_768), ?_⟩
  refine List.forall_mem_cons.mpr ⟨pad_piece x0 x3 x5 3 640 inb_S4x128x1536_S1x120x128_3_8_640 _ rfl, ?_⟩
  refine List.forall_mem_cons.mpr ⟨prepBlk_piece x0 x3 x5 3 5 3 640 rfl rfl inb_S4x128x1536_S1x8x128_3_0_640 _
    (prepK_eq c arg2 harg2 arg5 harg5 arg7 harg7 arg13 x0 x3 x5 3 5 (by decide) 3 640 rfl rfl inb_S4x136x1536_S1x8x128_3_5_640 inb_S4x136x1536_S1x8x128_3_6_640 inb_S4x136x1536_S1x8x128_3_7_640 inb_S4x136x1536_S1x8x128_3_8_640 inb_S4x1536_S1x128_0_640 inb_S4x1536_S1x128_1_640 inb_S4x1536_S1x128_2_640 inb_S4x1536_S1x128_3_640), ?_⟩
  refine List.forall_mem_cons.mpr ⟨pad_piece x0 x3 x5 3 512 inb_S4x128x1536_S1x120x128_3_8_512 _ rfl, ?_⟩
  refine List.forall_mem_cons.mpr ⟨prepBlk_piece x0 x3 x5 3 4 3 512 rfl rfl inb_S4x128x1536_S1x8x128_3_0_512 _
    (prepK_eq c arg2 harg2 arg5 harg5 arg7 harg7 arg13 x0 x3 x5 3 4 (by decide) 3 512 rfl rfl inb_S4x136x1536_S1x8x128_3_5_512 inb_S4x136x1536_S1x8x128_3_6_512 inb_S4x136x1536_S1x8x128_3_7_512 inb_S4x136x1536_S1x8x128_3_8_512 inb_S4x1536_S1x128_0_512 inb_S4x1536_S1x128_1_512 inb_S4x1536_S1x128_2_512 inb_S4x1536_S1x128_3_512), ?_⟩
  refine List.forall_mem_cons.mpr ⟨pad_piece x0 x3 x5 3 384 inb_S4x128x1536_S1x120x128_3_8_384 _ rfl, ?_⟩
  refine List.forall_mem_cons.mpr ⟨prepBlk_piece x0 x3 x5 3 3 3 384 rfl rfl inb_S4x128x1536_S1x8x128_3_0_384 _
    (prepQ_eq c arg2 harg2 arg5 harg5 arg7 harg7 arg13 x0 x3 x5 3 3 (by decide) 3 384 rfl rfl inb_S4x136x1536_S1x8x128_3_5_384 inb_S4x136x1536_S1x8x128_3_6_384 inb_S4x136x1536_S1x8x128_3_7_384 inb_S4x136x1536_S1x8x128_3_8_384 inb_S4x1536_S1x128_0_384 inb_S4x1536_S1x128_1_384 inb_S4x1536_S1x128_2_384 inb_S4x1536_S1x128_3_384), ?_⟩
  refine List.forall_mem_cons.mpr ⟨pad_piece x0 x3 x5 3 256 inb_S4x128x1536_S1x120x128_3_8_256 _ rfl, ?_⟩
  refine List.forall_mem_cons.mpr ⟨prepBlk_piece x0 x3 x5 3 2 3 256 rfl rfl inb_S4x128x1536_S1x8x128_3_0_256 _
    (prepQ_eq c arg2 harg2 arg5 harg5 arg7 harg7 arg13 x0 x3 x5 3 2 (by decide) 3 256 rfl rfl inb_S4x136x1536_S1x8x128_3_5_256 inb_S4x136x1536_S1x8x128_3_6_256 inb_S4x136x1536_S1x8x128_3_7_256 inb_S4x136x1536_S1x8x128_3_8_256 inb_S4x1536_S1x128_0_256 inb_S4x1536_S1x128_1_256 inb_S4x1536_S1x128_2_256 inb_S4x1536_S1x128_3_256), ?_⟩
  refine List.forall_mem_cons.mpr ⟨pad_piece x0 x3 x5 3 128 inb_S4x128x1536_S1x120x128_3_8_128 _ rfl, ?_⟩
  refine List.forall_mem_cons.mpr ⟨prepBlk_piece x0 x3 x5 3 1 3 128 rfl rfl inb_S4x128x1536_S1x8x128_3_0_128 _
    (prepQ_eq c arg2 harg2 arg5 harg5 arg7 harg7 arg13 x0 x3 x5 3 1 (by decide) 3 128 rfl rfl inb_S4x136x1536_S1x8x128_3_5_128 inb_S4x136x1536_S1x8x128_3_6_128 inb_S4x136x1536_S1x8x128_3_7_128 inb_S4x136x1536_S1x8x128_3_8_128 inb_S4x1536_S1x128_0_128 inb_S4x1536_S1x128_1_128 inb_S4x1536_S1x128_2_128 inb_S4x1536_S1x128_3_128), ?_⟩
  refine List.forall_mem_cons.mpr ⟨pad_piece x0 x3 x5 3 0 inb_S4x128x1536_S1x120x128_3_8_0 _ rfl, ?_⟩
  refine List.forall_mem_cons.mpr ⟨prepBlk_piece x0 x3 x5 3 0 3 0 rfl rfl inb_S4x128x1536_S1x8x128_3_0_0 _
    (prepQ_eq c arg2 harg2 arg5 harg5 arg7 harg7 arg13 x0 x3 x5 3 0 (by decide) 3 0 rfl rfl inb_S4x136x1536_S1x8x128_3_5_0 inb_S4x136x1536_S1x8x128_3_6_0 inb_S4x136x1536_S1x8x128_3_7_0 inb_S4x136x1536_S1x8x128_3_8_0 inb_S4x1536_S1x128_0_0 inb_S4x1536_S1x128_1_0 inb_S4x1536_S1x128_2_0 inb_S4x1536_S1x128_3_0), ?_⟩
  refine List.forall_mem_cons.mpr ⟨pad_piece x0 x3 x5 2 1408 inb_S4x128x1536_S1x120x128_2_8_1408 _ rfl, ?_⟩
  refine List.forall_mem_cons.mpr ⟨prepBlk_piece x0 x3 x5 2 11 2 1408 rfl rfl inb_S4x128x1536_S1x8x128_2_0_1408 _
    (prepV_eq c arg2 harg2 arg5 harg5 arg7 harg7 arg13 x0 x3 x5 2 11 (by decide) 2 1408 rfl rfl inb_S4x136x1536_S1x8x128_2_5_1408 inb_S4x136x1536_S1x8x128_2_6_1408 inb_S4x136x1536_S1x8x128_2_7_1408 inb_S4x136x1536_S1x8x128_2_8_1408 inb_S4x1536_S1x128_0_1408 inb_S4x1536_S1x128_1_1408 inb_S4x1536_S1x128_2_1408 inb_S4x1536_S1x128_3_1408), ?_⟩
  refine List.forall_mem_cons.mpr ⟨pad_piece x0 x3 x5 2 1280 inb_S4x128x1536_S1x120x128_2_8_1280 _ rfl, ?_⟩
  refine List.forall_mem_cons.mpr ⟨prepBlk_piece x0 x3 x5 2 10 2 1280 rfl rfl inb_S4x128x1536_S1x8x128_2_0_1280 _
    (prepV_eq c arg2 harg2 arg5 harg5 arg7 harg7 arg13 x0 x3 x5 2 10 (by decide) 2 1280 rfl rfl inb_S4x136x1536_S1x8x128_2_5_1280 inb_S4x136x1536_S1x8x128_2_6_1280 inb_S4x136x1536_S1x8x128_2_7_1280 inb_S4x136x1536_S1x8x128_2_8_1280 inb_S4x1536_S1x128_0_1280 inb_S4x1536_S1x128_1_1280 inb_S4x1536_S1x128_2_1280 inb_S4x1536_S1x128_3_1280), ?_⟩
  refine List.forall_mem_cons.mpr ⟨pad_piece x0 x3 x5 2 1152 inb_S4x128x1536_S1x120x128_2_8_1152 _ rfl, ?_⟩
  refine List.forall_mem_cons.mpr ⟨prepBlk_piece x0 x3 x5 2 9 2 1152 rfl rfl inb_S4x128x1536_S1x8x128_2_0_1152 _
    (prepV_eq c arg2 harg2 arg5 harg5 arg7 harg7 arg13 x0 x3 x5 2 9 (by decide) 2 1152 rfl rfl inb_S4x136x1536_S1x8x128_2_5_1152 inb_S4x136x1536_S1x8x128_2_6_1152 inb_S4x136x1536_S1x8x128_2_7_1152 inb_S4x136x1536_S1x8x128_2_8_1152 inb_S4x1536_S1x128_0_1152 inb_S4x1536_S1x128_1_1152 inb_S4x1536_S1x128_2_1152 inb_S4x1536_S1x128_3_1152), ?_⟩
  refine List.forall_mem_cons.mpr ⟨pad_piece x0 x3 x5 2 1024 inb_S4x128x1536_S1x120x128_2_8_1024 _ rfl, ?_⟩
  refine List.forall_mem_cons.mpr ⟨prepBlk_piece x0 x3 x5 2 8 2 1024 rfl rfl inb_S4x128x1536_S1x8x128_2_0_1024 _
    (prepV_eq c arg2 harg2 arg5 harg5 arg7 harg7 arg13 x0 x3 x5 2 8 (by decide) 2 1024 rfl rfl inb_S4x136x1536_S1x8x128_2_5_1024 inb_S4x136x1536_S1x8x128_2_6_1024 inb_S4x136x1536_S1x8x128_2_7_1024 inb_S4x136x1536_S1x8x128_2_8_1024 inb_S4x1536_S1x128_0_1024 inb_S4x1536_S1x128_1_1024 inb_S4x1536_S1x128_2_1024 inb_S4x1536_S1x128_3_1024), ?_⟩
  refine List.forall_mem_cons.mpr ⟨pad_piece x0 x3 x5 2 896 inb_S4x128x1536_S1x120x128_2_8_896 _ rfl, ?_⟩
  refine List.forall_mem_cons.mpr ⟨prepBlk_piece x0 x3 x5 2 7 2 896 rfl rfl inb_S4x128x1536_S1x8x128_2_0_896 _
    (prepK_eq c arg2 harg2 arg5 harg5 arg7 harg7 arg13 x0 x3 x5 2 7 (by decide) 2 896 rfl rfl inb_S4x136x1536_S1x8x128_2_5_896 inb_S4x136x1536_S1x8x128_2_6_896 inb_S4x136x1536_S1x8x128_2_7_896 inb_S4x136x1536_S1x8x128_2_8_896 inb_S4x1536_S1x128_0_896 inb_S4x1536_S1x128_1_896 inb_S4x1536_S1x128_2_896 inb_S4x1536_S1x128_3_896), ?_⟩
  refine List.forall_mem_cons.mpr ⟨pad_piece x0 x3 x5 2 768 inb_S4x128x1536_S1x120x128_2_8_768 _ rfl, ?_⟩
  refine List.forall_mem_cons.mpr ⟨prepBlk_piece x0 x3 x5 2 6 2 768 rfl rfl inb_S4x128x1536_S1x8x128_2_0_768 _
    (prepK_eq c arg2 harg2 arg5 harg5 arg7 harg7 arg13 x0 x3 x5 2 6 (by decide) 2 768 rfl rfl inb_S4x136x1536_S1x8x128_2_5_768 inb_S4x136x1536_S1x8x128_2_6_768 inb_S4x136x1536_S1x8x128_2_7_768 inb_S4x136x1536_S1x8x128_2_8_768 inb_S4x1536_S1x128_0_768 inb_S4x1536_S1x128_1_768 inb_S4x1536_S1x128_2_768 inb_S4x1536_S1x128_3_768), ?_⟩
  refine List.forall_mem_cons.mpr ⟨pad_piece x0 x3 x5 2 640 inb_S4x128x1536_S1x120x128_2_8_640 _ rfl, ?_⟩
  refine List.forall_mem_cons.mpr ⟨prepBlk_piece x0 x3 x5 2 5 2 640 rfl rfl inb_S4x128x1536_S1x8x128_2_0_640 _
    (prepK_eq c arg2 harg2 arg5 harg5 arg7 harg7 arg13 x0 x3 x5 2 5 (by decide) 2 640 rfl rfl inb_S4x136x1536_S1x8x128_2_5_640 inb_S4x136x1536_S1x8x128_2_6_640 inb_S4x136x1536_S1x8x128_2_7_640 inb_S4x136x1536_S1x8x128_2_8_640 inb_S4x1536_S1x128_0_640 inb_S4x1536_S1x128_1_640 inb_S4x1536_S1x128_2_640 inb_S4x1536_S1x128_3_640), ?_⟩
  refine List.forall_mem_cons.mpr ⟨pad_piece x0 x3 x5 2 512 inb_S4x128x1536_S1x120x128_2_8_512 _ rfl, ?_⟩
  refine List.forall_mem_cons.mpr ⟨prepBlk_piece x0 x3 x5 2 4 2 512 rfl rfl inb_S4x128x1536_S1x8x128_2_0_512 _
    (prepK_eq c arg2 harg2 arg5 harg5 arg7 harg7 arg13 x0 x3 x5 2 4 (by decide) 2 512 rfl rfl inb_S4x136x1536_S1x8x128_2_5_512 inb_S4x136x1536_S1x8x128_2_6_512 inb_S4x136x1536_S1x8x128_2_7_512 inb_S4x136x1536_S1x8x128_2_8_512 inb_S4x1536_S1x128_0_512 inb_S4x1536_S1x128_1_512 inb_S4x1536_S1x128_2_512 inb_S4x1536_S1x128_3_512), ?_⟩
  refine List.forall_mem_cons.mpr ⟨pad_piece x0 x3 x5 2 384 inb_S4x128x1536_S1x120x128_2_8_384 _ rfl, ?_⟩
  refine List.forall_mem_cons.mpr ⟨prepBlk_piece x0 x3 x5 2 3 2 384 rfl rfl inb_S4x128x1536_S1x8x128_2_0_384 _
    (prepQ_eq c arg2 harg2 arg5 harg5 arg7 harg7 arg13 x0 x3 x5 2 3 (by decide) 2 384 rfl rfl inb_S4x136x1536_S1x8x128_2_5_384 inb_S4x136x1536_S1x8x128_2_6_384 inb_S4x136x1536_S1x8x128_2_7_384 inb_S4x136x1536_S1x8x128_2_8_384 inb_S4x1536_S1x128_0_384 inb_S4x1536_S1x128_1_384 inb_S4x1536_S1x128_2_384 inb_S4x1536_S1x128_3_384), ?_⟩
  refine List.forall_mem_cons.mpr ⟨pad_piece x0 x3 x5 2 256 inb_S4x128x1536_S1x120x128_2_8_256 _ rfl, ?_⟩
  refine List.forall_mem_cons.mpr ⟨prepBlk_piece x0 x3 x5 2 2 2 256 rfl rfl inb_S4x128x1536_S1x8x128_2_0_256 _
    (prepQ_eq c arg2 harg2 arg5 harg5 arg7 harg7 arg13 x0 x3 x5 2 2 (by decide) 2 256 rfl rfl inb_S4x136x1536_S1x8x128_2_5_256 inb_S4x136x1536_S1x8x128_2_6_256 inb_S4x136x1536_S1x8x128_2_7_256 inb_S4x136x1536_S1x8x128_2_8_256 inb_S4x1536_S1x128_0_256 inb_S4x1536_S1x128_1_256 inb_S4x1536_S1x128_2_256 inb_S4x1536_S1x128_3_256), ?_⟩
  refine List.forall_mem_cons.mpr ⟨pad_piece x0 x3 x5 2 128 inb_S4x128x1536_S1x120x128_2_8_128 _ rfl, ?_⟩
  refine List.forall_mem_cons.mpr ⟨prepBlk_piece x0 x3 x5 2 1 2 128 rfl rfl inb_S4x128x1536_S1x8x128_2_0_128 _
    (prepQ_eq c arg2 harg2 arg5 harg5 arg7 harg7 arg13 x0 x3 x5 2 1 (by decide) 2 128 rfl rfl inb_S4x136x1536_S1x8x128_2_5_128 inb_S4x136x1536_S1x8x128_2_6_128 inb_S4x136x1536_S1x8x128_2_7_128 inb_S4x136x1536_S1x8x128_2_8_128 inb_S4x1536_S1x128_0_128 inb_S4x1536_S1x128_1_128 inb_S4x1536_S1x128_2_128 inb_S4x1536_S1x128_3_128), ?_⟩
  refine List.forall_mem_cons.mpr ⟨pad_piece x0 x3 x5 2 0 inb_S4x128x1536_S1x120x128_2_8_0 _ rfl, ?_⟩
  refine List.forall_mem_cons.mpr ⟨prepBlk_piece x0 x3 x5 2 0 2 0 rfl rfl inb_S4x128x1536_S1x8x128_2_0_0 _
    (prepQ_eq c arg2 harg2 arg5 harg5 arg7 harg7 arg13 x0 x3 x5 2 0 (by decide) 2 0 rfl rfl inb_S4x136x1536_S1x8x128_2_5_0 inb_S4x136x1536_S1x8x128_2_6_0 inb_S4x136x1536_S1x8x128_2_7_0 inb_S4x136x1536_S1x8x128_2_8_0 inb_S4x1536_S1x128_0_0 inb_S4x1536_S1x128_1_0 inb_S4x1536_S1x128_2_0 inb_S4x1536_S1x128_3_0), ?_⟩
  refine List.forall_mem_cons.mpr ⟨pad_piece x0 x3 x5 1 1408 inb_S4x128x1536_S1x120x128_1_8_1408 _ rfl, ?_⟩
  refine List.forall_mem_cons.mpr ⟨prepBlk_piece x0 x3 x5 1 11 1 1408 rfl rfl inb_S4x128x1536_S1x8x128_1_0_1408 _
    (prepV_eq c arg2 harg2 arg5 harg5 arg7 harg7 arg13 x0 x3 x5 1 11 (by decide) 1 1408 rfl rfl inb_S4x136x1536_S1x8x128_1_5_1408 inb_S4x136x1536_S1x8x128_1_6_1408 inb_S4x136x1536_S1x8x128_1_7_1408 inb_S4x136x1536_S1x8x128_1_8_1408 inb_S4x1536_S1x128_0_1408 inb_S4x1536_S1x128_1_1408 inb_S4x1536_S1x128_2_1408 inb_S4x1536_S1x128_3_1408), ?_⟩
  refine List.forall_mem_cons.mpr ⟨pad_piece x0 x3 x5 1 1280 inb_S4x128x1536_S1x120x128_1_8_1280 _ rfl, ?_⟩
  refine List.forall_mem_cons.mpr ⟨prepBlk_piece x0 x3 x5 1 10 1 1280 rfl rfl inb_S4x128x1536_S1x8x128_1_0_1280 _
    (prepV_eq c arg2 harg2 arg5 harg5 arg7 harg7 arg13 x0 x3 x5 1 10 (by decide) 1 1280 rfl rfl inb_S4x136x1536_S1x8x128_1_5_1280 inb_S4x136x1536_S1x8x128_1_6_1280 inb_S4x136x1536_S1x8x128_1_7_1280 inb_S4x136x1536_S1x8x128_1_8_1280 inb_S4x1536_S1x128_0_1280 inb_S4x1536_S1x128_1_1280 inb_S4x1536_S1x128_2_1280 inb_S4x1536_S1x128_3_1280), ?_⟩
  refine List.forall_mem_cons.mpr ⟨pad_piece x0 x3 x5 1 1152 inb_S4x128x1536_S1x120x128_1_8_1152 _ rfl, ?_⟩
  refine List.forall_mem_cons.mpr ⟨prepBlk_piece x0 x3 x5 1 9 1 1152 rfl rfl inb_S4x128x1536_S1x8x128_1_0_1152 _
    (prepV_eq c arg2 harg2 arg5 harg5 arg7 harg7 arg13 x0 x3 x5 1 9 (by decide) 1 1152 rfl rfl inb_S4x136x1536_S1x8x128_1_5_1152 inb_S4x136x1536_S1x8x128_1_6_1152 inb_S4x136x1536_S1x8x128_1_7_1152 inb_S4x136x1536_S1x8x128_1_8_1152 inb_S4x1536_S1x128_0_1152 inb_S4x1536_S1x128_1_1152 inb_S4x1536_S1x128_2_1152 inb_S4x1536_S1x128_3_1152), ?_⟩
  refine List.forall_mem_cons.mpr ⟨pad_piece x0 x3 x5 1 1024 inb_S4x128x1536_S1x120x128_1_8_1024 _ rfl, ?_⟩
  refine List.forall_mem_cons.mpr ⟨prepBlk_piece x0 x3 x5 1 8 1 1024 rfl rfl inb_S4x128x1536_S1x8x128_1_0_1024 _
    (prepV_eq c arg2 harg2 arg5 harg5 arg7 harg7 arg13 x0 x3 x5 1 8 (by decide) 1 1024 rfl rfl inb_S4x136x1536_S1x8x128_1_5_1024 inb_S4x136x1536_S1x8x128_1_6_1024 inb_S4x136x1536_S1x8x128_1_7_1024 inb_S4x136x1536_S1x8x128_1_8_1024 inb_S4x1536_S1x128_0_1024 inb_S4x1536_S1x128_1_1024 inb_S4x1536_S1x128_2_1024 inb_S4x1536_S1x128_3_1024), ?_⟩
  refine List.forall_mem_cons.mpr ⟨pad_piece x0 x3 x5 1 896 inb_S4x128x1536_S1x120x128_1_8_896 _ rfl, ?_⟩
  refine List.forall_mem_cons.mpr ⟨prepBlk_piece x0 x3 x5 1 7 1 896 rfl rfl inb_S4x128x1536_S1x8x128_1_0_896 _
    (prepK_eq c arg2 harg2 arg5 harg5 arg7 harg7 arg13 x0 x3 x5 1 7 (by decide) 1 896 rfl rfl inb_S4x136x1536_S1x8x128_1_5_896 inb_S4x136x1536_S1x8x128_1_6_896 inb_S4x136x1536_S1x8x128_1_7_896 inb_S4x136x1536_S1x8x128_1_8_896 inb_S4x1536_S1x128_0_896 inb_S4x1536_S1x128_1_896 inb_S4x1536_S1x128_2_896 inb_S4x1536_S1x128_3_896), ?_⟩
  refine List.forall_mem_cons.mpr ⟨pad_piece x0 x3 x5 1 768 inb_S4x128x1536_S1x120x128_1_8_768 _ rfl, ?_⟩
  refine List.forall_mem_cons.mpr ⟨prepBlk_piece x0 x3 x5 1 6 1 768 rfl rfl inb_S4x128x1536_S1x8x128_1_0_768 _
    (prepK_eq c arg2 harg2 arg5 harg5 arg7 harg7 arg13 x0 x3 x5 1 6 (by decide) 1 768 rfl rfl inb_S4x136x1536_S1x8x128_1_5_768 inb_S4x136x1536_S1x8x128_1_6_768 inb_S4x136x1536_S1x8x128_1_7_768 inb_S4x136x1536_S1x8x128_1_8_768 inb_S4x1536_S1x128_0_768 inb_S4x1536_S1x128_1_768 inb_S4x1536_S1x128_2_768 inb_S4x1536_S1x128_3_768), ?_⟩
  refine List.forall_mem_cons.mpr ⟨pad_piece x0 x3 x5 1 640 inb_S4x128x1536_S1x120x128_1_8_640 _ rfl, ?_⟩
  refine List.forall_mem_cons.mpr ⟨prepBlk_piece x0 x3 x5 1 5 1 640 rfl rfl inb_S4x128x1536_S1x8x128_1_0_640 _
    (prepK_eq c arg2 harg2 arg5 harg5 arg7 harg7 arg13 x0 x3 x5 1 5 (by decide) 1 640 rfl rfl inb_S4x136x1536_S1x8x128_1_5_640 inb_S4x136x1536_S1x8x128_1_6_640 inb_S4x136x1536_S1x8x128_1_7_640 inb_S4x136x1536_S1x8x128_1_8_640 inb_S4x1536_S1x128_0_640 inb_S4x1536_S1x128_1_640 inb_S4x1536_S1x128_2_640 inb_S4x1536_S1x128_3_640), ?_⟩
  refine List.forall_mem_cons.mpr ⟨pad_piece x0 x3 x5 1 512 inb_S4x128x1536_S1x120x128_1_8_512 _ rfl, ?_⟩
  refine List.forall_mem_cons.mpr ⟨prepBlk_piece x0 x3 x5 1 4 1 512 rfl rfl inb_S4x128x1536_S1x8x128_1_0_512 _
    (prepK_eq c arg2 harg2 arg5 harg5 arg7 harg7 arg13 x0 x3 x5 1 4 (by decide) 1 512 rfl rfl inb_S4x136x1536_S1x8x128_1_5_512 inb_S4x136x1536_S1x8x128_1_6_512 inb_S4x136x1536_S1x8x128_1_7_512 inb_S4x136x1536_S1x8x128_1_8_512 inb_S4x1536_S1x128_0_512 inb_S4x1536_S1x128_1_512 inb_S4x1536_S1x128_2_512 inb_S4x1536_S1x128_3_512), ?_⟩
  refine List.forall_mem_cons.mpr ⟨pad_piece x0 x3 x5 1 384 inb_S4x128x1536_S1x120x128_1_8_384 _ rfl, ?_⟩
  refine List.forall_mem_cons.mpr ⟨prepBlk_piece x0 x3 x5 1 3 1 384 rfl rfl inb_S4x128x1536_S1x8x128_1_0_384 _
    (prepQ_eq c arg2 harg2 arg5 harg5 arg7 harg7 arg13 x0 x3 x5 1 3 (by decide) 1 384 rfl rfl inb_S4x136x1536_S1x8x128_1_5_384 inb_S4x136x1536_S1x8x128_1_6_384 inb_S4x136x1536_S1x8x128_1_7_384 inb_S4x136x1536_S1x8x128_1_8_384 inb_S4x1536_S1x128_0_384 inb_S4x1536_S1x128_1_384 inb_S4x1536_S1x128_2_384 inb_S4x1536_S1x128_3_384), ?_⟩
  refine List.forall_mem_cons.mpr ⟨pad_piece x0 x3 x5 1 256 inb_S4x128x1536_S1x120x128_1_8_256 _ rfl, ?_⟩
  refine List.forall_mem_cons.mpr ⟨prepBlk_piece x0 x3 x5 1 2 1 256 rfl rfl inb_S4x128x1536_S1x8x128_1_0_256 _
    (prepQ_eq c arg2 harg2 arg5 harg5 arg7 harg7 arg13 x0 x3 x5 1 2 (by decide) 1 256 rfl rfl inb_S4x136x1536_S1x8x128_1_5_256 inb_S4x136x1536_S1x8x128_1_6_256 inb_S4x136x1536_S1x8x128_1_7_256 inb_S4x136x1536_S1x8x128_1_8_256 inb_S4x1536_S1x128_0_256 inb_S4x1536_S1x128_1_256 inb_S4x1536_S1x128_2_256 inb_S4x1536_S1x128_3_256), ?_⟩
  refine List.forall_mem_cons.mpr ⟨pad_piece x0 x3 x5 1 128 inb_S4x128x1536_S1x120x128_1_8_128 _ rfl, ?_⟩
  refine List.forall_mem_cons.mpr ⟨prepBlk_piece x0 x3 x5 1 1 1 128 rfl rfl inb_S4x128x1536_S1x8x128_1_0_128 _
    (prepQ_eq c arg2 harg2 arg5 harg5 arg7 harg7 arg13 x0 x3 x5 1 1 (by decide) 1 128 rfl rfl inb_S4x136x1536_S1x8x128_1_5_128 inb_S4x136x1536_S1x8x128_1_6_128 inb_S4x136x1536_S1x8x128_1_7_128 inb_S4x136x1536_S1x8x128_1_8_128 inb_S4x1536_S1x128_0_128 inb_S4x1536_S1x128_1_128 inb_S4x1536_S1x128_2_128 inb_S4x1536_S1x128_3_128), ?_⟩
  refine List.forall_mem_cons.mpr ⟨pad_piece x0 x3 x5 1 0 inb_S4x128x1536_S1x120x128_1_8_0 _ rfl, ?_⟩
  refine List.forall_mem_cons.mpr ⟨prepBlk_piece x0 x3 x5 1 0 1 0 rfl rfl inb_S4x128x1536_S1x8x128_1_0_0 _
    (prepQ_eq c arg2 harg2 arg5 harg5 arg7 harg7 arg13 x0 x3 x5 1 0 (by decide) 1 0 rfl rfl inb_S4x136x1536_S1x8x128_1_5_0 inb_S4x136x1536_S1x8x128_1_6_0 inb_S4x136x1536_S1x8x128_1_7_0 inb_S4x136x1536_S1x8x128_1_8_0 inb_S4x1536_S1x128_0_0 inb_S4x1536_S1x128_1_0 inb_S4x1536_S1x128_2_0 inb_S4x1536_S1x128_3_0), ?_⟩
  refine List.forall_mem_cons.mpr ⟨pad_piece x0 x3 x5 0 1408 inb_S4x128x1536_S1x120x128_0_8_1408 _ rfl, ?_⟩
  refine List.forall_mem_cons.mpr ⟨prepBlk_piece x0 x3 x5 0 11 0 1408 rfl rfl inb_S4x128x1536_S1x8x128_0_0_1408 _
    (prepV_eq c arg2 harg2 arg5 harg5 arg7 harg7 arg13 x0 x3 x5 0 11 (by decide) 0 1408 rfl rfl inb_S4x136x1536_S1x8x128_0_5_1408 inb_S4x136x1536_S1x8x128_0_6_1408 inb_S4x136x1536_S1x8x128_0_7_1408 inb_S4x136x1536_S1x8x128_0_8_1408 inb_S4x1536_S1x128_0_1408 inb_S4x1536_S1x128_1_1408 inb_S4x1536_S1x128_2_1408 inb_S4x1536_S1x128_3_1408), ?_⟩
  refine List.forall_mem_cons.mpr ⟨pad_piece x0 x3 x5 0 1280 inb_S4x128x1536_S1x120x128_0_8_1280 _ rfl, ?_⟩
  refine List.forall_mem_cons.mpr ⟨prepBlk_piece x0 x3 x5 0 10 0 1280 rfl rfl inb_S4x128x1536_S1x8x128_0_0_1280 _
    (prepV_eq c arg2 harg2 arg5 harg5 arg7 harg7 arg13 x0 x3 x5 0 10 (by decide) 0 1280 rfl rfl inb_S4x136x1536_S1x8x128_0_5_1280 inb_S4x136x1536_S1x8x128_0_6_1280 inb_S4x136x1536_S1x8x128_0_7_1280 inb_S4x136x1536_S1x8x128_0_8_1280 inb_S4x1536_S1x128_0_1280 inb_S4x1536_S1x128_1_1280 inb_S4x1536_S1x128_2_1280 inb_S4x1536_S1x128_3_1280), ?_⟩
  refine List.forall_mem_cons.mpr ⟨pad_piece x0 x3 x5 0 1152 inb_S4x128x1536_S1x120x128_0_8_1152 _ rfl, ?_⟩
  refine List.forall_mem_cons.mpr ⟨prepBlk_piece x0 x3 x5 0 9 0 1152 rfl rfl inb_S4x128x1536_S1x8x128_0_0_1152 _
    (prepV_eq c arg2 harg2 arg5 harg5 arg7 harg7 arg13 x0 x3 x5 0 9 (by decide) 0 1152 rfl rfl inb_S4x136x1536_S1x8x128_0_5_1152 inb_S4x136x1536_S1x8x128_0_6_1152 inb_S4x136x1536_S1x8x128_0_7_1152 inb_S4x136x1536_S1x8x128_0_8_1152 inb_S4x1536_S1x128_0_1152 inb_S4x1536_S1x128_1_1152 inb_S4x1536_S1x128_2_1152 inb_S4x1536_S1x128_3_1152), ?_⟩
  refine List.forall_mem_cons.mpr ⟨pad_piece x0 x3 x5 0 1024 inb_S4x128x1536_S1x120x128_0_8_1024 _ rfl, ?_⟩
  refine List.forall_mem_cons.mpr ⟨prepBlk_piece x0 x3 x5 0 8 0 1024 rfl rfl inb_S4x128x1536_S1x8x128_0_0_1024 _
    (prepV_eq c arg2 harg2 arg5 harg5 arg7 harg7 arg13 x0 x3 x5 0 8 (by decide) 0 1024 rfl rfl inb_S4x136x1536_S1x8x128_0_5_1024 inb_S4x136x1536_S1x8x128_0_6_1024 inb_S4x136x1536_S1x8x128_0_7_1024 inb_S4x136x1536_S1x8x128_0_8_1024 inb_S4x1536_S1x128_0_1024 inb_S4x1536_S1x128_1_1024 inb_S4x1536_S1x128_2_1024 inb_S4x1536_S1x128_3_1024), ?_⟩
  refine List.forall_mem_cons.mpr ⟨pad_piece x0 x3 x5 0 896 inb_S4x128x1536_S1x120x128_0_8_896 _ rfl, ?_⟩
  refine List.forall_mem_cons.mpr ⟨prepBlk_piece x0 x3 x5 0 7 0 896 rfl rfl inb_S4x128x1536_S1x8x128_0_0_896 _
    (prepK_eq c arg2 harg2 arg5 harg5 arg7 harg7 arg13 x0 x3 x5 0 7 (by decide) 0 896 rfl rfl inb_S4x136x1536_S1x8x128_0_5_896 inb_S4x136x1536_S1x8x128_0_6_896 inb_S4x136x1536_S1x8x128_0_7_896 inb_S4x136x1536_S1x8x128_0_8_896 inb_S4x1536_S1x128_0_896 inb_S4x1536_S1x128_1_896 inb_S4x1536_S1x128_2_896 inb_S4x1536_S1x128_3_896), ?_⟩
  refine List.forall_mem_cons.mpr ⟨pad_piece x0 x3 x5 0 768 inb_S4x128x1536_S1x120x128_0_8_768 _ rfl, ?_⟩
  refine List.forall_mem_cons.mpr ⟨prepBlk_piece x0 x3 x5 0 6 0 768 rfl rfl inb_S4x128x1536_S1x8x128_0_0_768 _
    (prepK_eq c arg2 harg2 arg5 harg5 arg7 harg7 arg13 x0 x3 x5 0 6 (by decide) 0 768 rfl rfl inb_S4x136x1536_S1x8x128_0_5_768 inb_S4x136x1536_S1x8x128_0_6_768 inb_S4x136x1536_S1x8x128_0_7_768 inb_S4x136x1536_S1x8x128_0_8_768 inb_S4x1536_S1x128_0_768 inb_S4x1536_S1x128_1_768 inb_S4x1536_S1x128_2_768 inb_S4x1536_S1x128_3_768), ?_⟩
  refine List.forall_mem_cons.mpr ⟨pad_piece x0 x3 x5 0 640 inb_S4x128x1536_S1x120x128_0_8_640 _ rfl, ?_⟩
  refine List.forall_mem_cons.mpr ⟨prepBlk_piece x0 x3 x5 0 5 0 640 rfl rfl inb_S4x128x1536_S1x8x128_0_0_640 _
    (prepK_eq c arg2 harg2 arg5 harg5 arg7 harg7 arg13 x0 x3 x5 0 5 (by decide) 0 640 rfl rfl inb_S4x136x1536_S1x8x128_0_5_640 inb_S4x136x1536_S1x8x128_0_6_640 inb_S4x136x1536_S1x8x128_0_7_640 inb_S4x136x1536_S1x8x128_0_8_640 inb_S4x1536_S1x128_0_640 inb_S4x1536_S1x128_1_640 inb_S4x1536_S1x128_2_640 inb_S4x1536_S1x128_3_640), ?_⟩
  refine List.forall_mem_cons.mpr ⟨pad_piece x0 x3 x5 0 512 inb_S4x128x1536_S1x120x128_0_8_512 _ rfl, ?_⟩
  refine List.forall_mem_cons.mpr ⟨prepBlk_piece x0 x3 x5 0 4 0 512 rfl rfl inb_S4x128x1536_S1x8x128_0_0_512 _
    (prepK_eq c arg2 harg2 arg5 harg5 arg7 harg7 arg13 x0 x3 x5 0 4 (by decide) 0 512 rfl rfl inb_S4x136x1536_S1x8x128_0_5_512 inb_S4x136x1536_S1x8x128_0_6_512 inb_S4x136x1536_S1x8x128_0_7_512 inb_S4x136x1536_S1x8x128_0_8_512 inb_S4x1536_S1x128_0_512 inb_S4x1536_S1x128_1_512 inb_S4x1536_S1x128_2_512 inb_S4x1536_S1x128_3_512), ?_⟩
  refine List.forall_mem_cons.mpr ⟨pad_piece x0 x3 x5 0 384 inb_S4x128x1536_S1x120x128_0_8_384 _ rfl, ?_⟩
  refine List.forall_mem_cons.mpr ⟨prepBlk_piece x0 x3 x5 0 3 0 384 rfl rfl inb_S4x128x1536_S1x8x128_0_0_384 _
    (prepQ_eq c arg2 harg2 arg5 harg5 arg7 harg7 arg13 x0 x3 x5 0 3 (by decide) 0 384 rfl rfl inb_S4x136x1536_S1x8x128_0_5_384 inb_S4x136x1536_S1x8x128_0_6_384 inb_S4x136x1536_S1x8x128_0_7_384 inb_S4x136x1536_S1x8x128_0_8_384 inb_S4x1536_S1x128_0_384 inb_S4x1536_S1x128_1_384 inb_S4x1536_S1x128_2_384 inb_S4x1536_S1x128_3_384), ?_⟩
  refine List.forall_mem_cons.mpr ⟨pad_piece x0 x3 x5 0 256 inb_S4x128x1536_S1x120x128_0_8_256 _ rfl, ?_⟩
  refine List.forall_mem_cons.mpr ⟨prepBlk_piece x0 x3 x5 0 2 0 256 rfl rfl inb_S4x128x1536_S1x8x128_0_0_256 _
    (prepQ_eq c arg2 harg2 arg5 harg5 arg7 harg7 arg13 x0 x3 x5 0 2 (by decide) 0 256 rfl rfl inb_S4x136x1536_S1x8x128_0_5_256 inb_S4x136x1536_S1x8x128_0_6_256 inb_S4x136x1536_S1x8x128_0_7_256 inb_S4x136x1536_S1x8x128_0_8_256 inb_S4x1536_S1x128_0_256 inb_S4x1536_S1x128_1_256 inb_S4x1536_S1x128_2_256 inb_S4x1536_S1x128_3_256), ?_⟩
  refine List.forall_mem_cons.mpr ⟨pad_piece x0 x3 x5 0 128 inb_S4x128x1536_S1x120x128_0_8_128 _ rfl, ?_⟩
  refine List.forall_mem_cons.mpr ⟨prepBlk_piece x0 x3 x5 0 1 0 128 rfl rfl inb_S4x128x1536_S1x8x128_0_0_128 _
    (prepQ_eq c arg2 harg2 arg5 harg5 arg7 harg7 arg13 x0 x3 x5 0 1 (by decide) 0 128 rfl rfl inb_S4x136x1536_S1x8x128_0_5_128 inb_S4x136x1536_S1x8x128_0_6_128 inb_S4x136x1536_S1x8x128_0_7_128 inb_S4x136x1536_S1x8x128_0_8_128 inb_S4x1536_S1x128_0_128 inb_S4x1536_S1x128_1_128 inb_S4x1536_S1x128_2_128 inb_S4x1536_S1x128_3_128), ?_⟩
  refine List.forall_mem_cons.mpr ⟨pad_piece x0 x3 x5 0 0 inb_S4x128x1536_S1x120x128_0_8_0 _ rfl, ?_⟩
  refine List.forall_mem_cons.mpr ⟨prepBlk_piece x0 x3 x5 0 0 0 0 rfl rfl inb_S4x128x1536_S1x8x128_0_0_0 _
    (prepQ_eq c arg2 harg2 arg5 harg5 arg7 harg7 arg13 x0 x3 x5 0 0 (by decide) 0 0 rfl rfl inb_S4x136x1536_S1x8x128_0_5_0 inb_S4x136x1536_S1x8x128_0_6_0 inb_S4x136x1536_S1x8x128_0_7_0 inb_S4x136x1536_S1x8x128_0_8_0 inb_S4x1536_S1x128_0_0 inb_S4x1536_S1x128_1_0 inb_S4x1536_S1x128_2_0 inb_S4x1536_S1x128_3_0), ?_⟩
  exact List.forall_mem_nil _

end Cert.Gdn
-- ==== Proof.Heads.lean ====
module

public import proofs.«01_k».proof.Proof.Prep
public import Idealize.ShloMosaic.Lib.Tactic

/-! The block's results: what the body leaves in the output and state buffers is each head's chunk of the operands. -/

@[expose] public section

set_option maxRecDepth 16384

noncomputable section

namespace Cert.Gdn

open Idealize.ShloMosaic Idealize.ShloMosaic.Tactic Cert.KernelIdeal Cert.KernelIdeal.Gen

variable {F : FTy → Type} [FloatOps F]

variable (c : Dev nD) (arg2 : Memref sig .tc .vmem S4x8x1536 .f32) (harg2 : arg2.IsWhole) (arg3 : Memref sig .tc .vmem S4x8x8 .f32) (harg3 : arg3.IsWhole) (arg4 : Memref sig .tc .vmem S4x8x512 .f32) (harg4 : arg4.IsWhole) (arg5 : Memref sig .tc .vmem S4x8x1536 .f32) (harg5 : arg5.IsWhole) (arg6 : Memref sig .tc .vmem S4x4x128x128 .f32) (harg6 : arg6.IsWhole) (arg7 : Memref sig .tc .vmem S4x1536 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x128 .f32) (harg10 : arg10.IsWhole) (arg13 : Memref sig .tc .vmem S4x136x1536 .f32) (arg14 : Memref sig .tc .vmem S4x4x128x128 .f32) (arg15 : Memref sig .tc .vmem S4x128x1536 .f32) (x0 : Vec F S4x8x1536 .f32) (x1 : Vec F S4x8x8 .f32) (x2 : Vec F S4x8x512 .f32) (x3 : Vec F S4x8x1536 .f32) (x4 : Vec F S4x4x128x128 .f32) (x5 : Vec F S4x1536 .f32) (x6 : Vec F S1x8 .f32) (x7 : Vec F S1x8 .f32) (x8 : Vec F S1x128 .f32)

/-- Where a piece lies: its offsets, sizes and strides. -/
def pieceKey {s : Shape} (p : View.Piece (Elt F) s .f32) : List Nat :=
  List.ofFn p.1.off ++ List.ofFn p.1.size ++ List.ofFn p.1.stride

/-- The offsets of every stored piece of the prepared rows are listed. -/
theorem prep_keys : (List.all (List.range 4) fun g => List.all (List.range 12) fun k =>
    (((kernelRun0_A.sl.HS2_96 c arg2 harg2 arg5 harg5 arg7 harg7 arg13 x0 x3 x5)).map pieceKey).contains [g, 0, 128 * k, 1, 8, 128, 1, 1, 1]
      && (((kernelRun0_A.sl.HS2_96 c arg2 harg2 arg5 harg5 arg7 harg7 arg13 x0 x3 x5)).map pieceKey).contains [g, 8, 128 * k, 1, 120, 128, 1, 1, 1]) = true := by
  sl_kernel_rfl

/-- A piece with a listed key holds the indices in its box. -/
theorem mem_of_key (L : List (View.Piece (Elt F) S4x128x1536 .f32)) (o0 o1 o2 n1 : Nat)
    (h : [o0, o1, o2, 1, n1, 128, 1, 1, 1] ∈ L.map pieceKey) (y : S4x128x1536.Idx) (h0 : (y 0).val = o0)
    (h1 : o1 ≤ (y 1).val ∧ (y 1).val < o1 + n1) (h2 : o2 ≤ (y 2).val ∧ (y 2).val < o2 + 128) :
    ∃ p ∈ L, y ∈ p.1.set := by
  obtain ⟨p, hp, hk⟩ := List.mem_map.mp h
  refine ⟨p, hp, (LoadRect.mem_set p.1.toLoadRect).mpr fun a => ?_⟩
  have hk' : [p.1.off 0, p.1.off 1, p.1.off 2, p.1.size 0, p.1.size 1, p.1.size 2, p.1.stride 0, p.1.stride 1, p.1.stride 2]
      = [o0, o1, o2, 1, n1, 128, 1, 1, 1] := hk
  simp only [List.cons.injEq, and_true] at hk'
  obtain ⟨e0, e1, e2, f0, f1, f2, g0, g1, g2⟩ := hk'
  match a with
  | ⟨0, _⟩ => exact ⟨0, by show 0 < p.1.size 0; omega, by show (y 0).val = p.1.off 0 + p.1.stride 0 * 0; omega⟩
  | ⟨1, _⟩ => exact ⟨(y 1).val - o1, by show _ < p.1.size 1; omega,
      by show (y 1).val = p.1.off 1 + p.1.stride 1 * _; rw [g1]; omega⟩
  | ⟨2, _⟩ => exact ⟨(y 2).val - o2, by show _ < p.1.size 2; omega,
      by show (y 2).val = p.1.off 2 + p.1.stride 2 * _; rw [g2]; omega⟩

/-- The stored pieces leave the prepared rows. -/
theorem prep_canon (y : S4x128x1536.Idx) : View.canon (kernelRun0_A.sl.HS2_96 c arg2 harg2 arg5 harg5 arg7 harg7 arg13 x0 x3 x5) y = prepG x0 x3 x5 y := by
  refine View.canon_apply_of_pieces (prepG x0 x3 x5) _ (prep_pieces c arg2 harg2 arg5 harg5 arg7 harg7 arg13 x0 x3 x5) y ?_
  have hk := prep_keys c arg2 harg2 arg5 harg5 arg7 harg7 arg13 x0 x3 x5
  rw [List.all_eq_true] at hk
  have h0 : (y 0).val < 4 := (y 0).isLt
  have h1 : (y 1).val < 128 := (y 1).isLt
  have h2 : (y 2).val < 1536 := (y 2).isLt
  have hk1 := hk (y 0).val (List.mem_range.mpr h0)
  rw [List.all_eq_true] at hk1
  have hk2 := hk1 ((y 2).val / 128) (List.mem_range.mpr (by omega))
  rw [Bool.and_eq_true, List.contains_iff_mem, List.contains_iff_mem] at hk2
  by_cases h : (y 1).val < 8
  · exact mem_of_key _ _ _ _ _ hk2.1 y rfl (by omega) (by omega)
  · exact mem_of_key _ _ _ _ _ hk2.2 y rfl (by omega) (by omega)

/-- A load of a column block of the prepared rows. -/
theorem prepHead_eq (g : Fin 4) (blk : Fin 12) (gn b : Nat) (hg : gn = g.val) (hb : b = 128 * blk.val)
    (inb : ∀ a, (![gn, 0, b] : Fin 3 → Nat) a + S1x128x128.size a ≤ S4x128x1536.size a) :
    arg15.view.readCov (kernelRun0_A.sl.HS2_96 c arg2 harg2 arg5 harg5 arg7 harg7 arg13 x0 x3 x5)
      (Rect.unit (s := S4x128x1536) ![gn, 0, b] S1x128x128.size inb).toLoadRect = prepHead x0 x3 x5 g blk := by
  subst hg hb
  funext j
  rw [cov_apply, prep_canon]
  have hj0 : (j 0).val < 1 := (j 0).isLt
  unfold prepHead
  congr 1
  refine idx3_ext ?_ ?_ ?_
  · show g.val + 1 * (j 0).val = g.val; omega
  · show 0 + 1 * (j 1).val = (j 1).val; omega
  · show 128 * blk.val + 1 * (j 2).val = 128 * blk.val + (j 2).val; omega

/-- An output piece is the output block there. -/
theorem out_piece (g h : Fin 4) (gn b : Nat) (hg : gn = g.val) (hb : b = 128 * h.val)
    (inb : ∀ a, (![gn, 0, b] : Fin 3 → Nat) a + S1x8x128.size a ≤ S4x8x512.size a)
    (w : Vec F S1x8x128 .f32) (hw : w = outHead x0 x3 x1 x2 x4 x5 x6 x7 x8 g h)
    (x : (Rect.unit (s := S4x8x512) ![gn, 0, b] S1x8x128.size inb).shape.Idx) :
    w x = outBlk x0 x3 x1 x2 x4 x5 x6 x7 x8 ((Rect.unit (s := S4x8x512) ![gn, 0, b] S1x8x128.size inb).emb x) := by
  subst hg hb hw
  have hx0 : (x 0).val < 1 := (x 0).isLt
  have hx2 : (x 2).val < 128 := (x 2).isLt
  have e0 : ((Rect.unit (s := S4x8x512) ![g.val, 0, 128 * h.val] S1x8x128.size inb).emb x 0).val = g.val + (x 0).val :=
    emb_unit_val (s := S4x8x512) _ _ inb x 0
  have e1 : ((Rect.unit (s := S4x8x512) ![g.val, 0, 128 * h.val] S1x8x128.size inb).emb x 1).val = 0 + (x 1).val :=
    emb_unit_val (s := S4x8x512) _ _ inb x 1
  have e2 : ((Rect.unit (s := S4x8x512) ![g.val, 0, 128 * h.val] S1x8x128.size inb).emb x 2).val
      = 128 * h.val + (x 2).val := emb_unit_val (s := S4x8x512) _ _ inb x 2
  unfold outBlk
  have hB : (⟨((Rect.unit (s := S4x8x512) ![g.val, 0, 128 * h.val] S1x8x128.size inb).emb x 2).val / 128,
      by rw [e2]; have := h.isLt; omega⟩ : Fin 4) = h := Fin.ext (by show _ / 128 = _; rw [e2]; omega)
  rw [hB]
  rw [show ((Rect.unit (s := S4x8x512) ![g.val, 0, 128 * h.val] S1x8x128.size inb).emb x 0 : Fin 4) = g from
    Fin.ext (by rw [e0]; omega)]
  congr 1
  refine idx3_ext ?_ ?_ ?_
  · show (x 0).val = 0; omega
  · show (x 1).val = ((Rect.unit (s := S4x8x512) ![g.val, 0, 128 * h.val] S1x8x128.size inb).emb x 1).val; omega
  · show (x 2).val = ((Rect.unit (s := S4x8x512) ![g.val, 0, 128 * h.val] S1x8x128.size inb).emb x 2).val % 128
    omega

/-- A state piece is the block of new states there. -/
theorem st_piece (g h : Fin 4) (gn hn : Nat) (hg : gn = g.val) (hh : hn = h.val)
    (inb : ∀ a, (![gn, hn, 0, 0] : Fin 4 → Nat) a + S1x1x128x128.size a ≤ S4x4x128x128.size a)
    (w : Vec F S1x1x128x128 .f32) (hw : w = newHead x0 x3 x1 x4 x5 x6 x7 g h)
    (x : (Rect.unit (s := S4x4x128x128) ![gn, hn, 0, 0] S1x1x128x128.size inb).shape.Idx) :
    w x = stBlk x0 x3 x1 x4 x5 x6 x7 ((Rect.unit (s := S4x4x128x128) ![gn, hn, 0, 0] S1x1x128x128.size inb).emb x) := by
  subst hg hh hw
  have hx0 : (x 0).val < 1 := (x 0).isLt
  have hx1 : (x 1).val < 1 := (x 1).isLt
  have e0 : ((Rect.unit (s := S4x4x128x128) ![g.val, h.val, 0, 0] S1x1x128x128.size inb).emb x 0).val = g.val + (x 0).val :=
    emb_unit_val (s := S4x4x128x128) _ _ inb x 0
  have e1 : ((Rect.unit (s := S4x4x128x128) ![g.val, h.val, 0, 0] S1x1x128x128.size inb).emb x 1).val = h.val + (x 1).val :=
    emb_unit_val (s := S4x4x128x128) _ _ inb x 1
  have e2 : ((Rect.unit (s := S4x4x128x128) ![g.val, h.val, 0, 0] S1x1x128x128.size inb).emb x 2).val = 0 + (x 2).val :=
    emb_unit_val (s := S4x4x128x128) _ _ inb x 2
  have e3 : ((Rect.unit (s := S4x4x128x128) ![g.val, h.val, 0, 0] S1x1x128x128.size inb).emb x 3).val = 0 + (x 3).val :=
    emb_unit_val (s := S4x4x128x128) _ _ inb x 3
  unfold stBlk
  rw [show ((Rect.unit (s := S4x4x128x128) ![g.val, h.val, 0, 0] S1x1x128x128.size inb).emb x 0 : Fin 4) = g from
    Fin.ext (by rw [e0]; omega),
    show ((Rect.unit (s := S4x4x128x128) ![g.val, h.val, 0, 0] S1x1x128x128.size inb).emb x 1 : Fin 4) = h from
    Fin.ext (by rw [e1]; omega)]
  congr 1
  refine idx4_ext ?_ ?_ ?_ ?_
  · show (x 0).val = 0; omega
  · show (x 1).val = 0; omega
  · show (x 2).val = ((Rect.unit (s := S4x4x128x128) ![g.val, h.val, 0, 0] S1x1x128x128.size inb).emb x 2).val; omega
  · show (x 3).val = ((Rect.unit (s := S4x4x128x128) ![g.val, h.val, 0, 0] S1x1x128x128.size inb).emb x 3).val; omega

/-- The operands a head's output is computed from are the head's. -/
theorem headOut_eq (g h : Fin 4) (gn hn b0 b1 b2 h4 : Nat) (hg : gn = g.val) (hh : hn = h.val)
    (hb0 : b0 = 128 * h.val) (hb1 : b1 = 128 * (h.val + 4)) (hb2 : b2 = 128 * (h.val + 8)) (hh4 : h4 = h.val + 4)
    (i0 : ∀ a, (![gn, 0, b0] : Fin 3 → Nat) a + S1x128x128.size a ≤ S4x128x1536.size a)
    (i1 : ∀ a, (![gn, 0, b1] : Fin 3 → Nat) a + S1x128x128.size a ≤ S4x128x1536.size a)
    (i2 : ∀ a, (![gn, 0, b2] : Fin 3 → Nat) a + S1x128x128.size a ≤ S4x128x1536.size a)
    (ia : ∀ a, (![gn, 0, 0] : Fin 3 → Nat) a + S1x8x8.size a ≤ S4x8x8.size a)
    (is : ∀ a, (![gn, hn, 0, 0] : Fin 4 → Nat) a + S1x1x128x128.size a ≤ S4x4x128x128.size a)
    (iz : ∀ a, (![gn, 0, b0] : Fin 3 → Nat) a + S1x8x128.size a ≤ S4x8x512.size a)
    (s4 : S128x8.Slices ![0, h4] S128x1) (s0 : S128x8.Slices ![0, hn] S128x1) :
    headOut (arg15.view.readCov (kernelRun0_A.sl.HS2_96 c arg2 harg2 arg5 harg5 arg7 harg7 arg13 x0 x3 x5) (Rect.unit (s := S4x128x1536) ![gn, 0, b0] S1x128x128.size i0).toLoadRect) (arg15.view.readCov (kernelRun0_A.sl.HS2_96 c arg2 harg2 arg5 harg5 arg7 harg7 arg13 x0 x3 x5) (Rect.unit (s := S4x128x1536) ![gn, 0, b1] S1x128x128.size i1).toLoadRect) (arg15.view.readCov (kernelRun0_A.sl.HS2_96 c arg2 harg2 arg5 harg5 arg7 harg7 arg13 x0 x3 x5) (Rect.unit (s := S4x128x1536) ![gn, 0, b2] S1x128x128.size i2).toLoadRect) (gateCol h4 (betaAll (View.readAt (Elt F) arg3.view (Rect.unit (s := S4x8x8) ![gn, 0, 0] S1x8x8.size ia).toLoadRect (harg3.unread x1))) s4) (gateCol hn (gcumAll (View.readAt (Elt F) arg3.view (Rect.unit (s := S4x8x8) ![gn, 0, 0] S1x8x8.size ia).toLoadRect (harg3.unread x1)) (View.readAt (Elt F) arg9.view (Rect.unit (s := S1x8) ![0, 0] S1x8.size inb_S1x8_S1x8_0_0).toLoadRect (harg9.unread x7)) (View.readAt (Elt F) arg8.view (Rect.unit (s := S1x8) ![0, 0] S1x8.size inb_S1x8_S1x8_0_0).toLoadRect (harg8.unread x6))) s0) (arg14.view.readCov (kernelRun0_A.sl.HS1_1 c arg6 harg6 x4) (Rect.unit (s := S4x4x128x128) ![gn, hn, 0, 0] S1x1x128x128.size is).toLoadRect) (View.readAt (Elt F) arg4.view (Rect.unit (s := S4x8x512) ![gn, 0, b0] S1x8x128.size iz).toLoadRect (harg4.unread x2)) (View.readAt (Elt F) arg10.view (Rect.unit (s := S1x128) ![0, 0] S1x128.size inb_S1x128_S1x128_0_0).toLoadRect (harg10.unread x8))
      = outHead x0 x3 x1 x2 x4 x5 x6 x7 x8 g h := by
  subst hg hh hb0 hb1 hb2 hh4
  rw [prepHead_eq c arg2 harg2 arg5 harg5 arg7 harg7 arg13 arg15 x0 x3 x5 g ⟨h.val, by omega⟩ g.val (128 * h.val) rfl rfl,
    prepHead_eq c arg2 harg2 arg5 harg5 arg7 harg7 arg13 arg15 x0 x3 x5 g ⟨h.val + 4, by omega⟩ g.val (128 * (h.val + 4)) rfl rfl,
    prepHead_eq c arg2 harg2 arg5 harg5 arg7 harg7 arg13 arg15 x0 x3 x5 g ⟨h.val + 8, by omega⟩ g.val (128 * (h.val + 8)) rfl rfl,
    ab_eq arg3 harg3 x1 g g.val rfl, st_eq c arg6 harg6 arg14 x4 g h g.val h.val rfl rfl, row8_eq arg8, row8_eq arg9,
    z_eq arg4 harg4 x2 g h g.val (128 * h.val) rfl rfl, row128_eq arg10]
  rfl

/-- The operands a head's new state is computed from are the head's. -/
theorem headSt_eq (g h : Fin 4) (gn hn b0 b1 b2 h4 : Nat) (hg : gn = g.val) (hh : hn = h.val)
    (hb0 : b0 = 128 * h.val) (hb1 : b1 = 128 * (h.val + 4)) (hb2 : b2 = 128 * (h.val + 8)) (hh4 : h4 = h.val + 4)
    (i0 : ∀ a, (![gn, 0, b0] : Fin 3 → Nat) a + S1x128x128.size a ≤ S4x128x1536.size a)
    (i1 : ∀ a, (![gn, 0, b1] : Fin 3 → Nat) a + S1x128x128.size a ≤ S4x128x1536.size a)
    (i2 : ∀ a, (![gn, 0, b2] : Fin 3 → Nat) a + S1x128x128.size a ≤ S4x128x1536.size a)
    (ia : ∀ a, (![gn, 0, 0] : Fin 3 → Nat) a + S1x8x8.size a ≤ S4x8x8.size a)
    (is : ∀ a, (![gn, hn, 0, 0] : Fin 4 → Nat) a + S1x1x128x128.size a ≤ S4x4x128x128.size a)
    (iz : ∀ a, (![gn, 0, b0] : Fin 3 → Nat) a + S1x8x128.size a ≤ S4x8x512.size a)
    (s4 : S128x8.Slices ![0, h4] S128x1) (s0 : S128x8.Slices ![0, hn] S128x1) :
    headSt (arg15.view.readCov (kernelRun0_A.sl.HS2_96 c arg2 harg2 arg5 harg5 arg7 harg7 arg13 x0 x3 x5) (Rect.unit (s := S4x128x1536) ![gn, 0, b1] S1x128x128.size i1).toLoadRect) (arg15.view.readCov (kernelRun0_A.sl.HS2_96 c arg2 harg2 arg5 harg5 arg7 harg7 arg13 x0 x3 x5) (Rect.unit (s := S4x128x1536) ![gn, 0, b2] S1x128x128.size i2).toLoadRect) (gateCol h4 (betaAll (View.readAt (Elt F) arg3.view (Rect.unit (s := S4x8x8) ![gn, 0, 0] S1x8x8.size ia).toLoadRect (harg3.unread x1))) s4) (gateCol hn (gcumAll (View.readAt (Elt F) arg3.view (Rect.unit (s := S4x8x8) ![gn, 0, 0] S1x8x8.size ia).toLoadRect (harg3.unread x1)) (View.readAt (Elt F) arg9.view (Rect.unit (s := S1x8) ![0, 0] S1x8.size inb_S1x8_S1x8_0_0).toLoadRect (harg9.unread x7)) (View.readAt (Elt F) arg8.view (Rect.unit (s := S1x8) ![0, 0] S1x8.size inb_S1x8_S1x8_0_0).toLoadRect (harg8.unread x6))) s0) (arg14.view.readCov (kernelRun0_A.sl.HS1_1 c arg6 harg6 x4) (Rect.unit (s := S4x4x128x128) ![gn, hn, 0, 0] S1x1x128x128.size is).toLoadRect)
      = newHead x0 x3 x1 x4 x5 x6 x7 g h := by
  subst hg hh hb0 hb1 hb2 hh4
  rw [prepHead_eq c arg2 harg2 arg5 harg5 arg7 harg7 arg13 arg15 x0 x3 x5 g ⟨h.val + 4, by omega⟩ g.val (128 * (h.val + 4)) rfl rfl,
    prepHead_eq c arg2 harg2 arg5 harg5 arg7 harg7 arg13 arg15 x0 x3 x5 g ⟨h.val + 8, by omega⟩ g.val (128 * (h.val + 8)) rfl rfl,
    ab_eq arg3 harg3 x1 g g.val rfl, st_eq c arg6 harg6 arg14 x4 g h g.val h.val rfl rfl, row8_eq arg8, row8_eq arg9]
  rfl

end Cert.Gdn
-- ==== Proof.BlockValue.lean ====
module

public import proofs.«01_k».proof.Proof.Heads

/-! The block's results: what the body leaves in the output and state buffers is each head's chunk of the operands. -/

@[expose] public section

set_option maxRecDepth 16384

noncomputable section

namespace Cert.Gdn

open Idealize.ShloMosaic Idealize.ShloMosaic.Tactic Cert.KernelIdeal Cert.KernelIdeal.Gen

variable {F : FTy → Type} [FloatOps F]

variable (c : Dev nD) (i : grid0.Coords) (arg2 : Memref sig .tc .vmem S4x8x1536 .f32) (harg2 : arg2.IsWhole) (arg3 : Memref sig .tc .vmem S4x8x8 .f32) (harg3 : arg3.IsWhole) (arg4 : Memref sig .tc .vmem S4x8x512 .f32) (harg4 : arg4.IsWhole) (arg5 : Memref sig .tc .vmem S4x8x1536 .f32) (harg5 : arg5.IsWhole) (arg6 : Memref sig .tc .vmem S4x4x128x128 .f32) (harg6 : arg6.IsWhole) (arg7 : Memref sig .tc .vmem S4x1536 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x128 .f32) (harg10 : arg10.IsWhole) (arg11 : Memref sig .tc .vmem S4x8x512 .f32) (harg11 : arg11.IsWhole) (arg12 : Memref sig .tc .vmem S4x4x128x128 .f32) (harg12 : arg12.IsWhole) (arg13 : Memref sig .tc .vmem S4x136x1536 .f32) (harg13 : arg13.IsWhole) (arg14 : Memref sig .tc .vmem S4x4x128x128 .f32) (harg14 : arg14.IsWhole) (arg15 : Memref sig .tc .vmem S4x128x1536 .f32) (harg15 : arg15.IsWhole) (hc0 : cond0_0 i) (hc1 : cond0_1 i) (x0 : Vec F S4x8x1536 .f32) (x1 : Vec F S4x8x8 .f32) (x2 : Vec F S4x8x512 .f32) (x3 : Vec F S4x8x1536 .f32) (x4 : Vec F S4x4x128x128 .f32) (x5 : Vec F S4x1536 .f32) (x6 : Vec F S1x8 .f32) (x7 : Vec F S1x8 .f32) (x8 : Vec F S1x128 .f32)

/-- Every piece of the output is the output block there. -/
theorem out_pieces : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1, ∀ x : p.1.shape.Idx, p.2 x = outBlk x0 x3 x1 x2 x4 x5 x6 x7 x8 (p.1.emb x) := by
  unfold kernelRun0_A
  dsimp only
  refine List.forall_mem_cons.mpr ⟨out_piece x0 x1 x2 x3 x4 x5 x6 x7 x8 3 3 3 384 rfl rfl inb_S4x8x512_S1x8x128_3_0_384 _
    (headOut_eq c arg2 harg2 arg3 harg3 arg4 harg4 arg5 harg5 arg6 harg6 arg7 harg7 arg8 harg8 arg9 harg9 arg10 harg10 arg13 arg14 arg15 x0 x1 x2 x3 x4 x5 x6 x7 x8 3 3 3 3 384 896 1408 7 rfl rfl rfl rfl rfl rfl inb_S4x128x1536_S1x128x128_3_0_384 inb_S4x128x1536_S1x128x128_3_0_896 inb_S4x128x1536_S1x128x128_3_0_1408 inb_S4x8x8_S1x8x8_3_0_0 inb_S4x4x128x128_S1x1x128x128_3_3_0_0 inb_S4x8x512_S1x8x128_3_0_384 slices_S128x8_o0_7_S128x1 slices_S128x8_o0_3_S128x1), ?_⟩
  refine List.forall_mem_cons.mpr ⟨out_piece x0 x1 x2 x3 x4 x5 x6 x7 x8 3 2 3 256 rfl rfl inb_S4x8x512_S1x8x128_3_0_256 _
    (headOut_eq c arg2 harg2 arg3 harg3 arg4 harg4 arg5 harg5 arg6 harg6 arg7 harg7 arg8 harg8 arg9 harg9 arg10 harg10 arg13 arg14 arg15 x0 x1 x2 x3 x4 x5 x6 x7 x8 3 2 3 2 256 768 1280 6 rfl rfl rfl rfl rfl rfl inb_S4x128x1536_S1x128x128_3_0_256 inb_S4x128x1536_S1x128x128_3_0_768 inb_S4x128x1536_S1x128x128_3_0_1280 inb_S4x8x8_S1x8x8_3_0_0 inb_S4x4x128x128_S1x1x128x128_3_2_0_0 inb_S4x8x512_S1x8x128_3_0_256 slices_S128x8_o0_6_S128x1 slices_S128x8_o0_2_S128x1), ?_⟩
  refine List.forall_mem_cons.mpr ⟨out_piece x0 x1 x2 x3 x4 x5 x6 x7 x8 3 1 3 128 rfl rfl inb_S4x8x512_S1x8x128_3_0_128 _
    (headOut_eq c arg2 harg2 arg3 harg3 arg4 harg4 arg5 harg5 arg6 harg6 arg7 harg7 arg8 harg8 arg9 harg9 arg10 harg10 arg13 arg14 arg15 x0 x1 x2 x3 x4 x5 x6 x7 x8 3 1 3 1 128 640 1152 5 rfl rfl rfl rfl rfl rfl inb_S4x128x1536_S1x128x128_3_0_128 inb_S4x128x1536_S1x128x128_3_0_640 inb_S4x128x1536_S1x128x128_3_0_1152 inb_S4x8x8_S1x8x8_3_0_0 inb_S4x4x128x128_S1x1x128x128_3_1_0_0 inb_S4x8x512_S1x8x128_3_0_128 slices_S128x8_o0_5_S128x1 slices_S128x8_o0_1_S128x1), ?_⟩
  refine List.forall_mem_cons.mpr ⟨out_piece x0 x1 x2 x3 x4 x5 x6 x7 x8 3 0 3 0 rfl rfl inb_S4x8x512_S1x8x128_3_0_0 _
    (headOut_eq c arg2 harg2 arg3 harg3 arg4 harg4 arg5 harg5 arg6 harg6 arg7 harg7 arg8 harg8 arg9 harg9 arg10 harg10 arg13 arg14 arg15 x0 x1 x2 x3 x4 x5 x6 x7 x8 3 0 3 0 0 512 1024 4 rfl rfl rfl rfl rfl rfl inb_S4x128x1536_S1x128x128_3_0_0 inb_S4x128x1536_S1x128x128_3_0_512 inb_S4x128x1536_S1x128x128_3_0_1024 inb_S4x8x8_S1x8x8_3_0_0 inb_S4x4x128x128_S1x1x128x128_3_0_0_0 inb_S4x8x512_S1x8x128_3_0_0 slices_S128x8_o0_4_S128x1 slices_S128x8_o0_0_S128x1), ?_⟩
  refine List.forall_mem_cons.mpr ⟨out_piece x0 x1 x2 x3 x4 x5 x6 x7 x8 2 3 2 384 rfl rfl inb_S4x8x512_S1x8x128_2_0_384 _
    (headOut_eq c arg2 harg2 arg3 harg3 arg4 harg4 arg5 harg5 arg6 harg6 arg7 harg7 arg8 harg8 arg9 harg9 arg10 harg10 arg13 arg14 arg15 x0 x1 x2 x3 x4 x5 x6 x7 x8 2 3 2 3 384 896 1408 7 rfl rfl rfl rfl rfl rfl inb_S4x128x1536_S1x128x128_2_0_384 inb_S4x128x1536_S1x128x128_2_0_896 inb_S4x128x1536_S1x128x128_2_0_1408 inb_S4x8x8_S1x8x8_2_0_0 inb_S4x4x128x128_S1x1x128x128_2_3_0_0 inb_S4x8x512_S1x8x128_2_0_384 slices_S128x8_o0_7_S128x1 slices_S128x8_o0_3_S128x1), ?_⟩
  refine List.forall_mem_cons.mpr ⟨out_piece x0 x1 x2 x3 x4 x5 x6 x7 x8 2 2 2 256 rfl rfl inb_S4x8x512_S1x8x128_2_0_256 _
    (headOut_eq c arg2 harg2 arg3 harg3 arg4 harg4 arg5 harg5 arg6 harg6 arg7 harg7 arg8 harg8 arg9 harg9 arg10 harg10 arg13 arg14 arg15 x0 x1 x2 x3 x4 x5 x6 x7 x8 2 2 2 2 256 768 1280 6 rfl rfl rfl rfl rfl rfl inb_S4x128x1536_S1x128x128_2_0_256 inb_S4x128x1536_S1x128x128_2_0_768 inb_S4x128x1536_S1x128x128_2_0_1280 inb_S4x8x8_S1x8x8_2_0_0 inb_S4x4x128x128_S1x1x128x128_2_2_0_0 inb_S4x8x512_S1x8x128_2_0_256 slices_S128x8_o0_6_S128x1 slices_S128x8_o0_2_S128x1), ?_⟩
  refine List.forall_mem_cons.mpr ⟨out_piece x0 x1 x2 x3 x4 x5 x6 x7 x8 2 1 2 128 rfl rfl inb_S4x8x512_S1x8x128_2_0_128 _
    (headOut_eq c arg2 harg2 arg3 harg3 arg4 harg4 arg5 harg5 arg6 harg6 arg7 harg7 arg8 harg8 arg9 harg9 arg10 harg10 arg13 arg14 arg15 x0 x1 x2 x3 x4 x5 x6 x7 x8 2 1 2 1 128 640 1152 5 rfl rfl rfl rfl rfl rfl inb_S4x128x1536_S1x128x128_2_0_128 inb_S4x128x1536_S1x128x128_2_0_640 inb_S4x128x1536_S1x128x128_2_0_1152 inb_S4x8x8_S1x8x8_2_0_0 inb_S4x4x128x128_S1x1x128x128_2_1_0_0 inb_S4x8x512_S1x8x128_2_0_128 slices_S128x8_o0_5_S128x1 slices_S128x8_o0_1_S128x1), ?_⟩
  refine List.forall_mem_cons.mpr ⟨out_piece x0 x1 x2 x3 x4 x5 x6 x7 x8 2 0 2 0 rfl rfl inb_S4x8x512_S1x8x128_2_0_0 _
    (headOut_eq c arg2 harg2 arg3 harg3 arg4 harg4 arg5 harg5 arg6 harg6 arg7 harg7 arg8 harg8 arg9 harg9 arg10 harg10 arg13 arg14 arg15 x0 x1 x2 x3 x4 x5 x6 x7 x8 2 0 2 0 0 512 1024 4 rfl rfl rfl rfl rfl rfl inb_S4x128x1536_S1x128x128_2_0_0 inb_S4x128x1536_S1x128x128_2_0_512 inb_S4x128x1536_S1x128x128_2_0_1024 inb_S4x8x8_S1x8x8_2_0_0 inb_S4x4x128x128_S1x1x128x128_2_0_0_0 inb_S4x8x512_S1x8x128_2_0_0 slices_S128x8_o0_4_S128x1 slices_S128x8_o0_0_S128x1), ?_⟩
  refine List.forall_mem_cons.mpr ⟨out_piece x0 x1 x2 x3 x4 x5 x6 x7 x8 1 3 1 384 rfl rfl inb_S4x8x512_S1x8x128_1_0_384 _
    (headOut_eq c arg2 harg2 arg3 harg3 arg4 harg4 arg5 harg5 arg6 harg6 arg7 harg7 arg8 harg8 arg9 harg9 arg10 harg10 arg13 arg14 arg15 x0 x1 x2 x3 x4 x5 x6 x7 x8 1 3 1 3 384 896 1408 7 rfl rfl rfl rfl rfl rfl inb_S4x128x1536_S1x128x128_1_0_384 inb_S4x128x1536_S1x128x128_1_0_896 inb_S4x128x1536_S1x128x128_1_0_1408 inb_S4x8x8_S1x8x8_1_0_0 inb_S4x4x128x128_S1x1x128x128_1_3_0_0 inb_S4x8x512_S1x8x128_1_0_384 slices_S128x8_o0_7_S128x1 slices_S128x8_o0_3_S128x1), ?_⟩
  refine List.forall_mem_cons.mpr ⟨out_piece x0 x1 x2 x3 x4 x5 x6 x7 x8 1 2 1 256 rfl rfl inb_S4x8x512_S1x8x128_1_0_256 _
    (headOut_eq c arg2 harg2 arg3 harg3 arg4 harg4 arg5 harg5 arg6 harg6 arg7 harg7 arg8 harg8 arg9 harg9 arg10 harg10 arg13 arg14 arg15 x0 x1 x2 x3 x4 x5 x6 x7 x8 1 2 1 2 256 768 1280 6 rfl rfl rfl rfl rfl rfl inb_S4x128x1536_S1x128x128_1_0_256 inb_S4x128x1536_S1x128x128_1_0_768 inb_S4x128x1536_S1x128x128_1_0_1280 inb_S4x8x8_S1x8x8_1_0_0 inb_S4x4x128x128_S1x1x128x128_1_2_0_0 inb_S4x8x512_S1x8x128_1_0_256 slices_S128x8_o0_6_S128x1 slices_S128x8_o0_2_S128x1), ?_⟩
  refine List.forall_mem_cons.mpr ⟨out_piece x0 x1 x2 x3 x4 x5 x6 x7 x8 1 1 1 128 rfl rfl inb_S4x8x512_S1x8x128_1_0_128 _
    (headOut_eq c arg2 harg2 arg3 harg3 arg4 harg4 arg5 harg5 arg6 harg6 arg7 harg7 arg8 harg8 arg9 harg9 arg10 harg10 arg13 arg14 arg15 x0 x1 x2 x3 x4 x5 x6 x7 x8 1 1 1 1 128 640 1152 5 rfl rfl rfl rfl rfl rfl inb_S4x128x1536_S1x128x128_1_0_128 inb_S4x128x1536_S1x128x128_1_0_640 inb_S4x128x1536_S1x128x128_1_0_1152 inb_S4x8x8_S1x8x8_1_0_0 inb_S4x4x128x128_S1x1x128x128_1_1_0_0 inb_S4x8x512_S1x8x128_1_0_128 slices_S128x8_o0_5_S128x1 slices_S128x8_o0_1_S128x1), ?_⟩
  refine List.forall_mem_cons.mpr ⟨out_piece x0 x1 x2 x3 x4 x5 x6 x7 x8 1 0 1 0 rfl rfl inb_S4x8x512_S1x8x128_1_0_0 _
    (headOut_eq c arg2 harg2 arg3 harg3 arg4 harg4 arg5 harg5 arg6 harg6 arg7 harg7 arg8 harg8 arg9 harg9 arg10 harg10 arg13 arg14 arg15 x0 x1 x2 x3 x4 x5 x6 x7 x8 1 0 1 0 0 512 1024 4 rfl rfl rfl rfl rfl rfl inb_S4x128x1536_S1x128x128_1_0_0 inb_S4x128x1536_S1x128x128_1_0_512 inb_S4x128x1536_S1x128x128_1_0_1024 inb_S4x8x8_S1x8x8_1_0_0 inb_S4x4x128x128_S1x1x128x128_1_0_0_0 inb_S4x8x512_S1x8x128_1_0_0 slices_S128x8_o0_4_S128x1 slices_S128x8_o0_0_S128x1), ?_⟩
  refine List.forall_mem_cons.mpr ⟨out_piece x0 x1 x2 x3 x4 x5 x6 x7 x8 0 3 0 384 rfl rfl inb_S4x8x512_S1x8x128_0_0_384 _
    (headOut_eq c arg2 harg2 arg3 harg3 arg4 harg4 arg5 harg5 arg6 harg6 arg7 harg7 arg8 harg8 arg9 harg9 arg10 harg10 arg13 arg14 arg15 x0 x1 x2 x3 x4 x5 x6 x7 x8 0 3 0 3 384 896 1408 7 rfl rfl rfl rfl rfl rfl inb_S4x128x1536_S1x128x128_0_0_384 inb_S4x128x1536_S1x128x128_0_0_896 inb_S4x128x1536_S1x128x128_0_0_1408 inb_S4x8x8_S1x8x8_0_0_0 inb_S4x4x128x128_S1x1x128x128_0_3_0_0 inb_S4x8x512_S1x8x128_0_0_384 slices_S128x8_o0_7_S128x1 slices_S128x8_o0_3_S128x1), ?_⟩
  refine List.forall_mem_cons.mpr ⟨out_piece x0 x1 x2 x3 x4 x5 x6 x7 x8 0 2 0 256 rfl rfl inb_S4x8x512_S1x8x128_0_0_256 _
    (headOut_eq c arg2 harg2 arg3 harg3 arg4 harg4 arg5 harg5 arg6 harg6 arg7 harg7 arg8 harg8 arg9 harg9 arg10 harg10 arg13 arg14 arg15 x0 x1 x2 x3 x4 x5 x6 x7 x8 0 2 0 2 256 768 1280 6 rfl rfl rfl rfl rfl rfl inb_S4x128x1536_S1x128x128_0_0_256 inb_S4x128x1536_S1x128x128_0_0_768 inb_S4x128x1536_S1x128x128_0_0_1280 inb_S4x8x8_S1x8x8_0_0_0 inb_S4x4x128x128_S1x1x128x128_0_2_0_0 inb_S4x8x512_S1x8x128_0_0_256 slices_S128x8_o0_6_S128x1 slices_S128x8_o0_2_S128x1), ?_⟩
  refine List.forall_mem_cons.mpr ⟨out_piece x0 x1 x2 x3 x4 x5 x6 x7 x8 0 1 0 128 rfl rfl inb_S4x8x512_S1x8x128_0_0_128 _
    (headOut_eq c arg2 harg2 arg3 harg3 arg4 harg4 arg5 harg5 arg6 harg6 arg7 harg7 arg8 harg8 arg9 harg9 arg10 harg10 arg13 arg14 arg15 x0 x1 x2 x3 x4 x5 x6 x7 x8 0 1 0 1 128 640 1152 5 rfl rfl rfl rfl rfl rfl inb_S4x128x1536_S1x128x128_0_0_128 inb_S4x128x1536_S1x128x128_0_0_640 inb_S4x128x1536_S1x128x128_0_0_1152 inb_S4x8x8_S1x8x8_0_0_0 inb_S4x4x128x128_S1x1x128x128_0_1_0_0 inb_S4x8x512_S1x8x128_0_0_128 slices_S128x8_o0_5_S128x1 slices_S128x8_o0_1_S128x1), ?_⟩
  refine List.forall_mem_cons.mpr ⟨out_piece x0 x1 x2 x3 x4 x5 x6 x7 x8 0 0 0 0 rfl rfl inb_S4x8x512_S1x8x128_0_0_0 _
    (headOut_eq c arg2 harg2 arg3 harg3 arg4 harg4 arg5 harg5 arg6 harg6 arg7 harg7 arg8 harg8 arg9 harg9 arg10 harg10 arg13 arg14 arg15 x0 x1 x2 x3 x4 x5 x6 x7 x8 0 0 0 0 0 512 1024 4 rfl rfl rfl rfl rfl rfl inb_S4x128x1536_S1x128x128_0_0_0 inb_S4x128x1536_S1x128x128_0_0_512 inb_S4x128x1536_S1x128x128_0_0_1024 inb_S4x8x8_S1x8x8_0_0_0 inb_S4x4x128x128_S1x1x128x128_0_0_0_0 inb_S4x8x512_S1x8x128_0_0_0 slices_S128x8_o0_4_S128x1 slices_S128x8_o0_0_S128x1), ?_⟩
  exact List.forall_mem_nil _

/-- One more write over pieces that agree with `G`: the canon agrees with `G` if the earlier ones do off the write. -/
theorem canon_step {s : Shape} (G : s.Idx → Elt F .f32) (p : View.Piece (Elt F) s .f32) (L : List (View.Piece (Elt F) s .f32))
    (y : s.Idx) (hp : ∀ x : p.1.shape.Idx, p.2 x = G (p.1.emb x)) (hL : y ∉ p.1.set → View.canon L y = G y) :
    View.canon (p :: L) y = G y := by
  by_cases hm : y ∈ p.1.set
  · obtain ⟨x, rfl⟩ := p.1.exists_idx_of_mem hm
    rw [show p.1.idx x = p.1.emb x from rfl, View.canon_cons_emb]
    exact hp x
  · rw [View.canon_cons_of_not_mem p L hm]
    exact hL hm

/-- The box of one head's state holds the indices of that head. -/
theorem mem_headBox (y : S4x4x128x128.Idx) (gn hn : Nat)
    (inb : ∀ a, (![gn, hn, 0, 0] : Fin 4 → Nat) a + S1x1x128x128.size a ≤ S4x4x128x128.size a)
    (h0 : (y 0).val = gn) (h1 : (y 1).val = hn) :
    y ∈ (Rect.unit (s := S4x4x128x128) ![gn, hn, 0, 0] S1x1x128x128.size inb).set := by
  refine (Rect.mem_set_unit (s := S4x4x128x128) (inb := inb)).mpr fun a => ?_
  have h2 : (y 2).val < 128 := (y 2).isLt
  have h3 : (y 3).val < 128 := (y 3).isLt
  match a with
  | ⟨0, _⟩ => show gn ≤ (y 0).val ∧ (y 0).val < gn + 1; omega
  | ⟨1, _⟩ => show hn ≤ (y 1).val ∧ (y 1).val < hn + 1; omega
  | ⟨2, _⟩ => show 0 ≤ (y 2).val ∧ (y 2).val < 0 + 128; omega
  | ⟨3, _⟩ => show 0 ≤ (y 3).val ∧ (y 3).val < 0 + 128; omega

/-- The stored states leave the block of new states. -/
theorem st_canon (y : S4x4x128x128.Idx) : View.canon (kernelRun0_A.sl.HS1_17 c arg2 harg2 arg3 harg3 arg5 harg5 arg6 harg6 arg7 harg7 arg8 harg8 arg9 harg9 arg13 arg14 arg15 x0 x1 x3 x4 x5 x6 x7) y = stBlk x0 x3 x1 x4 x5 x6 x7 y := by
  unfold kernelRun0_A.sl.HS1_17
  refine canon_step _ _ _ y (st_piece x0 x1 x3 x4 x5 x6 x7 3 3 3 3 rfl rfl inb_S4x4x128x128_S1x1x128x128_3_3_0_0 _
    (headSt_eq c arg2 harg2 arg3 harg3 arg5 harg5 arg6 harg6 arg7 harg7 arg8 harg8 arg9 harg9 arg13 arg14 arg15 x0 x1 x3 x4 x5 x6 x7 3 3 3 3 384 896 1408 7 rfl rfl rfl rfl rfl rfl inb_S4x128x1536_S1x128x128_3_0_384 inb_S4x128x1536_S1x128x128_3_0_896 inb_S4x128x1536_S1x128x128_3_0_1408 inb_S4x8x8_S1x8x8_3_0_0 inb_S4x4x128x128_S1x1x128x128_3_3_0_0 inb_S4x8x512_S1x8x128_3_0_384 slices_S128x8_o0_7_S128x1 slices_S128x8_o0_3_S128x1)) fun n33 => ?_
  refine canon_step _ _ _ y (st_piece x0 x1 x3 x4 x5 x6 x7 3 2 3 2 rfl rfl inb_S4x4x128x128_S1x1x128x128_3_2_0_0 _
    (headSt_eq c arg2 harg2 arg3 harg3 arg5 harg5 arg6 harg6 arg7 harg7 arg8 harg8 arg9 harg9 arg13 arg14 arg15 x0 x1 x3 x4 x5 x6 x7 3 2 3 2 256 768 1280 6 rfl rfl rfl rfl rfl rfl inb_S4x128x1536_S1x128x128_3_0_256 inb_S4x128x1536_S1x128x128_3_0_768 inb_S4x128x1536_S1x128x128_3_0_1280 inb_S4x8x8_S1x8x8_3_0_0 inb_S4x4x128x128_S1x1x128x128_3_2_0_0 inb_S4x8x512_S1x8x128_3_0_256 slices_S128x8_o0_6_S128x1 slices_S128x8_o0_2_S128x1)) fun n32 => ?_
  refine canon_step _ _ _ y (st_piece x0 x1 x3 x4 x5 x6 x7 3 1 3 1 rfl rfl inb_S4x4x128x128_S1x1x128x128_3_1_0_0 _
    (headSt_eq c arg2 harg2 arg3 harg3 arg5 harg5 arg6 harg6 arg7 harg7 arg8 harg8 arg9 harg9 arg13 arg14 arg15 x0 x1 x3 x4 x5 x6 x7 3 1 3 1 128 640 1152 5 rfl rfl rfl rfl rfl rfl inb_S4x128x1536_S1x128x128_3_0_128 inb_S4x128x1536_S1x128x128_3_0_640 inb_S4x128x1536_S1x128x128_3_0_1152 inb_S4x8x8_S1x8x8_3_0_0 inb_S4x4x128x128_S1x1x128x128_3_1_0_0 inb_S4x8x512_S1x8x128_3_0_128 slices_S128x8_o0_5_S128x1 slices_S128x8_o0_1_S128x1)) fun n31 => ?_
  refine canon_step _ _ _ y (st_piece x0 x1 x3 x4 x5 x6 x7 3 0 3 0 rfl rfl inb_S4x4x128x128_S1x1x128x128_3_0_0_0 _
    (headSt_eq c arg2 harg2 arg3 harg3 arg5 harg5 arg6 harg6 arg7 harg7 arg8 harg8 arg9 harg9 arg13 arg14 arg15 x0 x1 x3 x4 x5 x6 x7 3 0 3 0 0 512 1024 4 rfl rfl rfl rfl rfl rfl inb_S4x128x1536_S1x128x128_3_0_0 inb_S4x128x1536_S1x128x128_3_0_512 inb_S4x128x1536_S1x128x128_3_0_1024 inb_S4x8x8_S1x8x8_3_0_0 inb_S4x4x128x128_S1x1x128x128_3_0_0_0 inb_S4x8x512_S1x8x128_3_0_0 slices_S128x8_o0_4_S128x1 slices_S128x8_o0_0_S128x1)) fun n30 => ?_
  refine canon_step _ _ _ y (st_piece x0 x1 x3 x4 x5 x6 x7 2 3 2 3 rfl rfl inb_S4x4x128x128_S1x1x128x128_2_3_0_0 _
    (headSt_eq c arg2 harg2 arg3 harg3 arg5 harg5 arg6 harg6 arg7 harg7 arg8 harg8 arg9 harg9 arg13 arg14 arg15 x0 x1 x3 x4 x5 x6 x7 2 3 2 3 384 896 1408 7 rfl rfl rfl rfl rfl rfl inb_S4x128x1536_S1x128x128_2_0_384 inb_S4x128x1536_S1x128x128_2_0_896 inb_S4x128x1536_S1x128x128_2_0_1408 inb_S4x8x8_S1x8x8_2_0_0 inb_S4x4x128x128_S1x1x128x128_2_3_0_0 inb_S4x8x512_S1x8x128_2_0_384 slices_S128x8_o0_7_S128x1 slices_S128x8_o0_3_S128x1)) fun n23 => ?_
  refine canon_step _ _ _ y (st_piece x0 x1 x3 x4 x5 x6 x7 2 2 2 2 rfl rfl inb_S4x4x128x128_S1x1x128x128_2_2_0_0 _
    (headSt_eq c arg2 harg2 arg3 harg3 arg5 harg5 arg6 harg6 arg7 harg7 arg8 harg8 arg9 harg9 arg13 arg14 arg15 x0 x1 x3 x4 x5 x6 x7 2 2 2 2 256 768 1280 6 rfl rfl rfl rfl rfl rfl inb_S4x128x1536_S1x128x128_2_0_256 inb_S4x128x1536_S1x128x128_2_0_768 inb_S4x128x1536_S1x128x128_2_0_1280 inb_S4x8x8_S1x8x8_2_0_0 inb_S4x4x128x128_S1x1x128x128_2_2_0_0 inb_S4x8x512_S1x8x128_2_0_256 slices_S128x8_o0_6_S128x1 slices_S128x8_o0_2_S128x1)) fun n22 => ?_
  refine canon_step _ _ _ y (st_piece x0 x1 x3 x4 x5 x6 x7 2 1 2 1 rfl rfl inb_S4x4x128x128_S1x1x128x128_2_1_0_0 _
    (headSt_eq c arg2 harg2 arg3 harg3 arg5 harg5 arg6 harg6 arg7 harg7 arg8 harg8 arg9 harg9 arg13 arg14 arg15 x0 x1 x3 x4 x5 x6 x7 2 1 2 1 128 640 1152 5 rfl rfl rfl rfl rfl rfl inb_S4x128x1536_S1x128x128_2_0_128 inb_S4x128x1536_S1x128x128_2_0_640 inb_S4x128x1536_S1x128x128_2_0_1152 inb_S4x8x8_S1x8x8_2_0_0 inb_S4x4x128x128_S1x1x128x128_2_1_0_0 inb_S4x8x512_S1x8x128_2_0_128 slices_S128x8_o0_5_S128x1 slices_S128x8_o0_1_S128x1)) fun n21 => ?_
  refine canon_step _ _ _ y (st_piece x0 x1 x3 x4 x5 x6 x7 2 0 2 0 rfl rfl inb_S4x4x128x128_S1x1x128x128_2_0_0_0 _
    (headSt_eq c arg2 harg2 arg3 harg3 arg5 harg5 arg6 harg6 arg7 harg7 arg8 harg8 arg9 harg9 arg13 arg14 arg15 x0 x1 x3 x4 x5 x6 x7 2 0 2 0 0 512 1024 4 rfl rfl rfl rfl rfl rfl inb_S4x128x1536_S1x128x128_2_0_0 inb_S4x128x1536_S1x128x128_2_0_512 inb_S4x128x1536_S1x128x128_2_0_1024 inb_S4x8x8_S1x8x8_2_0_0 inb_S4x4x128x128_S1x1x128x128_2_0_0_0 inb_S4x8x512_S1x8x128_2_0_0 slices_S128x8_o0_4_S128x1 slices_S128x8_o0_0_S128x1)) fun n20 => ?_
  refine canon_step _ _ _ y (st_piece x0 x1 x3 x4 x5 x6 x7 1 3 1 3 rfl rfl inb_S4x4x128x128_S1x1x128x128_1_3_0_0 _
    (headSt_eq c arg2 harg2 arg3 harg3 arg5 harg5 arg6 harg6 arg7 harg7 arg8 harg8 arg9 harg9 arg13 arg14 arg15 x0 x1 x3 x4 x5 x6 x7 1 3 1 3 384 896 1408 7 rfl rfl rfl rfl rfl rfl inb_S4x128x1536_S1x128x128_1_0_384 inb_S4x128x1536_S1x128x128_1_0_896 inb_S4x128x1536_S1x128x128_1_0_1408 inb_S4x8x8_S1x8x8_1_0_0 inb_S4x4x128x128_S1x1x128x128_1_3_0_0 inb_S4x8x512_S1x8x128_1_0_384 slices_S128x8_o0_7_S128x1 slices_S128x8_o0_3_S128x1)) fun n13 => ?_
  refine canon_step _ _ _ y (st_piece x0 x1 x3 x4 x5 x6 x7 1 2 1 2 rfl rfl inb_S4x4x128x128_S1x1x128x128_1_2_0_0 _
    (headSt_eq c arg2 harg2 arg3 harg3 arg5 harg5 arg6 harg6 arg7 harg7 arg8 harg8 arg9 harg9 arg13 arg14 arg15 x0 x1 x3 x4 x5 x6 x7 1 2 1 2 256 768 1280 6 rfl rfl rfl rfl rfl rfl inb_S4x128x1536_S1x128x128_1_0_256 inb_S4x128x1536_S1x128x128_1_0_768 inb_S4x128x1536_S1x128x128_1_0_1280 inb_S4x8x8_S1x8x8_1_0_0 inb_S4x4x128x128_S1x1x128x128_1_2_0_0 inb_S4x8x512_S1x8x128_1_0_256 slices_S128x8_o0_6_S128x1 slices_S128x8_o0_2_S128x1)) fun n12 => ?_
  refine canon_step _ _ _ y (st_piece x0 x1 x3 x4 x5 x6 x7 1 1 1 1 rfl rfl inb_S4x4x128x128_S1x1x128x128_1_1_0_0 _
    (headSt_eq c arg2 harg2 arg3 harg3 arg5 harg5 arg6 harg6 arg7 harg7 arg8 harg8 arg9 harg9 arg13 arg14 arg15 x0 x1 x3 x4 x5 x6 x7 1 1 1 1 128 640 1152 5 rfl rfl rfl rfl rfl rfl inb_S4x128x1536_S1x128x128_1_0_128 inb_S4x128x1536_S1x128x128_1_0_640 inb_S4x128x1536_S1x128x128_1_0_1152 inb_S4x8x8_S1x8x8_1_0_0 inb_S4x4x128x128_S1x1x128x128_1_1_0_0 inb_S4x8x512_S1x8x128_1_0_128 slices_S128x8_o0_5_S128x1 slices_S128x8_o0_1_S128x1)) fun n11 => ?_
  refine canon_step _ _ _ y (st_piece x0 x1 x3 x4 x5 x6 x7 1 0 1 0 rfl rfl inb_S4x4x128x128_S1x1x128x128_1_0_0_0 _
    (headSt_eq c arg2 harg2 arg3 harg3 arg5 harg5 arg6 harg6 arg7 harg7 arg8 harg8 arg9 harg9 arg13 arg14 arg15 x0 x1 x3 x4 x5 x6 x7 1 0 1 0 0 512 1024 4 rfl rfl rfl rfl rfl rfl inb_S4x128x1536_S1x128x128_1_0_0 inb_S4x128x1536_S1x128x128_1_0_512 inb_S4x128x1536_S1x128x128_1_0_1024 inb_S4x8x8_S1x8x8_1_0_0 inb_S4x4x128x128_S1x1x128x128_1_0_0_0 inb_S4x8x512_S1x8x128_1_0_0 slices_S128x8_o0_4_S128x1 slices_S128x8_o0_0_S128x1)) fun n10 => ?_
  refine canon_step _ _ _ y (st_piece x0 x1 x3 x4 x5 x6 x7 0 3 0 3 rfl rfl inb_S4x4x128x128_S1x1x128x128_0_3_0_0 _
    (headSt_eq c arg2 harg2 arg3 harg3 arg5 harg5 arg6 harg6 arg7 harg7 arg8 harg8 arg9 harg9 arg13 arg14 arg15 x0 x1 x3 x4 x5 x6 x7 0 3 0 3 384 896 1408 7 rfl rfl rfl rfl rfl rfl inb_S4x128x1536_S1x128x128_0_0_384 inb_S4x128x1536_S1x128x128_0_0_896 inb_S4x128x1536_S1x128x128_0_0_1408 inb_S4x8x8_S1x8x8_0_0_0 inb_S4x4x128x128_S1x1x128x128_0_3_0_0 inb_S4x8x512_S1x8x128_0_0_384 slices_S128x8_o0_7_S128x1 slices_S128x8_o0_3_S128x1)) fun n03 => ?_
  refine canon_step _ _ _ y (st_piece x0 x1 x3 x4 x5 x6 x7 0 2 0 2 rfl rfl inb_S4x4x128x128_S1x1x128x128_0_2_0_0 _
    (headSt_eq c arg2 harg2 arg3 harg3 arg5 harg5 arg6 harg6 arg7 harg7 arg8 harg8 arg9 harg9 arg13 arg14 arg15 x0 x1 x3 x4 x5 x6 x7 0 2 0 2 256 768 1280 6 rfl rfl rfl rfl rfl rfl inb_S4x128x1536_S1x128x128_0_0_256 inb_S4x128x1536_S1x128x128_0_0_768 inb_S4x128x1536_S1x128x128_0_0_1280 inb_S4x8x8_S1x8x8_0_0_0 inb_S4x4x128x128_S1x1x128x128_0_2_0_0 inb_S4x8x512_S1x8x128_0_0_256 slices_S128x8_o0_6_S128x1 slices_S128x8_o0_2_S128x1)) fun n02 => ?_
  unfold kernelRun0_A.sl.HS1_3
  refine canon_step _ _ _ y (st_piece x0 x1 x3 x4 x5 x6 x7 0 1 0 1 rfl rfl inb_S4x4x128x128_S1x1x128x128_0_1_0_0 _
    (headSt_eq c arg2 harg2 arg3 harg3 arg5 harg5 arg6 harg6 arg7 harg7 arg8 harg8 arg9 harg9 arg13 arg14 arg15 x0 x1 x3 x4 x5 x6 x7 0 1 0 1 128 640 1152 5 rfl rfl rfl rfl rfl rfl inb_S4x128x1536_S1x128x128_0_0_128 inb_S4x128x1536_S1x128x128_0_0_640 inb_S4x128x1536_S1x128x128_0_0_1152 inb_S4x8x8_S1x8x8_0_0_0 inb_S4x4x128x128_S1x1x128x128_0_1_0_0 inb_S4x8x512_S1x8x128_0_0_128 slices_S128x8_o0_5_S128x1 slices_S128x8_o0_1_S128x1)) fun n01 => ?_
  refine canon_step _ _ _ y (st_piece x0 x1 x3 x4 x5 x6 x7 0 0 0 0 rfl rfl inb_S4x4x128x128_S1x1x128x128_0_0_0_0 _
    (headSt_eq c arg2 harg2 arg3 harg3 arg5 harg5 arg6 harg6 arg7 harg7 arg8 harg8 arg9 harg9 arg13 arg14 arg15 x0 x1 x3 x4 x5 x6 x7 0 0 0 0 0 512 1024 4 rfl rfl rfl rfl rfl rfl inb_S4x128x1536_S1x128x128_0_0_0 inb_S4x128x1536_S1x128x128_0_0_512 inb_S4x128x1536_S1x128x128_0_0_1024 inb_S4x8x8_S1x8x8_0_0_0 inb_S4x4x128x128_S1x1x128x128_0_0_0_0 inb_S4x8x512_S1x8x128_0_0_0 slices_S128x8_o0_4_S128x1 slices_S128x8_o0_0_S128x1)) fun n00 => ?_
  exfalso
  have h0 : (y 0).val < 4 := (y 0).isLt
  have h1 : (y 1).val < 4 := (y 1).isLt
  rcases (by omega : (y 0).val = 0 ∨ (y 0).val = 1 ∨ (y 0).val = 2 ∨ (y 0).val = 3) with e0 | e0 | e0 | e0 <;>
  rcases (by omega : (y 1).val = 0 ∨ (y 1).val = 1 ∨ (y 1).val = 2 ∨ (y 1).val = 3) with e1 | e1 | e1 | e1
  · exact n00 (mem_headBox y 0 0 inb_S4x4x128x128_S1x1x128x128_0_0_0_0 e0 e1)
  · exact n01 (mem_headBox y 0 1 inb_S4x4x128x128_S1x1x128x128_0_1_0_0 e0 e1)
  · exact n02 (mem_headBox y 0 2 inb_S4x4x128x128_S1x1x128x128_0_2_0_0 e0 e1)
  · exact n03 (mem_headBox y 0 3 inb_S4x4x128x128_S1x1x128x128_0_3_0_0 e0 e1)
  · exact n10 (mem_headBox y 1 0 inb_S4x4x128x128_S1x1x128x128_1_0_0_0 e0 e1)
  · exact n11 (mem_headBox y 1 1 inb_S4x4x128x128_S1x1x128x128_1_1_0_0 e0 e1)
  · exact n12 (mem_headBox y 1 2 inb_S4x4x128x128_S1x1x128x128_1_2_0_0 e0 e1)
  · exact n13 (mem_headBox y 1 3 inb_S4x4x128x128_S1x1x128x128_1_3_0_0 e0 e1)
  · exact n20 (mem_headBox y 2 0 inb_S4x4x128x128_S1x1x128x128_2_0_0_0 e0 e1)
  · exact n21 (mem_headBox y 2 1 inb_S4x4x128x128_S1x1x128x128_2_1_0_0 e0 e1)
  · exact n22 (mem_headBox y 2 2 inb_S4x4x128x128_S1x1x128x128_2_2_0_0 e0 e1)
  · exact n23 (mem_headBox y 2 3 inb_S4x4x128x128_S1x1x128x128_2_3_0_0 e0 e1)
  · exact n30 (mem_headBox y 3 0 inb_S4x4x128x128_S1x1x128x128_3_0_0_0 e0 e1)
  · exact n31 (mem_headBox y 3 1 inb_S4x4x128x128_S1x1x128x128_3_1_0_0 e0 e1)
  · exact n32 (mem_headBox y 3 2 inb_S4x4x128x128_S1x1x128x128_3_2_0_0 e0 e1)
  · exact n33 (mem_headBox y 3 3 inb_S4x4x128x128_S1x1x128x128_3_3_0_0 e0 e1)

/-- What the output's staging buffer holds after the body: the output block of the operands' blocks. -/
theorem out9_eq : out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = outBlk x0 x3 x1 x2 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  funext y
  exact View.canon_apply_of_pieces _ _ (out_pieces c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8) y (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 y)

/-- What the state's staging buffer holds after the body: the block of new states. -/
theorem out10_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = stBlk x0 x3 x1 x4 x5 x6 x7 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  rw [View.canon_unit_zero hz4]
  unfold kernelRun0_A.sl.v4235
  funext y
  rw [cov_apply, st_canon]
  congr 1
  exact idx4_ext (emb_unit_val _ _ _ _ 0 |>.trans (Nat.zero_add _)) (emb_unit_val _ _ _ _ 1 |>.trans (Nat.zero_add _))
    (emb_unit_val _ _ _ _ 2 |>.trans (Nat.zero_add _)) (emb_unit_val _ _ _ _ 3 |>.trans (Nat.zero_add _))

end Cert.Gdn
-- ==== Proof.Scal.lean ====
module

public import Idealize.ShloMosaic.Lib.Pointwise
public import Mathlib.Analysis.SpecialFunctions.Exp
public import Mathlib.Analysis.SpecialFunctions.Log.Basic

/-! The scalar operations at real arguments: each gives a real number, named here. -/

@[expose] public section

noncomputable section

namespace Cert.Gdn

open Idealize.ShloMosaic

/-- The guard inside both normalisations. -/
def epsN : ℝ := (Ideal.ofBits .f32 0x358637BD#32).toReal
/-- The queries' scale. -/
def sclN : ℝ := (Ideal.ofBits .f32 0x3DB504F3#32).toReal
/-- The length of a head's row. -/
def lenN : ℝ := (Ideal.ofBits .f32 0x43000000#32).toReal

theorem lit_eps : Ideal.ofBits .f32 0x358637BD#32 = ((epsN : ℝ) : EReal) ∧ 0 < epsN := by
  have h : Ideal.ofBits .f32 0x358637BD#32 = (((8796093 : ℝ) * 2 ^ (-43 : Int) : ℝ) : EReal) := by
    simp [Ideal.ofBits, Ideal.ieee, -EReal.coe_mul]
  unfold epsN
  rw [h, EReal.toReal_coe]
  exact ⟨rfl, by positivity⟩

theorem lit_scl : Ideal.ofBits .f32 0x3DB504F3#32 = ((sclN : ℝ) : EReal) := by
  have h : Ideal.ofBits .f32 0x3DB504F3#32 = (((11863283 : ℝ) * 2 ^ (-27 : Int) : ℝ) : EReal) := by
    simp [Ideal.ofBits, Ideal.ieee, -EReal.coe_mul]
  unfold sclN
  rw [h, EReal.toReal_coe]

theorem coe_sum {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

theorem div_one_coe (y : ℝ) (h : y ≠ 0) : Ideal.div 1 ((y : ℝ) : EReal) = ((1 / y : ℝ) : EReal) := by
  rw [Ideal.div_coe h, one_mul]

/-- The sigmoid. -/
def sigm (x : ℝ) : ℝ := 1 / (1 + Real.exp (-x))

theorem sigm_coe (x : ℝ) : Ideal.div 1 (1 + Ideal.exp (-((x : ℝ) : EReal))) = ((sigm x : ℝ) : EReal) := by
  rw [← EReal.coe_neg, Ideal.exp_coe, ← EReal.coe_one, ← EReal.coe_add, EReal.coe_one]
  exact div_one_coe _ (by positivity)

theorem sigm_coe' (x : ℝ) : Ideal.div 1 (1 + Ideal.exp (0 - ((x : ℝ) : EReal))) = ((sigm x : ℝ) : EReal) := by
  rw [zero_sub]; exact sigm_coe x

theorem zero_sub_e (x : EReal) : 0 - x = -x := zero_sub x

/-- `log(1 + exp x)`. -/
def softp (x : ℝ) : ℝ := max x 0 + Real.log (1 + Real.exp (-|x|))

theorem coe_max (x y : ℝ) : max ((x : ℝ) : EReal) ((y : ℝ) : EReal) = ((max x y : ℝ) : EReal) :=
  (Monotone.map_max (fun _ _ h => EReal.coe_le_coe_iff.2 h)).symm

theorem coe_abs (x : ℝ) : max ((x : ℝ) : EReal) (-((x : ℝ) : EReal)) = ((|x| : ℝ) : EReal) := by
  rw [← EReal.coe_neg, coe_max]; rfl

theorem log1p_coe (x : ℝ) (h : 0 < x) : Ideal.log (1 + ((x : ℝ) : EReal)) = ((Real.log (1 + x) : ℝ) : EReal) := by
  rw [← EReal.coe_one, ← EReal.coe_add, Ideal.log_coe, if_neg (by linarith)]

theorem softp_coe (x : ℝ) : max ((x : ℝ) : EReal) 0
      + Ideal.log (1 + Ideal.exp (-(max ((x : ℝ) : EReal) (-((x : ℝ) : EReal))))) = ((softp x : ℝ) : EReal) := by
  rw [coe_abs, ← EReal.coe_neg, Ideal.exp_coe, log1p_coe _ (Real.exp_pos _), ← EReal.coe_zero, coe_max, ← EReal.coe_add]
  rfl

theorem rsqrt_coe_pos (x : ℝ) (h : 0 < x) : Ideal.rsqrt ((x : ℝ) : EReal) = (((Real.sqrt x)⁻¹ : ℝ) : EReal) := by
  rw [Ideal.rsqrt_coe, if_neg (by linarith), if_neg (by linarith)]

/-- A row over its length. -/
def l2n (f : Fin 128 → ℝ) (i : Fin 128) : ℝ := f i * (Real.sqrt ((∑ l, f l * f l) + epsN))⁻¹

theorem l2n_coe (f : Fin 128 → ℝ) (i : Fin 128) :
    ((f i : ℝ) : EReal) * Ideal.rsqrt ((∑ l, ((f l : ℝ) : EReal) * ((f l : ℝ) : EReal)) + Ideal.ofBits .f32 0x358637BD#32)
      = ((l2n f i : ℝ) : EReal) := by
  have h : ∑ l, ((f l : ℝ) : EReal) * ((f l : ℝ) : EReal) = ((∑ l, f l * f l : ℝ) : EReal) := by
    rw [← coe_sum]; exact Finset.sum_congr rfl fun l _ => (EReal.coe_mul _ _).symm
  have hp : 0 < (∑ l, f l * f l) + epsN :=
    add_pos_of_nonneg_of_pos (Finset.sum_nonneg fun l _ => mul_self_nonneg _) lit_eps.2
  rw [h, lit_eps.1, ← EReal.coe_add, rsqrt_coe_pos _ hp, ← EReal.coe_mul]
  rfl

/-- A product of real entries, summed, is a real number. -/
theorem coe_dot {n : Nat} (f g : Fin n → ℝ) : ∑ l, ((f l : ℝ) : EReal) * ((g l : ℝ) : EReal) = ((∑ l, f l * g l : ℝ) : EReal) := by
  rw [← coe_sum]; exact Finset.sum_congr rfl fun l _ => (EReal.coe_mul _ _).symm

/-- A row normalised by its root mean square, scaled, and gated by `z`. -/
def gateRow (o z w : Fin 128 → EReal) (b : Fin 128) : EReal :=
  o b * Ideal.rsqrt (Ideal.div (∑ x, o x * o x) (Ideal.ofBits .f32 0x43000000#32) + Ideal.ofBits .f32 0x358637BD#32) * w b
    * (z b * Ideal.div 1 (1 + Ideal.exp (0 - z b)))

end Cert.Gdn
-- ==== Proof.Mask.lean ====
module

public import Idealize.ShloMosaic.Lib.Pointwise
public import Idealize.ShloMosaic.Lib.WordCmp
public import Idealize.ShloMosaic.Lib.Affine

/-! The masks' words: row and column compared, and the bit length of their exclusive or. -/

@[expose] public section

namespace Cert.Gdn

open Idealize.ShloMosaic

theorem sel_iff {α : Type} {c : BitVec 1} {p : Prop} [Decidable p] (h : c = 1#1 ↔ p) (a b : α) :
    Scalar.select c a b = if p then a else b := by
  rw [Scalar.select_def]
  by_cases hp : p
  · rw [if_pos hp]; exact if_pos (h.mpr hp)
  · rw [if_neg hp]; exact if_neg fun e => hp (h.mp e)

theorem sge_iff (t s : Fin 128) :
    IntOp.cmpi CmpIPredicate.sge (BitVec.ofNat 32 t.val) (BitVec.ofNat 32 s.val) = 1#1 ↔ s.val ≤ t.val := by
  rw [WordCmp.cmpi_sge_ofNat (by have := t.isLt; omega) (by have := s.isLt; omega)]
  by_cases h : s.val ≤ t.val <;> simp [h]

theorem sgt_iff (t s : Fin 128) :
    IntOp.cmpi CmpIPredicate.sgt (BitVec.ofNat 32 t.val) (BitVec.ofNat 32 s.val) = 1#1 ↔ s.val < t.val := by
  rw [WordCmp.cmpi_sgt_ofNat (by have := t.isLt; omega) (by have := s.isLt; omega)]
  by_cases h : s.val < t.val <;> simp [h]

theorem eq_iff_word (t s : Fin 128) :
    IntOp.cmpi CmpIPredicate.eq (BitVec.ofNat 32 t.val) (BitVec.ofNat 32 s.val) = 1#1 ↔ t = s := by
  rw [WordCmp.cmpi_eq_ofNat (by have := t.isLt; omega) (by have := s.isLt; omega)]
  by_cases h : t.val = s.val <;> simp [h, Fin.ext_iff]

theorem xor_word (t s : Fin 128) :
    IntOp.xori (BitVec.ofNat 32 t.val) (BitVec.ofNat 32 s.val) = BitVec.ofNat 32 (t.val ^^^ s.val) := by
  show BitVec.ofNat 32 t.val ^^^ BitVec.ofNat 32 s.val = _
  apply BitVec.eq_of_toNat_eq
  have h1 := t.isLt
  have h2 := s.isLt
  have h3 : t.val ^^^ s.val < 2 ^ 7 := Nat.xor_lt_two_pow (by omega) (by omega)
  rw [BitVec.toNat_xor, BitVec.toNat_ofNat, BitVec.toNat_ofNat, BitVec.toNat_ofNat, Nat.mod_eq_of_lt (by omega),
    Nat.mod_eq_of_lt (by omega), Nat.mod_eq_of_lt (by omega)]

theorem xor_div (a b k : Nat) : (a ^^^ b) / 2 ^ k = 0 ↔ a / 2 ^ k = b / 2 ^ k := by
  rw [← Nat.shiftRight_eq_div_pow, ← Nat.shiftRight_eq_div_pow, ← Nat.shiftRight_eq_div_pow, Nat.shiftRight_xor_distrib]
  exact ⟨fun h => Nat.eq_of_testBit_eq fun i => by
    have := congrArg (fun n => n.testBit i) h
    simpa using this, fun h => by rw [h, Nat.xor_self]⟩

/-- The word of the bit length. -/
abbrev levW (t s : Fin 128) : BitVec 32 :=
  IntOp.subi (32#32) (IntOp.ctlz (IntOp.xori (BitVec.ofNat 32 t.val) (BitVec.ofNat 32 s.val)))

theorem len_le_one : ∀ x : Fin 128, (IntOp.cmpi CmpIPredicate.sle (IntOp.subi (32#32) (IntOp.ctlz (BitVec.ofNat 32 x.val))) 1#32
    = 1#1 ↔ x.val / 2 ^ 1 = 0) := by decide +kernel

theorem len_eq : ∀ k : Fin 8, k.val ≠ 0 → ∀ x : Fin 128,
    (IntOp.cmpi CmpIPredicate.eq (IntOp.subi (32#32) (IntOp.ctlz (BitVec.ofNat 32 x.val))) (BitVec.ofNat 32 k.val) = 1#1
      ↔ x.val / 2 ^ k.val = 0 ∧ x.val / 2 ^ (k.val - 1) ≠ 0) := by decide +kernel

/-- Bit length at most one: the same block of two. -/
theorem lev_le_one (t s : Fin 128) :
    IntOp.cmpi CmpIPredicate.sle (levW t s) 1#32 = 1#1 ↔ t.val / 2 ^ 1 = s.val / 2 ^ 1 := by
  have h3 : t.val ^^^ s.val < 2 ^ 7 := Nat.xor_lt_two_pow (by have := t.isLt; omega) (by have := s.isLt; omega)
  unfold levW
  rw [xor_word, ← xor_div]
  exact len_le_one ⟨_, h3⟩

/-- Bit length `k`: the same block of `2^k`, different blocks of half that. -/
theorem lev_eq (k : Fin 8) (hk : k.val ≠ 0) (t s : Fin 128) :
    IntOp.cmpi CmpIPredicate.eq (levW t s) (BitVec.ofNat 32 k.val) = 1#1
      ↔ t.val / 2 ^ k.val = s.val / 2 ^ k.val ∧ t.val / 2 ^ (k.val - 1) ≠ s.val / 2 ^ (k.val - 1) := by
  have h3 : t.val ^^^ s.val < 2 ^ 7 := Nat.xor_lt_two_pow (by have := t.isLt; omega) (by have := s.isLt; omega)
  unfold levW
  rw [xor_word, ← xor_div, ne_eq (t.val / _), ← xor_div t.val]
  exact len_eq k hk ⟨_, h3⟩

end Cert.Gdn
-- ==== Proof.Level.lean ====
module

public import Mathlib.LinearAlgebra.Matrix.NonsingularInverse
public import Mathlib.Data.Real.Basic
public import Mathlib.Tactic.Ring
public import Mathlib.Tactic.Linarith
public import Mathlib.Tactic.LinearCombination

/-! The inverse of a unit lower triangular matrix, level by level: with `(1 + P) T = 1` for the entries `P` inside blocks
    of `2^k`, the entries `E` of the next level give `(1 + P + E) (T − T E T) = 1`, because `E T E = 0`. -/

@[expose] public section

noncomputable section

namespace Cert.Gdn

open Matrix

variable {n : Nat}

/-- The entries of `L` whose row and column lie in the same block of `2^k`. -/
def within (k : Nat) (L : Matrix (Fin n) (Fin n) ℝ) : Matrix (Fin n) (Fin n) ℝ := fun i j =>
  if i.val / 2 ^ k = j.val / 2 ^ k then L i j else 0

/-- The entries of `L` whose row and column first share a block at level `k`. -/
def atLevel (k : Nat) (L : Matrix (Fin n) (Fin n) ℝ) : Matrix (Fin n) (Fin n) ℝ := fun i j =>
  if i.val / 2 ^ k = j.val / 2 ^ k ∧ i.val / 2 ^ (k - 1) ≠ j.val / 2 ^ (k - 1) then L i j else 0

/-- The inverse up to level `k + 1`. -/
def levelInv (L : Matrix (Fin n) (Fin n) ℝ) : Nat → Matrix (Fin n) (Fin n) ℝ
  | 0 => 1 - within 1 L
  | k + 1 => levelInv L k - levelInv L k * (atLevel (k + 2) L * levelInv L k)

/-- A matrix whose non-zero entries lie inside blocks of `2^k`. -/
def Blocky (k : Nat) (A : Matrix (Fin n) (Fin n) ℝ) : Prop :=
  ∀ i j, i.val / 2 ^ k ≠ j.val / 2 ^ k → A i j = 0

theorem Blocky.mul {k : Nat} {A B : Matrix (Fin n) (Fin n) ℝ} (hA : Blocky k A) (hB : Blocky k B) : Blocky k (A * B) := by
  intro i j hij
  rw [Matrix.mul_apply]
  refine Finset.sum_eq_zero fun l _ => ?_
  by_cases h : i.val / 2 ^ k = l.val / 2 ^ k
  · rw [hB l j (by rw [← h]; exact hij), mul_zero]
  · rw [hA i l h, zero_mul]

theorem Blocky.sub {k : Nat} {A B : Matrix (Fin n) (Fin n) ℝ} (hA : Blocky k A) (hB : Blocky k B) : Blocky k (A - B) := by
  intro i j hij
  rw [Matrix.sub_apply, hA i j hij, hB i j hij, sub_zero]

theorem div_pow_succ (a k : Nat) : a / 2 ^ (k + 1) = a / 2 ^ k / 2 := by
  rw [pow_succ, Nat.div_div_eq_div_mul]

theorem Blocky.succ {k : Nat} {A : Matrix (Fin n) (Fin n) ℝ} (hA : Blocky k A) : Blocky (k + 1) A := by
  intro i j hij
  refine hA i j fun h => hij ?_
  rw [div_pow_succ, div_pow_succ, h]

theorem blocky_within (k : Nat) (L : Matrix (Fin n) (Fin n) ℝ) : Blocky k (within k L) := fun _ _ h => if_neg h

theorem blocky_atLevel (k : Nat) (L : Matrix (Fin n) (Fin n) ℝ) : Blocky k (atLevel k L) := fun _ _ h =>
  if_neg fun h' => h h'.1

theorem blocky_one (k : Nat) : Blocky k (1 : Matrix (Fin n) (Fin n) ℝ) := fun i j h =>
  Matrix.one_apply_ne fun e => h (by rw [e])

theorem blocky_levelInv (L : Matrix (Fin n) (Fin n) ℝ) : ∀ k, Blocky (k + 1) (levelInv L k)
  | 0 => (blocky_one 1).sub (blocky_within 1 L)
  | k + 1 => ((blocky_levelInv L k).succ).sub
      (((blocky_levelInv L k).succ).mul ((blocky_atLevel (k + 2) L).mul (blocky_levelInv L k).succ))

/-- The next level's entries are what the coarser blocks add. -/
theorem within_succ (k : Nat) (L : Matrix (Fin n) (Fin n) ℝ) :
    within (k + 1) L = within k L + atLevel (k + 1) L := by
  funext i j
  rw [Matrix.add_apply]
  unfold within atLevel
  rw [Nat.add_sub_cancel]
  by_cases h : i.val / 2 ^ k = j.val / 2 ^ k
  · have h' : i.val / 2 ^ (k + 1) = j.val / 2 ^ (k + 1) := by rw [div_pow_succ, div_pow_succ, h]
    rw [if_pos h', if_pos h, if_neg (fun q => q.2 h), add_zero]
  · rw [if_neg h, zero_add]
    by_cases h' : i.val / 2 ^ (k + 1) = j.val / 2 ^ (k + 1)
    · rw [if_pos h', if_pos ⟨h', h⟩]
    · rw [if_neg h', if_neg (fun q => h' q.1)]

/-- A strictly lower matrix: zero on and above the diagonal. -/
def StrictLower (L : Matrix (Fin n) (Fin n) ℝ) : Prop := ∀ i j : Fin n, i.val ≤ j.val → L i j = 0

/-- The rows of a level's entries have the level's bit set, the columns have it clear. -/
theorem atLevel_parity {L : Matrix (Fin n) (Fin n) ℝ} (hL : StrictLower L) (k : Nat) (i j : Fin n)
    (h : atLevel (k + 1) L i j ≠ 0) : i.val / 2 ^ k % 2 = 1 ∧ j.val / 2 ^ k % 2 = 0 := by
  unfold atLevel at h
  rw [Nat.add_sub_cancel] at h
  have hc : i.val / 2 ^ (k + 1) = j.val / 2 ^ (k + 1) ∧ i.val / 2 ^ k ≠ j.val / 2 ^ k := by
    by_contra hc; exact h (if_neg hc)
  have hlt : j.val < i.val := by
    by_contra hlt; exact h (by rw [if_pos hc, hL i j (by omega)])
  have hle : j.val / 2 ^ k ≤ i.val / 2 ^ k := Nat.div_le_div_right hlt.le
  have h2 := hc.1
  rw [div_pow_succ, div_pow_succ] at h2
  have h3 := hc.2
  omega

/-- A level's entries do not meet themselves through a matrix of the finer blocks. -/
theorem atLevel_mul_mul {L T : Matrix (Fin n) (Fin n) ℝ} (hL : StrictLower L) (k : Nat) (hT : Blocky k T) :
    atLevel (k + 1) L * T * atLevel (k + 1) L = 0 := by
  funext i j
  rw [Matrix.mul_apply, Matrix.zero_apply]
  refine Finset.sum_eq_zero fun b _ => ?_
  rw [Matrix.mul_apply, Finset.sum_mul]
  refine Finset.sum_eq_zero fun a _ => ?_
  by_contra h
  have h1 : atLevel (k + 1) L i a ≠ 0 := fun e => h (by rw [e]; ring)
  have h2 : T a b ≠ 0 := fun e => h (by rw [e]; ring)
  have h3 : atLevel (k + 1) L b j ≠ 0 := fun e => h (by rw [e]; ring)
  have p1 := (atLevel_parity hL k i a h1).2
  have p3 := (atLevel_parity hL k b j h3).1
  have p2 : a.val / 2 ^ k = b.val / 2 ^ k := by
    by_contra e; exact h2 (hT a b e)
  omega

/-- The inverse up to level `k + 1` is a right inverse of one plus the entries of those levels. -/
theorem levelInv_right {L : Matrix (Fin n) (Fin n) ℝ} (hL : StrictLower L) :
    ∀ k, (1 + within (k + 1) L) * levelInv L k = 1
  | 0 => by
    have h0 : within 0 L = 0 := by
      funext i j
      unfold within
      by_cases h : i.val / 2 ^ 0 = j.val / 2 ^ 0
      · rw [if_pos h]
        simp only [pow_zero, Nat.div_one] at h
        exact hL i j h.le
      · rw [if_neg h]; rfl
    have h1 : within 1 L = atLevel 1 L := by rw [within_succ 0 L, h0, zero_add]
    have h2 : within 1 L * within 1 L = 0 := by
      have := atLevel_mul_mul (T := 1) hL 0 (blocky_one 0)
      rw [Matrix.mul_one] at this
      rw [h1]; exact this
    show (1 + within 1 L) * (1 - within 1 L) = 1
    rw [mul_sub, mul_one, add_mul, one_mul, h2, add_zero, add_sub_cancel_right]
  | k + 1 => by
    have ih := levelInv_right hL k
    have hE := atLevel_mul_mul hL (k + 1) (blocky_levelInv L k)
    show (1 + within (k + 2) L) * (levelInv L k - levelInv L k * (atLevel (k + 2) L * levelInv L k)) = 1
    rw [within_succ (k + 1) L, ← add_assoc, add_mul, mul_sub, mul_sub, ← mul_assoc (1 + within (k + 1) L), ih, one_mul]
    have e1 : atLevel (k + 1 + 1) L * (levelInv L k * (atLevel (k + 2) L * levelInv L k))
        = (atLevel (k + 1 + 1) L * levelInv L k * atLevel (k + 1 + 1) L) * levelInv L k := by
      simp only [mul_assoc]
    rw [e1, hE, zero_mul, sub_zero, sub_add_cancel]

/-- Where the entries of `L` all lie inside blocks of `2^(k+1)`, the inverse up to that level undoes `1 + L`. -/
theorem levelInv_left {L : Matrix (Fin n) (Fin n) ℝ} (hL : StrictLower L) (k : Nat) (hB : within (k + 1) L = L) :
    levelInv L k * (1 + L) = 1 := by
  have h := levelInv_right hL k
  rw [hB] at h
  exact mul_eq_one_comm.mp h

end Cert.Gdn
-- ==== Proof.Chunk.lean ====
module

public import proofs.«01_k».proof.Proof.Level
public import Mathlib.Analysis.SpecialFunctions.Exp

/-! The gated delta rule over a chunk: the token-by-token state is a sum over the corrections, and the corrections solve
    one unit lower triangular system. -/

@[expose] public section

noncomputable section

namespace Cert.Gdn

open Matrix

/-- The token-by-token state: after `t` tokens. -/
def stepState {d e : Nat} (k : ℕ → Fin d → ℝ) (v : ℕ → Fin e → ℝ) (g b : ℕ → ℝ) (S0 : Fin d → Fin e → ℝ) :
    ℕ → Fin d → Fin e → ℝ
  | 0 => S0
  | t + 1 => fun i j => stepState k v g b S0 t i j * Real.exp (g t)
      + k t i * (b t * (v t j - ∑ l, stepState k v g b S0 t l j * Real.exp (g t) * k t l))

variable {d e : Nat} (k : ℕ → Fin d → ℝ) (v : ℕ → Fin e → ℝ) (g b : ℕ → ℝ) (S0 : Fin d → Fin e → ℝ)

/-- A token's correction. -/
def corr (t : ℕ) (j : Fin e) : ℝ := b t * (v t j - ∑ l, stepState k v g b S0 t l j * Real.exp (g t) * k t l)

/-- The running log-decay up to and with token `t`. -/
def cum (t : ℕ) : ℝ := ∑ s ∈ Finset.range (t + 1), g s

theorem cum_succ (t : ℕ) : cum g (t + 1) = cum g t + g (t + 1) := by
  unfold cum; rw [Finset.sum_range_succ]

/-- The state as a sum over the corrections. -/
theorem stepState_eq : ∀ (t : ℕ) (i : Fin d) (j : Fin e), stepState k v g b S0 (t + 1) i j
    = Real.exp (cum g t) * S0 i j
      + ∑ s ∈ Finset.range (t + 1), Real.exp (cum g t - cum g s) * k s i * corr k v g b S0 s j
  | 0, i, j => by
    show S0 i j * Real.exp (g 0) + k 0 i * corr k v g b S0 0 j = _
    unfold cum
    simp only [zero_add, Finset.sum_range_one, sub_self, Real.exp_zero]
    ring
  | t + 1, i, j => by
    show stepState k v g b S0 (t + 1) i j * Real.exp (g (t + 1)) + k (t + 1) i * corr k v g b S0 (t + 1) j = _
    rw [stepState_eq t i j, Finset.sum_range_succ _ (t + 1), sub_self, Real.exp_zero, one_mul, add_mul, Finset.sum_mul,
      add_assoc]
    congr 1
    · rw [cum_succ, Real.exp_add]; ring
    · congr 1
      refine Finset.sum_congr rfl fun s _ => ?_
      rw [show cum g (t + 1) - cum g s = (cum g t - cum g s) + g (t + 1) from by rw [cum_succ]; ring, Real.exp_add]
      ring

/-- The decayed state a token's correction reads. -/
theorem decayed_eq (t : ℕ) (i : Fin d) (j : Fin e) : stepState k v g b S0 t i j * Real.exp (g t)
    = Real.exp (cum g t) * S0 i j
      + ∑ s ∈ Finset.range t, Real.exp (cum g t - cum g s) * k s i * corr k v g b S0 s j := by
  have h := stepState_eq k v g b S0 t i j
  rw [Finset.sum_range_succ, sub_self, Real.exp_zero, one_mul] at h
  have h' : stepState k v g b S0 (t + 1) i j
      = stepState k v g b S0 t i j * Real.exp (g t) + k t i * corr k v g b S0 t j := rfl
  linarith

/-- The triangular system of the corrections. -/
theorem corr_eq (t : ℕ) (j : Fin e) : corr k v g b S0 t j
      + ∑ s ∈ Finset.range t, b t * (∑ l, k t l * k s l) * Real.exp (cum g t - cum g s) * corr k v g b S0 s j
    = b t * v t j - ∑ l, b t * k t l * Real.exp (cum g t) * S0 l j := by
  have h : corr k v g b S0 t j
      = b t * (v t j - ∑ l, stepState k v g b S0 t l j * Real.exp (g t) * k t l) := rfl
  have h2 : ∑ l, stepState k v g b S0 t l j * Real.exp (g t) * k t l
      = ∑ l, Real.exp (cum g t) * S0 l j * k t l
        + ∑ s ∈ Finset.range t, (∑ l, k t l * k s l) * Real.exp (cum g t - cum g s) * corr k v g b S0 s j := by
    simp only [decayed_eq, add_mul, Finset.sum_add_distrib, Finset.sum_mul]
    congr 1
    rw [Finset.sum_comm]
    refine Finset.sum_congr rfl fun s _ => Finset.sum_congr rfl fun l _ => ?_
    ring
  have e1 : ∑ l, b t * k t l * Real.exp (cum g t) * S0 l j = b t * ∑ l, Real.exp (cum g t) * S0 l j * k t l := by
    rw [Finset.mul_sum]; exact Finset.sum_congr rfl fun l _ => by ring
  have e2 : ∑ s ∈ Finset.range t, b t * (∑ l, k t l * k s l) * Real.exp (cum g t - cum g s) * corr k v g b S0 s j
      = b t * ∑ s ∈ Finset.range t, (∑ l, k t l * k s l) * Real.exp (cum g t - cum g s) * corr k v g b S0 s j := by
    rw [Finset.mul_sum]; exact Finset.sum_congr rfl fun s _ => by ring
  rw [e1, e2]
  linear_combination h - b t * h2

/-- A sum over the tokens before `t`, as a sum over all tokens of a chunk. -/
theorem sum_before {n : Nat} (t : Fin n) (f : ℕ → ℝ) :
    ∑ s ∈ Finset.range t.val, f s = ∑ s : Fin n, if s.val < t.val then f s.val else 0 := by
  rw [Fin.sum_univ_eq_sum_range (fun s => if s < t.val then f s else 0) n, ← Finset.sum_filter]
  refine Finset.sum_congr ?_ fun _ _ => rfl
  ext s
  simp only [Finset.mem_range, Finset.mem_filter]
  have := t.isLt
  omega

theorem sum_upto {n : Nat} (t : Fin n) (f : ℕ → ℝ) :
    ∑ s ∈ Finset.range (t.val + 1), f s = ∑ s : Fin n, if s.val ≤ t.val then f s.val else 0 := by
  rw [Fin.sum_univ_eq_sum_range (fun s => if s ≤ t.val then f s else 0) n, ← Finset.sum_filter]
  refine Finset.sum_congr ?_ fun _ _ => rfl
  ext s
  simp only [Finset.mem_range, Finset.mem_filter]
  have := t.isLt
  omega

/-- The chunk's strictly lower matrix. -/
def chunkL (n : Nat) : Matrix (Fin n) (Fin n) ℝ := fun t s =>
  if s.val < t.val then b t.val * (∑ l, k t.val l * k s.val l) * Real.exp (cum g t.val - cum g s.val) else 0

theorem strictLower_chunkL (n : Nat) : StrictLower (chunkL k g b n) := fun i j h => if_neg (by omega)

/-- A left inverse of `1 + L` applied to the right-hand sides gives the corrections. -/
theorem solve_corr {n : Nat} (T : Matrix (Fin n) (Fin n) ℝ) (hT : T * (1 + chunkL k g b n) = 1) (t : Fin n) (j : Fin e) :
    (∑ s : Fin n, T t s * (b s.val * v s.val j))
      - ∑ l, (∑ s : Fin n, T t s * (b s.val * k s.val l * Real.exp (cum g s.val))) * S0 l j
    = corr k v g b S0 t.val j := by
  have hsys : ∀ s : Fin n, b s.val * v s.val j - ∑ l, b s.val * k s.val l * Real.exp (cum g s.val) * S0 l j
      = ∑ r : Fin n, (1 + chunkL k g b n) s r * corr k v g b S0 r.val j := by
    intro s
    rw [← corr_eq k v g b S0 s.val j, sum_before s]
    simp only [Matrix.add_apply, add_mul, Finset.sum_add_distrib]
    congr 1
    · simp [Matrix.one_apply]
    · refine Finset.sum_congr rfl fun r _ => ?_
      unfold chunkL
      split <;> simp
  have h1 : (∑ s : Fin n, T t s * (b s.val * v s.val j))
      - ∑ l, (∑ s : Fin n, T t s * (b s.val * k s.val l * Real.exp (cum g s.val))) * S0 l j
      = ∑ s : Fin n, T t s * (b s.val * v s.val j - ∑ l, b s.val * k s.val l * Real.exp (cum g s.val) * S0 l j) := by
    simp only [mul_sub, Finset.sum_sub_distrib, Finset.sum_mul, Finset.mul_sum]
    congr 1
    rw [Finset.sum_comm]
    exact Finset.sum_congr rfl fun s _ => Finset.sum_congr rfl fun l _ => by ring
  rw [h1]
  simp only [hsys, Finset.mul_sum]
  rw [Finset.sum_comm]
  have h2 : ∀ r : Fin n, ∑ s : Fin n, T t s * ((1 + chunkL k g b n) s r * corr k v g b S0 r.val j)
      = (1 : Matrix (Fin n) (Fin n) ℝ) t r * corr k v g b S0 r.val j := by
    intro r
    have h1r : (1 : Matrix (Fin n) (Fin n) ℝ) t r = (T * (1 + chunkL k g b n)) t r := by rw [hT]
    rw [h1r, Matrix.mul_apply, Finset.sum_mul]
    exact Finset.sum_congr rfl fun s _ => (mul_assoc _ _ _).symm
  simp only [h2, Matrix.one_apply, ite_mul, one_mul, zero_mul, Finset.sum_ite_eq, Finset.mem_univ, if_true]

/-- A token's output: from the chunk's starting state and from the corrections up to the token. -/
theorem output_eq {n : Nat} (q : Fin d → ℝ) (t : Fin n) (j : Fin e) :
    (∑ i, q i * Real.exp (cum g t.val) * S0 i j)
      + ∑ s : Fin n, (∑ i, q i * k s.val i) * (if s.val ≤ t.val then Real.exp (cum g t.val - cum g s.val) else 0)
          * corr k v g b S0 s.val j
    = ∑ i, stepState k v g b S0 (t.val + 1) i j * q i := by
  simp only [stepState_eq, add_mul, Finset.sum_add_distrib, sum_upto t]
  congr 1
  · exact Finset.sum_congr rfl fun i _ => by ring
  · simp only [Finset.sum_mul]
    rw [Finset.sum_comm]
    refine Finset.sum_congr rfl fun i _ => Finset.sum_congr rfl fun s _ => ?_
    split <;> ring

/-- The state after the whole chunk. -/
theorem final_eq {n : Nat} (i : Fin d) (j : Fin e) :
    S0 i j * Real.exp (cum g n)
      + ∑ s : Fin (n + 1), (k s.val i * Real.exp (cum g n - cum g s.val)) * corr k v g b S0 s.val j
    = stepState k v g b S0 (n + 1) i j := by
  rw [stepState_eq, Finset.sum_range]
  congr 1
  · ring
  · exact Finset.sum_congr rfl fun s _ => by ring

/-- Tokens with no key and no decay leave the state. -/
theorem stepState_idle (a : ℕ) (hk : ∀ t i, a ≤ t → k t i = 0) (hg : ∀ t, a ≤ t → g t = 0) :
    ∀ n, stepState k v g b S0 (a + n) = stepState k v g b S0 a
  | 0 => rfl
  | n + 1 => by
    funext i j
    rw [← stepState_idle a hk hg n]
    show stepState k v g b S0 (a + n) i j * Real.exp (g (a + n)) + k (a + n) i * _ = _
    rw [hk _ _ (Nat.le_add_right a n), hg _ (Nat.le_add_right a n), Real.exp_zero, zero_mul, add_zero, mul_one]

end Cert.Gdn
-- ==== Proof.Lift.lean ====
module

public import proofs.«01_k».proof.Proof.Block
public import proofs.«01_k».proof.Proof.Scal
public import proofs.«01_k».proof.Proof.Mask
public import proofs.«01_k».proof.Proof.Chunk

/-! One head's chunk at real entries: each stage of the kernel, applied to matrices of real numbers, is the matrix of real
    numbers its formula says. -/

@[expose] public section

noncomputable section

namespace Cert.Gdn

open Idealize.ShloMosaic Cert.KernelIdeal Cert.KernelIdeal.Gen

/-- `v` holds the real matrix `A`. -/
def IsM (v : FVec Ideal S128x128 .f32) (A : Matrix (Fin 128) (Fin 128) ℝ) : Prop := ∀ i j, v (ix2 i j) = ((A i j : ℝ) : EReal)

/-- `c` holds the real column `G`. -/
def IsC (c : FVec Ideal S128x1 .f32) (G : Fin 128 → ℝ) : Prop := ∀ i, c (ix2 i 0) = ((G i : ℝ) : EReal)

/-- The decay between two tokens, zero above the diagonal. -/
def decR (G : Fin 128 → ℝ) : Matrix (Fin 128) (Fin 128) ℝ := fun t s => if s.val ≤ t.val then Real.exp (G t - G s) else 0

theorem decay_lift {gc : FVec Ideal S128x1 .f32} {G : Fin 128 → ℝ} (h : IsC gc G) : IsM (decayMat gc) (decR G) := by
  intro t s
  pointwise [decayMat, inclMask]
  rw [sel_iff (sge_iff t s), sel_iff (sge_iff t s), h t, h s, ← EReal.coe_sub]
  unfold decR
  split
  · exact Ideal.exp_coe _
  · exact EReal.coe_zero.symm

/-- The strictly lower matrix of the chunk. -/
def lowR (K : Matrix (Fin 128) (Fin 128) ℝ) (B G : Fin 128 → ℝ) : Matrix (Fin 128) (Fin 128) ℝ := fun t s =>
  if s.val < t.val then (∑ x, K t x * B t * K s x) * decR G t s else 0

theorem lMat_lift {k : FVec Ideal S128x128 .f32} {beta gc : FVec Ideal S128x1 .f32} {K : Matrix (Fin 128) (Fin 128) ℝ}
    {B G : Fin 128 → ℝ} (hk : IsM k K) (hb : IsC beta B) (hg : IsC gc G) : IsM (lMat k beta gc) (lowR K B G) := by
  intro t s
  have hd := decay_lift hg t s
  pointwise [lMat, strictMask, mmNT, nar, scaleRows]
  rw [sel_iff (sgt_iff t s), hd]
  simp only [hk _ _, hb _, ← EReal.coe_mul, coe_sum]
  unfold lowR
  split
  · rfl
  · exact EReal.coe_zero.symm

theorem mul_sel (c : BitVec 1) (a b : EReal) : Scalar.select c (a * b) 0 = Scalar.select c a 0 * b := by
  rw [Scalar.select_def, Scalar.select_def]; split
  · rfl
  · rw [zero_mul]

theorem inv1_lift {l : FVec Ideal S128x128 .f32} {L : Matrix (Fin 128) (Fin 128) ℝ} (hl : IsM l L) :
    IsM (inv1 l) (levelInv L 0) := by
  intro t s
  pointwise [inv1, levelMat]
  rw [sel_iff (eq_iff_word t s), sel_iff (lev_le_one t s), hl t s]
  show _ = ((((1 : Matrix (Fin 128) (Fin 128) ℝ) - within 1 L) t s : ℝ) : EReal)
  rw [Matrix.sub_apply, EReal.coe_sub]
  congr 1
  · rw [Matrix.one_apply]; split <;> simp
  · unfold within; split <;> simp

theorem invStep_lift (k : Fin 8) (hk : k.val ≠ 0) {l u : FVec Ideal S128x128 .f32} {L U : Matrix (Fin 128) (Fin 128) ℝ}
    (hl : IsM l L) (hu : IsM u U) : IsM (invStep (BitVec.ofNat 32 k.val) l u) (U - U * (atLevel k.val L * U)) := by
  intro t s
  have hE : ∀ x y, Scalar.select (IntOp.cmpi CmpIPredicate.eq (levW x y) (BitVec.ofNat 32 k.val)) (l (ix2 x y)) 0
      = ((atLevel k.val L x y : ℝ) : EReal) := by
    intro x y
    rw [sel_iff (lev_eq k hk x y), hl x y]
    unfold atLevel
    split
    · rfl
    · exact EReal.coe_zero.symm
  pointwise [invStep, levelMat, mmNN, nar]
  simp only [mul_sel]
  simp only [hE, hu _ _, ← EReal.coe_mul, coe_sum, ← EReal.coe_sub]
  rw [Matrix.sub_apply, Matrix.mul_apply]
  simp only [Matrix.mul_apply]

theorem inv3_lift {l : FVec Ideal S128x128 .f32} {L : Matrix (Fin 128) (Fin 128) ℝ} (hl : IsM l L) :
    IsM (inv3 l) (levelInv L 2) :=
  invStep_lift 3 (by decide) hl (invStep_lift 2 (by decide) hl (inv1_lift hl))

theorem u_lift {t k v s : FVec Ideal S128x128 .f32} {beta gc : FVec Ideal S128x1 .f32}
    {T K V S : Matrix (Fin 128) (Fin 128) ℝ} {B G : Fin 128 → ℝ} (ht : IsM t T) (hk : IsM k K) (hv : IsM v V) (hs : IsM s S)
    (hb : IsC beta B) (hg : IsC gc G) : IsM (uMat (solMat t k v beta gc) s) (fun a b =>
      (∑ x, T a x * (V x b * B x)) - ∑ y, (∑ x, T a x * (K x y * B x * Real.exp (G x))) * S y b) := by
  intro a b
  pointwise [uMat, solMat, mmNN, nar, scaleRows]
  simp only [ht _ _, hk _ _, hv _ _, hs _ _, hb _, hg _, Ideal.exp_coe, ← EReal.coe_mul, coe_sum, ← EReal.coe_sub]

theorem o_lift {q k s u : FVec Ideal S128x128 .f32} {gc : FVec Ideal S128x1 .f32}
    {Q K S U : Matrix (Fin 128) (Fin 128) ℝ} {G : Fin 128 → ℝ} (hq : IsM q Q) (hk : IsM k K) (hs : IsM s S)
    (hg : IsC gc G) (hu : IsM u U) : IsM (oMat q k gc s u) (fun a b =>
      (∑ x, Q a x * Real.exp (G a) * S x b) + ∑ x, (∑ y, Q a y * K x y) * decR G a x * U x b) := by
  intro a b
  have hd := decay_lift hg
  pointwise [oMat, mmNN, mmNT, nar, scaleRows]
  simp only [hq _ _, hk _ _, hs _ _, hu _ _, hg _, hd _ _, Ideal.exp_coe, ← EReal.coe_mul, coe_sum, ← EReal.coe_add]

theorem s_lift {k s u : FVec Ideal S128x128 .f32} {gc : FVec Ideal S128x1 .f32}
    {K S U : Matrix (Fin 128) (Fin 128) ℝ} {G : Fin 128 → ℝ} (hk : IsM k K) (hs : IsM s S)
    (hg : IsC gc G) (hu : IsM u U) : IsM (sNew k gc s u) (fun a b =>
      S a b * Real.exp (G 127) + ∑ x, K x a * Real.exp (G 127 - G x) * U x b) := by
  intro a b
  pointwise [sNew, mmTN, nar, scaleRows]
  simp only [hk _ _, hs _ _, hu _ _, hg _, Ideal.exp_coe, ← EReal.coe_mul, coe_sum, ← EReal.coe_add, ← EReal.coe_sub]

end Cert.Gdn
-- ==== Proof.Spec.lean ====
module

public import proofs.«01_k».proof.Proof.Scal
public import proofs.«01_k».proof.Proof.Chunk

/-! One sequence's layer over the real numbers: the convolution with its activation, the normalised queries and keys, the
    values, the gates, and the token-by-token recurrence of one head. -/

@[expose] public section

noncomputable section

namespace Cert.Gdn

/-- Column `l` of column block `blk`. -/
def colB (blk : Fin 12) (l : Fin 128) : Fin 1536 := ⟨128 * blk.val + l.val, by omega⟩

/-- Column block of head `h`: queries, keys, values. -/
def blkQ (h : Fin 4) : Fin 12 := ⟨h.val, by omega⟩
def blkK (h : Fin 4) : Fin 12 := ⟨h.val + 4, by omega⟩
def blkV (h : Fin 4) : Fin 12 := ⟨h.val + 8, by omega⟩

section
variable (up : ℕ → Fin 1536 → ℝ) (W : Fin 4 → Fin 1536 → ℝ)

/-- The four-tap convolution. -/
def convS (t : ℕ) (c : Fin 1536) : ℝ := up t c * W 0 c + up (t + 1) c * W 1 c + up (t + 2) c * W 2 c + up (t + 3) c * W 3 c

/-- The activated convolution. -/
def actS (t : ℕ) (c : Fin 1536) : ℝ := convS up W t c * sigm (convS up W t c)

def qS (h : Fin 4) (t : ℕ) (i : Fin 128) : ℝ := l2n (fun l => actS up W t (colB (blkQ h) l)) i * sclN
def kS (h : Fin 4) (t : ℕ) (i : Fin 128) : ℝ := l2n (fun l => actS up W t (colB (blkK h) l)) i
def vS (h : Fin 4) (t : ℕ) (i : Fin 128) : ℝ := actS up W t (colB (blkV h) i)

end

/-- The log-decay. -/
def gS (a : ℕ → Fin 4 → ℝ) (al db : Fin 4 → ℝ) (h : Fin 4) (t : ℕ) : ℝ := -Real.exp (al h) * softp (a t h + db h)

/-- The write strength. -/
def bS (b : ℕ → Fin 4 → ℝ) (h : Fin 4) (t : ℕ) : ℝ := sigm (b t h)

section
variable (Y : Fin 32 → Fin 8 → Fin 7176 → ℝ) (C : Fin 32 → Fin 3 → Fin 1536 → ℝ)

/-- Sequence `n`'s rows under the convolution: the three buffered ones, then its own. -/
def upS (n : Fin 32) (r : ℕ) (c : Fin 1536) : ℝ :=
  if h : r < 3 then C n ⟨r, h⟩ c else Y n ⟨min (r - 3) 7, by omega⟩ ⟨c.val, by omega⟩

/-- The inputs of the log-decays. -/
def aS (n : Fin 32) (t : ℕ) (h : Fin 4) : ℝ := Y n ⟨min t 7, by omega⟩ ⟨2048 + h.val, by omega⟩

/-- The inputs of the write strengths. -/
def wS (n : Fin 32) (t : ℕ) (h : Fin 4) : ℝ := Y n ⟨min t 7, by omega⟩ ⟨2052 + h.val, by omega⟩

theorem upS_cache (n : Fin 32) (r : Fin 3) (c : Fin 1536) : upS Y C n r.val c = C n r c := dif_pos r.isLt

theorem upS_rows (n : Fin 32) (t : Fin 8) (c : Fin 1536) : upS Y C n (t.val + 3) c = Y n t ⟨c.val, by omega⟩ := by
  refine (dif_neg (by omega)).trans (congrArg (fun z => Y n z _) (Fin.ext ?_))
  show min (t.val + 3 - 3) 7 = t.val
  omega

theorem aS_eq (n : Fin 32) (t : Fin 8) (h : Fin 4) : aS Y n t.val h = Y n t ⟨2048 + h.val, by omega⟩ :=
  congrArg (fun z => Y n z _) (Fin.ext (by show min t.val 7 = t.val; omega))

theorem wS_eq (n : Fin 32) (t : Fin 8) (h : Fin 4) : wS Y n t.val h = Y n t ⟨2052 + h.val, by omega⟩ :=
  congrArg (fun z => Y n z _) (Fin.ext (by show min t.val 7 = t.val; omega))

end

/-- Zero past the eight tokens. -/
def live {α : Type} [Zero α] (f : ℕ → α) (t : ℕ) : α := if t < 8 then f t else 0

theorem live_of_lt {α : Type} [Zero α] (f : ℕ → α) {t : ℕ} (h : t < 8) : live f t = f t := if_pos h

/-- The state of a recurrence depends on the tokens before it only. -/
theorem stepState_congr {d e : Nat} {k k' : ℕ → Fin d → ℝ} {v v' : ℕ → Fin e → ℝ} {g g' b b' : ℕ → ℝ}
    (S0 : Fin d → Fin e → ℝ) (n : ℕ) (hk : ∀ t, t < n → k t = k' t) (hv : ∀ t, t < n → v t = v' t)
    (hg : ∀ t, t < n → g t = g' t) (hb : ∀ t, t < n → b t = b' t) :
    ∀ t, t ≤ n → stepState k v g b S0 t = stepState k' v' g' b' S0 t
  | 0, _ => rfl
  | t + 1, ht => by
    have ih := stepState_congr S0 n hk hv hg hb t (by omega)
    funext i j
    show stepState k v g b S0 t i j * Real.exp (g t)
      + k t i * (b t * (v t j - ∑ l, stepState k v g b S0 t l j * Real.exp (g t) * k t l)) = _
    rw [ih, hk t (by omega), hv t (by omega), hg t (by omega), hb t (by omega)]
    rfl

/-- The recurrence over the eight tokens is the recurrence over the padded chunk. -/
theorem stepState_live {d e : Nat} (k : ℕ → Fin d → ℝ) (v : ℕ → Fin e → ℝ) (g b : ℕ → ℝ) (S0 : Fin d → Fin e → ℝ) (t : ℕ)
    (ht : t ≤ 8) : stepState (live k) (live v) (live g) (live b) S0 t = stepState k v g b S0 t :=
  stepState_congr S0 8 (fun _ h => live_of_lt k h) (fun _ h => live_of_lt v h) (fun _ h => live_of_lt g h)
    (fun _ h => live_of_lt b h) t ht

/-- After the padded chunk the state is the state after the eight tokens. -/
theorem stepState_padded {d e : Nat} (k : ℕ → Fin d → ℝ) (v : ℕ → Fin e → ℝ) (g b : ℕ → ℝ) (S0 : Fin d → Fin e → ℝ) :
    stepState (live k) (live v) (live g) (live b) S0 (127 + 1) = stepState k v g b S0 8 := by
  rw [← stepState_live k v g b S0 8 le_rfl]
  exact stepState_idle (live k) (live v) (live g) (live b) S0 8
    (fun t i h => congrFun (if_neg (by omega) : live k t = 0) i) (fun t h => if_neg (by omega)) 120

section
variable (up : ℕ → Fin 1536 → ℝ) (W : Fin 4 → Fin 1536 → ℝ) (a b : ℕ → Fin 4 → ℝ) (al db : Fin 4 → ℝ)
  (S0 : Fin 4 → Fin 128 → Fin 128 → ℝ)

/-- The recurrence of head `h`. -/
def stS (h : Fin 4) : ℕ → Fin 128 → Fin 128 → ℝ := stepState (kS up W h) (vS up W h) (gS a al db h) (bS b h) (S0 h)

/-- Token `t`'s output of head `h`. -/
def outS (h : Fin 4) (t : ℕ) (j : Fin 128) : ℝ := ∑ i, stS up W a b al db S0 h (t + 1) i j * qS up W h t i

end

end Cert.Gdn
-- ==== Proof.PrepLift.lean ====
module

public import proofs.«01_k».proof.Proof.Lift
public import proofs.«01_k».proof.Proof.Spec

/-! The kernel's prepared rows and gates at real arguments. -/

@[expose] public section

noncomputable section

namespace Cert.Gdn

open Idealize.ShloMosaic Cert.KernelIdeal Cert.KernelIdeal.Gen

section
variable {x0 x3 : Vec Ideal S4x8x1536 .f32} {x5 : Vec Ideal S4x1536 .f32} {g : Fin 4}
  {up : ℕ → Fin 1536 → ℝ} {W : Fin 4 → Fin 1536 → ℝ}

/-- The rows the block reads for sequence `g` are the real rows `up`, from the sixth of the buffered rows on. -/
def ExtIs (x0 x3 : Vec Ideal S4x8x1536 .f32) (g : Fin 4) (up : ℕ → Fin 1536 → ℝ) : Prop :=
  ∀ (r : ℕ) (hr : r < 11) (c : Fin 1536), extG x0 x3 (ix3 g ⟨5 + r, by omega⟩ c) = ((up r c : ℝ) : EReal)

theorem tap_lift (h : ExtIs x0 x3 g up) (j : Fin 4) (i : Fin 9) (hi : i.val = 5 + j.val) (blk : Fin 12) (t : Fin 8)
    (l : Fin 128) : tap x0 x3 g i blk (ix3 (0 : Fin 1) t l) = ((up (t.val + j.val) (colB blk l) : ℝ) : EReal) := by
  refine Eq.trans (congrArg (extG x0 x3) ?_) (h (t.val + j.val) (by omega) (colB blk l))
  have e : (⟨i.val + t.val, by omega⟩ : Fin 136) = ⟨5 + (t.val + j.val), by omega⟩ := Fin.ext (by show i.val + t.val = 5 + (t.val + j.val); omega)
  show ix3 g (⟨i.val + t.val, by omega⟩ : Fin 136) (colB blk l) = _
  rw [e]

theorem wrow_lift (hw : ∀ i c, x5 (ix2 i c) = ((W i c : ℝ) : EReal)) (i : Fin 4) (blk : Fin 12) (l : Fin 128) :
    wrow x5 i blk (ix2 (0 : Fin 1) l) = ((W i (colB blk l) : ℝ) : EReal) := hw i (colB blk l)

/-- The convolution of one column block. -/
abbrev convB (x0 x3 : Vec Ideal S4x8x1536 .f32) (x5 : Vec Ideal S4x1536 .f32) (g : Fin 4) (blk : Fin 12) : FVec Ideal S8x128 .f32 :=
  convK (tap x0 x3 g 5 blk) (tap x0 x3 g 6 blk) (tap x0 x3 g 7 blk) (tap x0 x3 g 8 blk)
    (wrow x5 0 blk) (wrow x5 1 blk) (wrow x5 2 blk) (wrow x5 3 blk)

theorem act_lift (h : ExtIs x0 x3 g up) (hw : ∀ i c, x5 (ix2 i c) = ((W i c : ℝ) : EReal)) (blk : Fin 12) (t : Fin 8)
    (l : Fin 128) : siluK (convB x0 x3 x5 g blk) (ix2 t l) = ((actS up W t.val (colB blk l) : ℝ) : EReal) := by
  have hc : convB x0 x3 x5 g blk (ix2 t l) = ((convS up W t.val (colB blk l) : ℝ) : EReal) := by
    pointwise [convK]
    rw [tap_lift h 0 5 rfl, tap_lift h 1 6 rfl, tap_lift h 2 7 rfl, tap_lift h 3 8 rfl, wrow_lift hw, wrow_lift hw,
      wrow_lift hw, wrow_lift hw]
    simp only [← EReal.coe_mul, ← EReal.coe_add]
    rfl
  generalize convB x0 x3 x5 g blk = z at hc ⊢
  pointwise [siluK]
  rw [hc, sigm_coe', ← EReal.coe_mul]
  rfl

theorem l2K_lift {x : FVec Ideal S8x128 .f32} {X : Fin 128 → ℝ} (t : Fin 8) (hx : ∀ l, x (ix2 t l) = ((X l : ℝ) : EReal))
    (i : Fin 128) : l2K x (ix2 t i) = ((l2n X i : ℝ) : EReal) := by
  pointwise [l2K]
  simp only [hx _]
  exact l2n_coe X i

theorem prepQ_lift (h : ExtIs x0 x3 g up) (hw : ∀ i c, x5 (ix2 i c) = ((W i c : ℝ) : EReal)) (hd : Fin 4) (t : Fin 8)
    (i : Fin 128) : prepBlk x0 x3 x5 g (blkQ hd) (ix3 (0 : Fin 1) t i) = ((qS up W hd t.val i : ℝ) : EReal) := by
  have e : prepBlk x0 x3 x5 g (blkQ hd) = shapeCast S1x8x128 (mulf (l2K (siluK (convB x0 x3 x5 g (blkQ hd))))
      (broadcast S8x128 (Scalar.ofBits .f32 0x3DB504F3#32))) shapeCasts_S8x128_S1x8x128 := if_pos hd.isLt
  have hl := l2K_lift t (fun l => act_lift h hw (blkQ hd) t l) i
  rw [e]
  generalize l2K (siluK (convB x0 x3 x5 g (blkQ hd))) = z at hl ⊢
  pointwise
  rw [hl, lit_scl, ← EReal.coe_mul]
  rfl

theorem prepK_lift (h : ExtIs x0 x3 g up) (hw : ∀ i c, x5 (ix2 i c) = ((W i c : ℝ) : EReal)) (hd : Fin 4) (t : Fin 8)
    (i : Fin 128) : prepBlk x0 x3 x5 g (blkK hd) (ix3 (0 : Fin 1) t i) = ((kS up W hd t.val i : ℝ) : EReal) := by
  have e : prepBlk x0 x3 x5 g (blkK hd) = shapeCast S1x8x128 (l2K (siluK (convB x0 x3 x5 g (blkK hd))))
      shapeCasts_S8x128_S1x8x128 :=
    (if_neg (by show ¬ (hd.val + 4 < 4); omega)).trans (if_pos (by show hd.val + 4 < 8; omega))
  have hl := l2K_lift t (fun l => act_lift h hw (blkK hd) t l) i
  rw [e]
  generalize l2K (siluK (convB x0 x3 x5 g (blkK hd))) = z at hl ⊢
  pointwise
  rw [hl]
  rfl

theorem prepV_lift (h : ExtIs x0 x3 g up) (hw : ∀ i c, x5 (ix2 i c) = ((W i c : ℝ) : EReal)) (hd : Fin 4) (t : Fin 8)
    (i : Fin 128) : prepBlk x0 x3 x5 g (blkV hd) (ix3 (0 : Fin 1) t i) = ((vS up W hd t.val i : ℝ) : EReal) := by
  have e : prepBlk x0 x3 x5 g (blkV hd) = shapeCast S1x8x128 (siluK (convB x0 x3 x5 g (blkV hd)))
      shapeCasts_S8x128_S1x8x128 :=
    (if_neg (by show ¬ (hd.val + 8 < 4); omega)).trans (if_neg (by show ¬ (hd.val + 8 < 8); omega))
  have hl := act_lift h hw (blkV hd) t i
  rw [e]
  generalize siluK (convB x0 x3 x5 g (blkV hd)) = z at hl ⊢
  pointwise
  rw [hl]
  rfl

/-- A head's padded rows, from its live rows. -/
theorem prepHead_lift (blk : Fin 12) (f : ℕ → Fin 128 → ℝ)
    (hf : ∀ (t : Fin 8) (i : Fin 128), prepBlk x0 x3 x5 g blk (ix3 (0 : Fin 1) t i) = ((f t.val i : ℝ) : EReal)) :
    IsM (asMat (prepHead x0 x3 x5 g blk)) (fun t i => live f t.val i) := by
  intro t i
  have e0 : asMat (prepHead x0 x3 x5 g blk) (ix2 t i) = prepHead x0 x3 x5 g blk (ix3 (0 : Fin 1) t i) := by
    generalize prepHead x0 x3 x5 g blk = z
    pointwise [asMat]
  rw [e0]
  show prepG x0 x3 x5 (ix3 g t (colB blk i)) = _
  unfold prepG
  show _ = ((live f t.val i : ℝ) : EReal)
  have hi := i.isLt
  have hb := blk.isLt
  by_cases ht : t.val < 8
  · have e3 : live f t.val = f t.val := if_pos ht
    rw [e3]
    refine (dif_pos ht).trans (Eq.trans ?_ (hf ⟨t.val, ht⟩ i))
    have e1 : (⟨(colB blk i).val / 128, by show (128 * blk.val + i.val) / 128 < 12; omega⟩ : Fin 12) = blk :=
      Fin.ext (by show (128 * blk.val + i.val) / 128 = blk.val; omega)
    have e2 : (⟨(colB blk i).val % 128, Nat.mod_lt _ (by norm_num)⟩ : Fin 128) = i :=
      Fin.ext (by show (128 * blk.val + i.val) % 128 = i.val; omega)
    show prepBlk x0 x3 x5 g ⟨(colB blk i).val / 128, _⟩ (ix3 (0 : Fin 1) ⟨t.val, ht⟩ ⟨(colB blk i).val % 128, _⟩) = _
    rw [e1, e2]
  · have e3 : live f t.val i = 0 := congrFun (if_neg ht : live f t.val = 0) i
    rw [e3]
    refine (dif_neg ht).trans ?_
    show Ideal.ofBits .f32 0x00000000#32 = _
    rw [Ideal.ofBits_zero_f32]
    exact EReal.coe_zero.symm

end

/-! ## The gates -/

section
variable {x1 : Vec Ideal S4x8x8 .f32} {x6 x7 : Vec Ideal S1x8 .f32} {g : Fin 4}

/-- The running sum of a sequence that is zero past eight tokens. -/
theorem cum_live (f : ℕ → ℝ) (t : Fin 128) :
    cum (live f) t.val = ∑ s : Fin 8, if s.val ≤ t.val then f s.val else 0 := by
  unfold cum
  rw [Fin.sum_univ_eq_sum_range (fun s => if s ≤ t.val then f s else 0) 8, ← Finset.sum_filter,
    show (∑ s ∈ Finset.range (t.val + 1), live f s) = ∑ s ∈ Finset.range (t.val + 1), if s < 8 then f s else 0 from rfl,
    ← Finset.sum_filter]
  refine Finset.sum_congr ?_ fun _ _ => rfl
  ext s
  simp only [Finset.mem_range, Finset.mem_filter]
  omega

theorem gcHead_lift (hd : Fin 4) (a : ℕ → Fin 4 → ℝ) (al db : Fin 4 → ℝ)
    (ha : ∀ t : Fin 8, x1 (ix3 g t (⟨hd.val, by omega⟩ : Fin 8)) = ((a t.val hd : ℝ) : EReal))
    (hal : x6 (ix2 (0 : Fin 1) (⟨hd.val, by omega⟩ : Fin 8)) = ((al hd : ℝ) : EReal))
    (hdb : x7 (ix2 (0 : Fin 1) (⟨hd.val, by omega⟩ : Fin 8)) = ((db hd : ℝ) : EReal)) :
    IsC (gcHead x1 x6 x7 g hd) (fun t => cum (live (gS a al db hd)) t.val) := by
  intro t
  have hrate : ∀ s : Fin 8, decayRate (abRow x1 g) x7 x6 (ix2 s (⟨hd.val, by omega⟩ : Fin 8)) = ((gS a al db hd s.val : ℝ) : EReal) := by
    intro s
    have hab : abRow x1 g (ix3 (0 : Fin 1) s (⟨hd.val, by omega⟩ : Fin 8)) = ((a s.val hd : ℝ) : EReal) := ha s
    generalize abRow x1 g = ab at hab ⊢
    pointwise [decayRate]
    rw [hab, hal, hdb, ← EReal.coe_add, zero_sub_e, zero_sub_e]
    rw [Ideal.exp_coe, ← EReal.coe_neg]
    refine (congrArg (fun z => ((-Real.exp (al hd) : ℝ) : EReal) * z) (softp_coe (a s.val hd + db hd))).trans ?_
    rw [← EReal.coe_mul]
    rfl
  have hcol : gcHead x1 x6 x7 g hd (ix2 t 0) = gcumAll (abRow x1 g) x7 x6 (ix2 t (⟨hd.val, by omega⟩ : Fin 8)) := by
    unfold gcHead
    generalize gcumAll (abRow x1 g) x7 x6 = z
    pointwise [gateCol]
  rw [hcol]
  pointwise [gcumAll, inclMask]
  have hterm : ∀ s : Fin 8, Scalar.select (IntOp.cmpi CmpIPredicate.sge (BitVec.ofNat 32 t.val) (BitVec.ofNat 32 s.val))
      (decayRate (abRow x1 g) x7 x6 (ix2 s (⟨hd.val, by omega⟩ : Fin 8))) 0
      = (((if s.val ≤ t.val then gS a al db hd s.val else 0 : ℝ)) : EReal) := by
    intro s
    rw [sel_iff (sge_iff t ⟨s.val, by omega⟩), hrate s]
    show (if s.val ≤ t.val then _ else _) = _
    split
    · rfl
    · exact EReal.coe_zero.symm
  rw [Finset.sum_const_zero, add_zero]
  simp only [hterm]
  rw [coe_sum, ← cum_live]

theorem betaHead_lift (hd : Fin 4) (b : ℕ → Fin 4 → ℝ)
    (hb : ∀ t : Fin 8, x1 (ix3 g t (⟨hd.val + 4, by omega⟩ : Fin 8)) = ((b t.val hd : ℝ) : EReal)) :
    IsC (betaHead x1 g hd) (fun t => live (bS b hd) t.val) := by
  intro t
  have hcol : betaHead x1 g hd (ix2 t 0) = betaAll (abRow x1 g) (ix2 t (⟨hd.val + 4, by omega⟩ : Fin 8)) := by
    unfold betaHead
    generalize betaAll (abRow x1 g) = z
    pointwise [gateCol]
  have hab : ∀ s : Fin 8, abRow x1 g (ix3 (0 : Fin 1) s (⟨hd.val + 4, by omega⟩ : Fin 8)) = ((b s.val hd : ℝ) : EReal) := hb
  rw [hcol]
  generalize abRow x1 g = ab at hab ⊢
  pointwise [betaAll]
  unfold live
  by_cases ht : t.val < 8
  · rw [dif_pos ht, if_pos ht, hab, sigm_coe']
    rfl
  · rw [dif_neg ht, if_neg ht]
    exact EReal.coe_zero.symm

end

end Cert.Gdn
-- ==== Proof.HeadLift.lean ====
module

public import proofs.«01_k».proof.Proof.PrepLift

/-! One head's block is the token-by-token recurrence: its corrections, its outputs and its new state, at real entries. -/

@[expose] public section

noncomputable section

namespace Cert.Gdn

open Idealize.ShloMosaic Cert.KernelIdeal Cert.KernelIdeal.Gen

section
variable {q k v s : FVec Ideal S128x128 .f32} {beta gc : FVec Ideal S128x1 .f32}
  {Q K V : ℕ → Fin 128 → ℝ} {G B : ℕ → ℝ} {S : Fin 128 → Fin 128 → ℝ}

/-- The kernel's strictly lower matrix is the chunk's. -/
theorem lowR_eq : lowR (fun t i => live K t.val i) (fun t => live B t.val) (fun t => cum (live G) t.val)
    = chunkL (live K) (live G) (live B) 128 := by
  funext t s
  unfold lowR chunkL decR
  by_cases h : s.val < t.val
  · rw [if_pos h, if_pos h, if_pos (by omega)]
    congr 1
    rw [Finset.mul_sum]
    exact Finset.sum_congr rfl fun l _ => by ring
  · rw [if_neg h, if_neg h]

/-- Its entries lie among the first eight tokens. -/
theorem within_chunkL : within 3 (chunkL (live K) (live G) (live B) 128) = chunkL (live K) (live G) (live B) 128 := by
  funext t s
  unfold within
  split
  · rfl
  · rename_i h
    symm
    unfold chunkL
    by_cases hs : s.val < t.val
    · have ht : ¬ t.val < 8 := by omega
      rw [if_pos hs]
      have hb : live B t.val = 0 := if_neg ht
      rw [hb, zero_mul, zero_mul]
    · exact if_neg hs

/-- The corrections. -/
theorem uOf_lift (hk : IsM k (fun t i => live K t.val i)) (hv : IsM v (fun t i => live V t.val i)) (hs : IsM s S)
    (hb : IsC beta (fun t => live B t.val)) (hg : IsC gc (fun t => cum (live G) t.val)) :
    IsM (uOf k v beta gc s) (fun t j => corr (live K) (live V) (live G) (live B) S t.val j) := by
  intro t j
  unfold uOf
  have hT := inv3_lift (lMat_lift hk hb hg)
  rw [lowR_eq] at hT
  rw [u_lift hT hk hv hs hb hg t j]
  refine congrArg _ (Eq.trans ?_ (solve_corr (live K) (live V) (live G) (live B) S (levelInv (chunkL (live K) (live G) (live B) 128) 2)
    (levelInv_left (strictLower_chunkL _ _ _ _) 2 within_chunkL) t j))
  refine congrArg₂ (· - ·) ?_ ?_
  · exact Finset.sum_congr rfl fun x _ => by rw [mul_comm (live V x.val j)]
  · refine Finset.sum_congr rfl fun l _ => ?_
    refine congrArg (· * S l j) (Finset.sum_congr rfl fun x _ => ?_)
    rw [mul_comm (live K x.val l)]

/-- The output rows of the eight tokens. -/
theorem oMat_lift (hq : IsM q (fun t i => live Q t.val i)) (hk : IsM k (fun t i => live K t.val i))
    (hv : IsM v (fun t i => live V t.val i)) (hs : IsM s S)
    (hb : IsC beta (fun t => live B t.val)) (hg : IsC gc (fun t => cum (live G) t.val)) (t : Fin 128) (ht : t.val < 8)
    (j : Fin 128) : oMat q k gc s (uOf k v beta gc s) (ix2 t j)
      = ((∑ i, stepState K V G B S (t.val + 1) i j * Q t.val i : ℝ) : EReal) := by
  rw [o_lift hq hk hs hg (uOf_lift hk hv hs hb hg) t j]
  refine congrArg _ ?_
  have h := output_eq (live K) (live V) (live G) (live B) S (live Q t.val) t j
  rw [stepState_live K V G B S (t.val + 1) (by omega)] at h
  refine Eq.trans h ?_
  rw [live_of_lt Q ht]

/-- The state after the eight tokens. -/
theorem sNew_lift (hk : IsM k (fun t i => live K t.val i))
    (hv : IsM v (fun t i => live V t.val i)) (hs : IsM s S)
    (hb : IsC beta (fun t => live B t.val)) (hg : IsC gc (fun t => cum (live G) t.val)) (i j : Fin 128) :
    sNew k gc s (uOf k v beta gc s) (ix2 i j) = ((stepState K V G B S 8 i j : ℝ) : EReal) := by
  rw [s_lift hk hs hg (uOf_lift hk hv hs hb hg) i j]
  congr 1
  have h := final_eq (live K) (live V) (live G) (live B) S (n := 127) i j
  rw [stepState_padded] at h
  exact h

end

theorem outGate_eq (o : FVec Ideal S128x128 .f32) (z : Vec Ideal S1x8x128 .f32) (gw : Vec Ideal S1x128 .f32) (a : Fin 8)
    (b : Fin 128) : outGate o z gw (ix3 (0 : Fin 1) a b)
      = gateRow (fun x => o (ix2 (⟨a.val, by omega⟩ : Fin 128) x)) (fun x => z (ix3 (0 : Fin 1) a x))
          (fun x => gw (ix2 (0 : Fin 1) x)) b := by
  pointwise [outGate, siluK]
  rfl

section
variable {x0 x3 : Vec Ideal S4x8x1536 .f32} {x1 : Vec Ideal S4x8x8 .f32} {x2 : Vec Ideal S4x8x512 .f32}
  {x4 : Vec Ideal S4x4x128x128 .f32} {x5 : Vec Ideal S4x1536 .f32} {x6 x7 : Vec Ideal S1x8 .f32} {x8 : Vec Ideal S1x128 .f32}
  {g : Fin 4} {up : ℕ → Fin 1536 → ℝ} {W : Fin 4 → Fin 1536 → ℝ} {a b : ℕ → Fin 4 → ℝ} {al db : Fin 4 → ℝ}
  {S0 : Fin 4 → Fin 128 → Fin 128 → ℝ}

/-- The operands of one sequence of the block are these real numbers. -/
structure SeqIs (x0 x3 : Vec Ideal S4x8x1536 .f32) (x1 : Vec Ideal S4x8x8 .f32) (x4 : Vec Ideal S4x4x128x128 .f32)
    (x5 : Vec Ideal S4x1536 .f32) (x6 x7 : Vec Ideal S1x8 .f32) (g : Fin 4) (up : ℕ → Fin 1536 → ℝ)
    (W : Fin 4 → Fin 1536 → ℝ) (a b : ℕ → Fin 4 → ℝ) (al db : Fin 4 → ℝ) (S0 : Fin 4 → Fin 128 → Fin 128 → ℝ) : Prop where
  rows : ExtIs x0 x3 g up
  weights : ∀ i c, x5 (ix2 i c) = ((W i c : ℝ) : EReal)
  decays : ∀ (t : Fin 8) (h : Fin 4), x1 (ix3 g t (⟨h.val, by omega⟩ : Fin 8)) = ((a t.val h : ℝ) : EReal)
  writes : ∀ (t : Fin 8) (h : Fin 4), x1 (ix3 g t (⟨h.val + 4, by omega⟩ : Fin 8)) = ((b t.val h : ℝ) : EReal)
  alog : ∀ h : Fin 4, x6 (ix2 (0 : Fin 1) (⟨h.val, by omega⟩ : Fin 8)) = ((al h : ℝ) : EReal)
  bias : ∀ h : Fin 4, x7 (ix2 (0 : Fin 1) (⟨h.val, by omega⟩ : Fin 8)) = ((db h : ℝ) : EReal)
  state : ∀ (h : Fin 4) (i j : Fin 128), x4 (ix4 g h i j) = ((S0 h i j : ℝ) : EReal)

theorem asSt_lift (h : Fin 4) (hs : ∀ i j, x4 (ix4 g h i j) = ((S0 h i j : ℝ) : EReal)) :
    IsM (asSt (stHead x4 g h)) (S0 h) := by
  intro i j
  have e : asSt (stHead x4 g h) (ix2 i j) = stHead x4 g h (ix4 (0 : Fin 1) (0 : Fin 1) i j) := by
    generalize stHead x4 g h = z
    pointwise [asSt]
  rw [e]
  exact hs i j

/-- A head's output block. -/
theorem outHead_lift (H : SeqIs x0 x3 x1 x4 x5 x6 x7 g up W a b al db S0) (h : Fin 4) (t : Fin 8) (e : Fin 128) :
    outHead x0 x3 x1 x2 x4 x5 x6 x7 x8 g h (ix3 (0 : Fin 1) t e)
      = gateRow (fun j => ((outS up W a b al db S0 h t.val j : ℝ) : EReal))
          (fun j => x2 (ix3 g t ⟨128 * h.val + j.val, by omega⟩)) (fun j => x8 (ix2 (0 : Fin 1) j)) e := by
  have hq := prepHead_lift _ _ (prepQ_lift H.rows H.weights h)
  have hk := prepHead_lift _ _ (prepK_lift H.rows H.weights h)
  have hv := prepHead_lift _ _ (prepV_lift H.rows H.weights h)
  have hs := asSt_lift h (H.state h)
  have hb := betaHead_lift h b (fun t => H.writes t h)
  have hg := gcHead_lift h a al db (fun t => H.decays t h) (H.alog h) (H.bias h)
  unfold outHead headOut
  rw [outGate_eq]
  congr 1
  funext j
  exact oMat_lift hq hk hv hs hb hg ⟨t.val, by omega⟩ t.isLt j

/-- A matrix stored as a head's state keeps its entries. -/
theorem cast_state (z : FVec Ideal S128x128 .f32) (i j : Fin 128) :
    shapeCast S1x1x128x128 z shapeCasts_S128x128_S1x1x128x128 (ix4 (0 : Fin 1) (0 : Fin 1) i j) = z (ix2 i j) := by
  pointwise

/-- A head's new state. -/
theorem newHead_lift (H : SeqIs x0 x3 x1 x4 x5 x6 x7 g up W a b al db S0) (h : Fin 4) (i j : Fin 128) :
    newHead x0 x3 x1 x4 x5 x6 x7 g h (ix4 (0 : Fin 1) (0 : Fin 1) i j) = ((stS up W a b al db S0 h 8 i j : ℝ) : EReal) := by
  have hk := prepHead_lift _ _ (prepK_lift H.rows H.weights h)
  have hv := prepHead_lift _ _ (prepV_lift H.rows H.weights h)
  have hs := asSt_lift h (H.state h)
  have hb := betaHead_lift h b (fun t => H.writes t h)
  have hg := gcHead_lift h a al db (fun t => H.decays t h) (H.alog h) (H.bias h)
  unfold newHead headSt
  exact (cast_state _ i j).trans (sNew_lift hk hv hs hb hg i j)

end

end Cert.Gdn
-- ==== Proof.RefEntry.lean ====
module

public import proofs.«01_k».proof.Proof.Gen.ReferenceIdeal.Run
public import Idealize.ShloMosaic.Lib.StableHlo.RunClose

/-! What the reference's loop starts from: the scanned queries, keys, values, log-decays and write strengths, and the
    state, as functions of the arguments. -/

@[expose] public section

noncomputable section

namespace Cert.Gdn.Ref

open Idealize.ShloMosaic Idealize.ShloMosaic.StableHlo Idealize.ShloMosaic.TcCoe
open Cert.ReferenceIdeal Cert.ReferenceIdeal.Gen Cert.ReferenceIdeal.Value

variable {F : FTy → Type} [FloatOps F]

/-- The buffered rows followed by the sequence's rows. -/
def upR (y : FVec F S32x8x7176 .f32) (cache : FVec F S32x3x1536 .f32) : FVec F S32x11x1536 .f32 :=
  concatenate S32x11x1536 1 [⟨S32x3x1536, cache⟩, ⟨S32x8x1536,
    extractStridedSlice S32x8x1536 ![0, 0, 0] y slices_S32x8x7176_S32x8x1536_0_0_0⟩]
    concatenates_S32x3x1536_S32x8x1536_S32x11x1536_d1

/-- The four-tap convolution, from zero. -/
def convR (up : FVec F S32x11x1536 .f32) (w : FVec F S4x1536 .f32) : FVec F S32x8x1536 .f32 :=
  addf (addf (addf (addf (broadcastInDim S32x8x1536 ![] bcast_S_S32x8x1536 (constant S_ .f32 0x00000000#32))
    (mulf (extractStridedSlice S32x8x1536 ![0, 0, 0] up slices_S32x11x1536_S32x8x1536_0_0_0)
      (broadcastInDim S32x8x1536 ![0, 1, 2] bcast_S1x1x1536_S32x8x1536_0_1_2 (broadcastInDim S1x1x1536 ![2] bcast_S1536_S1x1x1536_2
        (shapeCast S1536 (extractStridedSlice S1x1536 ![0, 0] w slices_S4x1536_S1x1536_0_0) shapeCasts_S1x1536_S1536)))))
    (mulf (extractStridedSlice S32x8x1536 ![0, 1, 0] up slices_S32x11x1536_S32x8x1536_0_1_0)
      (broadcastInDim S32x8x1536 ![0, 1, 2] bcast_S1x1x1536_S32x8x1536_0_1_2 (broadcastInDim S1x1x1536 ![2] bcast_S1536_S1x1x1536_2
        (shapeCast S1536 (extractStridedSlice S1x1536 ![1, 0] w slices_S4x1536_S1x1536_1_0) shapeCasts_S1x1536_S1536)))))
    (mulf (extractStridedSlice S32x8x1536 ![0, 2, 0] up slices_S32x11x1536_S32x8x1536_0_2_0)
      (broadcastInDim S32x8x1536 ![0, 1, 2] bcast_S1x1x1536_S32x8x1536_0_1_2 (broadcastInDim S1x1x1536 ![2] bcast_S1536_S1x1x1536_2
        (shapeCast S1536 (extractStridedSlice S1x1536 ![2, 0] w slices_S4x1536_S1x1536_2_0) shapeCasts_S1x1536_S1536)))))
    (mulf (extractStridedSlice S32x8x1536 ![0, 3, 0] up slices_S32x11x1536_S32x8x1536_0_3_0)
      (broadcastInDim S32x8x1536 ![0, 1, 2] bcast_S1x1x1536_S32x8x1536_0_1_2 (broadcastInDim S1x1x1536 ![2] bcast_S1536_S1x1x1536_2
        (shapeCast S1536 (extractStridedSlice S1x1536 ![3, 0] w slices_S4x1536_S1x1536_3_0) shapeCasts_S1x1536_S1536))))

/-- `x · 1/(1 + exp(−x))`. -/
def siluR (x : FVec F S32x8x1536 .f32) : FVec F S32x8x1536 .f32 :=
  mulf x (Host.divf (broadcastInDim S32x8x1536 ![] bcast_S_S32x8x1536 (constant S_ .f32 0x3F800000#32))
    (addf (broadcastInDim S32x8x1536 ![] bcast_S_S32x8x1536 (constant S_ .f32 0x3F800000#32)) (Host.exp (Host.negf x))))

/-- Each head's row over its length. -/
def l2R (x : FVec F S32x8x4x128 .f32) : FVec F S32x8x4x128 .f32 :=
  mulf x (broadcastInDim S32x8x4x128 ![0, 1, 2, 3] bcast_S32x8x4x1_S32x8x4x128_0_1_2_3 (Host.rsqrt
    (addf (broadcastInDim S32x8x4x1 ![0, 1, 2] bcast_S32x8x4_S32x8x4x1_0_1_2
        (Host.reduceAdd (mulf x x) (constant S_ .f32 0x00000000#32) reducesTo_S32x8x4x128_S32x8x4_d3 h_S_))
      (broadcastInDim S32x8x4x1 ![] bcast_S_S32x8x4x1 (constant S_ .f32 0x358637BD#32)))))

/-- The scanned queries. -/
def qR (x : FVec F S32x8x1536 .f32) : FVec F S8x32x4x128 .f32 :=
  transpose S8x32x4x128 [1, 0, 2, 3] (mulf (l2R (shapeCast S32x8x4x128
      (extractStridedSlice S32x8x512 ![0, 0, 0] x slices_S32x8x1536_S32x8x512_0_0_0) shapeCasts_S32x8x512_S32x8x4x128))
    (broadcastInDim S32x8x4x128 ![] bcast_S_S32x8x4x128 (constant S_ .f32 0x3DB504F3#32)))
    transposes_S32x8x4x128_S8x32x4x128_1_0_2_3

/-- The scanned keys. -/
def kR (x : FVec F S32x8x1536 .f32) : FVec F S8x32x4x128 .f32 :=
  transpose S8x32x4x128 [1, 0, 2, 3] (l2R (shapeCast S32x8x4x128
      (extractStridedSlice S32x8x512 ![0, 0, 512] x slices_S32x8x1536_S32x8x512_0_0_512) shapeCasts_S32x8x512_S32x8x4x128))
    transposes_S32x8x4x128_S8x32x4x128_1_0_2_3

/-- The scanned values. -/
def vR (x : FVec F S32x8x1536 .f32) : FVec F S8x32x4x128 .f32 :=
  transpose S8x32x4x128 [1, 0, 2, 3] (shapeCast S32x8x4x128
      (extractStridedSlice S32x8x512 ![0, 0, 1024] x slices_S32x8x1536_S32x8x512_0_0_1024) shapeCasts_S32x8x512_S32x8x4x128)
    transposes_S32x8x4x128_S8x32x4x128_1_0_2_3

/-- `log(1 + exp x)`, from the larger of `x` and zero. -/
def softplusR (x : FVec F S32x8x4 .f32) : FVec F S32x8x4 .f32 :=
  let z : FVec F S32x8x4 .f32 := broadcastInDim S32x8x4 ![] bcast_S_S32x8x4 (constant S_ .f32 0x00000000#32)
  select (cmpf .une (subf x z) (subf x z)) (addf x z)
    (addf (maximumf x z) (Host.log1p (Host.exp (Host.negf (Host.absf (subf x z))))))

/-- The scanned log-decays. -/
def gR (y : FVec F S32x8x7176 .f32) (alog dtb : FVec F S4 .f32) : FVec F S8x32x4 .f32 :=
  transpose S8x32x4 [1, 0, 2] (mulf (broadcastInDim S32x8x4 ![0, 1, 2] bcast_S1x1x4_S32x8x4_0_1_2
      (broadcastInDim S1x1x4 ![2] bcast_S4_S1x1x4_2 (Host.negf (Host.exp alog))))
    (softplusR (addf (extractStridedSlice S32x8x4 ![0, 0, 2048] y slices_S32x8x7176_S32x8x4_0_0_2048)
      (broadcastInDim S32x8x4 ![0, 1, 2] bcast_S1x1x4_S32x8x4_0_1_2 (broadcastInDim S1x1x4 ![2] bcast_S4_S1x1x4_2 dtb)))))
    transposes_S32x8x4_S8x32x4_1_0_2

/-- The scanned write strengths. -/
def betaR (y : FVec F S32x8x7176 .f32) : FVec F S8x32x4 .f32 :=
  transpose S8x32x4 [1, 0, 2] (Host.divf (broadcastInDim S32x8x4 ![] bcast_S_S32x8x4 (constant S_ .f32 0x3F800000#32))
    (addf (broadcastInDim S32x8x4 ![] bcast_S_S32x8x4 (constant S_ .f32 0x3F800000#32))
      (Host.exp (Host.negf (extractStridedSlice S32x8x4 ![0, 0, 2052] y slices_S32x8x7176_S32x8x4_0_0_2052)))))
    transposes_S32x8x4_S8x32x4_1_0_2

/-- The state at the start. -/
def sR (s : FVec F S2x32x4x128x128 .f32) : FVec F S32x4x128x128 .f32 :=
  shapeCast S32x4x128x128 (extractStridedSlice S1x32x4x128x128 ![1, 0, 0, 0, 0] s
    slices_S2x32x4x128x128_S1x32x4x128x128_1_0_0_0_0) shapeCasts_S1x32x4x128x128_S32x4x128x128

section
variable (m : (ℓ : Loc nD τ sig) → Buf (Elt F) ℓ) (c : Dev nD)

/-- An argument of the launch. -/
abbrev arg (b : Ref sig .tc) : (Proc.devRef .tc b : DevRef τ sig).ty.Contents (Elt F) :=
  m ((c.tc : Thread nD τ).loc b)

/-- The convolved, activated rows. -/
def xR : FVec F S32x8x1536 .f32 :=
  siluR (convR (upR (m ((c.tc : Thread nD τ).loc main_arg0)) (m ((c.tc : Thread nD τ).loc main_arg1)))
    (m ((c.tc : Thread nD τ).loc main_arg3)))

set_option maxRecDepth 8192 in
set_option maxHeartbeats 4000000 in
theorem entry_0 : entryContents preI m c (Proc.devRef .tc main_v88_0) = qR (xR m c) := by
  show afterL preI (launchContents m c) (Proc.devRef .tc main_v88_0) = _
  simp only [preI, afterL_cons, afterL_nil, hostOps0, hostOps0_1, hostOps0_2, hostOps0_3, hostOps0_4]
  after_results_entrywise []

set_option maxRecDepth 8192 in
set_option maxHeartbeats 4000000 in
theorem entry_1 : entryContents preI m c (Proc.devRef .tc main_v88_1) = kR (xR m c) := by
  show afterL preI (launchContents m c) (Proc.devRef .tc main_v88_1) = _
  simp only [preI, afterL_cons, afterL_nil, hostOps0, hostOps0_1, hostOps0_2, hostOps0_3, hostOps0_4]
  after_results_entrywise []

set_option maxRecDepth 8192 in
set_option maxHeartbeats 4000000 in
theorem entry_2 : entryContents preI m c (Proc.devRef .tc main_v88_2) = vR (xR m c) := by
  show afterL preI (launchContents m c) (Proc.devRef .tc main_v88_2) = _
  simp only [preI, afterL_cons, afterL_nil, hostOps0, hostOps0_1, hostOps0_2, hostOps0_3, hostOps0_4]
  after_results_entrywise []

set_option maxRecDepth 8192 in
set_option maxHeartbeats 4000000 in
theorem entry_3 : entryContents preI m c (Proc.devRef .tc main_v88_3) = gR (m ((c.tc : Thread nD τ).loc main_arg0)) (m ((c.tc : Thread nD τ).loc main_arg4)) (m ((c.tc : Thread nD τ).loc main_arg5)) := by
  show afterL preI (launchContents m c) (Proc.devRef .tc main_v88_3) = _
  simp only [preI, afterL_cons, afterL_nil, hostOps0, hostOps0_1, hostOps0_2, hostOps0_3, hostOps0_4]
  after_results_entrywise []

set_option maxRecDepth 8192 in
set_option maxHeartbeats 4000000 in
theorem entry_4 : entryContents preI m c (Proc.devRef .tc main_v88_4) = betaR (m ((c.tc : Thread nD τ).loc main_arg0)) := by
  show afterL preI (launchContents m c) (Proc.devRef .tc main_v88_4) = _
  simp only [preI, afterL_cons, afterL_nil, hostOps0, hostOps0_1, hostOps0_2, hostOps0_3, hostOps0_4]
  after_results_entrywise []

set_option maxRecDepth 8192 in
set_option maxHeartbeats 4000000 in
theorem entry_5 : entryContents preI m c (Proc.devRef .tc main_v88_5) = constantI S_ 32 0#32 := by
  show afterL preI (launchContents m c) (Proc.devRef .tc main_v88_5) = _
  simp only [preI, afterL_cons, afterL_nil, hostOps0, hostOps0_1, hostOps0_2, hostOps0_3, hostOps0_4]
  after_results_entrywise []

set_option maxRecDepth 8192 in
set_option maxHeartbeats 4000000 in
theorem entry_6 : entryContents preI m c (Proc.devRef .tc main_v88_6) = sR (m ((c.tc : Thread nD τ).loc main_arg2)) := by
  show afterL preI (launchContents m c) (Proc.devRef .tc main_v88_6) = _
  simp only [preI, afterL_cons, afterL_nil, hostOps0, hostOps0_1, hostOps0_2, hostOps0_3, hostOps0_4]
  after_results_entrywise []

set_option maxRecDepth 8192 in
set_option maxHeartbeats 4000000 in
theorem entry_7 : entryContents preI m c (Proc.devRef .tc main_v88_7) = broadcastInDim S8x32x4x128 ![] bcast_S_S8x32x4x128 (constant S_ .f32 0x00000000#32) := by
  show afterL preI (launchContents m c) (Proc.devRef .tc main_v88_7) = _
  simp only [preI, afterL_cons, afterL_nil, hostOps0, hostOps0_1, hostOps0_2, hostOps0_3, hostOps0_4]
  after_results_entrywise []

end

end Cert.Gdn.Ref
-- ==== Proof.RefStep.lean ====
module

public import proofs.«01_k».proof.Proof.RefEntry
public import proofs.«01_k».proof.Proof.Spec

/-! One trip of the reference's loop, at real entries: the state's next value and the token's output. -/

@[expose] public section

noncomputable section

namespace Cert.Gdn.Ref

open Idealize.ShloMosaic Idealize.ShloMosaic.StableHlo Idealize.ShloMosaic.TcCoe
open Cert.ReferenceIdeal Cert.ReferenceIdeal.Gen Cert.ReferenceIdeal.Value

section
variable {F : FTy → Type} [FloatOps F]

/-- The decayed state. -/
def decSt (s : FVec F S32x4x128x128 .f32) (g : FVec F S32x4 .f32) : FVec F S32x4x128x128 .f32 :=
  mulf s (broadcastInDim S32x4x128x128 ![0, 1, 2, 3] bcast_S32x4x1x1_S32x4x128x128_0_1_2_3
    (broadcastInDim S32x4x1x1 ![0, 1] bcast_S32x4_S32x4x1x1_0_1 (Host.exp g)))

/-- A state read by a row. -/
def readSt (s : FVec F S32x4x128x128 .f32) (k : FVec F S32x4x128 .f32) : FVec F S32x4x128 .f32 :=
  Host.dotGeneral dot_S32x4x128x128_S32x4x128_S32x4x128_2_2_3_n_01_01 none s k

/-- The decayed state with the token's correction written. -/
def nextSt (s : FVec F S32x4x128x128 .f32) (k v : FVec F S32x4x128 .f32) (b : FVec F S32x4 .f32) :
    FVec F S32x4x128x128 .f32 :=
  addf s (mulf (broadcastInDim S32x4x128x128 ![0, 1, 2, 3] bcast_S32x4x128x1_S32x4x128x128_0_1_2_3
      (broadcastInDim S32x4x128x1 ![0, 1, 2] bcast_S32x4x128_S32x4x128x1_0_1_2 k))
    (broadcastInDim S32x4x128x128 ![0, 1, 2, 3] bcast_S32x4x1x128_S32x4x128x128_0_1_2_3
      (broadcastInDim S32x4x1x128 ![0, 1, 3] bcast_S32x4x128_S32x4x1x128_0_1_3
        (mulf (broadcastInDim S32x4x128 ![0, 1, 2] bcast_S32x4x1_S32x4x128_0_1_2
            (broadcastInDim S32x4x1 ![0, 1] bcast_S32x4_S32x4x1_0_1 b)) (subf v (readSt s k))))))

/-- The loop's counter as the start of a slice. -/
def at4 (n : Vec F S_ .i32) : Fin 4 → Int := fun k =>
  ((![n, constantI S_ 32 0#32, constantI S_ 32 0#32, constantI S_ 32 0#32] : Fin 4 → (⟨S_, .i32⟩ : BufTy).Contents (Elt F)) k
    (Shape.Idx.first h_S_)).toInt

def at3 (n : Vec F S_ .i32) : Fin 3 → Int := fun k =>
  ((![n, constantI S_ 32 0#32, constantI S_ 32 0#32] : Fin 3 → (⟨S_, .i32⟩ : BufTy).Contents (Elt F)) k
    (Shape.Idx.first h_S_)).toInt

/-- A token's row of a scanned array of rows. -/
def row4 (x : FVec F S8x32x4x128 .f32) (n : Vec F S_ .i32) : FVec F S32x4x128 .f32 :=
  shapeCast S32x4x128 (Host.dynamicSlice S1x32x4x128 x (at4 n) sliceFits_S8x32x4x128_S1x32x4x128)
    shapeCasts_S1x32x4x128_S32x4x128

/-- A token's gates. -/
def row3 (x : FVec F S8x32x4 .f32) (n : Vec F S_ .i32) : FVec F S32x4 .f32 :=
  shapeCast S32x4 (Host.dynamicSlice S1x32x4 x (at3 n) sliceFits_S8x32x4_S1x32x4) shapeCasts_S1x32x4_S32x4

/-- The outputs with a token's row stored. -/
def putRow (o : FVec F S8x32x4x128 .f32) (r : FVec F S32x4x128 .f32) (n : Vec F S_ .i32) : FVec F S8x32x4x128 .f32 :=
  Host.dynamicUpdateSlice o (broadcastInDim S1x32x4x128 ![1, 2, 3] bcast_S32x4x128_S1x32x4x128_1_2_3 r) (at4 n)
    updateFits_S8x32x4x128_S1x32x4x128

theorem step_state (V : Valuation τ sig (Elt F)) : STEP V (Proc.devRef .tc main_v88_6)
    = nextSt (decSt (V (Proc.devRef .tc main_v88_6)) (row3 (V (Proc.devRef .tc main_v88_3)) (V (Proc.devRef .tc main_v88_5))))
        (row4 (V (Proc.devRef .tc main_v88_1)) (V (Proc.devRef .tc main_v88_5)))
        (row4 (V (Proc.devRef .tc main_v88_2)) (V (Proc.devRef .tc main_v88_5)))
        (row3 (V (Proc.devRef .tc main_v88_4)) (V (Proc.devRef .tc main_v88_5))) :=
  STEP_main_v88_6 V

theorem step_out (V : Valuation τ sig (Elt F)) : STEP V (Proc.devRef .tc main_v88_7)
    = putRow (V (Proc.devRef .tc main_v88_7)) (readSt (STEP V (Proc.devRef .tc main_v88_6))
        (row4 (V (Proc.devRef .tc main_v88_0)) (V (Proc.devRef .tc main_v88_5)))) (V (Proc.devRef .tc main_v88_5)) := by
  rw [STEP_main_v88_6 V]
  exact STEP_main_v88_7 V

end

/-! ## At real entries -/

theorem at4_zero (t : Nat) (ht : t < 8) : at4 (F := Ideal) (constantI S_ 32 (BitVec.ofNat 32 t)) 0 = (t : Int) := by
  show (BitVec.ofNat 32 t).toInt = _
  interval_cases t <;> rfl

theorem at3_zero (t : Nat) (ht : t < 8) : at3 (F := Ideal) (constantI S_ 32 (BitVec.ofNat 32 t)) 0 = (t : Int) := by
  show (BitVec.ofNat 32 t).toInt = _
  interval_cases t <;> rfl

theorem row4_apply (x : FVec Ideal S8x32x4x128 .f32) (t : Fin 8) (n : Fin 32) (h : Fin 4) (i : Fin 128) :
    row4 x (constantI S_ 32 (BitVec.ofNat 32 t.val)) (ix3 n h i) = x (ix4 t n h i) := by
  have h0 := at4_zero t.val t.isLt
  unfold row4
  generalize hs : at4 (F := Ideal) (constantI S_ 32 (BitVec.ofNat 32 t.val)) = st at h0 ⊢
  have h1 : st 1 = (0 : Nat) := by rw [← hs]; rfl
  have h2 : st 2 = (0 : Nat) := by rw [← hs]; rfl
  have h3 : st 3 = (0 : Nat) := by rw [← hs]; rfl
  pointwise
  have c0 : ∀ e, Host.clampedStart S8x32x4x128 S1x32x4x128 e st 0 = t.val := fun e =>
    Host.clampedStart_of_le e st 0 t.val h0 (by show t.val + 1 ≤ 8; omega)
  have c1 : ∀ e, Host.clampedStart S8x32x4x128 S1x32x4x128 e st 1 = 0 := fun e =>
    Host.clampedStart_of_le e st 1 0 h1 (by show 0 + 32 ≤ 32; omega)
  have c2 : ∀ e, Host.clampedStart S8x32x4x128 S1x32x4x128 e st 2 = 0 := fun e =>
    Host.clampedStart_of_le e st 2 0 h2 (by show 0 + 4 ≤ 4; omega)
  have c3 : ∀ e, Host.clampedStart S8x32x4x128 S1x32x4x128 e st 3 = 0 := fun e =>
    Host.clampedStart_of_le e st 3 0 h3 (by show 0 + 128 ≤ 128; omega)
  simp only [c0, c1, c2, c3, Nat.zero_add]

theorem row3_apply (x : FVec Ideal S8x32x4 .f32) (t : Fin 8) (n : Fin 32) (h : Fin 4) :
    row3 x (constantI S_ 32 (BitVec.ofNat 32 t.val)) (ix2 n h) = x (ix3 t n h) := by
  have h0 := at3_zero t.val t.isLt
  unfold row3
  generalize hs : at3 (F := Ideal) (constantI S_ 32 (BitVec.ofNat 32 t.val)) = st at h0 ⊢
  have h1 : st 1 = (0 : Nat) := by rw [← hs]; rfl
  have h2 : st 2 = (0 : Nat) := by rw [← hs]; rfl
  have c0 : ∀ e, Host.clampedStart S8x32x4 S1x32x4 e st 0 = t.val := fun e =>
    Host.clampedStart_of_le e st 0 t.val h0 (by show t.val + 1 ≤ 8; omega)
  have c1 : ∀ e, Host.clampedStart S8x32x4 S1x32x4 e st 1 = 0 := fun e =>
    Host.clampedStart_of_le e st 1 0 h1 (by show 0 + 32 ≤ 32; omega)
  have c2 : ∀ e, Host.clampedStart S8x32x4 S1x32x4 e st 2 = 0 := fun e =>
    Host.clampedStart_of_le e st 2 0 h2 (by show 0 + 4 ≤ 4; omega)
  pointwise
  simp only [c0, c1, c2, Nat.zero_add]

theorem decSt_lift {s : FVec Ideal S32x4x128x128 .f32} {g : FVec Ideal S32x4 .f32} (n : Fin 32) (h : Fin 4)
    {S : Fin 128 → Fin 128 → ℝ} {G : ℝ} (hs : ∀ i j, s (ix4 n h i j) = ((S i j : ℝ) : EReal)) (hg : g (ix2 n h) = ((G : ℝ) : EReal))
    (i j : Fin 128) : decSt s g (ix4 n h i j) = ((S i j * Real.exp G : ℝ) : EReal) := by
  pointwise [decSt]
  rw [hs, hg, Ideal.exp_coe, ← EReal.coe_mul]

theorem readSt_lift {s : FVec Ideal S32x4x128x128 .f32} {k : FVec Ideal S32x4x128 .f32} (n : Fin 32) (h : Fin 4)
    {S : Fin 128 → Fin 128 → ℝ} {K : Fin 128 → ℝ} (hs : ∀ i j, s (ix4 n h i j) = ((S i j : ℝ) : EReal))
    (hk : ∀ i, k (ix3 n h i) = ((K i : ℝ) : EReal)) (j : Fin 128) :
    readSt s k (ix3 n h j) = ((∑ l, S l j * K l : ℝ) : EReal) := by
  pointwise [readSt]
  simp only [hs _ _, hk _, ← EReal.coe_mul, coe_sum]

theorem nextSt_lift {s : FVec Ideal S32x4x128x128 .f32} {k v : FVec Ideal S32x4x128 .f32} {b : FVec Ideal S32x4 .f32}
    (n : Fin 32) (h : Fin 4)
    {S : Fin 128 → Fin 128 → ℝ} {K V : Fin 128 → ℝ} {B : ℝ} (hs : ∀ i j, s (ix4 n h i j) = ((S i j : ℝ) : EReal))
    (hk : ∀ i, k (ix3 n h i) = ((K i : ℝ) : EReal)) (hv : ∀ i, v (ix3 n h i) = ((V i : ℝ) : EReal))
    (hb : b (ix2 n h) = ((B : ℝ) : EReal)) (i j : Fin 128) :
    nextSt s k v b (ix4 n h i j) = ((S i j + K i * (B * (V j - ∑ l, S l j * K l)) : ℝ) : EReal) := by
  have hr := readSt_lift n h hs hk
  pointwise [nextSt]
  rw [hs, hk, hv, hb, hr, ← EReal.coe_sub, ← EReal.coe_mul, ← EReal.coe_mul, ← EReal.coe_add]

theorem putRow_apply (o : FVec Ideal S8x32x4x128 .f32) (r : FVec Ideal S32x4x128 .f32) (t s : Fin 8) (n : Fin 32) (h : Fin 4)
    (i : Fin 128) : putRow o r (constantI S_ 32 (BitVec.ofNat 32 t.val)) (ix4 s n h i)
      = if s = t then r (ix3 n h i) else o (ix4 s n h i) := by
  have h0 := at4_zero t.val t.isLt
  unfold putRow
  generalize hs : at4 (F := Ideal) (constantI S_ 32 (BitVec.ofNat 32 t.val)) = st at h0 ⊢
  have h1 : st 1 = (0 : Nat) := by rw [← hs]; rfl
  have h2 : st 2 = (0 : Nat) := by rw [← hs]; rfl
  have h3 : st 3 = (0 : Nat) := by rw [← hs]; rfl
  pointwise
  have c0 : ∀ e, Host.clampedStart S8x32x4x128 S1x32x4x128 e st 0 = t.val := fun e =>
    Host.clampedStart_of_le e st 0 t.val h0 (by show t.val + 1 ≤ 8; omega)
  have c1 : ∀ e, Host.clampedStart S8x32x4x128 S1x32x4x128 e st 1 = 0 := fun e =>
    Host.clampedStart_of_le e st 1 0 h1 (by show 0 + 32 ≤ 32; omega)
  have c2 : ∀ e, Host.clampedStart S8x32x4x128 S1x32x4x128 e st 2 = 0 := fun e =>
    Host.clampedStart_of_le e st 2 0 h2 (by show 0 + 4 ≤ 4; omega)
  have c3 : ∀ e, Host.clampedStart S8x32x4x128 S1x32x4x128 e st 3 = 0 := fun e =>
    Host.clampedStart_of_le e st 3 0 h3 (by show 0 + 128 ≤ 128; omega)
  simp only [c0, c1, c2, c3, Nat.zero_add, Nat.sub_zero]
  by_cases e : s = t
  · subst e
    rw [if_pos rfl, dif_pos ⟨⟨le_rfl, by omega⟩, ⟨by omega, n.isLt⟩, ⟨by omega, h.isLt⟩, by omega, i.isLt⟩]
  · have e' : s.val ≠ t.val := fun q => e (Fin.ext q)
    rw [if_neg e, dif_neg (fun q => e' (by have := q.1; omega))]

end Cert.Gdn.Ref
-- ==== Proof.RefLift.lean ====
module

public import proofs.«01_k».proof.Proof.RefStep

/-! What the reference scans, at real arguments. -/

@[expose] public section

noncomputable section

namespace Cert.Gdn.Ref

open Idealize.ShloMosaic Idealize.ShloMosaic.StableHlo Idealize.ShloMosaic.TcCoe
open Cert.ReferenceIdeal Cert.ReferenceIdeal.Gen Cert.ReferenceIdeal.Value

section
variable {y : FVec Ideal S32x8x7176 .f32} {cache : FVec Ideal S32x3x1536 .f32} {w : FVec Ideal S4x1536 .f32}
  {Y : Fin 32 → Fin 8 → Fin 7176 → ℝ} {C : Fin 32 → Fin 3 → Fin 1536 → ℝ} {W : Fin 4 → Fin 1536 → ℝ}

theorem upR_lift (hy : ∀ n t c, y (ix3 n t c) = ((Y n t c : ℝ) : EReal))
    (hc : ∀ n r c, cache (ix3 n r c) = ((C n r c : ℝ) : EReal)) (n : Fin 32) (r : ℕ) (hr : r < 11) (c : Fin 1536) :
    upR y cache (ix3 n (⟨r, hr⟩ : Fin 11) c) = ((upS Y C n r c : ℝ) : EReal) := by
  pointwise [upR]
  unfold upS
  by_cases h : r < 3
  · rw [dif_pos h, dif_pos h]
    exact hc n ⟨r, h⟩ c
  · rw [dif_neg h, dif_neg h, hy]
    exact congrArg (fun z : Fin 8 => ((Y n z ⟨c.val, by omega⟩ : ℝ) : EReal)) (Fin.ext (by show r - 3 = min (r - 3) 7; omega))

theorem xR_lift (hy : ∀ n t c, y (ix3 n t c) = ((Y n t c : ℝ) : EReal))
    (hc : ∀ n r c, cache (ix3 n r c) = ((C n r c : ℝ) : EReal)) (hw : ∀ i c, w (ix2 i c) = ((W i c : ℝ) : EReal))
    (n : Fin 32) (t : Fin 8) (c : Fin 1536) :
    siluR (convR (upR y cache) w) (ix3 n t c) = ((actS (upS Y C n) W t.val c : ℝ) : EReal) := by
  have hu := upR_lift hy hc
  generalize upR y cache = up at hu ⊢
  have hcv : convR up w (ix3 n t c) = ((convS (upS Y C n) W t.val c : ℝ) : EReal) := by
    pointwise [convR]
    rw [hu, hu, hu, hu, hw, hw, hw, hw, Nat.add_comm 1 t.val, Nat.add_comm 2 t.val, Nat.add_comm 3 t.val]
    simp only [← EReal.coe_mul, ← EReal.coe_add]
    rfl
  generalize convR up w = z at hcv ⊢
  pointwise [siluR]
  rw [hcv, sigm_coe, ← EReal.coe_mul]
  rfl
end

section
variable {x : FVec Ideal S32x8x1536 .f32} {up : ℕ → Fin 1536 → ℝ} {W : Fin 4 → Fin 1536 → ℝ} {n : Fin 32}

theorem l2R_lift {x : FVec Ideal S32x8x4x128 .f32} {X : Fin 128 → ℝ} (n : Fin 32) (t : Fin 8) (h : Fin 4)
    (hx : ∀ l, x (ix4 n t h l) = ((X l : ℝ) : EReal)) (i : Fin 128) : l2R x (ix4 n t h i) = ((l2n X i : ℝ) : EReal) := by
  pointwise [l2R]
  simp only [hx _]
  exact l2n_coe X i

/-- A head's column of the scanned rows. -/
theorem col_eq (blk : Fin 12) (l : Fin 128) (p : Nat) (hp : p < 1536) (e : p = 128 * blk.val + l.val) :
    (⟨p, hp⟩ : Fin 1536) = colB blk l := Fin.ext e

theorem qR_lift (hx : ∀ (t : Fin 8) c, x (ix3 n t c) = ((actS up W t.val c : ℝ) : EReal)) (t : Fin 8) (h : Fin 4) (i : Fin 128) :
    qR x (ix4 t n h i) = ((qS up W h t.val i : ℝ) : EReal) := by
  have hl := l2R_lift (x := shapeCast S32x8x4x128
      (extractStridedSlice S32x8x512 ![0, 0, 0] x slices_S32x8x1536_S32x8x512_0_0_0) shapeCasts_S32x8x512_S32x8x4x128)
    (X := fun l => actS up W t.val (colB (blkQ h) l)) n t h (fun l => by
      pointwise
      rw [hx, col_eq (blkQ h) l _ _ (by show h.val * 128 + l.val = 128 * h.val + l.val; omega)]) i
  unfold qR
  generalize l2R (F := Ideal) _ = z at hl ⊢
  pointwise
  rw [hl, lit_scl, ← EReal.coe_mul]
  rfl

theorem kR_lift (hx : ∀ (t : Fin 8) c, x (ix3 n t c) = ((actS up W t.val c : ℝ) : EReal)) (t : Fin 8) (h : Fin 4) (i : Fin 128) :
    kR x (ix4 t n h i) = ((kS up W h t.val i : ℝ) : EReal) := by
  have hl := l2R_lift (x := shapeCast S32x8x4x128
      (extractStridedSlice S32x8x512 ![0, 0, 512] x slices_S32x8x1536_S32x8x512_0_0_512) shapeCasts_S32x8x512_S32x8x4x128)
    (X := fun l => actS up W t.val (colB (blkK h) l)) n t h (fun l => by
      pointwise
      rw [hx, col_eq (blkK h) l _ _ (by show 512 + (h.val * 128 + l.val) = 128 * (h.val + 4) + l.val; omega)]) i
  unfold kR
  generalize l2R (F := Ideal) _ = z at hl ⊢
  pointwise
  exact hl

theorem vR_lift (hx : ∀ (t : Fin 8) c, x (ix3 n t c) = ((actS up W t.val c : ℝ) : EReal)) (t : Fin 8) (h : Fin 4) (i : Fin 128) :
    vR x (ix4 t n h i) = ((vS up W h t.val i : ℝ) : EReal) := by
  pointwise [vR]
  rw [hx, col_eq (blkV h) i _ _ (by show 1024 + (h.val * 128 + i.val) = 128 * (h.val + 8) + i.val; omega)]
  rfl

end

section
variable {y : FVec Ideal S32x8x7176 .f32} {alog dtb : FVec Ideal S4 .f32} {st : FVec Ideal S2x32x4x128x128 .f32}
  {Y : Fin 32 → Fin 8 → Fin 7176 → ℝ} {al db : Fin 4 → ℝ}

theorem gR_lift (hy : ∀ n t c, y (ix3 n t c) = ((Y n t c : ℝ) : EReal)) (hal : ∀ h, alog (ix1 h) = ((al h : ℝ) : EReal))
    (hdb : ∀ h, dtb (ix1 h) = ((db h : ℝ) : EReal)) (n : Fin 32) (t : Fin 8) (h : Fin 4) :
    gR y alog dtb (ix3 t n h) = ((gS (aS Y n) al db h t.val : ℝ) : EReal) := by
  pointwise [gR, softplusR]
  rw [if_neg (fun q => q rfl), hy, hal, hdb, ← aS_eq Y n t h, ← EReal.coe_add]
  rw [Ideal.exp_coe, ← EReal.coe_neg]
  refine (congrArg (fun z => ((-Real.exp (al h) : ℝ) : EReal) * z) (softp_coe (aS Y n t.val h + db h))).trans ?_
  rw [← EReal.coe_mul]
  rfl

theorem betaR_lift (hy : ∀ n t c, y (ix3 n t c) = ((Y n t c : ℝ) : EReal)) (n : Fin 32) (t : Fin 8) (h : Fin 4) :
    betaR y (ix3 t n h) = ((bS (wS Y n) h t.val : ℝ) : EReal) := by
  pointwise [betaR]
  rw [hy, ← wS_eq Y n t h, sigm_coe]
  rfl

theorem sR_apply (n : Fin 32) (h : Fin 4) (i j : Fin 128) : sR st (ix4 n h i j) = st (ix5 1 n h i j) := by
  pointwise [sR]

end

end Cert.Gdn.Ref
-- ==== Proof.RefLoop.lean ====
module

public import proofs.«01_k».proof.Proof.RefLift

/-! The reference's loop at real entries: after `t` trips the state is the recurrence's and the first `t` tokens' outputs are
    stored. -/

@[expose] public section

noncomputable section

namespace Cert.Gdn.Ref

open Idealize.ShloMosaic Idealize.ShloMosaic.StableHlo Idealize.ShloMosaic.TcCoe
open Cert.ReferenceIdeal Cert.ReferenceIdeal.Gen Cert.ReferenceIdeal.Value

section
variable (Q K Vv : Fin 32 → Fin 4 → ℕ → Fin 128 → ℝ) (G B : Fin 32 → Fin 4 → ℕ → ℝ) (S0 : Fin 32 → Fin 4 → Fin 128 → Fin 128 → ℝ)

/-- The carried buffers after `t` trips. -/
structure At (V : Valuation τ sig (Elt Ideal)) (t : ℕ) : Prop where
  q : ∀ (s : Fin 8) n h i, (V (Proc.devRef .tc main_v88_0) : FVec Ideal S8x32x4x128 .f32) (ix4 s n h i) = ((Q n h s.val i : ℝ) : EReal)
  k : ∀ (s : Fin 8) n h i, (V (Proc.devRef .tc main_v88_1) : FVec Ideal S8x32x4x128 .f32) (ix4 s n h i) = ((K n h s.val i : ℝ) : EReal)
  v : ∀ (s : Fin 8) n h i, (V (Proc.devRef .tc main_v88_2) : FVec Ideal S8x32x4x128 .f32) (ix4 s n h i) = ((Vv n h s.val i : ℝ) : EReal)
  g : ∀ (s : Fin 8) n h, (V (Proc.devRef .tc main_v88_3) : FVec Ideal S8x32x4 .f32) (ix3 s n h) = ((G n h s.val : ℝ) : EReal)
  b : ∀ (s : Fin 8) n h, (V (Proc.devRef .tc main_v88_4) : FVec Ideal S8x32x4 .f32) (ix3 s n h) = ((B n h s.val : ℝ) : EReal)
  cnt : V (Proc.devRef .tc main_v88_5) = constantI S_ 32 (BitVec.ofNat 32 t)
  st : ∀ n h i j, (V (Proc.devRef .tc main_v88_6) : FVec Ideal S32x4x128x128 .f32) (ix4 n h i j)
    = ((stepState (K n h) (Vv n h) (G n h) (B n h) (S0 n h) t i j : ℝ) : EReal)
  out : ∀ (s : Fin 8) n h j, s.val < t → (V (Proc.devRef .tc main_v88_7) : FVec Ideal S8x32x4x128 .f32) (ix4 s n h j)
    = ((∑ i, stepState (K n h) (Vv n h) (G n h) (B n h) (S0 n h) (s.val + 1) i j * Q n h s.val i : ℝ) : EReal)

variable {Q K Vv G B S0}

theorem At.step {V : Valuation τ sig (Elt Ideal)} {t : ℕ} (H : At Q K Vv G B S0 V t) (ht : t < 8) :
    At Q K Vv G B S0 (STEP V) (t + 1) := by
  have hk : ∀ n h i, row4 (V (Proc.devRef .tc main_v88_1)) (V (Proc.devRef .tc main_v88_5)) (ix3 n h i) = ((K n h t i : ℝ) : EReal) :=
    fun n h i => by rw [H.cnt]; exact (row4_apply _ ⟨t, ht⟩ n h i).trans (H.k ⟨t, ht⟩ n h i)
  have hv : ∀ n h i, row4 (V (Proc.devRef .tc main_v88_2)) (V (Proc.devRef .tc main_v88_5)) (ix3 n h i) = ((Vv n h t i : ℝ) : EReal) :=
    fun n h i => by rw [H.cnt]; exact (row4_apply _ ⟨t, ht⟩ n h i).trans (H.v ⟨t, ht⟩ n h i)
  have hq : ∀ n h i, row4 (V (Proc.devRef .tc main_v88_0)) (V (Proc.devRef .tc main_v88_5)) (ix3 n h i) = ((Q n h t i : ℝ) : EReal) :=
    fun n h i => by rw [H.cnt]; exact (row4_apply _ ⟨t, ht⟩ n h i).trans (H.q ⟨t, ht⟩ n h i)
  have hg : ∀ n h, row3 (V (Proc.devRef .tc main_v88_3)) (V (Proc.devRef .tc main_v88_5)) (ix2 n h) = ((G n h t : ℝ) : EReal) :=
    fun n h => by rw [H.cnt]; exact (row3_apply _ ⟨t, ht⟩ n h).trans (H.g ⟨t, ht⟩ n h)
  have hb : ∀ n h, row3 (V (Proc.devRef .tc main_v88_4)) (V (Proc.devRef .tc main_v88_5)) (ix2 n h) = ((B n h t : ℝ) : EReal) :=
    fun n h => by rw [H.cnt]; exact (row3_apply _ ⟨t, ht⟩ n h).trans (H.b ⟨t, ht⟩ n h)
  have hst : ∀ n h i j, (STEP V (Proc.devRef .tc main_v88_6) : FVec Ideal S32x4x128x128 .f32) (ix4 n h i j)
      = ((stepState (K n h) (Vv n h) (G n h) (B n h) (S0 n h) (t + 1) i j : ℝ) : EReal) := by
    intro n h i j
    rw [step_state]
    exact nextSt_lift n h (decSt_lift n h (H.st n h) (hg n h)) (hk n h) (hv n h) (hb n h) i j
  refine ⟨?_, ?_, ?_, ?_, ?_, ?_, hst, ?_⟩
  · rw [STEP_main_v88_0]; exact H.q
  · rw [STEP_main_v88_1]; exact H.k
  · rw [STEP_main_v88_2]; exact H.v
  · rw [STEP_main_v88_3]; exact H.g
  · rw [STEP_main_v88_4]; exact H.b
  · rw [STEP_main_v88_5]
    show addi (V (Proc.devRef .tc main_v88_5)) (constantI S_ 32 1#32) = _
    rw [H.cnt]
    funext i
    show BitVec.ofNat 32 t + 1#32 = BitVec.ofNat 32 (t + 1)
    exact BitVec.ofNat_add_ofNat t 1
  · intro s n h j hs
    rw [step_out, H.cnt]
    refine (putRow_apply _ _ ⟨t, ht⟩ s n h j).trans ?_
    by_cases e : s = ⟨t, ht⟩
    · rw [if_pos e]
      subst e
      rw [← H.cnt]
      exact readSt_lift n h (hst n h) (hq n h) j
    · rw [if_neg e]
      exact H.out s n h j (by
        have : s.val ≠ t := fun q => e (Fin.ext q)
        omega)

theorem At.iter {V : Valuation τ sig (Elt Ideal)} (H : At Q K Vv G B S0 V 0) :
    ∀ t, t ≤ 8 → At Q K Vv G B S0 (STEP^[t] V) t
  | 0, _ => H
  | t + 1, ht => by
    rw [Function.iterate_succ_apply']
    exact (At.iter H t (by omega)).step (by omega)

end

end Cert.Gdn.Ref
-- ==== Proof.RefValue.lean ====
module

public import proofs.«01_k».proof.Proof.RefLoop

/-! The reference's results by element, at finite arguments. -/

@[expose] public section

noncomputable section

namespace Cert.Gdn.Ref

open Idealize.ShloMosaic Idealize.ShloMosaic.StableHlo Idealize.ShloMosaic.TcCoe
open Cert.ReferenceIdeal Cert.ReferenceIdeal.Gen Cert.ReferenceIdeal.Value

section
variable {m : (ℓ : Loc nD τ sig) → Buf (Elt Ideal) ℓ} {c : Dev nD}
  {Y : Fin 32 → Fin 8 → Fin 7176 → ℝ} {C : Fin 32 → Fin 3 → Fin 1536 → ℝ} {S : Fin 32 → Fin 4 → Fin 128 → Fin 128 → ℝ}
  {W : Fin 4 → Fin 1536 → ℝ} {al db : Fin 4 → ℝ}

/-- The arguments hold these real numbers. -/
structure ArgsAre (y : FVec Ideal S32x8x7176 .f32) (cache : FVec Ideal S32x3x1536 .f32)
    (st : FVec Ideal S2x32x4x128x128 .f32) (w : FVec Ideal S4x1536 .f32) (alog dtb : FVec Ideal S4 .f32)
    (Y : Fin 32 → Fin 8 → Fin 7176 → ℝ) (C : Fin 32 → Fin 3 → Fin 1536 → ℝ) (S : Fin 32 → Fin 4 → Fin 128 → Fin 128 → ℝ)
    (W : Fin 4 → Fin 1536 → ℝ) (al db : Fin 4 → ℝ) : Prop where
  y : ∀ n t c, y (ix3 n t c) = ((Y n t c : ℝ) : EReal)
  cache : ∀ n r c, cache (ix3 n r c) = ((C n r c : ℝ) : EReal)
  st : ∀ n h i j, st (ix5 (1 : Fin 2) n h i j) = ((S n h i j : ℝ) : EReal)
  w : ∀ i c, w (ix2 i c) = ((W i c : ℝ) : EReal)
  alog : ∀ h, alog (ix1 h) = ((al h : ℝ) : EReal)
  dtb : ∀ h, dtb (ix1 h) = ((db h : ℝ) : EReal)

variable (H : ArgsAre (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) Y C S W al db)

include H in
/-- The loop starts from the layer's scanned rows and the given state. -/
theorem at_entry : At (fun n h => qS (upS Y C n) W h) (fun n h => kS (upS Y C n) W h) (fun n h => vS (upS Y C n) W h)
    (fun n h => gS (aS Y n) al db h) (fun n h => bS (wS Y n) h) S (entryContents preI m c) 0 := by
  have hx := xR_lift H.y H.cache H.w
  refine ⟨?_, ?_, ?_, ?_, ?_, ?_, ?_, fun _ _ _ _ q => absurd q (Nat.not_lt_zero _)⟩
  · rw [entry_0]; exact fun s n h i => qR_lift (hx n) s h i
  · rw [entry_1]; exact fun s n h i => kR_lift (hx n) s h i
  · rw [entry_2]; exact fun s n h i => vR_lift (hx n) s h i
  · rw [entry_3]; exact fun s n h => gR_lift H.y H.alog H.dtb n s h
  · rw [entry_4]; exact fun s n h => betaR_lift H.y n s h
  · exact entry_5 m c
  · rw [entry_6]; exact fun n h i j => (sR_apply n h i j).trans (H.st n h i j)

/-- The layer's last operations: each head's row normalised, scaled and gated. -/
theorem out_apply (V : Valuation τ sig (Elt Ideal)) (n : Fin 32) (t : Fin 8) (h : Fin 4) (e : Fin 128) :
    (out_main_v115 V : FVec Ideal S32x8x512 .f32) (ix3 n t (⟨128 * h.val + e.val, by omega⟩ : Fin 512))
      = gateRow (fun j => (V (Proc.devRef .tc main_v88_7) : FVec Ideal S8x32x4x128 .f32) (ix4 t n h j))
          (fun j => (V (Proc.devRef .tc main_arg0) : FVec Ideal S32x8x7176 .f32) (ix3 n t (⟨1536 + 128 * h.val + j.val, by omega⟩ : Fin 7176)))
          (fun j => (V (Proc.devRef .tc main_arg6) : FVec Ideal S128 .f32) (ix1 j)) e := by
  pointwise [out_main_v115]
  have e1 : ∀ p : Fin 7176, p = (⟨1536 + 128 * h.val + e.val, by omega⟩ : Fin 7176) →
      (V (Proc.devRef .tc main_arg0) : FVec Ideal S32x8x7176 .f32) (ix3 n t p)
        = (V (Proc.devRef .tc main_arg0) : FVec Ideal S32x8x7176 .f32) (ix3 n t (⟨1536 + 128 * h.val + e.val, by omega⟩ : Fin 7176)) :=
    fun p hp => congrArg _ (congrArg _ hp)
  rw [e1 _ (Fin.ext (by show 1536 + (h.val * 128 + e.val) = 1536 + 128 * h.val + e.val; omega)), ← zero_sub_e]
  rfl

include H in
/-- The outputs. -/
theorem result_out (n : Fin 32) (t : Fin 8) (h : Fin 4) (e : Fin 128) :
    (out_main_v115 (STEP^[8] (entryContents preI m c)) : FVec Ideal S32x8x512 .f32)
        (ix3 n t (⟨128 * h.val + e.val, by omega⟩ : Fin 512))
      = gateRow (fun j => ((outS (upS Y C n) W (aS Y n) (wS Y n) al db (S n) h t.val j : ℝ) : EReal))
          (fun j => (m ((c.tc : Thread nD τ).loc main_arg0) : FVec Ideal S32x8x7176 .f32) (ix3 n t (⟨1536 + 128 * h.val + j.val, by omega⟩ : Fin 7176)))
          (fun j => (m ((c.tc : Thread nD τ).loc main_arg6) : FVec Ideal S128 .f32) (ix1 j)) e := by
  rw [out_apply, iter_main_arg0, iter_main_arg6]
  refine congrFun (congrArg (fun o => gateRow o _ _) (funext fun j => ?_)) e
  exact ((at_entry H).iter 8 le_rfl).out t n h j t.isLt

include H in
/-- The state after the eight tokens. -/
theorem result_state (n : Fin 32) (h : Fin 4) (i j : Fin 128) :
    (STEP^[8] (entryContents preI m c) (Proc.devRef .tc main_v88_6) : FVec Ideal S32x4x128x128 .f32) (ix4 n h i j)
      = ((stS (upS Y C n) W (aS Y n) (wS Y n) al db (S n) h 8 i j : ℝ) : EReal) :=
  ((at_entry H).iter 8 le_rfl).st n h i j

end

end Cert.Gdn.Ref
-- ==== Proof.Arrays.lean ====
module

public import proofs.«01_k».proof.Proof.Blocks
public import proofs.«01_k».proof.Proof.BlockValue
public import proofs.«01_k».proof.Proof.HeadLift
public import proofs.«01_k».proof.Proof.RefValue

/-! The call's two result arrays, element by element, at finite arguments. -/

@[expose] public section

noncomputable section

namespace Cert.Gdn

open Idealize.ShloMosaic Idealize.ShloMosaic.TcCoe Cert.KernelIdeal Cert.KernelIdeal.Gen

variable {m : (ℓ : Loc nD τ sig) → Buf (Elt Ideal) ℓ} {c : Dev nD}
  {Y : Fin 32 → Fin 8 → Fin 7176 → ℝ} {C : Fin 32 → Fin 3 → Fin 1536 → ℝ} {S : Fin 32 → Fin 4 → Fin 128 → Fin 128 → ℝ}
  {W : Fin 4 → Fin 1536 → ℝ} {al db : Fin 4 → ℝ}

/-- The rows under the convolution, at a grid point. -/
theorem ext_is (H : Ref.ArgsAre (argY m c) (argC m c) (argS m c) (argW m c) (argA m c) (argB m c) Y C S W al db) (t : Fin cfg0.N) (g : Fin 4) :
    ExtIs (iblk m c 0 t) (iblk m c 3 t) g (upS Y C (seqOf t g)) := by
  intro r hr l
  by_cases h : r < 3
  · refine (dif_pos (show 5 + r < 8 by omega)).trans ?_
    exact (blk3 m c t g ⟨r, h⟩ l).trans ((H.cache _ _ _).trans (congrArg _ (upS_cache Y C _ ⟨r, h⟩ l).symm))
  · refine (dif_neg (show ¬ 5 + r < 8 by omega)).trans ?_
    obtain ⟨s, rfl⟩ : ∃ s, r = s + 3 := ⟨r - 3, by omega⟩
    have e : (⟨min (5 + (s + 3) - 8) 7, by omega⟩ : Fin 8) = ⟨s, by omega⟩ := Fin.ext (by show min (5 + (s + 3) - 8) 7 = s; omega)
    refine Eq.trans (congrArg (fun z : Fin 8 => (iblk m c 0 t : Vec Ideal S4x8x1536 .f32) (ix3 g z l)) e) ?_
    exact (blk0 m c t g ⟨s, by omega⟩ l).trans ((H.y _ _ _).trans (congrArg _ (upS_rows Y C _ ⟨s, by omega⟩ l).symm))

/-- The operands of one sequence at a grid point. -/
theorem seq_is (H : Ref.ArgsAre (argY m c) (argC m c) (argS m c) (argW m c) (argA m c) (argB m c) Y C S W al db) (t : Fin cfg0.N) (g : Fin 4) :
    SeqIs (iblk m c 0 t) (iblk m c 3 t) (iblk m c 1 t) (iblk m c 4 t) (iblk m c 5 t) (iblk m c 6 t) (iblk m c 7 t) g
      (upS Y C (seqOf t g)) W (aS Y (seqOf t g)) (wS Y (seqOf t g)) al db (S (seqOf t g)) where
  rows := ext_is H t g
  weights i l := (blk5 m c t i l).trans (H.w i l)
  decays s h := (blk1 m c t g s ⟨h.val, by omega⟩).trans ((H.y _ _ _).trans (congrArg _ (aS_eq Y _ s h).symm))
  writes s h := by
    refine (blk1 m c t g s ⟨h.val + 4, by omega⟩).trans ((H.y _ _ _).trans (congrArg _ (Eq.trans ?_ (wS_eq Y _ s h).symm)))
    exact congrArg (Y _ s) (Fin.ext (by show 2048 + (h.val + 4) = 2052 + h.val; omega))
  alog h := (blk6 m c t h).trans (H.alog h)
  bias h := (blk7 m c t h).trans (H.dtb h)
  state h i j := (blk4 m c t g h i j).trans (H.st _ h i j)

/-- The gated outputs, as an array. -/
def outArr (m : (ℓ : Loc nD τ sig) → Buf (Elt Ideal) ℓ) (c : Dev nD) (Y : Fin 32 → Fin 8 → Fin 7176 → ℝ) (C : Fin 32 → Fin 3 → Fin 1536 → ℝ)
    (S : Fin 32 → Fin 4 → Fin 128 → Fin 128 → ℝ) (W : Fin 4 → Fin 1536 → ℝ) (al db : Fin 4 → ℝ) : FVec Ideal S32x8x512 .f32 := fun y =>
  have h : (y 2).val < 512 := (y 2).isLt
  gateRow (fun j => ((outS (upS Y C (y 0)) W (aS Y (y 0)) (wS Y (y 0)) al db (S (y 0)) ⟨(y 2).val / 128, by omega⟩ (y 1).val j : ℝ) : EReal))
    (fun j => argY m c (ix3 (y 0) (y 1) ⟨1536 + 128 * ((y 2).val / 128) + j.val, by omega⟩)) (fun j => argG m c (ix1 j))
    ⟨(y 2).val % 128, by omega⟩

/-- The new states, as an array. -/
def stArr (Y : Fin 32 → Fin 8 → Fin 7176 → ℝ) (C : Fin 32 → Fin 3 → Fin 1536 → ℝ)
    (S : Fin 32 → Fin 4 → Fin 128 → Fin 128 → ℝ) (W : Fin 4 → Fin 1536 → ℝ) (al db : Fin 4 → ℝ) : FVec Ideal S32x4x128x128 .f32 := fun y =>
  ((stS (upS Y C (y 0)) W (aS Y (y 0)) (wS Y (y 0)) al db (S (y 0)) (y 1) 8 (y 2) (y 3) : ℝ) : EReal)

theorem gateRow_congr {o z z' w w' : Fin 128 → EReal} {e : Fin 128} (hz : ∀ j, z j = z' j) (hw : ∀ j, w j = w' j) :
    gateRow o z w e = gateRow o z' w' e := by
  rw [funext hz, funext hw]

/-- The array of gated outputs, by element. -/
theorem outArr_at (n : Fin 32) (s : Fin 8) (l : Fin 512) : outArr m c Y C S W al db (ix3 n s l)
    = gateRow (fun j => ((outS (upS Y C n) W (aS Y n) (wS Y n) al db (S n) ⟨l.val / 128, by omega⟩ s.val j : ℝ) : EReal))
      (fun j => argY m c (ix3 n s ⟨1536 + 128 * (l.val / 128) + j.val, by omega⟩)) (fun j => argG m c (ix1 j))
      ⟨l.val % 128, by omega⟩ := rfl

/-- The block of outputs at a grid point, by element. -/
theorem outBlk_at (H : Ref.ArgsAre (argY m c) (argC m c) (argS m c) (argW m c) (argA m c) (argB m c) Y C S W al db) (t : Fin cfg0.N)
    (g : Fin 4) (s : Fin 8) (l : Fin 512) :
    outBlk (iblk m c 0 t) (iblk m c 3 t) (iblk m c 1 t) (iblk m c 2 t) (iblk m c 4 t) (iblk m c 5 t) (iblk m c 6 t) (iblk m c 7 t)
      (iblk m c 8 t) (ix3 g s l) = outArr m c Y C S W al db (ix3 (seqOf t g) s l) := by
  refine (outHead_lift (seq_is H t g) (⟨l.val / 128, by omega⟩ : Fin 4) s ⟨l.val % 128, by omega⟩).trans ?_
  refine Eq.trans ?_ (outArr_at _ _ _).symm
  refine gateRow_congr (fun j => ?_) (fun j => blk8 m c t j)
  refine (blk2 m c t g s ⟨128 * (l.val / 128) + j.val, by omega⟩).trans ?_
  exact congrArg (fun z => argY m c (ix3 (seqOf t g) s z)) (Fin.ext (by
    show 1536 + (128 * (l.val / 128) + j.val) = 1536 + 128 * (l.val / 128) + j.val; omega))

/-- The block of new states at a grid point, by element. -/
theorem stBlk_at (H : Ref.ArgsAre (argY m c) (argC m c) (argS m c) (argW m c) (argA m c) (argB m c) Y C S W al db) (t : Fin cfg0.N)
    (g h : Fin 4) (i j : Fin 128) :
    stBlk (iblk m c 0 t) (iblk m c 3 t) (iblk m c 1 t) (iblk m c 4 t) (iblk m c 5 t) (iblk m c 6 t) (iblk m c 7 t)
      (ix4 g h i j) = stArr Y C S W al db (ix4 (seqOf t g) h i j) :=
  newHead_lift (seq_is H t g) h i j

/-- The array of outputs after the call. -/
theorem final_9 (H : Ref.ArgsAre (argY m c) (argC m c) (argS m c) (argW m c) (argA m c) (argB m c) Y C S W al db) :
    (dats m 0 c).arrAt 9 cfg0.N = outArr m c Y C S W al db := by
  refine (dats m 0 c).arrAt_eq_of_covers 9 _ (by decide +kernel) fun t hf y => ?_
  blk_simp
  rw [after0_9]
  unfold outsAt0
  rw [out9_eq]
  have hy : y = ix3 (y 0) (y 1) (y 2) := funext fun a => by fin_cases a <;> rfl
  have he : (win0_9.blk t).view.emb y = ix3 (seqOf t (y 0)) (y 1) (y 2) := by blk_ext [index9 t, seqOf]
  refine Eq.trans (congrArg _ hy) (Eq.trans ?_ (congrArg _ he.symm))
  exact outBlk_at H t (y 0) (y 1) (y 2)

/-- The array of new states after the call. -/
theorem final_10 (H : Ref.ArgsAre (argY m c) (argC m c) (argS m c) (argW m c) (argA m c) (argB m c) Y C S W al db) :
    (dats m 0 c).arrAt 10 cfg0.N = stArr Y C S W al db := by
  refine (dats m 0 c).arrAt_eq_of_covers 10 _ (by decide +kernel) fun t hf y => ?_
  blk_simp
  rw [after0_10]
  unfold outsAt0
  rw [out10_eq]
  have hy : y = ix4 (y 0) (y 1) (y 2) (y 3) := funext fun a => by fin_cases a <;> rfl
  have he : (win0_10.blk t).view.emb y = ix4 (seqOf t (y 0)) (y 1) (y 2) (y 3) := by blk_ext [index10 t, seqOf]
  refine Eq.trans (congrArg _ hy) (Eq.trans ?_ (congrArg _ he.symm))
  exact stBlk_at H t (y 0) (y 1) (y 2) (y 3)

end Cert.Gdn
-- ==== Proof.Finite.lean ====
module

public import proofs.«01_k».proof.Defs
public import proofs.«01_k».proof.Proof.Gen.Pre_finite_inputs
public import proofs.«01_k».proof.Proof.RefValue
public import Idealize.ShloMosaic.Lib.ReduceAll
public import Idealize.ShloMosaic.Lib.Pointwise

/-! What the precondition says: every entry of the first six arguments is a real number. -/

@[expose] public section

noncomputable section

namespace Cert.Gdn

open Idealize.ShloMosaic Idealize.ShloMosaic.TcCoe

instance : Subsingleton Cert.Pre_finite_inputs.S_.Idx := ⟨fun _ _ => funext fun a => a.elim0⟩

/-- The printed bound is `⊤`. -/
theorem inf_lit : Ideal.ofBits .f32 0x7F800000#32 = ⊤ := by
  simp [Ideal.ofBits, Ideal.ieee]

/-- An entry below the bound in size is real. -/
theorem real_of_abs_lt {x : EReal} (h : max x (-x) < ⊤) : ((x.toReal : ℝ) : EReal) = x := by
  refine EReal.coe_toReal (fun e => ?_) (fun e => ?_)
  · subst e; simp at h
  · subst e; simp at h

/-- An array all of whose entries are below the bound in size has real entries. -/
theorem real_of_all {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel) (j : Cert.Pre_finite_inputs.S_.Idx)
    (e : Host.reduce IntOp.andi (cmpf .olt (Host.absf x) (broadcastInDim s ![] hb (constant Cert.Pre_finite_inputs.S_ .f32 0x7F800000#32)))
      (constantI Cert.Pre_finite_inputs.S_ 1 1#1) hr hu j = 1#1) (i : s.Idx) :
    (((x i : EReal).toReal : ℝ) : EReal) = x i := by
  have h := Host.reduce_andi_all _ _ hr hu j e i
  apply real_of_abs_lt
  have h2 : Ideal.cmp .olt (max (x i) (-(x i))) (Ideal.ofBits .f32 0x7F800000#32) = 1#1 := h
  rw [inf_lit] at h2
  by_contra hn
  rw [Ideal.cmp] at h2
  simp [hn] at h2

/-- The predicate gives real entries. -/
theorem real_of_pre {y : FVec Ideal Cert.Pre_finite_inputs.S32x8x7176 .f32} {ca : FVec Ideal Cert.Pre_finite_inputs.S32x3x1536 .f32}
    {st : FVec Ideal Cert.Pre_finite_inputs.S2x32x4x128x128 .f32} {w : FVec Ideal Cert.Pre_finite_inputs.S4x1536 .f32}
    {al db : FVec Ideal Cert.Pre_finite_inputs.S4 .f32} {go : FVec Ideal Cert.Pre_finite_inputs.S128 .f32}
    (h : Cert.Pre_finite_inputs.fn (F := Ideal) y ca st w al db go = fun _ => 1#1) :
    Ref.ArgsAre y ca st w al db (fun n t c => (y (ix3 n t c) : EReal).toReal) (fun n r c => (ca (ix3 n r c) : EReal).toReal)
      (fun n h i j => (st (ix5 (1 : Fin 2) n h i j) : EReal).toReal) (fun i c => (w (ix2 i c) : EReal).toReal)
      (fun h => (al (ix1 h) : EReal).toReal) (fun h => (db (ix1 h) : EReal).toReal) := by
  have h0 := congrFun h (fun a => a.elim0)
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨fun n t c => (real_of_all y _ _ _ _ e0 _).symm, fun n r c => (real_of_all ca _ _ _ _ e1 _).symm,
    fun n h i j => (real_of_all st _ _ _ _ e2 _).symm, fun i c => (real_of_all w _ _ _ _ e3 _).symm,
    fun h => (real_of_all al _ _ _ _ e4 _).symm, fun h => (real_of_all db _ _ _ _ e5 _).symm⟩

end Cert.Gdn
-- ==== Proof.Claims.lean ====
module

public import proofs.«01_k».proof.Proof.Arrays
public import proofs.«01_k».proof.Proof.Finite

/-! The kernel and the reference end with the same two arrays, at finite arguments. -/

@[expose] public section

noncomputable section

namespace Cert.Gdn

open Idealize.ShloMosaic Idealize.SL.Sem Idealize.ShloMosaic.TcCoe

/-- The kernel's run: its two result arrays at the layer's outputs and new states, its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v16_0) = (Cert.KernelIdeal.Gen.dats m 0 c).arrAt 9 Cert.KernelIdeal.cfg0.N
        ∧ r.2.mem ((c.tc : Thread Cert.KernelIdeal.nD Cert.KernelIdeal.τ).loc Cert.KernelIdeal.main_v16_1) = (Cert.KernelIdeal.Gen.dats m 0 c).arrAt 10 Cert.KernelIdeal.cfg0.N) :=
  (θ_run _ _ _).mono (fun _ h c => ⟨(h c).1 9, (h c).1 10⟩) (Cert.KernelIdeal.Gen.run_main (F := Ideal) m ρ)

section
variable {m : (ℓ : Loc Cert.ReferenceIdeal.nD Cert.ReferenceIdeal.τ Cert.ReferenceIdeal.sig) → Buf (Elt Ideal) ℓ} {c : Dev Cert.ReferenceIdeal.nD}
  {mk : (ℓ : Loc Cert.KernelIdeal.nD Cert.KernelIdeal.τ Cert.KernelIdeal.sig) → Buf (Elt Ideal) ℓ} {ck : Dev Cert.KernelIdeal.nD}
  {Y : Fin 32 → Fin 8 → Fin 7176 → ℝ} {C : Fin 32 → Fin 3 → Fin 1536 → ℝ} {S : Fin 32 → Fin 4 → Fin 128 → Fin 128 → ℝ}
  {W : Fin 4 → Fin 1536 → ℝ} {al db : Fin 4 → ℝ}

open Cert.ReferenceIdeal Cert.ReferenceIdeal.Gen Cert.ReferenceIdeal.Value Idealize.ShloMosaic.StableHlo

/-- The reference's outputs are the kernel's array. -/
theorem ref_out (H : Ref.ArgsAre (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) Y C S W al db)
    (hy : argY mk ck = m ((c.tc : Thread nD τ).loc main_arg0)) (hg : argG mk ck = m ((c.tc : Thread nD τ).loc main_arg6)) :
    (out_main_v115 (STEP^[8] (entryContents preI m c)) : FVec Ideal S32x8x512 .f32) = outArr mk ck Y C S W al db := by
  funext y
  have e : y = ix3 (y 0) (y 1) (⟨128 * (⟨(y 2).val / 128, by have : (y 2).val < 512 := (y 2).isLt; omega⟩ : Fin 4).val
      + (⟨(y 2).val % 128, Nat.mod_lt _ (by norm_num)⟩ : Fin 128).val, by have : (y 2).val < 512 := (y 2).isLt; simp only; omega⟩ : Fin 512) := by
    funext a
    fin_cases a
    · rfl
    · rfl
    · exact Fin.ext (Nat.div_add_mod _ _).symm
  rw [e]
  refine (Ref.result_out H (y 0) (y 1) _ _).trans ?_
  rw [← e]
  unfold outArr
  rw [hy, hg]

/-- The reference's new states are the kernel's array. -/
theorem ref_state (H : Ref.ArgsAre (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) Y C S W al db) :
    ((STEP^[8] (entryContents preI m c)) (Proc.devRef .tc main_v88_6) : FVec Ideal S32x4x128x128 .f32) = stArr Y C S W al db := by
  funext y
  have e : y = ix4 (y 0) (y 1) (y 2) (y 3) := funext fun a => by fin_cases a <;> rfl
  refine (congrArg _ e).trans ((Ref.result_state H (y 0) (y 1) (y 2) (y 3)).trans ?_)
  rfl

end

/-- At finite arguments the kernel and the reference return the same outputs and the same new states. -/
theorem algebraic : Cert.algebraic_KernelIdeal_ReferenceIdeal_pre_finite_inputs := by
  intro m ρ m' ρ' hpre hagree
  refine ⟨fun c => (Cert.KernelIdeal.Gen.dats m 0 c).arrAt 9 Cert.KernelIdeal.cfg0.N, fun c => (Cert.KernelIdeal.Gen.dats m 0 c).arrAt 10 Cert.KernelIdeal.cfg0.N, ?_, ?_⟩
  · refine (θ_run _ _ _).mono (fun _ h c => ⟨(h.1 c).1, (h.1 c).2, h.2 c⟩)
      (θ_run_and (kernel_run m ρ) (Cert.KernelIdeal.Gen.unchanged (F := Ideal) m ρ))
  · refine (θ_run _ _ _).mono (fun _ h c => ⟨(h c).1.trans ?_, (h c).2.1.trans ?_, (h c).2.2⟩)
      (Cert.ReferenceIdeal.Value.run (F := Ideal) m' ρ')
    · obtain ⟨e0, e1, e2, e3, e4, e5, e6⟩ := hagree c
      obtain ⟨Y, C, S, W, al, db, H⟩ : ∃ Y C S W al db, Ref.ArgsAre (argY m c) (argC m c) (argS m c) (argW m c) (argA m c) (argB m c) Y C S W al db :=
        ⟨_, _, _, _, _, _, real_of_pre (hpre c)⟩
      have H' := H
      rw [argY, argC, argS, argW, argA, argB, ← e0, ← e1, ← e2, ← e3, ← e4, ← e5] at H'
      exact (ref_out H' e0.symm e6.symm).trans (final_9 H).symm
    · obtain ⟨e0, e1, e2, e3, e4, e5, e6⟩ := hagree c
      obtain ⟨Y, C, S, W, al, db, H⟩ : ∃ Y C S W al db, Ref.ArgsAre (argY m c) (argC m c) (argS m c) (argW m c) (argA m c) (argB m c) Y C S W al db :=
        ⟨_, _, _, _, _, _, real_of_pre (hpre c)⟩
      have H' := H
      rw [argY, argC, argS, argW, argA, argB, ← e0, ← e1, ← e2, ← e3, ← e4, ← e5] at H'
      exact (ref_state H').trans (final_10 H).symm

/-- The kernel's frame at the ideal numbers. -/
theorem frame_ideal : Cert.quiescent_KernelIdeal := fun m ρ _ => Cert.KernelIdeal.Gen.frame (F := Ideal) m ρ

/-- The reference's frame. -/
theorem frame_reference : Cert.quiescent_ReferenceIdeal := fun m ρ _ =>
  (θ_run _ _ _).mono (fun r h => ⟨fun c => (h c).2.2, sem_eq_zero_of_no_sems (by decide) r.2⟩)
    (Cert.ReferenceIdeal.Value.run (F := Ideal) m ρ)

end Cert.Gdn
-- ==== Proof.MlpRow.lean ====
module

public import proofs.«01_k».proof.Proof.Gen.MlpIdeal.Skeleton
public import Idealize.ShloMosaic.Lib.Pointwise

/-! One row of the layer's MLP, and the kernel's stores by element. -/

@[expose] public section

noncomputable section

namespace Cert.Ffn

open Idealize.ShloMosaic Cert.MlpIdeal Cert.MlpIdeal.Gen

/-- A row over its root mean square, scaled by `g`. -/
def rmsRow (x g : Fin 1024 → EReal) (l : Fin 1024) : EReal :=
  x l * Ideal.rsqrt (Ideal.div (∑ p, x p * x p) (Ideal.ofBits .f32 0x44800000#32) + Ideal.ofBits .f32 0x358637BD#32) * g l

/-- The square of the positive part of `h · w`. -/
def hid (h w : Fin 1024 → EReal) : EReal := max (∑ l, h l * w l) 0 * max (∑ l, h l * w l) 0

/-- The MLP's inner row at column `j`. -/
def ffRow (h : Fin 1024 → EReal) (w1 : Fin 1024 → Fin 4096 → EReal) (w2 : Fin 4096 → Fin 1024 → EReal) (j : Fin 1024) : EReal :=
  ∑ k, hid h (fun l => w1 l k) * w2 k j

/-- One output row: the row plus the normalised MLP of the normalised row. -/
def mlpRow (x g : Fin 1024 → EReal) (w1 : Fin 1024 → Fin 4096 → EReal) (w2 : Fin 4096 → Fin 1024 → EReal) (g' : Fin 1024 → EReal)
    (j : Fin 1024) : EReal :=
  x j + rmsRow (ffRow (rmsRow x g) w1 w2) g' j

theorem pay1_apply (x : Vec Ideal S1024x1024 .f32) (g : Vec Ideal S1x1024 .f32) (r l : Fin 1024) :
    k0_pay1 x g (ix2 r l) = rmsRow (fun p => x (ix2 r p)) (fun p => g (ix2 (0 : Fin 1) p)) l := by
  pointwise [k0_pay1]
  rfl

theorem pay2_apply (r l : Fin 1024) : k0_pay2 (F := Ideal) (ix2 r l) = 0 := by
  pointwise [k0_pay2]

theorem pay3_apply (h a : Vec Ideal S1024x1024 .bf16) (acc : Vec Ideal S1024x1024 .f32) (b : Vec Ideal S1024x1024 .bf16) (r j : Fin 1024) :
    k0_pay3 h a acc b (ix2 r j) = acc (ix2 r j) + ∑ k, hid (fun l => h (ix2 r l)) (fun l => a (ix2 l k)) * b (ix2 k j) := by
  pointwise [k0_pay3]
  rfl

theorem pay4_apply (x acc : Vec Ideal S1024x1024 .f32) (g : Vec Ideal S1x1024 .f32) (r j : Fin 1024) :
    k0_pay4 x acc g (ix2 r j) = x (ix2 r j) + rmsRow (fun p => acc (ix2 r p)) (fun p => g (ix2 (0 : Fin 1) p)) j := by
  pointwise [k0_pay4]
  rfl

end Cert.Ffn
-- ==== Proof.MlpCases.lean ====
module

public import proofs.«01_k».proof.Proof.Gen.MlpIdeal.Frame
public import Idealize.ShloMosaic.Lib.Pipeline.Value

/-! What each case of the MLP kernel's body leaves in its scratch and in its output block. -/

@[expose] public section

noncomputable section

namespace Cert.Ffn

open Idealize.ShloMosaic Cert.MlpIdeal Cert.MlpIdeal.Gen

variable {F : FTy → Type} [FloatOps F]

theorem hz : (![0, 0] : Fin 2 → Nat) = fun _ => 0 := funext fun a => by fin_cases a <;> rfl

/-- The step's columns of the first weights. -/
abbrev w1At (i : grid0.Coords) (w : Vec F S1024x4096 .bf16) : Vec F S1024x1024 .bf16 :=
  View.ld w (Rect.unit (s := S1024x4096) (k0_off1 i) S1024x1024.size (k0_off1_inb i))

/-- The step's rows of the second weights. -/
abbrev w2At (i : grid0.Coords) (w : Vec F S4096x1024 .bf16) : Vec F S1024x1024 .bf16 :=
  View.ld w (Rect.unit (s := S4096x1024) (k0_off2 i) S1024x1024.size (k0_off2_inb i))

section
variable (c : Dev nD) (i : grid0.Coords) (a2 : Memref sig .tc .vmem S1024x1024 .f32) (h2 : a2.IsWhole)
  (a3 : Memref sig .tc .vmem S1x1024 .f32) (h3 : a3.IsWhole) (a4 : Memref sig .tc .vmem S1024x4096 .bf16) (h4 : a4.IsWhole)
  (a5 : Memref sig .tc .vmem S4096x1024 .bf16) (h5 : a5.IsWhole) (a6 : Memref sig .tc .vmem S1x1024 .f32) (h6 : a6.IsWhole)
  (a7 : Memref sig .tc .vmem S1024x1024 .f32) (h7 : a7.IsWhole) (a8 : Memref sig .tc .vmem S1024x1024 .bf16) (h8 : a8.IsWhole)
  (a9 : Memref sig .tc .vmem S1024x1024 .f32) (h9 : a9.IsWhole)
  (x0 : Vec F S1024x1024 .f32) (x1 : Vec F S1x1024 .f32) (x2 : Vec F S1024x4096 .bf16) (x3 : Vec F S4096x1024 .bf16)
  (x4 : Vec F S1x1024 .f32)

theorem h_A (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem acc_A (hc0 : cond0_0 i) (hc1 : ¬cond0_1 i) :
    sout0_A_1 c i a2 h2 a3 h3 a4 h4 a5 h5 a6 h6 a7 h7 a8 h8 a9 h9 hc0 hc1 x0 x1 x2 x3 x4
      = k0_pay3 (k0_pay1 x0 x1) (w1At i x2) k0_pay2 (w2At i x3) := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz, View.readCov_unit_zero (S := S1024x1024) _ hz]
  simp only [View.readAt_eq_ld, h2.read_unread, h3.read_unread, h4.read_unread, h5.read_unread, View.ld_unit_zero (S := S1024x1024) hz, View.ld_unit_zero (S := S1x1024) hz]
  rfl

variable (s0 : Vec F S1024x1024 .bf16) (s1 : Vec F S1024x1024 .f32)

theorem acc_B (hc0 : ¬cond0_0 i) (hc1 : ¬cond0_1 i) :
    sout0_B_1 c i a2 h2 a3 h3 a4 h4 a5 h5 a6 h6 a7 h7 a8 h8 a9 h9 hc0 hc1 x0 x1 x2 x3 x4 s0 s1
      = k0_pay3 s0 (w1At i x2) s1 (w2At i x3) := by
  unfold sout0_B_1
  rw [View.read_writes_eq_canon _ _ _ (scover0_B_1 c i a2 h2 a3 h3 a4 h4 a5 h5 a6 h6 a7 h7 a8 h8 a9 h9 hc0 hc1 x0 x1 x2 x3 x4 s0 s1)]
  unfold kernelRun0_B
  dsimp only
  sl_unfold_words
  rw [View.canon_unit_zero hz]
  simp only [View.readAt_eq_ld, h4.read_unread, h5.read_unread, h8.read_unread, h9.read_unread, View.ld_unit_zero (S := S1024x1024) hz]
  rfl

theorem acc_C (hc0 : ¬cond0_0 i) (hc1 : cond0_1 i) :
    sout0_C_1 c i a2 h2 a3 h3 a4 h4 a5 h5 a6 h6 a7 h7 a8 h8 a9 h9 hc0 hc1 x0 x1 x2 x3 x4 s0 s1
      = k0_pay3 s0 (w1At i x2) s1 (w2At i x3) := by
  unfold sout0_C_1
  rw [View.read_writes_eq_canon _ _ _ (scover0_C_1 c i a2 h2 a3 h3 a4 h4 a5 h5 a6 h6 a7 h7 a8 h8 a9 h9 hc0 hc1 x0 x1 x2 x3 x4 s0 s1)]
  unfold kernelRun0_C
  dsimp only
  sl_unfold_words
  rw [View.canon_unit_zero hz]
  simp only [View.readAt_eq_ld, h4.read_unread, h5.read_unread, h8.read_unread, h9.read_unread, View.ld_unit_zero (S := S1024x1024) hz]
  rfl

theorem out_C (hc0 : ¬cond0_0 i) (hc1 : cond0_1 i) :
    out0_C_5 c i a2 h2 a3 h3 a4 h4 a5 h5 a6 h6 a7 h7 a8 h8 a9 h9 hc0 hc1 x0 x1 x2 x3 x4 s0 s1
      = k0_pay4 x0 (k0_pay3 s0 (w1At i x2) s1 (w2At i x3)) x4 := by
  unfold out0_C_5
  rw [View.read_writes_eq_canon _ _ _ (cover0_C_5 c i a2 h2 a3 h3 a4 h4 a5 h5 a6 h6 a7 h7 a8 h8 a9 h9 hc0 hc1 x0 x1 x2 x3 x4 s0 s1)]
  unfold kernelRun0_C
  dsimp only
  sl_unfold_words
  rw [View.canon_unit_zero hz, View.readCov_unit_zero (S := S1024x1024) _ hz]
  simp only [View.readAt_eq_ld, h2.read_unread, h4.read_unread, h5.read_unread, h6.read_unread, h8.read_unread, h9.read_unread, View.ld_unit_zero (S := S1024x1024) hz, View.ld_unit_zero (S := S1x1024) hz]
  rfl

end

end Cert.Ffn
-- ==== Proof.MlpBlocks.lean ====
module

public import proofs.«01_k».proof.Proof.MlpRow
public import proofs.«01_k».proof.Proof.MlpCases
public import Idealize.ShloMosaic.Lib.StableHlo.RunClose
public import Idealize.ShloMosaic.Lib.Claim
public import Idealize.ShloMosaic.Lib.Pipeline.ValueKit.Point

/-! What the MLP call's windows read at each grid point, in terms of the arguments. -/

@[expose] public section

noncomputable section

namespace Cert.Ffn

open Idealize.ShloMosaic Idealize.ShloMosaic.StableHlo Idealize.ShloMosaic.TcCoe Cert.MlpIdeal Cert.MlpIdeal.Gen

variable (m : (ℓ : Loc nD τ sig) → Buf (Elt Ideal) ℓ) (c : Dev nD)

abbrev argX : FVec Ideal S8x2048x1024 .f32 := m ((c.tc : Thread nD τ).loc main_arg0)
abbrev argG : FVec Ideal S1024 .f32 := m ((c.tc : Thread nD τ).loc main_arg1)
abbrev argW1 : FVec Ideal S1024x4096 .f32 := m ((c.tc : Thread nD τ).loc main_arg2)
abbrev argW2 : FVec Ideal S4096x1024 .f32 := m ((c.tc : Thread nD τ).loc main_arg3)
abbrev argG' : FVec Ideal S1024 .f32 := m ((c.tc : Thread nD τ).loc main_arg4)

set_option maxRecDepth 8192 in
theorem entry0 : V m c main_v0 = (shapeCast S16384x1024 (argX m c) shapeCasts_S8x2048x1024_S16384x1024 : FVec Ideal S16384x1024 .f32) := by
  show StableHlo.after ([hostOps0].flatten) (fun b => m (c, b)) (Proc.devRef .tc main_v0) = _
  simp only [List.flatten_cons, List.flatten_nil, List.append_nil, hostOps0]
  entry_read
  rfl

set_option maxRecDepth 8192 in
theorem entry1 : V m c main_v1 = (truncf .bf16 (argW1 m c) bitsLt_bf16_f32 : FVec Ideal S1024x4096 .bf16) := by
  show StableHlo.after ([hostOps0].flatten) (fun b => m (c, b)) (Proc.devRef .tc main_v1) = _
  simp only [List.flatten_cons, List.flatten_nil, List.append_nil, hostOps0]
  entry_read
  rfl

set_option maxRecDepth 8192 in
theorem entry2 : V m c main_v2 = (truncf .bf16 (argW2 m c) bitsLt_bf16_f32 : FVec Ideal S4096x1024 .bf16) := by
  show StableHlo.after ([hostOps0].flatten) (fun b => m (c, b)) (Proc.devRef .tc main_v2) = _
  simp only [List.flatten_cons, List.flatten_nil, List.append_nil, hostOps0]
  entry_read
  rfl

set_option maxRecDepth 8192 in
theorem entry3 : V m c main_v3 = (shapeCast S1x1024 (argG m c) shapeCasts_S1024_S1x1024 : FVec Ideal S1x1024 .f32) := by
  show StableHlo.after ([hostOps0].flatten) (fun b => m (c, b)) (Proc.devRef .tc main_v3) = _
  simp only [List.flatten_cons, List.flatten_nil, List.append_nil, hostOps0]
  entry_read
  rfl

set_option maxRecDepth 8192 in
theorem entry4 : V m c main_v4 = (shapeCast S1x1024 (argG' m c) shapeCasts_S1024_S1x1024 : FVec Ideal S1x1024 .f32) := by
  show StableHlo.after ([hostOps0].flatten) (fun b => m (c, b)) (Proc.devRef .tc main_v4) = _
  simp only [List.flatten_cons, List.flatten_nil, List.append_nil, hostOps0]
  entry_read
  rfl

/-- Row `r` of the flattened input. -/
def xRow (r : Fin 16384) (l : Fin 1024) : EReal :=
  argX m c (ix3 (⟨r.val / 2048, by omega⟩ : Fin 8) (⟨r.val % 2048, by omega⟩ : Fin 2048) l)

theorem flat_apply (x : FVec Ideal S8x2048x1024 .f32) (r : Fin 16384) (l : Fin 1024) :
    (shapeCast S16384x1024 x shapeCasts_S8x2048x1024_S16384x1024 : FVec Ideal S16384x1024 .f32) (ix2 r l)
      = x (ix3 (⟨r.val / 2048, by omega⟩ : Fin 8) (⟨r.val % 2048, by omega⟩ : Fin 2048) l) := by
  pointwise []

theorem row_apply (g : FVec Ideal S1024 .f32) (l : Fin 1024) :
    (shapeCast S1x1024 g shapeCasts_S1024_S1x1024 : FVec Ideal S1x1024 .f32) (ix2 (0 : Fin 1) l) = g (ix1 l) := by
  pointwise []

theorem index0 : ∀ t : Fin grid0.N, win0_0.index t = ![t.val / 4, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem off1 : ∀ t : Fin grid0.N, k0_off1 (grid0.coords t) = ![0, 1024 * (t.val % 4)] := by decide +kernel
theorem off2 : ∀ t : Fin grid0.N, k0_off2 (grid0.coords t) = ![1024 * (t.val % 4), 0] := by decide +kernel

/-- The row of the flattened input that row `r` of the block at point `t` is. -/
def rowOf (t : Fin cfg0.N) (r : Fin 1024) : Fin 16384 :=
  ⟨1024 * (t.val / 4) + r.val, by have h := t.isLt; have : cfg0.N = 64 := N_0; omega⟩

set_option maxHeartbeats 1000000 in
theorem blk0 (t : Fin cfg0.N) (r l : Fin 1024) :
    (iblk m c 0 t : Vec Ideal S1024x1024 .f32) (ix2 r l) = xRow m c (rowOf t r) l := by
  refine Eq.trans ?_ (flat_apply (argX m c) (rowOf t r) l)
  show (V m c main_v0) _ = _
  rw [entry0]
  blk_ext [iblk, index0 t, rowOf]

set_option maxHeartbeats 1000000 in
theorem blk1 (t : Fin cfg0.N) (l : Fin 1024) :
    (iblk m c 1 t : Vec Ideal S1x1024 .f32) (ix2 (0 : Fin 1) l) = argG m c (ix1 l) := by
  refine Eq.trans ?_ (row_apply (argG m c) l)
  show (V m c main_v3) _ = _
  rw [entry3]
  blk_ext [iblk, index1 t]

set_option maxHeartbeats 1000000 in
theorem blk2 (t : Fin cfg0.N) (l : Fin 1024) (k : Fin 4096) :
    (iblk m c 2 t : Vec Ideal S1024x4096 .bf16) (ix2 l k) = argW1 m c (ix2 l k) := by
  show (V m c main_v1) _ = _
  rw [entry1]
  show argW1 m c _ = _
  blk_ext [iblk, index2 t]

set_option maxHeartbeats 1000000 in
theorem blk3 (t : Fin cfg0.N) (k : Fin 4096) (j : Fin 1024) :
    (iblk m c 3 t : Vec Ideal S4096x1024 .bf16) (ix2 k j) = argW2 m c (ix2 k j) := by
  show (V m c main_v2) _ = _
  rw [entry2]
  show argW2 m c _ = _
  blk_ext [iblk, index3 t]

set_option maxHeartbeats 1000000 in
theorem blk4 (t : Fin cfg0.N) (l : Fin 1024) :
    (iblk m c 4 t : Vec Ideal S1x1024 .f32) (ix2 (0 : Fin 1) l) = argG' m c (ix1 l) := by
  refine Eq.trans ?_ (row_apply (argG' m c) l)
  show (V m c main_v4) _ = _
  rw [entry4]
  blk_ext [iblk, index4 t]

/-- Hidden column `k` of the step at point `n`. -/
def colOf (n : ℕ) (k : Fin 1024) : Fin 4096 := ⟨1024 * (n % 4) + k.val, by omega⟩

theorem w1At_apply (t : Fin cfg0.N) (w : Vec Ideal S1024x4096 .bf16) (l k : Fin 1024) :
    w1At (grid0.coords t) w (ix2 l k) = w (ix2 l (colOf t.val k)) := by
  show w _ = w _
  refine congrArg w (funext fun a => Fin.ext ?_)
  have h := congrFun (off1 t) a
  fin_cases a
  · show k0_off1 (grid0.coords t) 0 + 1 * l.val = l.val
    rw [off1 t]; show 0 + 1 * l.val = l.val; omega
  · show k0_off1 (grid0.coords t) 1 + 1 * k.val = 1024 * (t.val % 4) + k.val
    rw [off1 t]; show 1024 * (t.val % 4) + 1 * k.val = _; omega

theorem w2At_apply (t : Fin cfg0.N) (w : Vec Ideal S4096x1024 .bf16) (k j : Fin 1024) :
    w2At (grid0.coords t) w (ix2 k j) = w (ix2 (colOf t.val k) j) := by
  show w _ = w _
  refine congrArg w (funext fun a => Fin.ext ?_)
  fin_cases a
  · show k0_off2 (grid0.coords t) 0 + 1 * k.val = 1024 * (t.val % 4) + k.val
    rw [off2 t]; show 1024 * (t.val % 4) + 1 * k.val = _; omega
  · show k0_off2 (grid0.coords t) 1 + 1 * j.val = j.val
    rw [off2 t]; show 0 + 1 * j.val = j.val; omega

end Cert.Ffn
-- ==== Proof.MlpFold.lean ====
module

public import proofs.«01_k».proof.Proof.MlpBlocks
public import proofs.«01_k».proof.Proof.Gen.MlpIdeal.Value
public import Idealize.ShloMosaic.Lib.Pipeline.ValueKit.Acc

/-! The MLP kernel's result array by element: the hidden row is kept over a row block's four points, the products of the four
    column blocks add up to the whole sum, and the last point writes the normalised sum added to the input. -/

@[expose] public section

noncomputable section

namespace Cert.Ffn

open Idealize.ShloMosaic Idealize.ShloMosaic.TcCoe Cert.MlpIdeal Cert.MlpIdeal.Gen

variable (m : (ℓ : Loc nD τ sig) → Buf (Elt Ideal) ℓ) (c : Dev nD)

/-- The normalised row. -/
def hRow (p : Fin 16384) : Fin 1024 → EReal := rmsRow (xRow m c p) (fun l => argG m c (ix1 l))

/-- Hidden unit `k`'s share of output column `j`. -/
def share (p : Fin 16384) (j : Fin 1024) (k : Fin 4096) : EReal :=
  hid (hRow m c p) (fun l => argW1 m c (ix2 l k)) * argW2 m c (ix2 k j)

theorem rowOf_pred (t : Fin cfg0.N) (h : ¬t.val % 4 = 0) (r : Fin 1024) :
    rowOf ⟨t.val - 1, Nat.lt_of_le_of_lt (Nat.sub_le _ _) t.isLt⟩ r = rowOf t r := by
  refine Fin.ext ?_
  show 1024 * ((t.val - 1) / 4) + r.val = 1024 * (t.val / 4) + r.val
  omega

/-- The normalised rows stay in their scratch over a row block's points. -/
theorem h_at (n : ℕ) : ∀ (hn : n < cfg0.N) (r l : Fin 1024),
    (outsAt0 m c n hn).2.1 (ix2 r l) = hRow m c (rowOf ⟨n, hn⟩ r) l := by
  induction n using Nat.strong_induction_on with
  | _ n ih =>
    intro hn r l
    have e : outsAt0 m c n hn = outsAt0 m c (⟨n, hn⟩ : Fin cfg0.N).val (⟨n, hn⟩ : Fin cfg0.N).isLt := rfl
    by_cases h0 : n % 4 = 0
    · rw [e, outsAt0_A m c ⟨n, hn⟩ h0 (by show ¬n % 4 = 3; omega)]
      dsimp only
      rw [h_A, pay1_apply]
      unfold hRow
      simp only [blk0, blk1]
    · have hp := ih (n - 1) (by omega) (Nat.lt_of_le_of_lt (Nat.sub_le _ _) hn) r l
      rw [show rowOf ⟨n - 1, Nat.lt_of_le_of_lt (Nat.sub_le _ _) hn⟩ r = rowOf ⟨n, hn⟩ r from rowOf_pred ⟨n, hn⟩ h0 r] at hp
      by_cases h1 : n % 4 = 3
      · rw [e, outsAt0_C m c ⟨n, hn⟩ h0 h1]
        exact hp
      · rw [e, outsAt0_B m c ⟨n, hn⟩ h0 h1]
        exact hp

/-- One step's addition. -/
theorem step_apply (t : Fin cfg0.N) (h : Vec Ideal S1024x1024 .bf16) (acc : Vec Ideal S1024x1024 .f32)
    (r j : Fin 1024) (hh : ∀ l, h (ix2 r l) = hRow m c (rowOf t r) l) :
    k0_pay3 h (w1At (grid0.coords t) (iblk m c 2 t)) acc (w2At (grid0.coords t) (iblk m c 3 t)) (ix2 r j)
      = acc (ix2 r j) + ∑ k : Fin 1024, share m c (rowOf t r) j (colOf t.val k) := by
  rw [pay3_apply]
  refine congrArg (_ + ·) (Finset.sum_congr rfl fun k _ => ?_)
  unfold share
  rw [w2At_apply, blk3]
  refine congrArg (· * _) ?_
  refine congrArg₂ hid (funext hh) (funext fun l => ?_)
  rw [w1At_apply, blk2]

/-- The row of the flattened input at point `n`, for any natural `n`. -/
def rowN (n : ℕ) (r : Fin 1024) : Fin 16384 := ⟨(1024 * (n / 4) + r.val) % 16384, Nat.mod_lt _ (by norm_num)⟩

theorem rowN_eq (t : Fin cfg0.N) (r : Fin 1024) : rowN t.val r = rowOf t r := by
  refine Fin.ext ?_
  have h := t.isLt
  have h2 : cfg0.N = 64 := N_0
  show (1024 * (t.val / 4) + r.val) % 16384 = 1024 * (t.val / 4) + r.val
  omega

/-- The accumulator over a row block's points. -/
theorem acc_at (r j : Fin 1024) (t : Fin cfg0.N) :
    (outsAt0 m c t.val t.isLt).2.2 (ix2 r j)
      = 0 + ∑ p ∈ Finset.range (t.val % 4 + 1), ∑ k : Fin 1024, share m c (rowN (4 * (t.val / 4) + p) r) j (colOf (4 * (t.val / 4) + p) k) := by
  refine Pipeline.eq_sum_of_reset_step (N := cfg0.N) (fun n hn => (outsAt0 m c n hn).2.2 (ix2 r j)) 4 0
    (fun n => ∑ k : Fin 1024, share m c (rowN n r) j (colOf n k)) (fun t h0 => ?_) (fun t h0 => ?_) t
  · rw [outsAt0_A m c t h0 (by omega)]
    dsimp only
    rw [acc_A, step_apply m c t _ _ r j (fun l => ?_), pay2_apply, rowN_eq]
    rw [pay1_apply]
    unfold hRow
    simp only [blk0, blk1]
  · have hh : ∀ l, (outsAt0 m c (t.val - 1) (Nat.lt_of_le_of_lt (Nat.sub_le _ _) t.isLt)).2.1 (ix2 r l) = hRow m c (rowOf t r) l :=
      fun l => by rw [h_at, rowOf_pred t h0]
    by_cases h1 : t.val % 4 = 3
    · rw [outsAt0_C m c t h0 h1]
      dsimp only
      rw [acc_C, step_apply m c t _ _ r j hh, rowN_eq]
    · rw [outsAt0_B m c t h0 h1]
      dsimp only
      rw [acc_B, step_apply m c t _ _ r j hh, rowN_eq]

/-- Four blocks of 1024 make one sum over 4096. -/
theorem sum_blocks (f : Fin 4096 → EReal) (q : ℕ) :
    0 + ∑ p ∈ Finset.range 4, ∑ k : Fin 1024, f (colOf (4 * q + p) k) = ∑ k, f k := by
  rw [zero_add, Finset.sum_range, ← Fintype.sum_prod_type']
  refine Fintype.sum_equiv (finProdFinEquiv (m := 4) (n := 1024)) _ f fun x => congrArg f (Fin.ext ?_)
  show 1024 * ((4 * q + x.1.val) % 4) + x.2.val = x.2.val + 1024 * x.1.val
  omega

/-- The accumulator after a row block's last point is the whole inner row. -/
theorem acc_last (r j : Fin 1024) (t : Fin cfg0.N) (h : t.val % 4 = 3) :
    (outsAt0 m c t.val t.isLt).2.2 (ix2 r j)
      = ffRow (hRow m c (rowOf t r)) (fun l k => argW1 m c (ix2 l k)) (fun k j => argW2 m c (ix2 k j)) j := by
  rw [acc_at, h]
  refine Eq.trans ?_ (sum_blocks (share m c (rowOf t r) j) (t.val / 4))
  refine congrArg (0 + ·) (Finset.sum_congr rfl fun p hp => Finset.sum_congr rfl fun k _ => ?_)
  have hp' : p < 4 := Finset.mem_range.mp hp
  rw [show rowN (4 * (t.val / 4) + p) r = rowN t.val r from Fin.ext (by
    show (1024 * ((4 * (t.val / 4) + p) / 4) + r.val) % 16384 = (1024 * (t.val / 4) + r.val) % 16384
    rw [show (4 * (t.val / 4) + p) / 4 = t.val / 4 by omega]), rowN_eq]

/-- The layer's output row, from the arguments. -/
def outRow (p : Fin 16384) : Fin 1024 → EReal :=
  mlpRow (xRow m c p) (fun l => argG m c (ix1 l)) (fun l k => argW1 m c (ix2 l k)) (fun k j => argW2 m c (ix2 k j))
    (fun l => argG' m c (ix1 l))

/-- The block written at a row block's last point. -/
theorem out_at (r j : Fin 1024) (t : Fin cfg0.N) (h : t.val % 4 = 3) :
    (outsAt0 m c t.val t.isLt).1 (ix2 r j) = outRow m c (rowOf t r) j := by
  have hacc := fun j => acc_last m c r j t h
  rw [outsAt0_C m c t (by omega) h] at hacc ⊢
  dsimp only at hacc ⊢
  rw [out_C, pay4_apply]
  simp only [acc_C] at hacc
  simp only [hacc, blk0, blk4]
  rfl

/-- The kernel's result array. -/
theorem G5_apply (p : Fin 16384) (j : Fin 1024) : (Value.G5 m c : FVec Ideal S16384x1024 .f32) (ix2 p j) = outRow m c p j := by
  have hN : cfg0.N = 64 := N_0
  have hp : Value.pt5Of (ix2 p j) = 4 * (p.val / 1024) + 3 := by
    show 4 * (1 * (p.val / 1024 - 0) + 1 * (j.val / 1024 - 0)) + 3 = _
    omega
  have hlt : Value.pt5Of (ix2 p j) < cfg0.N := by rw [hp, hN]; omega
  have hl : Value.loc5Of (ix2 p j) = ix2 (⟨p.val % 1024, Nat.mod_lt _ (by norm_num)⟩ : Fin 1024) j := by
    funext a
    fin_cases a
    · rfl
    · exact Fin.ext (Nat.mod_eq_of_lt j.isLt)
  unfold Value.G5
  rw [dif_pos hlt, hl, ← Value.outsAt0_sweep m c _ hlt]
  refine (out_at m c _ j ⟨_, hlt⟩ (by show Value.pt5Of (ix2 p j) % 4 = 3; rw [hp]; omega)).trans ?_
  refine congrArg (outRow m c · j) (Fin.ext ?_)
  show 1024 * (Value.pt5Of (ix2 p j) / 4) + p.val % 1024 = p.val
  rw [hp]
  omega

end Cert.Ffn
-- ==== Proof.MlpReference.lean ====
module

public import proofs.«01_k».proof.Proof.MlpRow
public import proofs.«01_k».proof.Proof.Gen.MlpReferenceIdeal.Run

/-! The MLP reference's result by element. -/

@[expose] public section

noncomputable section

namespace Cert.Ffn.Ref

open Idealize.ShloMosaic Idealize.ShloMosaic.TcCoe Cert.MlpReferenceIdeal Cert.MlpReferenceIdeal.Gen Cert.MlpReferenceIdeal.Value

/-- The reference's rows over their root mean squares, scaled. -/
def rmsR (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The reference's inner rows. -/
def ffR (h : FVec Ideal S8x2048x1024 .f32) (w1 : FVec Ideal S1024x4096 .f32) (w2 : FVec Ideal S4096x1024 .f32) : FVec Ideal S8x2048x1024 .f32 :=
  let u : FVec Ideal S8x2048x4096 .f32 := maximumf (Host.dotGeneral dot_S8x2048x1024_S1024x4096_S8x2048x4096_2_0_01_1_n_n none h w1)
    (broadcastInDim S8x2048x4096 ![] bcast_S_S8x2048x4096 (constant S_ .f32 0x00000000#32))
  Host.dotGeneral dot_S8x2048x4096_S4096x1024_S8x2048x1024_2_0_01_1_n_n none (mulf u u) w2

theorem rmsR_apply (x : FVec Ideal S8x2048x1024 .f32) (g : FVec Ideal S1024 .f32) (b : Fin 8) (s : Fin 2048) (l : Fin 1024) :
    rmsR x g (ix3 b s l) = rmsRow (fun p => x (ix3 b s p)) (fun p => g (ix1 p)) l := by
  pointwise [rmsR]
  rfl

theorem ffR_apply (h : FVec Ideal S8x2048x1024 .f32) (w1 : FVec Ideal S1024x4096 .f32) (w2 : FVec Ideal S4096x1024 .f32)
    (b : Fin 8) (s : Fin 2048) (j : Fin 1024) :
    ffR h w1 w2 (ix3 b s j) = ffRow (fun p => h (ix3 b s p)) (fun l k => w1 (ix2 l k)) (fun k j => w2 (ix2 k j)) j := by
  pointwise [ffR]
  rfl

/-- The reference's result from its arguments. -/
def refR (x : FVec Ideal S8x2048x1024 .f32) (g : FVec Ideal S1024 .f32) (w1 : FVec Ideal S1024x4096 .f32) (w2 : FVec Ideal S4096x1024 .f32)
    (g' : FVec Ideal S1024 .f32) : FVec Ideal S16384x1024 .f32 :=
  shapeCast S16384x1024 (addf x (rmsR (ffR (rmsR x g) w1 w2) g')) shapeCasts_S8x2048x1024_S16384x1024

theorem flat_apply (x y : FVec Ideal S8x2048x1024 .f32) (r : Fin 16384) (l : Fin 1024) :
    (shapeCast S16384x1024 (addf x y) shapeCasts_S8x2048x1024_S16384x1024 : FVec Ideal S16384x1024 .f32) (ix2 r l)
      = x (ix3 (⟨r.val / 2048, by omega⟩ : Fin 8) (⟨r.val % 2048, by omega⟩ : Fin 2048) l)
        + y (ix3 (⟨r.val / 2048, by omega⟩ : Fin 8) (⟨r.val % 2048, by omega⟩ : Fin 2048) l) := by
  pointwise []

theorem refR_apply (x : FVec Ideal S8x2048x1024 .f32) (g : FVec Ideal S1024 .f32) (w1 : FVec Ideal S1024x4096 .f32)
    (w2 : FVec Ideal S4096x1024 .f32) (g' : FVec Ideal S1024 .f32) (p : Fin 16384) (j : Fin 1024) :
    refR x g w1 w2 g' (ix2 p j)
      = mlpRow (fun l => x (ix3 (⟨p.val / 2048, by omega⟩ : Fin 8) (⟨p.val % 2048, by omega⟩ : Fin 2048) l)) (fun l => g (ix1 l))
          (fun l k => w1 (ix2 l k)) (fun k j => w2 (ix2 k j)) (fun l => g' (ix1 l)) j := by
  unfold refR mlpRow
  rw [flat_apply, rmsR_apply]
  simp only [ffR_apply, rmsR_apply]

variable (m : (ℓ : Loc nD τ sig) → Buf (Elt Ideal) ℓ) (c : Dev nD)

/-- The reference's result is that function of its arguments. -/
theorem result_eq : (res_main_v31 m c : FVec Ideal S16384x1024 .f32)
    = refR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.Ffn.Ref
-- ==== Proof.MlpClaims.lean ====
module

public import proofs.«01_k».proof.Defs
public import proofs.«01_k».proof.Proof.MlpFold
public import proofs.«01_k».proof.Proof.MlpReference
public import proofs.«01_k».proof.Proof.Gen.Mlp.Frame

/-! The MLP's claims: the frames, and that the kernel and its reference return the same array at any arguments. -/

@[expose] public section

noncomputable section

namespace Cert.Ffn

open Idealize.ShloMosaic Idealize.SL.Sem Idealize.ShloMosaic.TcCoe

/-- The MLP kernel and its reference return the same rows. -/
theorem algebraic : Cert.algebraic_MlpIdeal_MlpReferenceIdeal := by
  intro m ρ m' ρ' _ hagree
  refine ⟨fun c => Cert.MlpIdeal.Value.G5 m c, ?_, ?_⟩
  · exact Cert.MlpIdeal.Value.run (F := Ideal) m ρ
  · refine (θ_run _ _ _).mono (fun _ h c => ⟨(h c).1.trans ?_, (h c).2⟩) (Cert.MlpReferenceIdeal.Value.run (F := Ideal) m' ρ')
    obtain ⟨e0, e1, e2, e3, e4⟩ := hagree c
    funext y
    have e : y = ix2 (y 0) (y 1) := funext fun a => by fin_cases a <;> rfl
    rw [e]
    rw [Ref.result_eq, e0, e1, e2, e3, e4]
    exact (Ref.refR_apply _ _ _ _ _ (y 0) (y 1)).trans (G5_apply m c (y 0) (y 1)).symm

/-- The MLP kernel's frame at machine words. -/
theorem frame_words : Cert.quiescent_Mlp := fun m ρ _ => Cert.Mlp.Gen.frame (F := Bits) m ρ

/-- The MLP kernel's frame at the ideal numbers. -/
theorem frame_ideal : Cert.quiescent_MlpIdeal := fun m ρ _ => Cert.MlpIdeal.Gen.frame (F := Ideal) m ρ

/-- The MLP reference's frame. -/
theorem frame_reference : Cert.quiescent_MlpReferenceIdeal := fun m ρ _ =>
  (θ_run _ _ _).mono (fun r h => ⟨fun c => (h c).2, sem_eq_zero_of_no_sems (by decide) r.2⟩)
    (Cert.MlpReferenceIdeal.Value.run (F := Ideal) m ρ)

end Cert.Ffn
-- ==== Proof.MergeRow.lean ====
module

public import proofs.«01_k».proof.Proof.MlpRow
public import proofs.«01_k».proof.Proof.Gen.MergeIdeal.Skeleton

/-! One row of the layer's gated merge of its three branches, and the kernel's store by element. -/

@[expose] public section

noncomputable section

namespace Cert.Mrg

open Idealize.ShloMosaic Cert.MergeIdeal Cert.MergeIdeal.Gen

/-- The logistic function of `g`. -/
def logistic (g : EReal) : EReal := Ideal.div 1 (1 + Ideal.exp (0 - g))

/-- One branch of the merged row: the gate of column `d` times the branch row's product with the branch's weights. -/
def branch (o : Fin 512 → EReal) (w : Fin 512 → Fin 1024 → EReal) (g : Fin 1024 → EReal) (d : Fin 1024) : EReal :=
  logistic (g d) * ∑ k, o k * w k d

/-- One output row: the row plus the normalised projection of the merged branches. -/
def mergeRow (x : Fin 1024 → EReal) (u0 u1 u2 : Fin 1024 → EReal) (w : Fin 1024 → Fin 1024 → EReal) (g : Fin 1024 → EReal) (j : Fin 1024) : EReal :=
  x j + Ffn.rmsRow (fun p => ∑ d, (u0 d + u1 d + u2 d) * w d p) g j

theorem pay2_apply (o0 : Vec Ideal S512x512 .f32) (w0 : Vec Ideal S1x512x1024 .bf16) (g0 : Vec Ideal S512x1024 .f32)
    (o1 : Vec Ideal S512x512 .f32) (w1 : Vec Ideal S1x512x1024 .bf16) (g1 : Vec Ideal S512x1024 .f32) (r : Fin 512) (d : Fin 1024) :
    k0_pay2 o0 w0 g0 o1 w1 g1 (ix2 r d)
      = branch (fun k => o0 (ix2 r k)) (fun k d => w0 (ix3 (0 : Fin 1) k d)) (fun d => g0 (ix2 r d)) d
        + branch (fun k => o1 (ix2 r k)) (fun k d => w1 (ix3 (0 : Fin 1) k d)) (fun d => g1 (ix2 r d)) d := by
  pointwise [k0_pay2]
  rfl

theorem pay1_apply (u : FVec Ideal S512x1024 .f32) (o : FVec Ideal S512x512 .bf16) (w2 : Vec Ideal S1x512x1024 .bf16)
    (g2 : Vec Ideal S512x1024 .f32) (w : Vec Ideal S1024x1024 .bf16) (x : Vec Ideal S512x1024 .f32) (g : Vec Ideal S1x1024 .f32)
    (r : Fin 512) (j : Fin 1024) :
    k0_pay1 u o w2 g2 w x g (ix2 r j)
      = x (ix2 r j) + Ffn.rmsRow (fun p => ∑ d, (u (ix2 r d)
          + branch (fun k => o (ix2 r k)) (fun k d => w2 (ix3 (0 : Fin 1) k d)) (fun d => g2 (ix2 r d)) d) * w (ix2 d p))
          (fun p => g (ix2 (0 : Fin 1) p)) j := by
  pointwise [k0_pay1]
  rfl

end Cert.Mrg
-- ==== Proof.MergeBlocks.lean ====
module

public import proofs.«01_k».proof.Proof.MergeRow
public import proofs.«01_k».proof.Proof.Gen.MergeIdeal.Value
public import Idealize.ShloMosaic.Lib.StableHlo.RunClose
public import Idealize.ShloMosaic.Lib.Claim
public import Idealize.ShloMosaic.Lib.Pipeline.ValueKit.Point

/-! What the merge call's windows read at each grid point, in terms of the arguments, and its result array by element. -/

@[expose] public section

noncomputable section

namespace Cert.Mrg

open Idealize.ShloMosaic Idealize.ShloMosaic.StableHlo Idealize.ShloMosaic.TcCoe Cert.MergeIdeal Cert.MergeIdeal.Gen

variable (m : (ℓ : Loc nD τ sig) → Buf (Elt Ideal) ℓ) (c : Dev nD)

abbrev argX : FVec Ideal S8x2048x1024 .f32 := m ((c.tc : Thread nD τ).loc main_arg0)
abbrev argA : FVec Ideal S16384x512 .f32 := m ((c.tc : Thread nD τ).loc main_arg1)
abbrev argB : FVec Ideal S16384x512 .f32 := m ((c.tc : Thread nD τ).loc main_arg2)
abbrev argC : FVec Ideal S16384x512 .f32 := m ((c.tc : Thread nD τ).loc main_arg3)
abbrev argP : FVec Ideal S16384x6144 .f32 := m ((c.tc : Thread nD τ).loc main_arg4)
abbrev argWb : FVec Ideal S3x512x1024 .f32 := m ((c.tc : Thread nD τ).loc main_arg5)
abbrev argW : FVec Ideal S1024x1024 .f32 := m ((c.tc : Thread nD τ).loc main_arg6)
abbrev argG : FVec Ideal S1024 .f32 := m ((c.tc : Thread nD τ).loc main_arg7)

set_option maxRecDepth 8192 in
theorem entry0 : V m c main_v0 = (shapeCast S16384x1024 (argX m c) shapeCasts_S8x2048x1024_S16384x1024 : FVec Ideal S16384x1024 .f32) := by
  show StableHlo.after hostOps0 (fun b => m (c, b)) (Proc.devRef .tc main_v0) = _
  simp only [hostOps0]
  entry_read
  rfl

set_option maxRecDepth 8192 in
theorem entry1 : V m c main_v1 = (truncf .bf16 (argWb m c) bitsLt_bf16_f32 : FVec Ideal S3x512x1024 .bf16) := by
  show StableHlo.after hostOps0 (fun b => m (c, b)) (Proc.devRef .tc main_v1) = _
  simp only [hostOps0]
  entry_read
  rfl

set_option maxRecDepth 8192 in
theorem entry2 : V m c main_v2 = (truncf .bf16 (argW m c) bitsLt_bf16_f32 : FVec Ideal S1024x1024 .bf16) := by
  show StableHlo.after hostOps0 (fun b => m (c, b)) (Proc.devRef .tc main_v2) = _
  simp only [hostOps0]
  entry_read
  rfl

set_option maxRecDepth 8192 in
theorem entry3 : V m c main_v3 = (shapeCast S1x1024 (argG m c) shapeCasts_S1024_S1x1024 : FVec Ideal S1x1024 .f32) := by
  show StableHlo.after hostOps0 (fun b => m (c, b)) (Proc.devRef .tc main_v3) = _
  simp only [hostOps0]
  entry_read
  rfl

/-- Row `r` of the flattened input. -/
def xRow (r : Fin 16384) (l : Fin 1024) : EReal :=
  argX m c (ix3 (⟨r.val / 2048, by omega⟩ : Fin 8) (⟨r.val % 2048, by omega⟩ : Fin 2048) l)

theorem flat_apply (x : FVec Ideal S8x2048x1024 .f32) (r : Fin 16384) (l : Fin 1024) :
    (shapeCast S16384x1024 x shapeCasts_S8x2048x1024_S16384x1024 : FVec Ideal S16384x1024 .f32) (ix2 r l)
      = x (ix3 (⟨r.val / 2048, by omega⟩ : Fin 8) (⟨r.val % 2048, by omega⟩ : Fin 2048) l) := by
  pointwise []

theorem row_apply (g : FVec Ideal S1024 .f32) (l : Fin 1024) :
    (shapeCast S1x1024 g shapeCasts_S1024_S1x1024 : FVec Ideal S1x1024 .f32) (ix2 (0 : Fin 1) l) = g (ix1 l) := by
  pointwise []

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 3] := by decide +kernel
theorem index5 : ∀ t : Fin grid0.N, win0_5.index t = ![t.val, 4] := by decide +kernel
theorem index6 : ∀ t : Fin grid0.N, win0_6.index t = ![t.val, 5] := by decide +kernel
theorem index7 : ∀ t : Fin grid0.N, win0_7.index t = ![0, 0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![t.val, 0] := by decide +kernel

/-- The row of the flattened arrays that row `r` of the block at point `t` is. -/
def rowOf (t : Fin cfg0.N) (r : Fin 512) : Fin 16384 :=
  ⟨512 * t.val + r.val, by have h := t.isLt; have : cfg0.N = 32 := N_0; omega⟩

/-- The column of gate `n` at `d`. -/
def gateCol (n : Fin 3) (d : Fin 1024) : Fin 6144 := ⟨3072 + (1024 * n.val + d.val), by omega⟩

set_option maxHeartbeats 1000000 in
theorem blk0 (t : Fin cfg0.N) (r : Fin 512) (l : Fin 1024) :
    (iblk m c 0 t : Vec Ideal S512x1024 .f32) (ix2 r l) = xRow m c (rowOf t r) l := by
  refine Eq.trans ?_ (flat_apply (argX m c) (rowOf t r) l)
  show (V m c main_v0) _ = _
  rw [entry0]
  blk_ext [iblk, index0 t, rowOf]

set_option maxHeartbeats 1000000 in
theorem blk1 (t : Fin cfg0.N) (r k : Fin 512) :
    (iblk m c 1 t : Vec Ideal S512x512 .f32) (ix2 r k) = argA m c (ix2 (rowOf t r) k) := by
  show (V m c main_arg1) _ = _
  rw [V_main_arg1]
  show argA m c _ = _
  blk_ext [iblk, index1 t, rowOf]

set_option maxHeartbeats 1000000 in
theorem blk2 (t : Fin cfg0.N) (r k : Fin 512) :
    (iblk m c 2 t : Vec Ideal S512x512 .f32) (ix2 r k) = argB m c (ix2 (rowOf t r) k) := by
  show (V m c main_arg2) _ = _
  rw [V_main_arg2]
  show argB m c _ = _
  blk_ext [iblk, index2 t, rowOf]

set_option maxHeartbeats 1000000 in
theorem blk3 (t : Fin cfg0.N) (r k : Fin 512) :
    (iblk m c 3 t : Vec Ideal S512x512 .f32) (ix2 r k) = argC m c (ix2 (rowOf t r) k) := by
  show (V m c main_arg3) _ = _
  rw [V_main_arg3]
  show argC m c _ = _
  blk_ext [iblk, index3 t, rowOf]

set_option maxHeartbeats 1000000 in
theorem blk4 (t : Fin cfg0.N) (r : Fin 512) (d : Fin 1024) :
    (iblk m c 4 t : Vec Ideal S512x1024 .f32) (ix2 r d) = argP m c (ix2 (rowOf t r) (gateCol 0 d)) := by
  show (V m c main_arg4) _ = _
  rw [V_main_arg4]
  show argP m c _ = _
  blk_ext [iblk, index4 t, rowOf, gateCol]

set_option maxHeartbeats 1000000 in
theorem blk5 (t : Fin cfg0.N) (r : Fin 512) (d : Fin 1024) :
    (iblk m c 5 t : Vec Ideal S512x1024 .f32) (ix2 r d) = argP m c (ix2 (rowOf t r) (gateCol 1 d)) := by
  show (V m c main_arg4) _ = _
  rw [V_main_arg4]
  show argP m c _ = _
  blk_ext [iblk, index5 t, rowOf, gateCol]

set_option maxHeartbeats 1000000 in
theorem blk6 (t : Fin cfg0.N) (r : Fin 512) (d : Fin 1024) :
    (iblk m c 6 t : Vec Ideal S512x1024 .f32) (ix2 r d) = argP m c (ix2 (rowOf t r) (gateCol 2 d)) := by
  show (V m c main_arg4) _ = _
  rw [V_main_arg4]
  show argP m c _ = _
  blk_ext [iblk, index6 t, rowOf, gateCol]

set_option maxHeartbeats 1000000 in
theorem blk7 (t : Fin cfg0.N) (n : Fin 3) (k : Fin 512) (d : Fin 1024) :
    (iblk m c 7 t : Vec Ideal S3x512x1024 .bf16) (ix3 n k d) = argWb m c (ix3 n k d) := by
  show (V m c main_v1) _ = _
  rw [entry1]
  show argWb m c _ = _
  blk_ext [iblk, index7 t]

set_option maxHeartbeats 1000000 in
theorem blk8 (t : Fin cfg0.N) (d j : Fin 1024) :
    (iblk m c 8 t : Vec Ideal S1024x1024 .bf16) (ix2 d j) = argW m c (ix2 d j) := by
  show (V m c main_v2) _ = _
  rw [entry2]
  show argW m c _ = _
  blk_ext [iblk, index8 t]

set_option maxHeartbeats 1000000 in
theorem blk9 (t : Fin cfg0.N) (l : Fin 1024) :
    (iblk m c 9 t : Vec Ideal S1x1024 .f32) (ix2 (0 : Fin 1) l) = argG m c (ix1 l) := by
  refine Eq.trans ?_ (row_apply (argG m c) l)
  show (V m c main_v3) _ = _
  rw [entry3]
  blk_ext [iblk, index9 t]

/-- The layer's merged row, from the arguments. -/
def outRow (p : Fin 16384) : Fin 1024 → EReal :=
  mergeRow (xRow m c p)
    (branch (fun k => argA m c (ix2 p k)) (fun k d => argWb m c (ix3 (0 : Fin 3) k d)) (fun d => argP m c (ix2 p (gateCol 0 d))))
    (branch (fun k => argB m c (ix2 p k)) (fun k d => argWb m c (ix3 (1 : Fin 3) k d)) (fun d => argP m c (ix2 p (gateCol 1 d))))
    (branch (fun k => argC m c (ix2 p k)) (fun k d => argWb m c (ix3 (2 : Fin 3) k d)) (fun d => argP m c (ix2 p (gateCol 2 d))))
    (fun d l => argW m c (ix2 d l)) (fun l => argG m c (ix1 l))

theorem hz : (![0, 0] : Fin 2 → Nat) = fun _ => 0 := funext fun a => by fin_cases a <;> rfl

theorem layer_apply (x : Vec Ideal S3x512x1024 .bf16) (n : Fin 3) (h) (k : Fin 512) (d : Fin 1024) :
    View.ld x (Rect.unit (s := S3x512x1024) ![n.val, 0, 0] S1x512x1024.size h) (ix3 (0 : Fin 1) k d) = x (ix3 n k d) := by
  show x _ = x _
  refine congrArg x (funext fun a => Fin.ext ?_)
  fin_cases a
  · show n.val + 1 * 0 = n.val; omega
  · show 0 + 1 * k.val = k.val; omega
  · show 0 + 1 * d.val = d.val; omega

/-- The block the body leaves at point `t`. -/
theorem out_at (t : Fin cfg0.N) (r : Fin 512) (j : Fin 1024) :
    (out0_10 (iblk m c 0 t) (iblk m c 1 t) (iblk m c 2 t) (iblk m c 3 t) (iblk m c 4 t) (iblk m c 5 t) (iblk m c 6 t) (iblk m c 7 t)
      (iblk m c 8 t) (iblk m c 9 t) : Vec Ideal S512x1024 .f32) (ix2 r j) = outRow m c (rowOf t r) j := by
  refine (congrFun (View.canon_unit_zero hz (S := S512x1024) inb_S512x1024_S512x1024_0_0 _) (ix2 r j)).trans ?_
  simp only [View.ld_unit_zero (S := S512x1024) hz, View.ld_unit_zero (S := S512x512) hz,
    View.ld_unit_zero (S := S1024x1024) hz, View.ld_unit_zero (S := S1x1024) hz]
  rw [pay1_apply]
  have e0 := layer_apply (iblk m c 7 t) 0 inb_S3x512x1024_S1x512x1024_0_0_0
  have e1 := layer_apply (iblk m c 7 t) 1 inb_S3x512x1024_S1x512x1024_1_0_0
  have e2 := layer_apply (iblk m c 7 t) 2 inb_S3x512x1024_S1x512x1024_2_0_0
  simp only [pay2_apply, k0_pay3, blk0, blk1, blk2, blk4, blk5, blk6, blk8, blk9, ← blk7 m c t]
  unfold outRow mergeRow
  simp only [← blk7 m c t, ← e0, ← e1, ← e2, ← blk3 m c t]
  rfl

set_option maxHeartbeats 1000000 in
/-- The kernel's result array. -/
theorem final_apply (p : Fin 16384) (j : Fin 1024) :
    ((dats m 0 c).arrAt 10 cfg0.N : FVec Ideal S16384x1024 .f32) (ix2 p j) = outRow m c p j := by
  have hN : cfg0.N = 32 := N_0
  let t : Fin cfg0.N := ⟨p.val / 512, by omega⟩
  let r : Fin 512 := ⟨p.val % 512, by omega⟩
  have hp : rowOf t r = p := Fin.ext (by show 512 * (p.val / 512) + p.val % 512 = p.val; omega)
  have h := congrFun (Value.blocks10 m c t (by have : ∀ t : Fin cfg0.N, (cfg0.win 10).flush t = true := (by decide +kernel); exact this t)) (ix2 r j)
  rw [Value.flushed10] at h
  refine Eq.trans ?_ (h.trans ((out_at m c t r j).trans (by rw [hp])))
  show _ = ((dats m 0 c).arrAt 10 cfg0.N : FVec Ideal S16384x1024 .f32) _
  refine congrArg _ ?_
  rw [← hp]
  funext a
  refine Fin.ext ?_
  have e := index10 t
  fin_cases a
  · show 512 * t.val + r.val = win0_10.index t 0 * 512 + 1 * r.val
    rw [e]; show _ = t.val * 512 + 1 * r.val; omega
  · show j.val = win0_10.index t 1 * 1024 + 1 * j.val
    rw [e]; show _ = 0 * 1024 + 1 * j.val; omega

end Cert.Mrg
-- ==== Proof.MergeReference.lean ====
module

public import proofs.«01_k».proof.Proof.MergeRow
public import proofs.«01_k».proof.Proof.Gen.MergeReferenceIdeal.Run

/-! The merge reference's result by element. -/

@[expose] public section

noncomputable section

namespace Cert.Mrg.Ref

open Idealize.ShloMosaic Idealize.ShloMosaic.TcCoe Cert.MergeReferenceIdeal Cert.MergeReferenceIdeal.Gen Cert.MergeReferenceIdeal.Value

/-- The reference's rows over their root mean squares, scaled. -/
def rmsR (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The three gates of every row. -/
def gateR (proj : FVec Ideal S16384x6144 .f32) : FVec Ideal S8x2048x3x1024 .f32 :=
  shapeCast S8x2048x3x1024 (Host.divf (broadcastInDim S16384x3072 ![] bcast_S_S16384x3072 (constant S_ .f32 0x3F800000#32))
    (addf (broadcastInDim S16384x3072 ![] bcast_S_S16384x3072 (constant S_ .f32 0x3F800000#32))
      (Host.exp (Host.negf (extractStridedSlice S16384x3072 ![0, 3072] proj slices_S16384x6144_S16384x3072_0_3072)))) : FVec Ideal S16384x3072 .f32)
    shapeCasts_S16384x3072_S8x2048x3x1024

/-- One branch's rows as a stack's layer. -/
def layerR (o : FVec Ideal S16384x512 .f32) : FVec Ideal S8x2048x1x512 .f32 :=
  broadcastInDim S8x2048x1x512 ![0, 1, 3] bcast_S8x2048x512_S8x2048x1x512_0_1_3 (shapeCast S8x2048x512 o shapeCasts_S16384x512_S8x2048x512)

/-- The stacked branches. -/
def stackR (o0 o1 o2 : FVec Ideal S16384x512 .f32) : FVec Ideal S8x2048x3x512 .f32 :=
  concatenate S8x2048x3x512 2 [⟨S8x2048x1x512, layerR o0⟩, ⟨S8x2048x1x512, layerR o1⟩, ⟨S8x2048x1x512, layerR o2⟩]
    concatenates_S8x2048x1x512_S8x2048x1x512_S8x2048x1x512_S8x2048x3x512_d2

/-- Every branch's product with its weights. -/
def upR (b : FVec Ideal S8x2048x3x512 .f32) (w : FVec Ideal S3x512x1024 .f32) : FVec Ideal S8x2048x3x1024 .f32 :=
  transpose S8x2048x3x1024 [2, 3, 0, 1] (Host.dotGeneral dot_S3x512x1024_S8x2048x3x512_S3x1024x8x2048_1_3_2_01_0_2 none w b)
    transposes_S3x1024x8x2048_S8x2048x3x1024_2_3_0_1

/-- The merged branches' projection. -/
def outR (g u : FVec Ideal S8x2048x3x1024 .f32) (w : FVec Ideal S1024x1024 .f32) : FVec Ideal S8x2048x1024 .f32 :=
  Host.dotGeneral dot_S8x2048x1024_S1024x1024_S8x2048x1024_2_0_01_1_n_n none
    (Host.reduceAdd (mulf g u) (constant S_ .f32 0x00000000#32) reducesTo_S8x2048x3x1024_S8x2048x1024_d2 h_S_) w

/-- The reference's result from its arguments. -/
def refR (x : FVec Ideal S8x2048x1024 .f32) (o0 o1 o2 : FVec Ideal S16384x512 .f32) (proj : FVec Ideal S16384x6144 .f32)
    (wb : FVec Ideal S3x512x1024 .f32) (w : FVec Ideal S1024x1024 .f32) (g : FVec Ideal S1024 .f32) : FVec Ideal S16384x1024 .f32 :=
  shapeCast S16384x1024 (addf x (rmsR (outR (gateR proj) (upR (stackR o0 o1 o2) wb) w) g)) shapeCasts_S8x2048x1024_S16384x1024

variable (m : (ℓ : Loc nD τ sig) → Buf (Elt Ideal) ℓ) (c : Dev nD)

/-- The reference's result is that function of its arguments. -/
theorem result_eq : (res_main_v34 m c : FVec Ideal S16384x1024 .f32)
    = refR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := rfl

theorem rmsR_apply (x : FVec Ideal S8x2048x1024 .f32) (g : FVec Ideal S1024 .f32) (b : Fin 8) (s : Fin 2048) (l : Fin 1024) :
    rmsR x g (ix3 b s l) = Ffn.rmsRow (fun p => x (ix3 b s p)) (fun p => g (ix1 p)) l := by
  pointwise [rmsR]
  rfl

/-- The row of the flattened arrays that row `s` of sequence `b` is. -/
def rowOf (b : Fin 8) (s : Fin 2048) : Fin 16384 := ⟨2048 * b.val + s.val, by omega⟩

/-- The column of gate `n` at `d`. -/
def gateCol (n : Fin 3) (d : Fin 1024) : Fin 6144 := ⟨3072 + (1024 * n.val + d.val), by omega⟩

theorem gateR_apply (proj : FVec Ideal S16384x6144 .f32) (b : Fin 8) (s : Fin 2048) (n : Fin 3) (d : Fin 1024) :
    gateR proj (ix4 b s n d) = logistic (proj (ix2 (rowOf b s) (gateCol n d))) := by
  have e : (⟨b.val * 2048 + s.val, by omega⟩ : Fin 16384) = rowOf b s := Fin.ext (by show b.val * 2048 + s.val = 2048 * b.val + s.val; omega)
  have e' : (⟨3072 + (n.val * 1024 + d.val), by omega⟩ : Fin 6144) = gateCol n d :=
    Fin.ext (by show 3072 + (n.val * 1024 + d.val) = 3072 + (1024 * n.val + d.val); omega)
  unfold logistic
  rw [zero_sub, ← e, ← e']
  pointwise [gateR]

theorem layerR_apply (o : FVec Ideal S16384x512 .f32) (b : Fin 8) (s : Fin 2048) (k : Fin 512) :
    layerR o (ix4 b s (0 : Fin 1) k) = o (ix2 (rowOf b s) k) := by
  have e : (⟨b.val * 2048 + s.val, by omega⟩ : Fin 16384) = rowOf b s := Fin.ext (by show b.val * 2048 + s.val = 2048 * b.val + s.val; omega)
  rw [← e]
  pointwise [layerR]

theorem stackR_apply (o0 o1 o2 : FVec Ideal S16384x512 .f32) (b : Fin 8) (s : Fin 2048) (n : Fin 3) (k : Fin 512) :
    stackR o0 o1 o2 (ix4 b s n k) = (![o0, o1, o2] n) (ix2 (rowOf b s) k) := by
  unfold stackR
  fin_cases n
  · pointwise []
    exact layerR_apply o0 b s k
  · pointwise []
    exact layerR_apply o1 b s k
  · pointwise []
    exact layerR_apply o2 b s k

theorem upR_apply (b : FVec Ideal S8x2048x3x512 .f32) (w : FVec Ideal S3x512x1024 .f32) (i : Fin 8) (s : Fin 2048) (n : Fin 3) (d : Fin 1024) :
    upR b w (ix4 i s n d) = ∑ k, w (ix3 n k d) * b (ix4 i s n k) := by
  pointwise [upR]

theorem outR_apply (g u : FVec Ideal S8x2048x3x1024 .f32) (w : FVec Ideal S1024x1024 .f32) (b : Fin 8) (s : Fin 2048) (j : Fin 1024) :
    outR g u w (ix3 b s j) = ∑ d, (g (ix4 b s (0 : Fin 3) d) * u (ix4 b s (0 : Fin 3) d) + g (ix4 b s (1 : Fin 3) d) * u (ix4 b s (1 : Fin 3) d)
      + g (ix4 b s (2 : Fin 3) d) * u (ix4 b s (2 : Fin 3) d)) * w (ix2 d j) := by
  pointwise [outR]
  refine Finset.sum_congr rfl fun d _ => ?_
  rw [Fin.sum_univ_three]

theorem flat_apply (x y : FVec Ideal S8x2048x1024 .f32) (r : Fin 16384) (l : Fin 1024) :
    (shapeCast S16384x1024 (addf x y) shapeCasts_S8x2048x1024_S16384x1024 : FVec Ideal S16384x1024 .f32) (ix2 r l)
      = x (ix3 (⟨r.val / 2048, by omega⟩ : Fin 8) (⟨r.val % 2048, by omega⟩ : Fin 2048) l)
        + y (ix3 (⟨r.val / 2048, by omega⟩ : Fin 8) (⟨r.val % 2048, by omega⟩ : Fin 2048) l) := by
  pointwise []

theorem rowOf_split (p : Fin 16384) : rowOf (⟨p.val / 2048, by omega⟩ : Fin 8) (⟨p.val % 2048, by omega⟩ : Fin 2048) = p :=
  Fin.ext (by show 2048 * (p.val / 2048) + p.val % 2048 = p.val; omega)

/-- One branch of the gated product. -/
theorem branch_apply (proj : FVec Ideal S16384x6144 .f32) (o0 o1 o2 : FVec Ideal S16384x512 .f32) (wb : FVec Ideal S3x512x1024 .f32)
    (b : Fin 8) (s : Fin 2048) (n : Fin 3) (d : Fin 1024) :
    gateR proj (ix4 b s n d) * upR (stackR o0 o1 o2) wb (ix4 b s n d)
      = branch (fun k => (![o0, o1, o2] n) (ix2 (rowOf b s) k)) (fun k d => wb (ix3 n k d))
          (fun d => proj (ix2 (rowOf b s) (gateCol n d))) d := by
  rw [gateR_apply, upR_apply]
  unfold branch
  refine congrArg (_ * ·) (Finset.sum_congr rfl fun k _ => ?_)
  rw [stackR_apply, mul_comm]

theorem refR_apply (x : FVec Ideal S8x2048x1024 .f32) (o0 o1 o2 : FVec Ideal S16384x512 .f32) (proj : FVec Ideal S16384x6144 .f32)
    (wb : FVec Ideal S3x512x1024 .f32) (w : FVec Ideal S1024x1024 .f32) (g : FVec Ideal S1024 .f32) (p : Fin 16384) (j : Fin 1024) :
    refR x o0 o1 o2 proj wb w g (ix2 p j)
      = mergeRow (fun l => x (ix3 (⟨p.val / 2048, by omega⟩ : Fin 8) (⟨p.val % 2048, by omega⟩ : Fin 2048) l))
          (branch (fun k => o0 (ix2 p k)) (fun k d => wb (ix3 (0 : Fin 3) k d)) (fun d => proj (ix2 p (gateCol 0 d))))
          (branch (fun k => o1 (ix2 p k)) (fun k d => wb (ix3 (1 : Fin 3) k d)) (fun d => proj (ix2 p (gateCol 1 d))))
          (branch (fun k => o2 (ix2 p k)) (fun k d => wb (ix3 (2 : Fin 3) k d)) (fun d => proj (ix2 p (gateCol 2 d))))
          (fun d l => w (ix2 d l)) (fun l => g (ix1 l)) j := by
  unfold refR mergeRow
  rw [flat_apply, rmsR_apply]
  simp only [outR_apply, branch_apply, rowOf_split]
  rfl

end Cert.Mrg.Ref
-- ==== Proof.MergeClaims.lean ====
module

public import proofs.«01_k».proof.Defs
public import proofs.«01_k».proof.Proof.MergeBlocks
public import proofs.«01_k».proof.Proof.MergeReference
public import proofs.«01_k».proof.Proof.Gen.Merge.Frame

/-! The merge's claims: the frames, and that the kernel and its reference return the same array at any arguments. -/

@[expose] public section

noncomputable section

namespace Cert.Mrg

open Idealize.ShloMosaic Idealize.SL.Sem Idealize.ShloMosaic.TcCoe

/-- The merge kernel and its reference return the same rows. -/
theorem algebraic : Cert.algebraic_MergeIdeal_MergeReferenceIdeal := by
  intro m ρ m' ρ' _ hagree
  refine ⟨fun c => (Cert.MergeIdeal.Gen.dats m 0 c).arrAt 10 Cert.MergeIdeal.cfg0.N, ?_, ?_⟩
  · exact Cert.MergeIdeal.Value.run_blocks (F := Ideal) m ρ
  · refine (θ_run _ _ _).mono (fun _ h c => ⟨(h c).1.trans ?_, (h c).2⟩) (Cert.MergeReferenceIdeal.Value.run (F := Ideal) m' ρ')
    obtain ⟨e0, e1, e2, e3, e4, e5, e6, e7⟩ := hagree c
    funext y
    have e : y = ix2 (y 0) (y 1) := funext fun a => by fin_cases a <;> rfl
    rw [e]
    rw [Ref.result_eq, e0, e1, e2, e3, e4, e5, e6, e7]
    exact (Ref.refR_apply _ _ _ _ _ _ _ _ (y 0) (y 1)).trans (final_apply m c (y 0) (y 1)).symm

/-- The merge kernel's frame at machine words. -/
theorem frame_words : Cert.quiescent_Merge := fun m ρ _ => Cert.Merge.Gen.frame (F := Bits) m ρ

/-- The merge kernel's frame at the ideal numbers. -/
theorem frame_ideal : Cert.quiescent_MergeIdeal := fun m ρ _ => Cert.MergeIdeal.Gen.frame (F := Ideal) m ρ

/-- The merge reference's frame. -/
theorem frame_reference : Cert.quiescent_MergeReferenceIdeal := fun m ρ _ =>
  (θ_run _ _ _).mono (fun r h => ⟨fun c => (h c).2, sem_eq_zero_of_no_sems (by decide) r.2⟩)
    (Cert.MergeReferenceIdeal.Value.run (F := Ideal) m ρ)

end Cert.Mrg
-- ==== Proof.InProjIdealSkeleton.lean ====
/-
The input projection over the real numbers: its body with the values it stores named.
-/
module

public import proofs.«01_k».proof.Proof.Gen.InProjIdeal

@[expose] public section

set_option synthInstance.maxSize 4096

noncomputable section

namespace Cert.InProjIdeal.Gen

open Idealize.ShloMosaic Idealize.SL.Sem

variable {F : FTy → Type} [FloatOps F]

/-- A value the body stores, of what it has loaded. -/
noncomputable def k0_pay1 (v16 : Vec F S1024x1024 .f32) (v18 : Vec F S1x1024 .f32) : FVec F S1024x1024 .bf16 :=
  have v17 : FVec F S1024x1024 .f32 := shapeCast S1024x1024 v16 shapeCasts_S1024x1024_S1024x1024
  have v19 : FVec F S1x1024 .f32 := shapeCast S1x1024 v18 shapeCasts_S1x1024_S1x1024
  have v20 : FVec F S1024x1024 .f32 := mulf v17 v17
  have v21 : FVec F S1024 .f32 := multiReduction .add [1] S1024 v20 0x00000000#32 reduces_S1024x1024_S1024 (.inl rfl) rfl
  have v22 : FVec F S1024x1 .f32 := shapeCast S1024x1 v21 shapeCasts_S1024_S1024x1
  have cst_11 : F .f32 := Scalar.ofBits .f32 0x44800000#32
  have v23 : FVec F S1024x1 .f32 := broadcast S1024x1 cst_11
  have v24 : FVec F S1024x1 .f32 := divf v22 v23
  have cst_12 : F .f32 := Scalar.ofBits .f32 0x358637BD#32
  have v25 : FVec F S1024x1 .f32 := broadcast S1024x1 cst_12
  have v26 : FVec F S1024x1 .f32 := addf v24 v25
  have v27 : FVec F S1024x1 .f32 := rsqrt v26
  have v28 : FVec F S1024x1024 .f32 := broadcastTo S1024x1024 v27 broadcasts_S1024x1_S1024x1024
  have v29 : FVec F S1024x1024 .f32 := mulf v17 v28
  have v30 : FVec F S1024x1024 .f32 := broadcastTo S1024x1024 v19 broadcasts_S1x1024_S1024x1024
  have v31 : FVec F S1024x1024 .f32 := mulf v29 v30
  have v32 : FVec F S1024x1024 .bf16 := truncf .bf16 v31 bitsLt_bf16_f32
  v32

/-- A value the body stores, of what it has loaded. -/
noncomputable def k0_pay2 (v16 : Vec F S1024x1024 .f32) (v18 : Vec F S1x1024 .f32) : FVec F S1024x1024 .bf16 :=
  have v35 : FVec F S1024x1024 .bf16 := shapeCast S1024x1024 (k0_pay1 v16 v18) shapeCasts_S1024x1024_S1024x1024
  v35

/-- A value the body stores, of what it has loaded. -/
noncomputable def k0_pay3 (v16 : Vec F S1024x1024 .f32) (v18 : Vec F S1x1024 .f32) (v36 : Vec F S1024x8 .bf16) : FVec F S1024x8 .f32 :=
  have v37 : FVec F S1024x8 .bf16 := shapeCast S1024x8 v36 shapeCasts_S1024x8_S1024x8
  have cst_17 : FVec F S1024x8 .f32 := constant S1024x8 .f32 0x00000000#32
  have v38 : FVec F S1024x8 .f32 := matmul dot_S1024x1024_S1024x8_S1024x8_1_0_0_1_n_n none (k0_pay1 v16 v18) v37 cst_17
  v38

/-- A value the body stores, of what it has loaded. -/
noncomputable def k0_pay4 (v3 : Vec F S1024x1024 .bf16) (v7 : Vec F S1024x1024 .bf16) : FVec F S1024x1024 .f32 :=
  have v8 : FVec F S1024x1024 .bf16 := shapeCast S1024x1024 v7 shapeCasts_S1024x1024_S1024x1024
  have cst : FVec F S1024x1024 .f32 := constant S1024x1024 .f32 0x00000000#32
  have v9 : FVec F S1024x1024 .f32 := matmul dot_S1024x1024_S1024x1024_S1024x1024_1_0_0_1_n_n none v3 v8 cst
  v9

/-- A value the body stores, of what it has loaded. -/
noncomputable def k0_pay5 (v3 : Vec F S1024x1024 .bf16) (v7 : Vec F S1024x1024 .bf16) : FVec F S1024x128 .f32 :=
  have v16 : FVec F S1024x128 .f32 := extractStridedSlice S1024x128 ![0, 0] (k0_pay4 v3 v7) slices_S1024x1024_o0_0_S1024x128
  v16

/-- A value the body stores, of what it has loaded. -/
noncomputable def k0_pay6 (v3 : Vec F S1024x1024 .bf16) (v7 : Vec F S1024x1024 .bf16) : FVec F S1024x128 .f32 :=
  have v18 : FVec F S1024x128 .f32 := extractStridedSlice S1024x128 ![0, 512] (k0_pay4 v3 v7) slices_S1024x1024_o0_512_S1024x128
  v18

/-- A value the body stores, of what it has loaded. -/
noncomputable def k0_pay7 (v3 : Vec F S1024x1024 .bf16) (v7 : Vec F S1024x1024 .bf16) : FVec F S1024x128 .f32 :=
  have v20 : FVec F S1024x128 .f32 := extractStridedSlice S1024x128 ![0, 128] (k0_pay4 v3 v7) slices_S1024x1024_o0_128_S1024x128
  v20

/-- A value the body stores, of what it has loaded. -/
noncomputable def k0_pay8 (v3 : Vec F S1024x1024 .bf16) (v7 : Vec F S1024x1024 .bf16) : FVec F S1024x128 .f32 :=
  have v22 : FVec F S1024x128 .f32 := extractStridedSlice S1024x128 ![0, 640] (k0_pay4 v3 v7) slices_S1024x1024_o0_640_S1024x128
  v22

/-- A value the body stores, of what it has loaded. -/
noncomputable def k0_pay9 (v3 : Vec F S1024x1024 .bf16) (v7 : Vec F S1024x1024 .bf16) : FVec F S1024x128 .f32 :=
  have v24 : FVec F S1024x128 .f32 := extractStridedSlice S1024x128 ![0, 256] (k0_pay4 v3 v7) slices_S1024x1024_o0_256_S1024x128
  v24

/-- A value the body stores, of what it has loaded. -/
noncomputable def k0_pay10 (v3 : Vec F S1024x1024 .bf16) (v7 : Vec F S1024x1024 .bf16) : FVec F S1024x128 .f32 :=
  have v26 : FVec F S1024x128 .f32 := extractStridedSlice S1024x128 ![0, 768] (k0_pay4 v3 v7) slices_S1024x1024_o0_768_S1024x128
  v26

/-- A value the body stores, of what it has loaded. -/
noncomputable def k0_pay11 (v3 : Vec F S1024x1024 .bf16) (v7 : Vec F S1024x1024 .bf16) : FVec F S1024x128 .f32 :=
  have v28 : FVec F S1024x128 .f32 := extractStridedSlice S1024x128 ![0, 384] (k0_pay4 v3 v7) slices_S1024x1024_o0_384_S1024x128
  v28

/-- A value the body stores, of what it has loaded. -/
noncomputable def k0_pay12 (v3 : Vec F S1024x1024 .bf16) (v7 : Vec F S1024x1024 .bf16) : FVec F S1024x128 .f32 :=
  have v30 : FVec F S1024x128 .f32 := extractStridedSlice S1024x128 ![0, 896] (k0_pay4 v3 v7) slices_S1024x1024_o0_896_S1024x128
  v30

/-- The body, with the values it stores named. -/
noncomputable def cc0_in_proj_skel (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) :
    Prog (TpuEff nD τ sig (Elt F) Λ₀ .tc) PUnit := do

  if k0_h1 : k0_cond1 i = 1#1 then do
    let v16 : Vec F S1024x1024 .f32 ← Prog.lift (.load arg2 (Rect.unit (s := S1024x1024) ![0, 0] S1024x1024.size inb_S1024x1024_S1024x1024_0_0).toLoadRect (View.loadsAt_vmem h_S1024x1024))
    let v18 : Vec F S1x1024 .f32 ← Prog.lift (.load arg3 (Rect.unit (s := S1x1024) ![0, 0] S1x1024.size inb_S1x1024_S1x1024_0_0).toLoadRect (View.loadsAt_vmem h_S1x1024))

    let v33 : Vec F S1024x1024 .bf16 ← Prog.lift (.load arg10 (Rect.unit (s := S1024x1024) ![0, 0] S1024x1024.size inb_S1024x1024_S1024x1024_0_0).toLoadRect (View.loadsAt_vmem h_S1024x1024))

    Prog.lift (.store arg10 (Rect.unit (s := S1024x1024) ![0, 0] S1024x1024.size inb_S1024x1024_S1024x1024_0_0) (k0_pay2 v16 v18) Finset.univ (View.stores_vmem h_S1024x1024 (harg10.storeExact_slice rfl _ packedbf16_S1024x1024_S1024x1024_0_0) (fun _ => rfl)) (.inl rfl))
    let v36 : Vec F S1024x8 .bf16 ← Prog.lift (.load arg5 (Rect.unit (s := S1024x8) ![0, 0] S1024x8.size inb_S1024x8_S1024x8_0_0).toLoadRect (View.loadsAt_vmem h_S1024x8))
    let v39 : Vec F S1024x8 .f32 ← Prog.lift (.load arg7 (Rect.unit (s := S1024x8) ![0, 0] S1024x8.size inb_S1024x8_S1024x8_0_0).toLoadRect (View.loadsAt_vmem h_S1024x8))
    Prog.lift (.store arg7 (Rect.unit (s := S1024x8) ![0, 0] S1024x8.size inb_S1024x8_S1024x8_0_0) (k0_pay3 v16 v18 v36) Finset.univ (View.stores_vmem_bits_univ h_S1024x8 rfl) (.inl rfl))
    pure ⟨⟩
  else do
    pure ⟨⟩
  let v3 : Vec F S1024x1024 .bf16 ← Prog.lift (.load arg10 (Rect.unit (s := S1024x1024) ![0, 0] S1024x1024.size inb_S1024x1024_S1024x1024_0_0).toLoadRect (View.loadsAt_vmem h_S1024x1024))

  let v7 : Vec F S1024x1024 .bf16 ← Prog.lift (.load arg4 (Rect.unit (s := S1024x7168) (k0_off1 i) S1024x1024.size (k0_off1_inb i)).toLoadRect (View.loadsAt_vmem h_S1024x1024))

  if k0_h2 : k0_cond2 i = 1#1 then do
    let v16 : Vec F S1024x1024 .f32 ← Prog.lift (.load arg6 (Rect.unit (s := S1024x1024) ![0, 0] S1024x1024.size inb_S1024x1024_S1024x1024_0_0).toLoadRect (View.loadsAt_vmem h_S1024x1024))
    Prog.lift (.store arg6 (Rect.unit (s := S1024x1024) ![0, 0] S1024x1024.size inb_S1024x1024_S1024x1024_0_0) (k0_pay4 v3 v7) Finset.univ (View.stores_vmem_bits_univ h_S1024x1024 rfl) (.inl rfl))
    pure ⟨⟩
  else do
    pure ⟨⟩

  if k0_h3 : k0_cond3 i = 1#1 then do
    let v17 : Vec F S1024x128 .f32 ← Prog.lift (.load arg8 (⟨![0, 0], S1024x128.size, ![4, 1], inb_S4096x128_S1024x128_0_0_s_4_1⟩ : LoadRect S4096x128) (View.loadsAt_vmem h_S1024x128))
    Prog.lift (.store arg8 ⟨(⟨![0, 0], S1024x128.size, ![4, 1], inb_S4096x128_S1024x128_0_0_s_4_1⟩ : LoadRect S4096x128), spos_4_1⟩ (k0_pay5 v3 v7) Finset.univ (View.stores_vmem_bits_univ h_S1024x128 rfl) (.inl rfl))
    let v19 : Vec F S1024x128 .f32 ← Prog.lift (.load arg9 (⟨![0, 0], S1024x128.size, ![4, 1], inb_S4096x128_S1024x128_0_0_s_4_1⟩ : LoadRect S4096x128) (View.loadsAt_vmem h_S1024x128))
    Prog.lift (.store arg9 ⟨(⟨![0, 0], S1024x128.size, ![4, 1], inb_S4096x128_S1024x128_0_0_s_4_1⟩ : LoadRect S4096x128), spos_4_1⟩ (k0_pay6 v3 v7) Finset.univ (View.stores_vmem_bits_univ h_S1024x128 rfl) (.inl rfl))
    let v21 : Vec F S1024x128 .f32 ← Prog.lift (.load arg8 (⟨![1, 0], S1024x128.size, ![4, 1], inb_S4096x128_S1024x128_1_0_s_4_1⟩ : LoadRect S4096x128) (View.loadsAt_vmem h_S1024x128))
    Prog.lift (.store arg8 ⟨(⟨![1, 0], S1024x128.size, ![4, 1], inb_S4096x128_S1024x128_1_0_s_4_1⟩ : LoadRect S4096x128), spos_4_1⟩ (k0_pay7 v3 v7) Finset.univ (View.stores_vmem_bits_univ h_S1024x128 rfl) (.inl rfl))
    let v23 : Vec F S1024x128 .f32 ← Prog.lift (.load arg9 (⟨![1, 0], S1024x128.size, ![4, 1], inb_S4096x128_S1024x128_1_0_s_4_1⟩ : LoadRect S4096x128) (View.loadsAt_vmem h_S1024x128))
    Prog.lift (.store arg9 ⟨(⟨![1, 0], S1024x128.size, ![4, 1], inb_S4096x128_S1024x128_1_0_s_4_1⟩ : LoadRect S4096x128), spos_4_1⟩ (k0_pay8 v3 v7) Finset.univ (View.stores_vmem_bits_univ h_S1024x128 rfl) (.inl rfl))
    let v25 : Vec F S1024x128 .f32 ← Prog.lift (.load arg8 (⟨![2, 0], S1024x128.size, ![4, 1], inb_S4096x128_S1024x128_2_0_s_4_1⟩ : LoadRect S4096x128) (View.loadsAt_vmem h_S1024x128))
    Prog.lift (.store arg8 ⟨(⟨![2, 0], S1024x128.size, ![4, 1], inb_S4096x128_S1024x128_2_0_s_4_1⟩ : LoadRect S4096x128), spos_4_1⟩ (k0_pay9 v3 v7) Finset.univ (View.stores_vmem_bits_univ h_S1024x128 rfl) (.inl rfl))
    let v27 : Vec F S1024x128 .f32 ← Prog.lift (.load arg9 (⟨![2, 0], S1024x128.size, ![4, 1], inb_S4096x128_S1024x128_2_0_s_4_1⟩ : LoadRect S4096x128) (View.loadsAt_vmem h_S1024x128))
    Prog.lift (.store arg9 ⟨(⟨![2, 0], S1024x128.size, ![4, 1], inb_S4096x128_S1024x128_2_0_s_4_1⟩ : LoadRect S4096x128), spos_4_1⟩ (k0_pay10 v3 v7) Finset.univ (View.stores_vmem_bits_univ h_S1024x128 rfl) (.inl rfl))
    let v29 : Vec F S1024x128 .f32 ← Prog.lift (.load arg8 (⟨![3, 0], S1024x128.size, ![4, 1], inb_S4096x128_S1024x128_3_0_s_4_1⟩ : LoadRect S4096x128) (View.loadsAt_vmem h_S1024x128))
    Prog.lift (.store arg8 ⟨(⟨![3, 0], S1024x128.size, ![4, 1], inb_S4096x128_S1024x128_3_0_s_4_1⟩ : LoadRect S4096x128), spos_4_1⟩ (k0_pay11 v3 v7) Finset.univ (View.stores_vmem_bits_univ h_S1024x128 rfl) (.inl rfl))
    let v31 : Vec F S1024x128 .f32 ← Prog.lift (.load arg9 (⟨![3, 0], S1024x128.size, ![4, 1], inb_S4096x128_S1024x128_3_0_s_4_1⟩ : LoadRect S4096x128) (View.loadsAt_vmem h_S1024x128))
    Prog.lift (.store arg9 ⟨(⟨![3, 0], S1024x128.size, ![4, 1], inb_S4096x128_S1024x128_3_0_s_4_1⟩ : LoadRect S4096x128), spos_4_1⟩ (k0_pay12 v3 v7) Finset.univ (View.stores_vmem_bits_univ h_S1024x128 rfl) (.inl rfl))
    pure ⟨⟩
  else do
    pure ⟨⟩
  pure ⟨⟩

set_option maxRecDepth 65536 in

/-- The body is the one with its stored values named. -/
theorem cc0_in_proj_eq_skeleton : cc0_in_proj (F := F) = cc0_in_proj_skel (F := F) := rfl

end Cert.InProjIdeal.Gen

end
-- ==== Proof.InProjRow.lean ====
module

public import proofs.«01_k».proof.Proof.MlpRow
public import proofs.«01_k».proof.Proof.InProjIdealSkeleton
public import Idealize.ShloMosaic.Lib.Pointwise

/-! The input projection's results by element, and the kernel's stores by element. -/

@[expose] public section

noncomputable section

namespace Cert.Inp

open Idealize.ShloMosaic Cert.InProjIdeal Cert.InProjIdeal.Gen Cert.Ffn

/-- The column of the input weights that column `q` of the kernel's main weights is. -/
def colMap (q : ℕ) : ℕ := if q < 2048 then q else if q < 2560 then q + 8 else if q < 6144 then q + 1032 else q - 3576

theorem colMap_lt {q : ℕ} (h : q < 7168) : colMap q < 7176 := by
  unfold colMap
  (repeat' split) <;> omega

/-- That column. -/
def col (q : Fin 7168) : Fin 7176 := ⟨colMap q.val, colMap_lt q.isLt⟩

/-- A row of the input over its root mean square, scaled. -/
def hRow (x : FVec Ideal S8x2048x1024 .f32) (g : FVec Ideal S1024 .f32) (p : Fin 16384) : Fin 1024 → EReal :=
  rmsRow (fun l => x (ix3 (⟨p.val / 2048, by omega⟩ : Fin 8) (⟨p.val % 2048, by omega⟩ : Fin 2048) l)) (fun l => g (ix1 l))

/-- That row's product with column `q` of the input weights. -/
def dotAt (x : FVec Ideal S8x2048x1024 .f32) (g : FVec Ideal S1024 .f32) (w : FVec Ideal S1024x7176 .f32) (p : Fin 16384) (q : Fin 7176) : EReal :=
  ∑ l, hRow x g p l * w (ix2 l q)

section
variable (x : FVec Ideal S8x2048x1024 .f32) (g : FVec Ideal S1024 .f32) (w : FVec Ideal S1024x7176 .f32)

/-- The main projection. -/
def projAt (p : Fin 16384) (q : Fin 6144) : EReal := dotAt x g w p (col ⟨q.val, by omega⟩)

/-- The two gates' projection. -/
def abAt (p : Fin 16384) (a : Fin 8) : EReal := dotAt x g w p ⟨2048 + a.val, by omega⟩

/-- The keys, a row per head. -/
def keyAt (r : Fin 65536) (l : Fin 128) : EReal := dotAt x g w ⟨r.val / 4, by omega⟩ ⟨2568 + (128 * (r.val % 4) + l.val), by omega⟩

/-- The values, a row per head. -/
def valAt (r : Fin 65536) (l : Fin 128) : EReal := dotAt x g w ⟨r.val / 4, by omega⟩ ⟨3080 + (128 * (r.val % 4) + l.val), by omega⟩

end

theorem pay1_apply (x : Vec Ideal S1024x1024 .f32) (g : Vec Ideal S1x1024 .f32) (r l : Fin 1024) :
    k0_pay1 x g (ix2 r l) = rmsRow (fun p => x (ix2 r p)) (fun p => g (ix2 (0 : Fin 1) p)) l := by
  pointwise [k0_pay1]
  rfl

theorem pay2_apply (x : Vec Ideal S1024x1024 .f32) (g : Vec Ideal S1x1024 .f32) (r l : Fin 1024) :
    k0_pay2 x g (ix2 r l) = rmsRow (fun p => x (ix2 r p)) (fun p => g (ix2 (0 : Fin 1) p)) l := by
  refine Eq.trans ?_ (pay1_apply x g r l)
  pointwise [k0_pay2]

theorem pay3_apply (x : Vec Ideal S1024x1024 .f32) (g : Vec Ideal S1x1024 .f32) (w : Vec Ideal S1024x8 .bf16) (r : Fin 1024) (j : Fin 8) :
    k0_pay3 x g w (ix2 r j) = ∑ l, rmsRow (fun p => x (ix2 r p)) (fun p => g (ix2 (0 : Fin 1) p)) l * w (ix2 l j) := by
  simp only [← pay1_apply]
  pointwise [k0_pay3]

theorem pay4_apply (h w : Vec Ideal S1024x1024 .bf16) (r j : Fin 1024) :
    k0_pay4 h w (ix2 r j) = ∑ l, h (ix2 r l) * w (ix2 l j) := by
  pointwise [k0_pay4]

section
variable (h w : Vec Ideal S1024x1024 .bf16) (r : Fin 1024) (l : Fin 128)

theorem pay5_apply : k0_pay5 h w (ix2 r l) = k0_pay4 h w (ix2 r (⟨l.val, by omega⟩ : Fin 1024)) := by
  pointwise [k0_pay5]

theorem pay7_apply : k0_pay7 h w (ix2 r l) = k0_pay4 h w (ix2 r (⟨128 + l.val, by omega⟩ : Fin 1024)) := by
  pointwise [k0_pay7]

theorem pay9_apply : k0_pay9 h w (ix2 r l) = k0_pay4 h w (ix2 r (⟨256 + l.val, by omega⟩ : Fin 1024)) := by
  pointwise [k0_pay9]

theorem pay11_apply : k0_pay11 h w (ix2 r l) = k0_pay4 h w (ix2 r (⟨384 + l.val, by omega⟩ : Fin 1024)) := by
  pointwise [k0_pay11]

theorem pay6_apply : k0_pay6 h w (ix2 r l) = k0_pay4 h w (ix2 r (⟨512 + l.val, by omega⟩ : Fin 1024)) := by
  pointwise [k0_pay6]

theorem pay8_apply : k0_pay8 h w (ix2 r l) = k0_pay4 h w (ix2 r (⟨640 + l.val, by omega⟩ : Fin 1024)) := by
  pointwise [k0_pay8]

theorem pay10_apply : k0_pay10 h w (ix2 r l) = k0_pay4 h w (ix2 r (⟨768 + l.val, by omega⟩ : Fin 1024)) := by
  pointwise [k0_pay10]

theorem pay12_apply : k0_pay12 h w (ix2 r l) = k0_pay4 h w (ix2 r (⟨896 + l.val, by omega⟩ : Fin 1024)) := by
  pointwise [k0_pay12]

end

end Cert.Inp
-- ==== Proof.InProjIdealPoints.lean ====
/-
The input projection over the real numbers: which branches its body takes at which points, and which
blocks it stores into there.
-/
module

public import proofs.«01_k».proof.Proof.Gen.InProjIdeal.Launch
public import proofs.«01_k».proof.Proof.Gen.InProjIdeal.Points
public import proofs.«01_k».proof.Proof.Gen.InProjIdeal.Frame
public import proofs.«01_k».proof.Proof.InProjIdealSkeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A branch of the body is taken at these coordinates. -/
abbrev cond0_0 (i : grid0.Coords) : Prop := k0_cond1 i = 1#1

/-- The branch is taken exactly at these points. -/
theorem hcond0_0 : ∀ t : Fin cfg0.N, cond0_0 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-- A branch of the body is taken at these coordinates. -/
abbrev cond0_1 (i : grid0.Coords) : Prop := k0_cond2 i = 1#1

/-- The branch is taken exactly at these points. -/
theorem hcond0_1 : ∀ t : Fin cfg0.N, cond0_1 (grid0.coords t) ↔ t.val % 7 ≤ 5 :=
  (by decide +kernel : ∀ t : Fin grid0.N, cond0_1 (grid0.coords t) ↔ t.val % 7 ≤ 5)

/-- A branch of the body is taken at these coordinates. -/
abbrev cond0_2 (i : grid0.Coords) : Prop := k0_cond3 i = 1#1

/-- The branch is taken exactly at these points. -/
theorem hcond0_2 : ∀ t : Fin cfg0.N, cond0_2 (grid0.coords t) ↔ t.val % 7 = 6 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 6)

/-- The body stores into the block at these points. -/
theorem liveAt0_0 : ∀ t : Fin cfg0.N, cfg0.idle 0 (grid0.coords t) = false := fun _ => rfl

/-- The body stores into the block at these points. -/
theorem liveAt0_1 : ∀ t : Fin cfg0.N, cfg0.idle 1 (grid0.coords t) = false := fun _ => rfl

/-- The body stores into the block at these points. -/
theorem liveAt0_2 : ∀ t : Fin cfg0.N, cfg0.idle 2 (grid0.coords t) = false := fun _ => rfl

/-- The body stores into the block at these points. -/
theorem liveAt0_3 : ∀ t : Fin cfg0.N, cfg0.idle 3 (grid0.coords t) = false := fun _ => rfl

/-- Before which points the block holds nothing stored yet. -/
def freshTab0_4 : ℕ → Bool
  | 0 => true
  | n + 1 => (0xbf7efdfbf7efdfbf7efdfbf7efdf : ℕ).testBit n
/-- The table is right, point by point. -/
theorem freshTab0_4_step : ∀ t : Fin cfg0.N,
    freshTab0_4 (t.val + 1) = ((cfg0.win 4).flush t || (cfg0.idle 4 (cfg0.grid.coords t) && freshTab0_4 t.val)) := by decide +kernel
/-- The table says before which points the block holds nothing stored yet. -/
theorem fresh0_4_eq (t : Fin cfg0.N) : cfg0.fresh 4 t.val = freshTab0_4 t.val :=
  Pipeline.Cfg.fresh_tab cfg0 4 freshTab0_4 rfl freshTab0_4_step t.val (Nat.le_of_lt t.isLt)

/-- The body stores into the block at these points. -/
theorem liveAt0_4_A : ∀ t : Fin cfg0.N, cond0_0 (grid0.coords t) → cond0_1 (grid0.coords t) → ¬cond0_2 (grid0.coords t) → cfg0.idle 4 (grid0.coords t) = false := by decide +kernel

/-- The body stores into the block at these points. -/
theorem liveAt0_4_B : ∀ t : Fin cfg0.N, ¬cond0_0 (grid0.coords t) → cond0_1 (grid0.coords t) → ¬cond0_2 (grid0.coords t) → cfg0.idle 4 (grid0.coords t) = false := by decide +kernel

/-- The body stores nothing into the block at these points. -/
theorem idleAt0_4_C : ∀ t : Fin cfg0.N, ¬cond0_0 (grid0.coords t) → ¬cond0_1 (grid0.coords t) → cond0_2 (grid0.coords t) → cfg0.idle 4 (grid0.coords t) = true := by decide +kernel

/-- The block is written back at these points. -/
theorem flushAt0_4_C : ∀ t : Fin cfg0.N, ¬cond0_0 (grid0.coords t) → ¬cond0_1 (grid0.coords t) → cond0_2 (grid0.coords t) → (cfg0.win 4).flush t = true := by decide +kernel

/-- The block holds something stored before at these points. -/
theorem notFresh0_4_C : ∀ t : Fin cfg0.N, ¬cond0_0 (grid0.coords t) → ¬cond0_1 (grid0.coords t) → cond0_2 (grid0.coords t) → cfg0.fresh 4 t.val = false := by
  intro t; rw [fresh0_4_eq t]; revert t; decide +kernel

/-- Before which points the block holds nothing stored yet. -/
def freshTab0_5 : ℕ → Bool
  | 0 => true
  | n + 1 => (0x8102040810204081020408102040 : ℕ).testBit n
/-- The table is right, point by point. -/
theorem freshTab0_5_step : ∀ t : Fin cfg0.N,
    freshTab0_5 (t.val + 1) = ((cfg0.win 5).flush t || (cfg0.idle 5 (cfg0.grid.coords t) && freshTab0_5 t.val)) := by decide +kernel
/-- The table says before which points the block holds nothing stored yet. -/
theorem fresh0_5_eq (t : Fin cfg0.N) : cfg0.fresh 5 t.val = freshTab0_5 t.val :=
  Pipeline.Cfg.fresh_tab cfg0 5 freshTab0_5 rfl freshTab0_5_step t.val (Nat.le_of_lt t.isLt)

/-- The body stores into the block at these points. -/
theorem liveAt0_5_A : ∀ t : Fin cfg0.N, cond0_0 (grid0.coords t) → cond0_1 (grid0.coords t) → ¬cond0_2 (grid0.coords t) → cfg0.idle 5 (grid0.coords t) = false := by decide +kernel

/-- The body stores nothing into the block at these points. -/
theorem idleAt0_5_B : ∀ t : Fin cfg0.N, ¬cond0_0 (grid0.coords t) → cond0_1 (grid0.coords t) → ¬cond0_2 (grid0.coords t) → cfg0.idle 5 (grid0.coords t) = true := by decide +kernel

/-- The block is not written back at these points. -/
theorem noFlush0_5_B : ∀ t : Fin cfg0.N, ¬cond0_0 (grid0.coords t) → cond0_1 (grid0.coords t) → ¬cond0_2 (grid0.coords t) → (cfg0.win 5).flush t = false := by decide +kernel

/-- The body stores nothing into the block at these points. -/
theorem idleAt0_5_C : ∀ t : Fin cfg0.N, ¬cond0_0 (grid0.coords t) → ¬cond0_1 (grid0.coords t) → cond0_2 (grid0.coords t) → cfg0.idle 5 (grid0.coords t) = true := by decide +kernel

/-- The block is written back at these points. -/
theorem flushAt0_5_C : ∀ t : Fin cfg0.N, ¬cond0_0 (grid0.coords t) → ¬cond0_1 (grid0.coords t) → cond0_2 (grid0.coords t) → (cfg0.win 5).flush t = true := by decide +kernel

/-- The block holds something stored before at these points. -/
theorem notFresh0_5_C : ∀ t : Fin cfg0.N, ¬cond0_0 (grid0.coords t) → ¬cond0_1 (grid0.coords t) → cond0_2 (grid0.coords t) → cfg0.fresh 5 t.val = false := by
  intro t; rw [fresh0_5_eq t]; revert t; decide +kernel

/-- The body stores nothing into the block at these points. -/
theorem idleAt0_6_A : ∀ t : Fin cfg0.N, cond0_0 (grid0.coords t) → cond0_1 (grid0.coords t) → ¬cond0_2 (grid0.coords t) → cfg0.idle 6 (grid0.coords t) = true := by decide +kernel

/-- The block is not written back at these points. -/
theorem noFlush0_6_A : ∀ t : Fin cfg0.N, cond0_0 (grid0.coords t) → cond0_1 (grid0.coords t) → ¬cond0_2 (grid0.coords t) → (cfg0.win 6).flush t = false := by decide +kernel

/-- The body stores nothing into the block at these points. -/
theorem idleAt0_6_B : ∀ t : Fin cfg0.N, ¬cond0_0 (grid0.coords t) → cond0_1 (grid0.coords t) → ¬cond0_2 (grid0.coords t) → cfg0.idle 6 (grid0.coords t) = true := by decide +kernel

/-- The block is not written back at these points. -/
theorem noFlush0_6_B : ∀ t : Fin cfg0.N, ¬cond0_0 (grid0.coords t) → cond0_1 (grid0.coords t) → ¬cond0_2 (grid0.coords t) → (cfg0.win 6).flush t = false := by decide +kernel

/-- The body stores into the block at these points. -/
theorem liveAt0_6_C : ∀ t : Fin cfg0.N, ¬cond0_0 (grid0.coords t) → ¬cond0_1 (grid0.coords t) → cond0_2 (grid0.coords t) → cfg0.idle 6 (grid0.coords t) = false := by decide +kernel

/-- The body stores nothing into the block at these points. -/
theorem idleAt0_7_A : ∀ t : Fin cfg0.N, cond0_0 (grid0.coords t) → cond0_1 (grid0.coords t) → ¬cond0_2 (grid0.coords t) → cfg0.idle 7 (grid0.coords t) = true := by decide +kernel

/-- The block is not written back at these points. -/
theorem noFlush0_7_A : ∀ t : Fin cfg0.N, cond0_0 (grid0.coords t) → cond0_1 (grid0.coords t) → ¬cond0_2 (grid0.coords t) → (cfg0.win 7).flush t = false := by decide +kernel

/-- The body stores nothing into the block at these points. -/
theorem idleAt0_7_B : ∀ t : Fin cfg0.N, ¬cond0_0 (grid0.coords t) → cond0_1 (grid0.coords t) → ¬cond0_2 (grid0.coords t) → cfg0.idle 7 (grid0.coords t) = true := by decide +kernel

/-- The block is not written back at these points. -/
theorem noFlush0_7_B : ∀ t : Fin cfg0.N, ¬cond0_0 (grid0.coords t) → cond0_1 (grid0.coords t) → ¬cond0_2 (grid0.coords t) → (cfg0.win 7).flush t = false := by decide +kernel

/-- The body stores into the block at these points. -/
theorem liveAt0_7_C : ∀ t : Fin cfg0.N, ¬cond0_0 (grid0.coords t) → ¬cond0_1 (grid0.coords t) → cond0_2 (grid0.coords t) → cfg0.idle 7 (grid0.coords t) = false := by decide +kernel

/-- A whole view of the block of an output. -/
abbrev VO0_4 : View sig .tc .vmem S1024x1024 .f32 := (Memref.whole cc0_stg4_0 : Memref sig .tc .vmem S1024x1024 .f32).view

/-- A whole view of the block of an output. -/
abbrev VO0_5 : View sig .tc .vmem S1024x8 .f32 := (Memref.whole cc0_stg5_0 : Memref sig .tc .vmem S1024x8 .f32).view

/-- A whole view of the block of an output. -/
abbrev VO0_6 : View sig .tc .vmem S4096x128 .f32 := (Memref.whole cc0_stg6_0 : Memref sig .tc .vmem S4096x128 .f32).view

/-- A whole view of the block of an output. -/
abbrev VO0_7 : View sig .tc .vmem S4096x128 .f32 := (Memref.whole cc0_stg7_0 : Memref sig .tc .vmem S4096x128 .f32).view

/-- The buffer of a window at a point. -/
abbrev ms0_0 (t : Fin cfg0.N) : Memref sig .tc .vmem S1024x1024 .f32 := win0_0.stage (cfg0.slots t 0)
/-- The buffer is whole. -/
abbrev hs0_0 (t : Fin cfg0.N) : (ms0_0 t).IsWhole := hstage0_0 ((cfg0.slots t 0).cast nbuf0_0)
/-- The buffer of a window at a point. -/
abbrev ms0_1 (t : Fin cfg0.N) : Memref sig .tc .vmem S1x1024 .f32 := win0_1.stage (cfg0.slots t 1)
/-- The buffer is whole. -/
abbrev hs0_1 (t : Fin cfg0.N) : (ms0_1 t).IsWhole := hstage0_1 ((cfg0.slots t 1).cast nbuf0_1)
/-- The buffer of a window at a point. -/
abbrev ms0_2 (t : Fin cfg0.N) : Memref sig .tc .vmem S1024x7168 .bf16 := win0_2.stage (cfg0.slots t 2)
/-- The buffer is whole. -/
abbrev hs0_2 (t : Fin cfg0.N) : (ms0_2 t).IsWhole := hstage0_2 ((cfg0.slots t 2).cast nbuf0_2)
/-- The buffer of a window at a point. -/
abbrev ms0_3 (t : Fin cfg0.N) : Memref sig .tc .vmem S1024x8 .bf16 := win0_3.stage (cfg0.slots t 3)
/-- The buffer is whole. -/
abbrev hs0_3 (t : Fin cfg0.N) : (ms0_3 t).IsWhole := hstage0_3 ((cfg0.slots t 3).cast nbuf0_3)
/-- The buffer of a window at a point. -/
abbrev ms0_4 (t : Fin cfg0.N) : Memref sig .tc .vmem S1024x1024 .f32 := win0_4.stage (cfg0.slots t 4)
/-- The buffer is whole. -/
abbrev hs0_4 (t : Fin cfg0.N) : (ms0_4 t).IsWhole := hstage0_4 ((cfg0.slots t 4).cast nbuf0_4)
/-- The buffer of a window at a point. -/
abbrev ms0_5 (t : Fin cfg0.N) : Memref sig .tc .vmem S1024x8 .f32 := win0_5.stage (cfg0.slots t 5)
/-- The buffer is whole. -/
abbrev hs0_5 (t : Fin cfg0.N) : (ms0_5 t).IsWhole := hstage0_5 ((cfg0.slots t 5).cast nbuf0_5)
/-- The buffer of a window at a point. -/
abbrev ms0_6 (t : Fin cfg0.N) : Memref sig .tc .vmem S4096x128 .f32 := win0_6.stage (cfg0.slots t 6)
/-- The buffer is whole. -/
abbrev hs0_6 (t : Fin cfg0.N) : (ms0_6 t).IsWhole := hstage0_6 ((cfg0.slots t 6).cast nbuf0_6)
/-- The buffer of a window at a point. -/
abbrev ms0_7 (t : Fin cfg0.N) : Memref sig .tc .vmem S4096x128 .f32 := win0_7.stage (cfg0.slots t 7)
/-- The buffer is whole. -/
abbrev hs0_7 (t : Fin cfg0.N) : (ms0_7 t).IsWhole := hstage0_7 ((cfg0.slots t 7).cast nbuf0_7)

/-- The block kept from point to point. -/
abbrev scM0_0 : Memref sig .tc .vmem S1024x1024 .bf16 := Memref.whole cc0_scratch0

/-- A whole view of the kept block. -/
abbrev VS0_0 : View sig .tc .vmem S1024x1024 .bf16 := scM0_0.view

/-- What the region holds before its first point. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.InProjIdeal.Gen

end
-- ==== Proof.InProjIdealRunA.lean ====
/-
The input projection over the real numbers: the run of its body at the first tile of a row of tiles.
-/
module

public import proofs.«01_k».proof.Proof.InProjIdealPoints

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

/-- What the body stores in this case, with the proof that it runs. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) :
    Σ' (L4 : List (View.Piece (Elt F) S1024x1024 .f32)), Σ' (L5 : List (View.Piece (Elt F) S1024x8 .f32)), Σ' (L6 : List (View.Piece (Elt F) S4096x128 .f32)), Σ' (L7 : List (View.Piece (Elt F) S4096x128 .f32)), { LS0 : List (View.Piece (Elt F) S1024x1024 .bf16) //
      ∀ (xi6 : Vec F S4096x128 .f32) (xi7 : Vec F S4096x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xi6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, [], [], ?_, fun xi6 xi7 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    iexists _; iexact HS0

end Cert.InProjIdeal.Gen

end
-- ==== Proof.InProjIdealRunB.lean ====
/-
The input projection over the real numbers: the run of its body at the tiles in between.
-/
module

public import proofs.«01_k».proof.Proof.InProjIdealRunA

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

/-- What the body stores in this case, with the proof that it runs. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : cond0_1 i) (hc2 : ¬cond0_2 i)
    (x0 : Vec F S1024x1024 .f32) (x1 : Vec F S1x1024 .f32) (x2 : Vec F S1024x7168 .bf16) (x3 : Vec F S1024x8 .bf16) (xs0 : Vec F S1024x1024 .bf16) :
    Σ' (L4 : List (View.Piece (Elt F) S1024x1024 .f32)), Σ' (L5 : List (View.Piece (Elt F) S1024x8 .f32)), Σ' (L6 : List (View.Piece (Elt F) S4096x128 .f32)), Σ' (L7 : List (View.Piece (Elt F) S4096x128 .f32)), { LS0 : List (View.Piece (Elt F) S1024x1024 .bf16) //
      ∀ (xi5 : Vec F S1024x8 .f32) (xi6 : Vec F S4096x128 .f32) (xi7 : Vec F S4096x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ owns (c : Thread nD τ) arg9 fullShare xi7 ∗ owns (c : Thread nD τ) arg10 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, [], [], [], [], fun xi5 xi6 xi7 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact HS0

end Cert.InProjIdeal.Gen

end
-- ==== Proof.InProjIdealRunC.lean ====
/-
The input projection over the real numbers: the run of its body at the last tile of a row of tiles.
-/
module

public import proofs.«01_k».proof.Proof.InProjIdealRunB

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

/-- What the body stores in this case, with the proof that it runs. -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) :
    Σ' (L4 : List (View.Piece (Elt F) S1024x1024 .f32)), Σ' (L5 : List (View.Piece (Elt F) S1024x8 .f32)), Σ' (L6 : List (View.Piece (Elt F) S4096x128 .f32)), Σ' (L7 : List (View.Piece (Elt F) S4096x128 .f32)), { LS0 : List (View.Piece (Elt F) S1024x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨[], [], ?_, ?_, [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact HS0

end Cert.InProjIdeal.Gen

end
-- ==== Proof.InProjIdealFrame.lean ====
/-
The input projection over the real numbers: what its blocks hold point by point, and its frame.
-/
module

public import proofs.«01_k».proof.Proof.InProjIdealRunC
public import Idealize.ShloMosaic.Lib.Claim

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stores cover the block. -/
theorem cover0_A_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) (y : S1024x1024.Idx) :
    ∃ pc ∈ (kernelRun0_A c i arg2 harg2 arg3 harg3 arg4 harg4 arg5 harg5 arg6 harg6 arg7 harg7 arg8 harg8 arg9 harg9 arg10 harg10 hc0 hc1 hc2 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3).1 S1024x1024.size (by sl_kernel_rfl) y

/-- What the block holds after the body in this case. -/
def out0_A_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) : Vec F S1024x1024 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 hc2 x0 x1 x2 x3).1)

/-- The stores cover the block. -/
theorem cover0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) (y : S1024x8.Idx) :
    ∃ pc ∈ (kernelRun0_A c i arg2 harg2 arg3 harg3 arg4 harg4 arg5 harg5 arg6 harg6 arg7 harg7 arg8 harg8 arg9 harg9 arg10 harg10 hc0 hc1 hc2 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3).2.1 S1024x8.size (by sl_kernel_rfl) y

/-- What the block holds after the body in this case. -/
def out0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) : Vec F S1024x8 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 hc2 x0 x1 x2 x3).2.1)

/-- What the block holds after the body in this case. -/
def out0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) : Vec F S4096x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 hc2 x0 x1 x2 x3).2.2.1)

/-- What the block holds after the body in this case. -/
def out0_A_7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) : Vec F S4096x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 hc2 x0 x1 x2 x3).2.2.2.1)

/-- The stores cover the block. -/
theorem scover0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) (y : S1024x1024.Idx) :
    ∃ pc ∈ (kernelRun0_A c i arg2 harg2 arg3 harg3 arg4 harg4 arg5 harg5 arg6 harg6 arg7 harg7 arg8 harg8 arg9 harg9 arg10 harg10 hc0 hc1 hc2 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3).2.2.2.2.1 S1024x1024.size (by sl_kernel_rfl) y

/-- What the block holds after the body in this case. -/
def sout0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : cond0_0 i) (hc1 : cond0_1 i) (hc2 : ¬cond0_2 i)
    (x0 : Vec F S1024x1024 .f32) (x1 : Vec F S1x1024 .f32) (x2 : Vec F S1024x7168 .bf16) (x3 : Vec F S1024x8 .bf16) : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 x0 x1 x2 x3).2.2.2.2.1)

/-- The stores cover the block. -/
theorem cover0_B_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : cond0_1 i) (hc2 : ¬cond0_2 i)
    (x0 : Vec F S1024x1024 .f32) (x1 : Vec F S1x1024 .f32) (x2 : Vec F S1024x7168 .bf16) (x3 : Vec F S1024x8 .bf16) (xs0 : Vec F S1024x1024 .bf16) (y : S1024x1024.Idx) :
    ∃ pc ∈ (kernelRun0_B c i arg2 harg2 arg3 harg3 arg4 harg4 arg5 harg5 arg6 harg6 arg7 harg7 arg8 harg8 arg9 harg9 arg10 harg10 hc0 hc1 hc2 x0 x1 x2 x3 xs0).1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 x3 xs0).1 S1024x1024.size (by sl_kernel_rfl) y

/-- What the block holds after the body in this case. -/
def out0_B_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : cond0_1 i) (hc2 : ¬cond0_2 i)
    (x0 : Vec F S1024x1024 .f32) (x1 : Vec F S1x1024 .f32) (x2 : Vec F S1024x7168 .bf16) (x3 : Vec F S1024x8 .bf16) (xs0 : Vec F S1024x1024 .bf16) : Vec F S1024x1024 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 hc2 x0 x1 x2 x3 xs0).1)

/-- What the block holds after the body in this case. -/
def out0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : cond0_1 i) (hc2 : ¬cond0_2 i)
    (x0 : Vec F S1024x1024 .f32) (x1 : Vec F S1x1024 .f32) (x2 : Vec F S1024x7168 .bf16) (x3 : Vec F S1024x8 .bf16) (xs0 : Vec F S1024x1024 .bf16) (xo5 : Vec F S1024x8 .f32) : Vec F S1024x8 .f32 := xo5

/-- What the block holds after the body in this case. -/
def out0_B_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : cond0_1 i) (hc2 : ¬cond0_2 i)
    (x0 : Vec F S1024x1024 .f32) (x1 : Vec F S1x1024 .f32) (x2 : Vec F S1024x7168 .bf16) (x3 : Vec F S1024x8 .bf16) (xs0 : Vec F S1024x1024 .bf16) : Vec F S4096x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 hc2 x0 x1 x2 x3 xs0).2.2.1)

/-- What the block holds after the body in this case. -/
def out0_B_7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : cond0_1 i) (hc2 : ¬cond0_2 i)
    (x0 : Vec F S1024x1024 .f32) (x1 : Vec F S1x1024 .f32) (x2 : Vec F S1024x7168 .bf16) (x3 : Vec F S1024x8 .bf16) (xs0 : Vec F S1024x1024 .bf16) : Vec F S4096x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 hc2 x0 x1 x2 x3 xs0).2.2.2.1)

/-- What the block holds after the body in this case. -/
def sout0_B_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : cond0_1 i) (hc2 : ¬cond0_2 i)
    (x0 : Vec F S1024x1024 .f32) (x1 : Vec F S1x1024 .f32) (x2 : Vec F S1024x7168 .bf16) (x3 : Vec F S1024x8 .bf16) (xs0 : Vec F S1024x1024 .bf16) : Vec F S1024x1024 .bf16 := xs0

/-- What the block holds after the body in this case. -/
def out0_C_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) : Vec F S1024x1024 .f32 := xo4

/-- What the block holds after the body in this case. -/
def out0_C_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) : Vec F S1024x8 .f32 := xo5

/-- Four pieces that store every fourth row of the block cover it. -/
theorem cover_rows {Val : EltTy → Type} {e : EltTy} (L : List (View.Piece Val S4096x128 e))
    (h : L.map (fun p => (p.1.off 0, p.1.off 1, p.1.size 0, p.1.size 1, p.1.stride 0, p.1.stride 1))
      = [(3, 0, 1024, 128, 4, 1), (2, 0, 1024, 128, 4, 1), (1, 0, 1024, 128, 4, 1), (0, 0, 1024, 128, 4, 1)])
    (y : S4096x128.Idx) : ∃ p ∈ L, y ∈ p.1.set := by
  have h0 : (y 0).val < 4096 := (y 0).isLt
  have h1 : (y 1).val < 128 := (y 1).isLt
  have hm : ((y 0).val % 4, 0, 1024, 128, 4, 1)
      ∈ L.map (fun p => (p.1.off 0, p.1.off 1, p.1.size 0, p.1.size 1, p.1.stride 0, p.1.stride 1)) := by
    rw [h]
    have : (y 0).val % 4 = 0 ∨ (y 0).val % 4 = 1 ∨ (y 0).val % 4 = 2 ∨ (y 0).val % 4 = 3 := by omega
    rcases this with h | h | h | h <;> simp [h]
  obtain ⟨p, hp, he⟩ := List.mem_map.mp hm
  simp only [Prod.mk.injEq] at he
  obtain ⟨e0, e1, e2, e3, e4, e5⟩ := he
  refine ⟨p, hp, p.1.mem_set.mpr fun a => ?_⟩
  match a with
  | ⟨0, _⟩ => exact ⟨(y 0).val / 4, by rw [show p.1.size ⟨0, _⟩ = 1024 from e2]; omega,
      by rw [show p.1.off ⟨0, _⟩ = (y 0).val % 4 from e0, show p.1.stride ⟨0, _⟩ = 4 from e4]; show (y 0).val = _; omega⟩
  | ⟨1, _⟩ => exact ⟨(y 1).val, by rw [show p.1.size ⟨1, _⟩ = 128 from e3]; omega,
      by rw [show p.1.off ⟨1, _⟩ = 0 from e1, show p.1.stride ⟨1, _⟩ = 1 from e5]; show (y 1).val = _; omega⟩

/-- The stores cover the block. -/
theorem cover0_C_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) (y : S4096x128.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 xo4 xo5 xs0).2.2.1, y ∈ pc.1.set :=
  cover_rows (kernelRun0_C c i arg2 harg2 arg3 harg3 arg4 harg4 arg5 harg5 arg6 harg6 arg7 harg7 arg8 harg8 arg9 harg9 arg10 harg10 hc0 hc1 hc2 x0 x1 x2 x3 xo4 xo5 xs0).2.2.1 (by sl_kernel_rfl) y

/-- What the block holds after the body in this case. -/
def out0_C_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) : Vec F S4096x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 hc2 x0 x1 x2 x3 xo4 xo5 xs0).2.2.1)

/-- The stores cover the block. -/
theorem cover0_C_7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) (y : S4096x128.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 xo4 xo5 xs0).2.2.2.1, y ∈ pc.1.set :=
  cover_rows (kernelRun0_C c i arg2 harg2 arg3 harg3 arg4 harg4 arg5 harg5 arg6 harg6 arg7 harg7 arg8 harg8 arg9 harg9 arg10 harg10 hc0 hc1 hc2 x0 x1 x2 x3 xo4 xo5 xs0).2.2.2.1 (by sl_kernel_rfl) y

/-- What the block holds after the body in this case. -/
def out0_C_7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) : Vec F S4096x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 hc2 x0 x1 x2 x3 xo4 xo5 xs0).2.2.2.1)

/-- What the block holds after the body in this case. -/
def sout0_C_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x7168 .bf16) (harg4 : arg4.IsWhole) (arg5 : Memref sig .tc .vmem S1024x8 .bf16) (harg5 : arg5.IsWhole) (arg6 : Memref sig .tc .vmem S1024x1024 .f32) (harg6 : arg6.IsWhole) (arg7 : Memref sig .tc .vmem S1024x8 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x1024 .bf16) (harg10 : arg10.IsWhole) (hc0 : ¬cond0_0 i) (hc1 : ¬cond0_1 i) (hc2 : cond0_2 i)
    (x0 : Vec F S1024x1024 .f32) (x1 : Vec F S1x1024 .f32) (x2 : Vec F S1024x7168 .bf16) (x3 : Vec F S1024x8 .bf16) (xo4 : Vec F S1024x1024 .f32) (xo5 : Vec F S1024x8 .f32) (xs0 : Vec F S1024x1024 .bf16) : Vec F S1024x1024 .bf16 := xs0

/-- What the blocks hold after each point. -/
def outsAt0 (c : Dev nD) : (n : ℕ) → n < cfg0.N → Vec F S1024x1024 .f32 × Vec F S1024x8 .f32 × Vec F S4096x128 .f32 × Vec F S4096x128 .f32 × Vec F S1024x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 7 = 0 then
      if h1 : (n + 1) % 7 ≤ 5 then
        if h2 : (n + 1) % 7 = 6 then
          False.elim (by have hN : n + 1 < 112 := lt_of_lt_of_eq hn (show cfg0.N = 112 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 112 := lt_of_lt_of_eq hn (show cfg0.N = 112 from N_0); omega)
    else
      if h1 : (n + 1) % 7 ≤ 5 then
        if h2 : (n + 1) % 7 = 6 then
          False.elim (by have hN : n + 1 < 112 := lt_of_lt_of_eq hn (show cfg0.N = 112 from N_0); omega)
        else
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2 (outsAt0 c n (Nat.lt_of_succ_lt hn)).2.1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2)
      else
        if h2 : (n + 1) % 7 = 6 then
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2)
        else
          False.elim (by have hN : n + 1 < 112 := lt_of_lt_of_eq hn (show cfg0.N = 112 from N_0); omega)

/-- What the blocks hold after a point of this case. -/
theorem outsAt0_A (c : Dev nD) (t : Fin cfg0.N) (h0 : t.val % 7 = 0) (h1 : t.val % 7 ≤ 5) (h2 : ¬t.val % 7 = 6) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans rfl))

/-- What the blocks hold after a point of this case. -/
theorem outsAt0_B (c : Dev nD) (t : Fin cfg0.N) (h0 : ¬t.val % 7 = 0) (h1 : t.val % 7 ≤ 5) (h2 : ¬t.val % 7 = 6) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2 (outsAt0 m c (t.val - 1) (Nat.lt_of_le_of_lt (Nat.sub_le _ _) t.isLt)).2.1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- What the blocks hold after a point of this case. -/
theorem outsAt0_C (c : Dev nD) (t : Fin cfg0.N) (h0 : ¬t.val % 7 = 0) (h1 : ¬t.val % 7 ≤ 5) (h2 : t.val % 7 = 6) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What is held before each point. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2)) ∗ (∃ r, prngReg c r))

/-- What is held before a point, restated. -/
theorem PhiS_zero (c : Dev nD) (n : ℕ) (h : n ≤ cfg0.N) (hz : n = 0) : PhiS m c n h = Pipeline.ΦA spec0 c := by
  subst hz; rfl

/-- What is held before a point, restated. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- What is held before a point, restated. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-- The data of the run: the arrays, and what the body leaves at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- What is held before a point, restated. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in this window. -/
theorem after0_0 (c : Dev nD) (t : Fin cfg0.N) : (dats m 0 c).after 0 t = iblk m c 0 t := by dsimp only [dats]
/-- What the body leaves in this window. -/
theorem after0_1 (c : Dev nD) (t : Fin cfg0.N) : (dats m 0 c).after 1 t = iblk m c 1 t := by dsimp only [dats]
/-- What the body leaves in this window. -/
theorem after0_2 (c : Dev nD) (t : Fin cfg0.N) : (dats m 0 c).after 2 t = iblk m c 2 t := by dsimp only [dats]
/-- What the body leaves in this window. -/
theorem after0_3 (c : Dev nD) (t : Fin cfg0.N) : (dats m 0 c).after 3 t = iblk m c 3 t := by dsimp only [dats]
/-- What the body leaves in this window. -/
theorem after0_4 (c : Dev nD) (t : Fin cfg0.N) : (dats m 0 c).after 4 t = (outsAt0 m c t.val t.isLt).1 := by dsimp only [dats]
/-- What the body leaves in this window. -/
theorem after0_5 (c : Dev nD) (t : Fin cfg0.N) : (dats m 0 c).after 5 t = (outsAt0 m c t.val t.isLt).2.1 := by dsimp only [dats]
/-- What the body leaves in this window. -/
theorem after0_6 (c : Dev nD) (t : Fin cfg0.N) : (dats m 0 c).after 6 t = (outsAt0 m c t.val t.isLt).2.2.1 := by dsimp only [dats]
/-- What the body leaves in this window. -/
theorem after0_7 (c : Dev nD) (t : Fin cfg0.N) : (dats m 0 c).after 7 t = (outsAt0 m c t.val t.isLt).2.2.2.1 := by dsimp only [dats]

/-- What the body finds in this window. -/
theorem before0_0 (c : Dev nD) (t : Fin cfg0.N) (d) : (dats m 0 c).before 0 t d = iblk m c 0 t :=
  before0_0_of m (dats m 0 c) (A_eq m c 0) (after0_0 m c) t d
/-- What the body finds in this window. -/
theorem before0_1 (c : Dev nD) (t : Fin cfg0.N) (d) : (dats m 0 c).before 1 t d = iblk m c 1 t :=
  before0_1_of m (dats m 0 c) (A_eq m c 1) (after0_1 m c) t d
/-- What the body finds in this window. -/
theorem before0_2 (c : Dev nD) (t : Fin cfg0.N) (d) : (dats m 0 c).before 2 t d = iblk m c 2 t :=
  before0_2_of m (dats m 0 c) (A_eq m c 2) (after0_2 m c) t d
/-- What the body finds in this window. -/
theorem before0_3 (c : Dev nD) (t : Fin cfg0.N) (d) : (dats m 0 c).before 3 t d = iblk m c 3 t :=
  before0_3_of m (dats m 0 c) (A_eq m c 3) (after0_3 m c) t d

/-- A block left alone keeps what it held. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 112 := lt_of_lt_of_eq t.isLt (show cfg0.N = 112 from N_0)
  rw [after0_4, after0_4]
  by_cases h0 : t.val % 7 = 0
  · by_cases h1 : t.val % 7 ≤ 5
    · by_cases h2 : t.val % 7 = 6
      · exfalso; omega
      · rw [liveAt0_4_A t ((hcond0_0 t).mpr h0) ((hcond0_1 t).mpr h1) (fun h => h2 ((hcond0_2 t).mp h))] at hi
        exact absurd hi Bool.false_ne_true
    · exfalso; omega
  · by_cases h1 : t.val % 7 ≤ 5
    · by_cases h2 : t.val % 7 = 6
      · exfalso; omega
      · rw [liveAt0_4_B t (fun h => h0 ((hcond0_0 t).mp h)) ((hcond0_1 t).mpr h1) (fun h => h2 ((hcond0_2 t).mp h))] at hi
        exact absurd hi Bool.false_ne_true
    · by_cases h2 : t.val % 7 = 6
      · rw [outsAt0_C m c t h0 h1 h2]
        dsimp only
        unfold out0_C_4
        rfl
      · exfalso; omega

/-- A block left alone keeps what it held. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 112 := lt_of_lt_of_eq t.isLt (show cfg0.N = 112 from N_0)
  rw [after0_5, after0_5]
  by_cases h0 : t.val % 7 = 0
  · by_cases h1 : t.val % 7 ≤ 5
    · by_cases h2 : t.val % 7 = 6
      · exfalso; omega
      · rw [liveAt0_5_A t ((hcond0_0 t).mpr h0) ((hcond0_1 t).mpr h1) (fun h => h2 ((hcond0_2 t).mp h))] at hi
        exact absurd hi Bool.false_ne_true
    · exfalso; omega
  · by_cases h1 : t.val % 7 ≤ 5
    · by_cases h2 : t.val % 7 = 6
      · exfalso; omega
      · rw [outsAt0_B m c t h0 h1 h2]
        dsimp only
        unfold out0_B_5
        rfl
    · by_cases h2 : t.val % 7 = 6
      · rw [outsAt0_C m c t h0 h1 h2]
        dsimp only
        unfold out0_C_5
        rfl
      · exfalso; omega

/-- What the body finds in this window. -/
theorem before0_4_C (c : Dev nD) (t : Fin cfg0.N) (h0 : ¬t.val % 7 = 0) (h1 : ¬t.val % 7 ≤ 5) (h2 : t.val % 7 = 6) (d) :
    (dats m 0 c).before 4 t d = (outsAt0 m c (t.val - 1) (Nat.lt_of_le_of_lt (Nat.sub_le _ _) t.isLt)).1 := by
  rw [Dat.before_out_traj _ 4 rfl (fun _ _ => rfl) (hcarry0_4 m c) t.val t rfl d,
    if_neg (by rw [notFresh0_4_C t (fun h => h0 ((hcond0_0 t).mp h)) (fun h => h1 ((hcond0_1 t).mp h)) ((hcond0_2 t).mpr h2)]; exact Bool.false_ne_true)]
  dsimp only [dats]

/-- What the body finds in this window. -/
theorem before0_5_C (c : Dev nD) (t : Fin cfg0.N) (h0 : ¬t.val % 7 = 0) (h1 : ¬t.val % 7 ≤ 5) (h2 : t.val % 7 = 6) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_C t (fun h => h0 ((hcond0_0 t).mp h)) (fun h => h1 ((hcond0_1 t).mp h)) ((hcond0_2 t).mpr h2)]; exact Bool.false_ne_true)]
  dsimp only [dats]

/-- What the body is given at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at a point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in

/-- The body, at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 112 := lt_of_lt_of_eq t.isLt (show cfg0.N = 112 from N_0)
  by_cases h0 : t.val % 7 = 0
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) (fun h => h2 ((hcond0_2 t).mp h))], after0_4]
        rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) (fun h => h2 ((hcond0_2 t).mp h))], after0_5]
        rw [Dat.leavesExact_idle (dats m 0 c) 6 t (idleAt0_6_A t ((hcond0_0 t).mpr h0) ((hcond0_1 t).mpr h1) (fun h => h2 ((hcond0_2 t).mp h))) (noFlush0_6_A t ((hcond0_0 t).mpr h0) ((hcond0_1 t).mpr h1) (fun h => h2 ((hcond0_2 t).mp h)))]
        rw [Dat.leavesExact_idle (dats m 0 c) 7 t (idleAt0_7_A t ((hcond0_0 t).mpr h0) ((hcond0_1 t).mpr h1) (fun h => h2 ((hcond0_2 t).mp h))) (noFlush0_7_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold out0_A_4 out0_A_5 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t)).2.2.2.2.2 _ _ Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexact H6
          isplitl [H7]; · iexact H7
          isplitl [HS0]; · iexact HS0
          iintro ⟨H0, H1, H2, H3, ⟨%e4, H4⟩, ⟨%e5, H5⟩, H6, H7, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_A_4 c _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _)
          isplitl [H6]; · iexists _; iexact H6
          iexists _; iexact H7
        · rw [PhiS_castSucc m c t, PhiS_pos m c _ _ hz]
          rw [outsAt0_A m c t h0 h1 h2]
          unfold out0_A_4 out0_A_5 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t)).2.2.2.2.2 _ _ Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexact H6
          isplitl [H7]; · iexact H7
          isplitl [HS0]; · iexists _; iexact HS0
          iintro ⟨H0, H1, H2, H3, ⟨%e4, H4⟩, ⟨%e5, H5⟩, H6, H7, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_A_4 c _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _)
          isplitl [H6]; · iexists _; iexact H6
          iexists _; iexact H7
    · exfalso; omega
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h))], after0_4]
        rw [Dat.leavesExact_idle (dats m 0 c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
        rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
        rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
        by_cases hz : t.val = 0
        · exfalso; have hN : t.val < 112 := lt_of_lt_of_eq t.isLt (show cfg0.N = 112 from N_0); omega
        · rw [PhiS_castSucc m c t, PhiS_pos m c _ _ hz]
          rw [outsAt0_B m c t h0 h1 h2]
          unfold out0_B_4 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _).2.2.2.2.2 _ _ _ Set.univ _)
          isplitl [H0]; · iexact H0
          isplitl [H1]; · iexact H1
          isplitl [H2]; · iexact H2
          isplitl [H3]; · iexact H3
          isplitl [H4]; · iexists _; iexact H4
          isplitl [H5]; · iexact H5
          isplitl [H6]; · iexact H6
          isplitl [H7]; · iexact H7
          isplitl [HS0]; · iexact HS0
          iintro ⟨H0, H1, H2, H3, ⟨%e4, H4⟩, H5, H6, H7, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_B_4 c _ _ _ _ _ _ _ _ _ _ _ _ _ _ _ _ _ _ _ _ _ _ _ _ _ _ _)
          isplitl [H5]; · iexists _; iexact H5
          isplitl [H6]; · iexists _; iexact H6
          iexists _; iexact H7
    · by_cases h2 : t.val % 7 = 6
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [idleAt0_4_C t (fun h => h0 ((hcond0_0 t).mp h)) (fun h => h1 ((hcond0_1 t).mp h)) ((hcond0_2 t).mpr h2), flushAt0_4_C t (fun h => h0 ((hcond0_0 t).mp h)) (fun h => h1 ((hcond0_1 t).mp h)) ((hcond0_2 t).mpr h2)], after0_4]
        rw [show (dats m 0 c).leavesExact 5 t = owns (c : Thread nD τ) (ms0_5 t) fullShare ((dats m 0 c).after 5 t) from by
      unfold Dat.leavesExact; rw [idleAt0_5_C t (fun h => h0 ((hcond0_0 t).mp h)) (fun h => h1 ((hcond0_1 t).mp h)) ((hcond0_2 t).mpr h2), flushAt0_5_C t (fun h => h0 ((hcond0_0 t).mp h)) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2)], after0_7]
        by_cases hz : t.val = 0
        · exfalso; have hN : t.val < 112 := lt_of_lt_of_eq t.isLt (show cfg0.N = 112 from N_0); omega
        · rw [PhiS_castSucc m c t, PhiS_pos m c _ _ hz]
          rw [outsAt0_C m c t h0 h1 h2]
          simp only [before0_4_C m c t h0 h1 h2, before0_5_C m c t h0 h1 h2]
          unfold out0_C_4 out0_C_5 out0_C_6 out0_C_7 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [HS0]; · iexact HS0
          iintro ⟨H0, H1, H2, H3, H4, H5, ⟨%e6, H6⟩, ⟨%e7, H7⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _)
          unfold owns; iexists _; isplitr
          swap; · iexact H7
          ipureintro; exact View.read_writes_of_cover _ _ _ _ _ (cover0_C_7 c _ _ _ _ _ _ _ _ _ _ _ _ _ _ _ _ _ _ _ _ _ _ _ _ _ _ _ _ _)
      · exfalso; omega

/-- The body meets its obligation. -/
theorem defs₀_row (t : Fin cfg0.N) :
    defs₀ (F := F) .tc cfg0.body (cfg0.bodyArgs t (cfg0.slots t)) = bodyAt0 t := by
  unfold defs₀; rw [Defs.onTc_tc]

/-- The body meets its obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The run starts with what the region gives. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- What is held before a point, restated. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The run ends with what the region takes back. -/
theorem hout (c : Dev nD) : (dats m 0 c).Φ (Fin.last cfg0.N) ⊢ Pipeline.ΦA spec0 c :=
  Phi_out m c _ (by rw [Fin.val_last]; have : cfg0.N = 112 := N_0; omega)

set_option backward.isDefEq.respectTransparency.types false in

/-- The run ends with each array at what the data says. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with each array at what the data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged, and so do the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InProjIdeal.Gen

end
-- ==== Proof.InProjCases.lean ====
module

public import proofs.«01_k».proof.Proof.InProjRow
public import proofs.«01_k».proof.Proof.InProjIdealFrame
public import Idealize.ShloMosaic.Lib.Pipeline.Value

/-! What each case of the input projection kernel's body leaves in its scratch and in its output blocks. -/

@[expose] public section

noncomputable section

namespace Cert.Inp

open Idealize.ShloMosaic Cert.InProjIdeal Cert.InProjIdeal.Gen

theorem hz : (![0, 0] : Fin 2 → Nat) = fun _ => 0 := funext fun a => by fin_cases a <;> rfl

/-- The step's columns of the main weights. -/
abbrev wAt (i : grid0.Coords) (w : Vec Ideal S1024x7168 .bf16) : Vec Ideal S1024x1024 .bf16 :=
  View.ld w (Rect.unit (s := S1024x7168) (k0_off1 i) S1024x1024.size (k0_off1_inb i))

section
variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x7168 .bf16) (h4 : a4.IsWhole) (a5 : Memref sig .tc .vmem S1024x8 .bf16) (h5 : a5.IsWhole)
  (a6 : Memref sig .tc .vmem S1024x1024 .f32) (h6 : a6.IsWhole) (a7 : Memref sig .tc .vmem S1024x8 .f32) (h7 : a7.IsWhole)
  (a8 : Memref sig .tc .vmem S4096x128 .f32) (h8 : a8.IsWhole) (a9 : Memref sig .tc .vmem S4096x128 .f32) (h9 : a9.IsWhole)
  (a10 : Memref sig .tc .vmem S1024x1024 .bf16) (h10 : a10.IsWhole)
  (x0 : Vec Ideal S1024x1024 .f32) (x1 : Vec Ideal S1x1024 .f32) (x2 : Vec Ideal S1024x7168 .bf16) (x3 : Vec Ideal S1024x8 .bf16)

theorem h_A (hc0 : cond0_0 i) (hc1 : cond0_1 i) (hc2 : ¬cond0_2 i) :
    sout0_A_0 c i a2 h2 a3 h3 a4 h4 a5 h5 a6 h6 a7 h7 a8 h8 a9 h9 a10 h10 hc0 hc1 hc2 x0 x1 x2 x3 = k0_pay2 x0 x1 := by
  unfold sout0_A_0
  rw [View.read_writes_eq_canon _ _ _ (scover0_A_0 c i a2 h2 a3 h3 a4 h4 a5 h5 a6 h6 a7 h7 a8 h8 a9 h9 a10 h10 hc0 hc1 hc2 x0 x1 x2 x3)]
  unfold kernelRun0_A
  dsimp only
  sl_unfold_words
  rw [View.canon_unit_zero hz]
  simp only [View.readAt_eq_ld, h2.read_unread, h3.read_unread, h4.read_unread, h5.read_unread, h10.read_unread,
    View.ld_unit_zero (S := S1024x1024) hz, View.ld_unit_zero (S := S1x1024) hz, View.ld_unit_zero (S := S1024x8) hz]

theorem os_A (hc0 : cond0_0 i) (hc1 : cond0_1 i) (hc2 : ¬cond0_2 i) :
    out0_A_5 c i a2 h2 a3 h3 a4 h4 a5 h5 a6 h6 a7 h7 a8 h8 a9 h9 a10 h10 hc0 hc1 hc2 x0 x1 x2 x3 = k0_pay3 x0 x1 x3 := by
  unfold out0_A_5
  rw [View.read_writes_eq_canon _ _ _ (cover0_A_5 c i a2 h2 a3 h3 a4 h4 a5 h5 a6 h6 a7 h7 a8 h8 a9 h9 a10 h10 hc0 hc1 hc2 x0 x1 x2 x3)]
  unfold kernelRun0_A
  dsimp only
  sl_unfold_words
  rw [View.canon_unit_zero hz]
  simp only [View.readAt_eq_ld, h2.read_unread, h3.read_unread, h4.read_unread, h5.read_unread, h10.read_unread,
    View.ld_unit_zero (S := S1024x1024) hz, View.ld_unit_zero (S := S1x1024) hz, View.ld_unit_zero (S := S1024x8) hz]

theorem o_A (hc0 : cond0_0 i) (hc1 : cond0_1 i) (hc2 : ¬cond0_2 i) :
    out0_A_4 c i a2 h2 a3 h3 a4 h4 a5 h5 a6 h6 a7 h7 a8 h8 a9 h9 a10 h10 hc0 hc1 hc2 x0 x1 x2 x3 = k0_pay4 (k0_pay2 x0 x1) (wAt i x2) := by
  unfold out0_A_4
  rw [View.read_writes_eq_canon _ _ _ (cover0_A_4 c i a2 h2 a3 h3 a4 h4 a5 h5 a6 h6 a7 h7 a8 h8 a9 h9 a10 h10 hc0 hc1 hc2 x0 x1 x2 x3)]
  unfold kernelRun0_A
  dsimp only
  sl_unfold_words
  rw [View.canon_unit_zero hz, View.readCov_unit_zero (S := S1024x1024) _ hz]
  simp only [View.readAt_eq_ld, h2.read_unread, h3.read_unread, h4.read_unread, h5.read_unread, h10.read_unread,
    View.ld_unit_zero (S := S1024x1024) hz, View.ld_unit_zero (S := S1x1024) hz, View.ld_unit_zero (S := S1024x8) hz]
  rfl

variable (xs : Vec Ideal S1024x1024 .bf16)

theorem o_B (hc0 : ¬cond0_0 i) (hc1 : cond0_1 i) (hc2 : ¬cond0_2 i) :
    out0_B_4 c i a2 h2 a3 h3 a4 h4 a5 h5 a6 h6 a7 h7 a8 h8 a9 h9 a10 h10 hc0 hc1 hc2 x0 x1 x2 x3 xs = k0_pay4 xs (wAt i x2) := by
  unfold out0_B_4
  rw [View.read_writes_eq_canon _ _ _ (cover0_B_4 c i a2 h2 a3 h3 a4 h4 a5 h5 a6 h6 a7 h7 a8 h8 a9 h9 a10 h10 hc0 hc1 hc2 x0 x1 x2 x3 xs)]
  unfold kernelRun0_B
  dsimp only
  sl_unfold_words
  rw [View.canon_unit_zero hz]
  simp only [View.readAt_eq_ld, h2.read_unread, h3.read_unread, h4.read_unread, h5.read_unread, h10.read_unread,
    View.ld_unit_zero (S := S1024x1024) hz, View.ld_unit_zero (S := S1x1024) hz, View.ld_unit_zero (S := S1024x8) hz]
  rfl

variable (xo4 : Vec Ideal S1024x1024 .f32) (xo5 : Vec Ideal S1024x8 .f32)

/-- The last step's product, its heads' columns a row each, from column `o`. -/
def headRows (o : ℕ) (ho : o ≤ 512) (h w : Vec Ideal S1024x1024 .bf16) : Vec Ideal S4096x128 .f32 := fun y =>
  k0_pay4 h w (ix2 (⟨(y 0).val / 4, by have : (y 0).val < 4096 := (y 0).isLt; omega⟩ : Fin 1024)
    (⟨o + (128 * ((y 0).val % 4) + (y 1).val), by have : (y 1).val < 128 := (y 1).isLt; omega⟩ : Fin 1024))

theorem headRows_at (o : ℕ) (ho : o ≤ 512) (h w : Vec Ideal S1024x1024 .bf16) (y : S4096x128.Idx) (r : Fin 1024) (j : Fin 1024)
    (hr : (y 0).val / 4 = r.val) (hj : o + (128 * ((y 0).val % 4) + (y 1).val) = j.val) :
    k0_pay4 h w (ix2 r j) = headRows o ho h w y := by
  unfold headRows
  exact congrArg₂ (fun a b => k0_pay4 h w (ix2 a b)) (Fin.ext hr.symm) (Fin.ext hj.symm)

theorem k_C (hc0 : ¬cond0_0 i) (hc1 : ¬cond0_1 i) (hc2 : cond0_2 i) :
    out0_C_6 c i a2 h2 a3 h3 a4 h4 a5 h5 a6 h6 a7 h7 a8 h8 a9 h9 a10 h10 hc0 hc1 hc2 x0 x1 x2 x3 xo4 xo5 xs = headRows 0 (by omega) xs (wAt i x2) := by
  unfold out0_C_6
  rw [View.read_writes_eq_canon _ _ _ (cover0_C_6 c i a2 h2 a3 h3 a4 h4 a5 h5 a6 h6 a7 h7 a8 h8 a9 h9 a10 h10 hc0 hc1 hc2 x0 x1 x2 x3 xo4 xo5 xs)]
  funext y
  refine View.canon_apply_of_pieces (headRows 0 (by omega) xs (wAt i x2)) _ ?_ y (cover0_C_6 c i a2 h2 a3 h3 a4 h4 a5 h5 a6 h6 a7 h7 a8 h8 a9 h9 a10 h10 hc0 hc1 hc2 x0 x1 x2 x3 xo4 xo5 xs y)
  unfold kernelRun0_C
  dsimp only
  sl_unfold_words
  simp only [View.readAt_eq_ld, h4.read_unread, h10.read_unread, View.ld_unit_zero (S := S1024x1024) hz]
  intro p hp x
  simp only [List.mem_cons, List.not_mem_nil, or_false] at hp
  rcases hp with rfl | rfl | rfl | rfl
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay11 xs (wAt i x2)) e).trans ((pay11_apply xs (wAt i x2) (x 0) (x 1)).trans ?_)
    refine headRows_at 0 (by omega) xs (wAt i x2) _ _ _ ?_ ?_
    · show (3 + 4 * (x 0).val) / 4 = (x 0).val; omega
    · show 0 + (128 * ((3 + 4 * (x 0).val) % 4) + (0 + 1 * (x 1).val)) = 384 + (x 1).val; omega
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay9 xs (wAt i x2)) e).trans ((pay9_apply xs (wAt i x2) (x 0) (x 1)).trans ?_)
    refine headRows_at 0 (by omega) xs (wAt i x2) _ _ _ ?_ ?_
    · show (2 + 4 * (x 0).val) / 4 = (x 0).val; omega
    · show 0 + (128 * ((2 + 4 * (x 0).val) % 4) + (0 + 1 * (x 1).val)) = 256 + (x 1).val; omega
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay7 xs (wAt i x2)) e).trans ((pay7_apply xs (wAt i x2) (x 0) (x 1)).trans ?_)
    refine headRows_at 0 (by omega) xs (wAt i x2) _ _ _ ?_ ?_
    · show (1 + 4 * (x 0).val) / 4 = (x 0).val; omega
    · show 0 + (128 * ((1 + 4 * (x 0).val) % 4) + (0 + 1 * (x 1).val)) = 128 + (x 1).val; omega
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay5 xs (wAt i x2)) e).trans ((pay5_apply xs (wAt i x2) (x 0) (x 1)).trans ?_)
    refine headRows_at 0 (by omega) xs (wAt i x2) _ _ _ ?_ ?_
    · show (0 + 4 * (x 0).val) / 4 = (x 0).val; omega
    · show 0 + (128 * ((0 + 4 * (x 0).val) % 4) + (0 + 1 * (x 1).val)) = (x 1).val; omega

theorem v_C (hc0 : ¬cond0_0 i) (hc1 : ¬cond0_1 i) (hc2 : cond0_2 i) :
    out0_C_7 c i a2 h2 a3 h3 a4 h4 a5 h5 a6 h6 a7 h7 a8 h8 a9 h9 a10 h10 hc0 hc1 hc2 x0 x1 x2 x3 xo4 xo5 xs = headRows 512 (by omega) xs (wAt i x2) := by
  unfold out0_C_7
  rw [View.read_writes_eq_canon _ _ _ (cover0_C_7 c i a2 h2 a3 h3 a4 h4 a5 h5 a6 h6 a7 h7 a8 h8 a9 h9 a10 h10 hc0 hc1 hc2 x0 x1 x2 x3 xo4 xo5 xs)]
  funext y
  refine View.canon_apply_of_pieces (headRows 512 (by omega) xs (wAt i x2)) _ ?_ y (cover0_C_7 c i a2 h2 a3 h3 a4 h4 a5 h5 a6 h6 a7 h7 a8 h8 a9 h9 a10 h10 hc0 hc1 hc2 x0 x1 x2 x3 xo4 xo5 xs y)
  unfold kernelRun0_C
  dsimp only
  sl_unfold_words
  simp only [View.readAt_eq_ld, h4.read_unread, h10.read_unread, View.ld_unit_zero (S := S1024x1024) hz]
  intro p hp x
  simp only [List.mem_cons, List.not_mem_nil, or_false] at hp
  rcases hp with rfl | rfl | rfl | rfl
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay12 xs (wAt i x2)) e).trans ((pay12_apply xs (wAt i x2) (x 0) (x 1)).trans ?_)
    refine headRows_at 512 (by omega) xs (wAt i x2) _ _ _ ?_ ?_
    · show (3 + 4 * (x 0).val) / 4 = (x 0).val; omega
    · show 512 + (128 * ((3 + 4 * (x 0).val) % 4) + (0 + 1 * (x 1).val)) = 896 + (x 1).val; omega
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay10 xs (wAt i x2)) e).trans ((pay10_apply xs (wAt i x2) (x 0) (x 1)).trans ?_)
    refine headRows_at 512 (by omega) xs (wAt i x2) _ _ _ ?_ ?_
    · show (2 + 4 * (x 0).val) / 4 = (x 0).val; omega
    · show 512 + (128 * ((2 + 4 * (x 0).val) % 4) + (0 + 1 * (x 1).val)) = 768 + (x 1).val; omega
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay8 xs (wAt i x2)) e).trans ((pay8_apply xs (wAt i x2) (x 0) (x 1)).trans ?_)
    refine headRows_at 512 (by omega) xs (wAt i x2) _ _ _ ?_ ?_
    · show (1 + 4 * (x 0).val) / 4 = (x 0).val; omega
    · show 512 + (128 * ((1 + 4 * (x 0).val) % 4) + (0 + 1 * (x 1).val)) = 640 + (x 1).val; omega
  · have h0 : (x 0).val < 1024 := (x 0).isLt
    have h1 : (x 1).val < 128 := (x 1).isLt
    have e : x = ix2 (x 0 : Fin 1024) (x 1 : Fin 128) := funext fun a => by fin_cases a <;> rfl
    refine (congrArg (k0_pay6 xs (wAt i x2)) e).trans ((pay6_apply xs (wAt i x2) (x 0) (x 1)).trans ?_)
    refine headRows_at 512 (by omega) xs (wAt i x2) _ _ _ ?_ ?_
    · show (0 + 4 * (x 0).val) / 4 = (x 0).val; omega
    · show 512 + (128 * ((0 + 4 * (x 0).val) % 4) + (0 + 1 * (x 1).val)) = 512 + (x 1).val; omega

end

end Cert.Inp
-- ==== Proof.InProjBlocks.lean ====
module

public import proofs.«01_k».proof.Proof.InProjCases
public import Idealize.ShloMosaic.Lib.StableHlo.RunClose
public import Idealize.ShloMosaic.Lib.Claim
public import Idealize.ShloMosaic.Lib.Pipeline.ValueKit.Point

/-! What the input projection's windows read at each grid point, in terms of the arguments. -/

@[expose] public section

noncomputable section

namespace Cert.Inp

open Idealize.ShloMosaic Idealize.ShloMosaic.StableHlo Idealize.ShloMosaic.TcCoe Cert.InProjIdeal Cert.InProjIdeal.Gen

variable (m : (ℓ : Loc nD τ sig) → Buf (Elt Ideal) ℓ) (c : Dev nD)

abbrev argX : FVec Ideal S8x2048x1024 .f32 := m ((c.tc : Thread nD τ).loc main_arg0)
abbrev argG : FVec Ideal S1024 .f32 := m ((c.tc : Thread nD τ).loc main_arg1)
abbrev argW : FVec Ideal S1024x7176 .f32 := m ((c.tc : Thread nD τ).loc main_arg2)

/-- The main weights: the columns without the gates', the keys' and the values' last. -/
def wK (w : FVec Ideal S1024x7176 .f32) : FVec Ideal S1024x7168 .f32 :=
  concatenate S1024x7168 1
    [⟨S1024x2048, (extractStridedSlice S1024x2048 ![0, 0] w slices_S1024x7176_S1024x2048_0_0 : FVec Ideal S1024x2048 .f32)⟩,
     ⟨S1024x512, (extractStridedSlice S1024x512 ![0, 2056] w slices_S1024x7176_S1024x512_0_2056 : FVec Ideal S1024x512 .f32)⟩,
     ⟨S1024x3584, (extractStridedSlice S1024x3584 ![0, 3592] w slices_S1024x7176_S1024x3584_0_3592 : FVec Ideal S1024x3584 .f32)⟩,
     ⟨S1024x1024, (extractStridedSlice S1024x1024 ![0, 2568] w slices_S1024x7176_S1024x1024_0_2568 : FVec Ideal S1024x1024 .f32)⟩]
    concatenates_S1024x2048_S1024x512_S1024x3584_S1024x1024_S1024x7168_d1

/-- The gates' weights. -/
def wsK (w : FVec Ideal S1024x7176 .f32) : FVec Ideal S1024x8 .f32 :=
  extractStridedSlice S1024x8 ![0, 2048] w slices_S1024x7176_S1024x8_0_2048

/-- A four-operand host operation's result, each operand's contents at its own reference. -/
theorem nary4_result {x a b d y : Ref sig .tc}
    (f : ((k : Fin 4) → ((![x, a, b, d] : Fin 4 → Ref sig .tc) k).ty.Contents (Elt Ideal)) → y.ty.Contents (Elt Ideal)) (hxs hy)
    (W : Valuation τ sig (Elt Ideal)) :
    (nary (τ := τ) ![x, a, b, d] y f hxs hy).result W (Proc.devRef .tc y)
      = f (Fin.cons (W (Proc.devRef .tc x)) (Fin.cons (W (Proc.devRef .tc a)) (Fin.cons (W (Proc.devRef .tc b))
          (Fin.cons (W (Proc.devRef .tc d)) (fun i => i.elim0))))) := by
  rw [nary_result]; congr 1; funext k; fin_cases k <;> rfl

set_option maxRecDepth 8192 in
set_option maxHeartbeats 4000000 in
theorem entry5 : V m c main_v5 = (truncf .bf16 (wK (argW m c)) bitsLt_bf16_f32 : FVec Ideal S1024x7168 .bf16) := by
  show StableHlo.after ([hostOps0].flatten) (fun b => m (c, b)) (Proc.devRef .tc main_v5) = _
  simp only [List.flatten_cons, List.flatten_nil, List.append_nil, hostOps0]
  simp only [after_cons, after_nil]
  repeat first
    | rw [nary4_result] | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide)
    | (rw [nary_result_ne]; rotate_left; decide)
  rfl

set_option maxRecDepth 8192 in
theorem entry7 : V m c main_v7 = (truncf .bf16 (wsK (argW m c)) bitsLt_bf16_f32 : FVec Ideal S1024x8 .bf16) := by
  show StableHlo.after ([hostOps0].flatten) (fun b => m (c, b)) (Proc.devRef .tc main_v7) = _
  simp only [List.flatten_cons, List.flatten_nil, List.append_nil, hostOps0]
  entry_read
  rfl

set_option maxRecDepth 8192 in
theorem entry8 : V m c main_v8 = (shapeCast S16384x1024 (argX m c) shapeCasts_S8x2048x1024_S16384x1024 : FVec Ideal S16384x1024 .f32) := by
  show StableHlo.after ([hostOps0].flatten) (fun b => m (c, b)) (Proc.devRef .tc main_v8) = _
  simp only [List.flatten_cons, List.flatten_nil, List.append_nil, hostOps0]
  entry_read
  rfl

set_option maxRecDepth 8192 in
theorem entry9 : V m c main_v9 = (shapeCast S1x1024 (argG m c) shapeCasts_S1024_S1x1024 : FVec Ideal S1x1024 .f32) := by
  show StableHlo.after ([hostOps0].flatten) (fun b => m (c, b)) (Proc.devRef .tc main_v9) = _
  simp only [List.flatten_cons, List.flatten_nil, List.append_nil, hostOps0]
  entry_read
  rfl

theorem wK_apply (w : FVec Ideal S1024x7176 .f32) (l : Fin 1024) (q : Fin 7168) : wK w (ix2 l q) = w (ix2 l (col q)) := by
  pointwise [wK]
  (repeat' split) <;> refine congrArg (fun z => w (ix2 l z)) (Fin.ext ?_) <;> show _ = colMap q.val <;>
    unfold colMap <;> dsimp only <;> (repeat' split) <;> omega

theorem wsK_apply (w : FVec Ideal S1024x7176 .f32) (l : Fin 1024) (a : Fin 8) :
    wsK w (ix2 l a) = w (ix2 l (⟨2048 + a.val, by omega⟩ : Fin 7176)) := by
  pointwise [wsK]

theorem flat_apply (x : FVec Ideal S8x2048x1024 .f32) (r : Fin 16384) (l : Fin 1024) :
    (shapeCast S16384x1024 x shapeCasts_S8x2048x1024_S16384x1024 : FVec Ideal S16384x1024 .f32) (ix2 r l)
      = x (ix3 (⟨r.val / 2048, by omega⟩ : Fin 8) (⟨r.val % 2048, by omega⟩ : Fin 2048) l) := by
  pointwise []

theorem row_apply (g : FVec Ideal S1024 .f32) (l : Fin 1024) :
    (shapeCast S1x1024 g shapeCasts_S1024_S1x1024 : FVec Ideal S1x1024 .f32) (ix2 (0 : Fin 1) l) = g (ix1 l) := by
  pointwise []

theorem index0 : ∀ t : Fin grid0.N, win0_0.index t = ![t.val / 7, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem off1 : ∀ t : Fin grid0.N, k0_off1 (grid0.coords t) = ![0, 1024 * (t.val % 7)] := by decide +kernel

/-- The row of the flattened input that row `r` of the block at point `n` is. -/
def rowOf (t : Fin cfg0.N) (r : Fin 1024) : Fin 16384 :=
  ⟨1024 * (t.val / 7) + r.val, by have h := t.isLt; have : cfg0.N = 112 := N_0; omega⟩

set_option maxHeartbeats 1000000 in
theorem blk0 (t : Fin cfg0.N) (r l : Fin 1024) :
    (iblk m c 0 t : Vec Ideal S1024x1024 .f32) (ix2 r l)
      = argX m c (ix3 (⟨(rowOf t r).val / 2048, by omega⟩ : Fin 8) (⟨(rowOf t r).val % 2048, by omega⟩ : Fin 2048) l) := by
  refine Eq.trans ?_ (flat_apply (argX m c) (rowOf t r) l)
  show (V m c main_v8) _ = _
  rw [entry8]
  blk_ext [iblk, index0 t, rowOf]

set_option maxHeartbeats 1000000 in
theorem blk1 (t : Fin cfg0.N) (l : Fin 1024) :
    (iblk m c 1 t : Vec Ideal S1x1024 .f32) (ix2 (0 : Fin 1) l) = argG m c (ix1 l) := by
  refine Eq.trans ?_ (row_apply (argG m c) l)
  show (V m c main_v9) _ = _
  rw [entry9]
  blk_ext [iblk, index1 t]

set_option maxHeartbeats 1000000 in
theorem blk2 (t : Fin cfg0.N) (l : Fin 1024) (q : Fin 7168) :
    (iblk m c 2 t : Vec Ideal S1024x7168 .bf16) (ix2 l q) = argW m c (ix2 l (col q)) := by
  refine Eq.trans ?_ (wK_apply (argW m c) l q)
  show (V m c main_v5) _ = _
  rw [entry5]
  show wK (argW m c) _ = _
  blk_ext [iblk, index2 t]

set_option maxHeartbeats 1000000 in
theorem blk3 (t : Fin cfg0.N) (l : Fin 1024) (a : Fin 8) :
    (iblk m c 3 t : Vec Ideal S1024x8 .bf16) (ix2 l a) = argW m c (ix2 l (⟨2048 + a.val, by omega⟩ : Fin 7176)) := by
  refine Eq.trans ?_ (wsK_apply (argW m c) l a)
  show (V m c main_v7) _ = _
  rw [entry7]
  show wsK (argW m c) _ = _
  blk_ext [iblk, index3 t]

/-- Column `k` of the step at point `n`. -/
def colOf (n : ℕ) (k : Fin 1024) : Fin 7168 := ⟨1024 * (n % 7) + k.val, by omega⟩

theorem wAt_apply (t : Fin cfg0.N) (w : Vec Ideal S1024x7168 .bf16) (l k : Fin 1024) :
    wAt (grid0.coords t) w (ix2 l k) = w (ix2 l (colOf t.val k)) := by
  show w _ = w _
  refine congrArg w (funext fun a => Fin.ext ?_)
  fin_cases a
  · show k0_off1 (grid0.coords t) 0 + 1 * l.val = l.val
    rw [off1 t]; show 0 + 1 * l.val = l.val; omega
  · show k0_off1 (grid0.coords t) 1 + 1 * k.val = 1024 * (t.val % 7) + k.val
    rw [off1 t]; show 1024 * (t.val % 7) + 1 * k.val = _; omega

end Cert.Inp
-- ==== Proof.InProjSteps.lean ====
module

public import proofs.«01_k».proof.Proof.InProjBlocks

/-! What the input projection's blocks hold after each grid point: the normalised rows stay in their scratch over a row block's
    points, each of the first six points stores its columns' product, the first the gates', the last the keys' and values' rows. -/

@[expose] public section

noncomputable section

namespace Cert.Inp

open Idealize.ShloMosaic Idealize.ShloMosaic.TcCoe Cert.InProjIdeal Cert.InProjIdeal.Gen

variable (m : (ℓ : Loc nD τ sig) → Buf (Elt Ideal) ℓ) (c : Dev nD)

theorem pred_lt (t : Fin cfg0.N) : t.val - 1 < cfg0.N := Nat.lt_of_le_of_lt (Nat.sub_le _ _) t.isLt

theorem rowOf_pred (t : Fin cfg0.N) (h : ¬t.val % 7 = 0) (r : Fin 1024) : rowOf ⟨t.val - 1, pred_lt t⟩ r = rowOf t r := by
  refine Fin.ext ?_
  show 1024 * ((t.val - 1) / 7) + r.val = 1024 * (t.val / 7) + r.val
  omega

/-- The normalised rows stay in their scratch over a row block's points. -/
theorem h_at (n : ℕ) : ∀ (hn : n < cfg0.N) (r l : Fin 1024),
    (outsAt0 m c n hn).2.2.2.2 (ix2 r l) = hRow (argX m c) (argG m c) (rowOf ⟨n, hn⟩ r) l := by
  induction n using Nat.strong_induction_on with
  | _ n ih =>
    intro hn r l
    have e : outsAt0 m c n hn = outsAt0 m c (⟨n, hn⟩ : Fin cfg0.N).val (⟨n, hn⟩ : Fin cfg0.N).isLt := rfl
    by_cases h0 : n % 7 = 0
    · rw [e, outsAt0_A m c ⟨n, hn⟩ h0 (by show n % 7 ≤ 5; omega) (by show ¬n % 7 = 6; omega)]
      dsimp only
      rw [h_A, pay2_apply]
      unfold hRow
      simp only [blk0, blk1]
    · have hp := ih (n - 1) (by omega) (pred_lt ⟨n, hn⟩) r l
      rw [show rowOf ⟨n - 1, pred_lt ⟨n, hn⟩⟩ r = rowOf ⟨n, hn⟩ r from rowOf_pred ⟨n, hn⟩ h0 r] at hp
      by_cases h1 : n % 7 ≤ 5
      · rw [e, outsAt0_B m c ⟨n, hn⟩ h0 h1 (by show ¬n % 7 = 6; omega)]
        exact hp
      · rw [e, outsAt0_C m c ⟨n, hn⟩ h0 h1 (by show n % 7 = 6; omega)]
        exact hp

/-- The gates' product stays in its block over a row block's points. -/
theorem os_at (n : ℕ) : ∀ (hn : n < cfg0.N) (r : Fin 1024) (a : Fin 8),
    (outsAt0 m c n hn).2.1 (ix2 r a) = abAt (argX m c) (argG m c) (argW m c) (rowOf ⟨n, hn⟩ r) a := by
  induction n using Nat.strong_induction_on with
  | _ n ih =>
    intro hn r a
    have e : outsAt0 m c n hn = outsAt0 m c (⟨n, hn⟩ : Fin cfg0.N).val (⟨n, hn⟩ : Fin cfg0.N).isLt := rfl
    by_cases h0 : n % 7 = 0
    · rw [e, outsAt0_A m c ⟨n, hn⟩ h0 (by show n % 7 ≤ 5; omega) (by show ¬n % 7 = 6; omega)]
      dsimp only
      rw [os_A, pay3_apply]
      unfold abAt dotAt hRow
      simp only [blk0, blk1, blk3]
    · have hp := ih (n - 1) (by omega) (pred_lt ⟨n, hn⟩) r a
      rw [show rowOf ⟨n - 1, pred_lt ⟨n, hn⟩⟩ r = rowOf ⟨n, hn⟩ r from rowOf_pred ⟨n, hn⟩ h0 r] at hp
      by_cases h1 : n % 7 ≤ 5
      · rw [e, outsAt0_B m c ⟨n, hn⟩ h0 h1 (by show ¬n % 7 = 6; omega)]
        exact hp
      · rw [e, outsAt0_C m c ⟨n, hn⟩ h0 h1 (by show n % 7 = 6; omega)]
        exact hp

/-- One step's product. -/
theorem step_apply (t : Fin cfg0.N) (h : Vec Ideal S1024x1024 .bf16) (r k : Fin 1024)
    (hh : ∀ l, h (ix2 r l) = hRow (argX m c) (argG m c) (rowOf t r) l) :
    k0_pay4 h (wAt (grid0.coords t) (iblk m c 2 t)) (ix2 r k)
      = dotAt (argX m c) (argG m c) (argW m c) (rowOf t r) (col (colOf t.val k)) := by
  rw [pay4_apply]
  unfold dotAt
  refine Finset.sum_congr rfl fun l _ => ?_
  rw [hh, wAt_apply, blk2]

/-- The columns the main output's block holds after a point, before the last point of its row block. -/
theorem o_at (t : Fin cfg0.N) (h1 : t.val % 7 ≤ 5) (r k : Fin 1024) :
    (outsAt0 m c t.val t.isLt).1 (ix2 r k)
      = dotAt (argX m c) (argG m c) (argW m c) (rowOf t r) (col (colOf t.val k)) := by
  by_cases h0 : t.val % 7 = 0
  · rw [outsAt0_A m c t h0 h1 (by omega)]
    dsimp only
    rw [o_A]
    refine step_apply m c t _ r k fun l => ?_
    rw [pay2_apply]
    unfold hRow
    simp only [blk0, blk1]
  · rw [outsAt0_B m c t h0 h1 (by omega)]
    dsimp only
    rw [o_B]
    refine step_apply m c t _ r k fun l => ?_
    rw [h_at, rowOf_pred t h0]

/-- The last point of a row block leaves the main output's block as the point before it did. -/
theorem o_last (t : Fin cfg0.N) (h2 : t.val % 7 = 6) (r k : Fin 1024) :
    (outsAt0 m c t.val t.isLt).1 (ix2 r k)
      = dotAt (argX m c) (argG m c) (argW m c) (rowOf t r) (col (colOf 5 k)) := by
  have hp := o_at m c ⟨t.val - 1, pred_lt t⟩ (by show (t.val - 1) % 7 ≤ 5; omega) r k
  rw [rowOf_pred t (by omega)] at hp
  rw [outsAt0_C m c t (by omega) (by omega) h2]
  refine Eq.trans hp ?_
  refine congrArg (fun q => dotAt _ _ _ (rowOf t r) (col q)) (Fin.ext ?_)
  show 1024 * ((t.val - 1) % 7) + k.val = 1024 * (5 % 7) + k.val
  omega

/-- The main output's block at a point: the columns of the last product stored into it. -/
theorem o_all (t : Fin cfg0.N) (r k : Fin 1024) :
    (outsAt0 m c t.val t.isLt).1 (ix2 r k)
      = dotAt (argX m c) (argG m c) (argW m c) (rowOf t r) (col (colOf (min (t.val % 7) 5) k)) := by
  by_cases h : t.val % 7 ≤ 5
  · rw [o_at m c t h]
    refine congrArg (fun q => dotAt _ _ _ (rowOf t r) (col q)) (Fin.ext ?_)
    show 1024 * (t.val % 7) + k.val = 1024 * (min (t.val % 7) 5 % 7) + k.val
    omega
  · rw [o_last m c t (by omega)]
    refine congrArg (fun q => dotAt _ _ _ (rowOf t r) (col q)) (Fin.ext ?_)
    show 1024 * (5 % 7) + k.val = 1024 * (min (t.val % 7) 5 % 7) + k.val
    omega

/-- The row of the keys or values that row `r` of the block at point `t` is. -/
def headRowOf (t : Fin cfg0.N) (r : Fin 4096) : Fin 65536 :=
  ⟨4096 * (t.val / 7) + r.val, by have h := t.isLt; have : cfg0.N = 112 := N_0; omega⟩

/-- A head's row of the last step's product. -/
theorem headRows_apply (t : Fin cfg0.N) (h2 : t.val % 7 = 6) (o : ℕ) (ho : o ≤ 512) (h : Vec Ideal S1024x1024 .bf16)
    (hh : ∀ r l, h (ix2 r l) = hRow (argX m c) (argG m c) (rowOf t r) l) (r : Fin 4096) (l : Fin 128) :
    headRows o ho h (wAt (grid0.coords t) (iblk m c 2 t)) (ix2 r l)
      = dotAt (argX m c) (argG m c) (argW m c) ⟨(headRowOf t r).val / 4, by omega⟩ ⟨2568 + o + (128 * ((headRowOf t r).val % 4) + l.val), by omega⟩ := by
  refine (step_apply m c t h _ _ (hh _)).trans ?_
  refine congrArg₂ (fun p q => dotAt _ _ _ p q) (Fin.ext ?_) (Fin.ext ?_)
  · show 1024 * (t.val / 7) + r.val / 4 = (4096 * (t.val / 7) + r.val) / 4
    omega
  · show colMap (1024 * (t.val % 7) + (o + (128 * (r.val % 4) + l.val))) = 2568 + o + (128 * ((4096 * (t.val / 7) + r.val) % 4) + l.val)
    unfold colMap
    (repeat' split) <;> omega

theorem k_at (t : Fin cfg0.N) (h2 : t.val % 7 = 6) (r : Fin 4096) (l : Fin 128) :
    (outsAt0 m c t.val t.isLt).2.2.1 (ix2 r l) = keyAt (argX m c) (argG m c) (argW m c) (headRowOf t r) l := by
  rw [outsAt0_C m c t (by omega) (by omega) h2]
  dsimp only
  rw [k_C]
  refine headRows_apply m c t h2 0 _ _ (fun r l => ?_) r l
  rw [h_at, rowOf_pred t (by omega)]

theorem v_at (t : Fin cfg0.N) (h2 : t.val % 7 = 6) (r : Fin 4096) (l : Fin 128) :
    (outsAt0 m c t.val t.isLt).2.2.2.1 (ix2 r l) = valAt (argX m c) (argG m c) (argW m c) (headRowOf t r) l := by
  rw [outsAt0_C m c t (by omega) (by omega) h2]
  dsimp only
  rw [v_C]
  refine headRows_apply m c t h2 512 _ _ (fun r l => ?_) r l
  rw [h_at, rowOf_pred t (by omega)]

end Cert.Inp
-- ==== Proof.InProjArrays.lean ====
module

public import proofs.«01_k».proof.Proof.InProjSteps

/-! The input projection's result arrays: the blocks written back at the points that do so tile each of them. -/

@[expose] public section

noncomputable section

namespace Cert.Inp

open Idealize.ShloMosaic Idealize.ShloMosaic.TcCoe Idealize.SL.Sem Cert.InProjIdeal Cert.InProjIdeal.Gen

variable (m : (ℓ : Loc nD τ sig) → Buf (Elt Ideal) ℓ) (c : Dev nD)

/-- Result 0's array. -/
def G4 : FVec Ideal S16384x6144 .f32 := fun y => projAt (argX m c) (argG m c) (argW m c) (y 0) (y 1)

theorem index4 : ∀ t : Fin grid0.N, win0_4.index t = ![t.val / 7, min (t.val % 7) 5] := by decide +kernel

theorem flushed4 (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after0_4]
  funext y
  have hy0 : (y 0).val < 1024 := (y 0).isLt
  have hy1 : (y 1).val < 1024 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 1024 + 1 * (y 1).val := rfl
  have i0 : win0_4.index t (0 : Fin 2) = t.val / 7 := congrFun (index4 t) 0
  have i1 : win0_4.index t (1 : Fin 2) = min (t.val % 7) 5 := congrFun (index4 t) 1
  rw [i0] at hb0
  rw [i1] at hb1
  have hl : (cfg0.win 4).xinj (grid0.coords t) y = ix2 (⟨(y 0).val, hy0⟩ : Fin 1024) (⟨(y 1).val, hy1⟩ : Fin 1024) := by
    funext a
    match a with
    | ⟨0, _⟩ => rfl
    | ⟨1, _⟩ => rfl
  show (outsAt0 m c t.val t.isLt).1 ((cfg0.win 4).xinj (grid0.coords t) y) = G4 m c (((cfg0.win 4).blk t).view.emb y)
  rw [hl, o_all]
  unfold G4 projAt
  refine congrArg₂ (fun p q => dotAt _ _ _ p (col q)) (Fin.ext ?_) (Fin.ext ?_)
  · refine Eq.trans ?_ hb0.symm
    show 1024 * (t.val / 7) + (y 0).val = _
    omega
  · refine Eq.trans ?_ hb1.symm
    show 1024 * (min (t.val % 7) 5 % 7) + (y 1).val = _
    omega

theorem flush4 : ∀ t : Fin cfg0.N, (cfg0.win 4).flush t = true ↔ ¬t.val % 7 = 5 :=
  (by decide +kernel : ∀ t : Fin grid0.N, win0_4.flush t = true ↔ ¬t.val % 7 = 5)

theorem mem_blk4 (t : Fin cfg0.N) (i : S16384x6144.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v10_0).slice (win0_4.rect t)).set ↔ _
  rw [View.set_slice_whole, Rect.mem_set_unit]
  exact Iff.rfl

theorem covered4 (i : S16384x6144.Idx) : ∃ t : Fin cfg0.N, (cfg0.win 4).flush t = true ∧ i ∈ ((cfg0.win 4).blk t).view.set := by
  have hi0 : (i 0).val < 16384 := (i 0).isLt
  have hi1 : (i 1).val < 6144 := (i 1).isLt
  have hN : cfg0.N = 112 := N_0
  obtain ⟨n, hn⟩ : ∃ n, n = 7 * ((i 0).val / 1024) + (if (i 1).val / 1024 = 5 then 6 else (i 1).val / 1024) := ⟨_, rfl⟩
  have hlt : n < cfg0.N := by rw [hN, hn]; (repeat' split) <;> omega
  let t : Fin cfg0.N := ⟨n, hlt⟩
  have i0 : win0_4.index t (0 : Fin 2) = n / 7 := congrFun (index4 t) 0
  have i1 : win0_4.index t (1 : Fin 2) = min (n % 7) 5 := congrFun (index4 t) 1
  refine ⟨t, (flush4 t).mpr ?_, (mem_blk4 t i).mpr fun a => ?_⟩
  · show ¬n % 7 = 5
    rw [hn]; (repeat' split) <;> omega
  · match a with
    | ⟨0, _⟩ =>
      show win0_4.index t (0 : Fin 2) * 1024 ≤ (i 0).val ∧ (i 0).val < win0_4.index t (0 : Fin 2) * 1024 + 1024
      rw [i0, hn]; (repeat' split) <;> omega
    | ⟨1, _⟩ =>
      show win0_4.index t (1 : Fin 2) * 1024 ≤ (i 1).val ∧ (i 1).val < win0_4.index t (1 : Fin 2) * 1024 + 1024
      rw [i1, hn]; (repeat (first | split | apply And.intro)) <;> omega

theorem final4 : (dats m 0 c).arrAt 4 cfg0.N = G4 m c :=
  (dats m 0 c).arrAt_eq_of_cover 4 _ (fun t hf => flushed4 m c t hf) (fun i => covered4 i)

/-- Result 1's array. -/
def G5 : FVec Ideal S16384x8 .f32 := fun y => abAt (argX m c) (argG m c) (argW m c) (y 0) (y 1)

theorem index5 : ∀ t : Fin grid0.N, win0_5.index t = ![t.val / 7, 0] := by decide +kernel

theorem flushed5 (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  funext y
  have hy0 : (y 0).val < 1024 := (y 0).isLt
  have hy1 : (y 1).val < 8 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 8 + 1 * (y 1).val := rfl
  have i0 : win0_5.index t (0 : Fin 2) = t.val / 7 := congrFun (index5 t) 0
  have i1 : win0_5.index t (1 : Fin 2) = 0 := congrFun (index5 t) 1
  rw [i0] at hb0
  rw [i1] at hb1
  have hl : (cfg0.win 5).xinj (grid0.coords t) y = ix2 (⟨(y 0).val, hy0⟩ : Fin 1024) (⟨(y 1).val, hy1⟩ : Fin 8) := by
    funext a
    match a with
    | ⟨0, _⟩ => rfl
    | ⟨1, _⟩ => rfl
  show (outsAt0 m c t.val t.isLt).2.1 ((cfg0.win 5).xinj (grid0.coords t) y) = G5 m c (((cfg0.win 5).blk t).view.emb y)
  rw [hl, os_at]
  unfold G5
  refine congrArg₂ (fun p q => abAt _ _ _ p q) (Fin.ext ?_) (Fin.ext ?_)
  · refine Eq.trans ?_ hb0.symm
    show 1024 * (t.val / 7) + (y 0).val = _
    omega
  · refine Eq.trans ?_ hb1.symm
    show (y 1).val = _
    omega

theorem mem_blk5 (t : Fin cfg0.N) (i : S16384x8.Idx) :
    i ∈ ((cfg0.win 5).blk t).view.set ↔ ∀ a : Fin 2, win0_5.index t a * S1024x8.size a ≤ (i a).val ∧ (i a).val < win0_5.index t a * S1024x8.size a + S1024x8.size a := by
  show i ∈ ((View.whole main_v10_1).slice (win0_5.rect t)).set ↔ _
  rw [View.set_slice_whole, Rect.mem_set_unit]
  exact Iff.rfl

theorem covered5 (i : S16384x8.Idx) : ∃ t : Fin cfg0.N, (cfg0.win 5).flush t = true ∧ i ∈ ((cfg0.win 5).blk t).view.set := by
  have hi0 : (i 0).val < 16384 := (i 0).isLt
  have hi1 : (i 1).val < 8 := (i 1).isLt
  have hN : cfg0.N = 112 := N_0
  obtain ⟨n, hn⟩ : ∃ n, n = 7 * ((i 0).val / 1024) + 6 := ⟨_, rfl⟩
  have hlt : n < cfg0.N := by rw [hN, hn]; (repeat' split) <;> omega
  let t : Fin cfg0.N := ⟨n, hlt⟩
  have i0 : win0_5.index t (0 : Fin 2) = n / 7 := congrFun (index5 t) 0
  have i1 : win0_5.index t (1 : Fin 2) = 0 := congrFun (index5 t) 1
  refine ⟨t, (flush0_5 t).mpr ?_, (mem_blk5 t i).mpr fun a => ?_⟩
  · show n % 7 = 6
    rw [hn]; (repeat' split) <;> omega
  · match a with
    | ⟨0, _⟩ =>
      show win0_5.index t (0 : Fin 2) * 1024 ≤ (i 0).val ∧ (i 0).val < win0_5.index t (0 : Fin 2) * 1024 + 1024
      rw [i0, hn]; (repeat' split) <;> omega
    | ⟨1, _⟩ =>
      show win0_5.index t (1 : Fin 2) * 8 ≤ (i 1).val ∧ (i 1).val < win0_5.index t (1 : Fin 2) * 8 + 8
      rw [i1]; omega

theorem final5 : (dats m 0 c).arrAt 5 cfg0.N = G5 m c :=
  (dats m 0 c).arrAt_eq_of_cover 5 _ (fun t hf => flushed5 m c t hf) (fun i => covered5 i)

/-- Result 2's array. -/
def G6 : FVec Ideal S65536x128 .f32 := fun y => keyAt (argX m c) (argG m c) (argW m c) (y 0) (y 1)

theorem index6 : ∀ t : Fin grid0.N, win0_6.index t = ![t.val / 7, 0] := by decide +kernel

theorem flushed6 (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after0_6]
  funext y
  have hy0 : (y 0).val < 4096 := (y 0).isLt
  have hy1 : (y 1).val < 128 := (y 1).isLt
  have hb0 : (((cfg0.win 6).blk t).view.emb y 0).val = win0_6.index t (0 : Fin 2) * 4096 + 1 * (y 0).val := rfl
  have hb1 : (((cfg0.win 6).blk t).view.emb y 1).val = win0_6.index t (1 : Fin 2) * 128 + 1 * (y 1).val := rfl
  have i0 : win0_6.index t (0 : Fin 2) = t.val / 7 := congrFun (index6 t) 0
  have i1 : win0_6.index t (1 : Fin 2) = 0 := congrFun (index6 t) 1
  rw [i0] at hb0
  rw [i1] at hb1
  have hl : (cfg0.win 6).xinj (grid0.coords t) y = ix2 (⟨(y 0).val, hy0⟩ : Fin 4096) (⟨(y 1).val, hy1⟩ : Fin 128) := by
    funext a
    match a with
    | ⟨0, _⟩ => rfl
    | ⟨1, _⟩ => rfl
  show (outsAt0 m c t.val t.isLt).2.2.1 ((cfg0.win 6).xinj (grid0.coords t) y) = G6 m c (((cfg0.win 6).blk t).view.emb y)
  rw [hl, k_at m c t ((flush0_6 t).mp hf)]
  unfold G6
  refine congrArg₂ (fun p q => keyAt _ _ _ p q) (Fin.ext ?_) (Fin.ext ?_)
  · refine Eq.trans ?_ hb0.symm
    show 4096 * (t.val / 7) + (y 0).val = _
    omega
  · refine Eq.trans ?_ hb1.symm
    show (y 1).val = _
    omega

theorem mem_blk6 (t : Fin cfg0.N) (i : S65536x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v10_2).slice (win0_6.rect t)).set ↔ _
  rw [View.set_slice_whole, Rect.mem_set_unit]
  exact Iff.rfl

theorem covered6 (i : S65536x128.Idx) : ∃ t : Fin cfg0.N, (cfg0.win 6).flush t = true ∧ i ∈ ((cfg0.win 6).blk t).view.set := by
  have hi0 : (i 0).val < 65536 := (i 0).isLt
  have hi1 : (i 1).val < 128 := (i 1).isLt
  have hN : cfg0.N = 112 := N_0
  obtain ⟨n, hn⟩ : ∃ n, n = 7 * ((i 0).val / 4096) + 6 := ⟨_, rfl⟩
  have hlt : n < cfg0.N := by rw [hN, hn]; (repeat' split) <;> omega
  let t : Fin cfg0.N := ⟨n, hlt⟩
  have i0 : win0_6.index t (0 : Fin 2) = n / 7 := congrFun (index6 t) 0
  have i1 : win0_6.index t (1 : Fin 2) = 0 := congrFun (index6 t) 1
  refine ⟨t, (flush0_6 t).mpr ?_, (mem_blk6 t i).mpr fun a => ?_⟩
  · show n % 7 = 6
    rw [hn]; (repeat' split) <;> omega
  · match a with
    | ⟨0, _⟩ =>
      show win0_6.index t (0 : Fin 2) * 4096 ≤ (i 0).val ∧ (i 0).val < win0_6.index t (0 : Fin 2) * 4096 + 4096
      rw [i0, hn]; (repeat' split) <;> omega
    | ⟨1, _⟩ =>
      show win0_6.index t (1 : Fin 2) * 128 ≤ (i 1).val ∧ (i 1).val < win0_6.index t (1 : Fin 2) * 128 + 128
      rw [i1]; omega

theorem final6 : (dats m 0 c).arrAt 6 cfg0.N = G6 m c :=
  (dats m 0 c).arrAt_eq_of_cover 6 _ (fun t hf => flushed6 m c t hf) (fun i => covered6 i)

/-- Result 3's array. -/
def G7 : FVec Ideal S65536x128 .f32 := fun y => valAt (argX m c) (argG m c) (argW m c) (y 0) (y 1)

theorem index7 : ∀ t : Fin grid0.N, win0_7.index t = ![t.val / 7, 0] := by decide +kernel

theorem flushed7 (t : Fin cfg0.N) (hf : (cfg0.win 7).flush t = true) :
    (dats m 0 c).flushed 7 t = ((cfg0.win 7).blk t).view.read (Elt Ideal) (G7 m c) := by
  show (cfg0.win 7).cut (grid0.coords t) ((dats m 0 c).after 7 t) = _
  rw [after0_7]
  funext y
  have hy0 : (y 0).val < 4096 := (y 0).isLt
  have hy1 : (y 1).val < 128 := (y 1).isLt
  have hb0 : (((cfg0.win 7).blk t).view.emb y 0).val = win0_7.index t (0 : Fin 2) * 4096 + 1 * (y 0).val := rfl
  have hb1 : (((cfg0.win 7).blk t).view.emb y 1).val = win0_7.index t (1 : Fin 2) * 128 + 1 * (y 1).val := rfl
  have i0 : win0_7.index t (0 : Fin 2) = t.val / 7 := congrFun (index7 t) 0
  have i1 : win0_7.index t (1 : Fin 2) = 0 := congrFun (index7 t) 1
  rw [i0] at hb0
  rw [i1] at hb1
  have hl : (cfg0.win 7).xinj (grid0.coords t) y = ix2 (⟨(y 0).val, hy0⟩ : Fin 4096) (⟨(y 1).val, hy1⟩ : Fin 128) := by
    funext a
    match a with
    | ⟨0, _⟩ => rfl
    | ⟨1, _⟩ => rfl
  show (outsAt0 m c t.val t.isLt).2.2.2.1 ((cfg0.win 7).xinj (grid0.coords t) y) = G7 m c (((cfg0.win 7).blk t).view.emb y)
  rw [hl, v_at m c t ((flush0_7 t).mp hf)]
  unfold G7
  refine congrArg₂ (fun p q => valAt _ _ _ p q) (Fin.ext ?_) (Fin.ext ?_)
  · refine Eq.trans ?_ hb0.symm
    show 4096 * (t.val / 7) + (y 0).val = _
    omega
  · refine Eq.trans ?_ hb1.symm
    show (y 1).val = _
    omega

theorem mem_blk7 (t : Fin cfg0.N) (i : S65536x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v10_3).slice (win0_7.rect t)).set ↔ _
  rw [View.set_slice_whole, Rect.mem_set_unit]
  exact Iff.rfl

theorem covered7 (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  have hN : cfg0.N = 112 := N_0
  obtain ⟨n, hn⟩ : ∃ n, n = 7 * ((i 0).val / 4096) + 6 := ⟨_, rfl⟩
  have hlt : n < cfg0.N := by rw [hN, hn]; (repeat' split) <;> omega
  let t : Fin cfg0.N := ⟨n, hlt⟩
  have i0 : win0_7.index t (0 : Fin 2) = n / 7 := congrFun (index7 t) 0
  have i1 : win0_7.index t (1 : Fin 2) = 0 := congrFun (index7 t) 1
  refine ⟨t, (flush0_7 t).mpr ?_, (mem_blk7 t i).mpr fun a => ?_⟩
  · show n % 7 = 6
    rw [hn]; (repeat' split) <;> omega
  · match a with
    | ⟨0, _⟩ =>
      show win0_7.index t (0 : Fin 2) * 4096 ≤ (i 0).val ∧ (i 0).val < win0_7.index t (0 : Fin 2) * 4096 + 4096
      rw [i0, hn]; (repeat' split) <;> omega
    | ⟨1, _⟩ =>
      show win0_7.index t (1 : Fin 2) * 128 ≤ (i 1).val ∧ (i 1).val < win0_7.index t (1 : Fin 2) * 128 + 128
      rw [i1]; omega

theorem final7 : (dats m 0 c).arrAt 7 cfg0.N = G7 m c :=
  (dats m 0 c).arrAt_eq_of_cover 7 _ (fun t hf => flushed7 m c t hf) (fun i => covered7 i)

/-- The run leaves those arrays and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v10_0) = G4 m c
      ∧ r.2.mem ((c : Thread nD τ).loc main_v10_1) = G5 m c
      ∧ r.2.mem ((c : Thread nD τ).loc main_v10_2) = G6 m c
      ∧ r.2.mem ((c : Thread nD τ).loc main_v10_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final4 m c), ((h c).1 5).trans (final5 m c),
      ((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Inp
-- ==== Proof.InProjReference.lean ====
module

public import proofs.«01_k».proof.Proof.InProjRow
public import proofs.«01_k».proof.Proof.Gen.InProjReferenceIdeal.Run
public import Idealize.ShloMosaic.Lib.Pointwise

/-! The input projection reference's results by element. -/

@[expose] public section

noncomputable section

namespace Cert.Inp.Ref

open Idealize.ShloMosaic Idealize.ShloMosaic.TcCoe Cert.InProjReferenceIdeal Cert.InProjReferenceIdeal.Gen Cert.InProjReferenceIdeal.Value

/-- The reference's rows over their root mean squares, scaled. -/
def rmsR (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The rows' product with all the columns. -/
def dotR (x : FVec Ideal S8x2048x1024 .f32) (g : FVec Ideal S1024 .f32) (w : FVec Ideal S1024x7176 .f32) : FVec Ideal S8x2048x7176 .f32 :=
  Host.dotGeneral dot_S8x2048x1024_S1024x7176_S8x2048x7176_2_0_01_1_n_n none (rmsR x g) w

/-- The columns the other mixers read, side by side. -/
def projR (y : FVec Ideal S8x2048x7176 .f32) : FVec Ideal S16384x6144 .f32 :=
  shapeCast S16384x6144 (concatenate S8x2048x6144 2
    [⟨S8x2048x1536, (extractStridedSlice S8x2048x1536 ![0, 0, 0] y slices_S8x2048x7176_S8x2048x1536_0_0_0 : FVec Ideal S8x2048x1536 .f32)⟩,
     ⟨S8x2048x512, (extractStridedSlice S8x2048x512 ![0, 0, 1536] y slices_S8x2048x7176_S8x2048x512_0_0_1536 : FVec Ideal S8x2048x512 .f32)⟩,
     ⟨S8x2048x512, (extractStridedSlice S8x2048x512 ![0, 0, 2056] y slices_S8x2048x7176_S8x2048x512_0_0_2056 : FVec Ideal S8x2048x512 .f32)⟩,
     ⟨S8x2048x512, (extractStridedSlice S8x2048x512 ![0, 0, 3592] y slices_S8x2048x7176_S8x2048x512_0_0_3592 : FVec Ideal S8x2048x512 .f32)⟩,
     ⟨S8x2048x3072, (extractStridedSlice S8x2048x3072 ![0, 0, 4104] y slices_S8x2048x7176_S8x2048x3072_0_0_4104 : FVec Ideal S8x2048x3072 .f32)⟩]
    concatenates_S8x2048x1536_S8x2048x512_S8x2048x512_S8x2048x512_S8x2048x3072_S8x2048x6144_d2) shapeCasts_S8x2048x6144_S16384x6144

/-- The two gates' columns. -/
def abR (y : FVec Ideal S8x2048x7176 .f32) : FVec Ideal S16384x8 .f32 :=
  shapeCast S16384x8 (concatenate S8x2048x8 2
    [⟨S8x2048x4, (extractStridedSlice S8x2048x4 ![0, 0, 2048] y slices_S8x2048x7176_S8x2048x4_0_0_2048 : FVec Ideal S8x2048x4 .f32)⟩,
     ⟨S8x2048x4, (extractStridedSlice S8x2048x4 ![0, 0, 2052] y slices_S8x2048x7176_S8x2048x4_0_0_2052 : FVec Ideal S8x2048x4 .f32)⟩]
    concatenates_S8x2048x4_S8x2048x4_S8x2048x8_d2) shapeCasts_S8x2048x8_S16384x8

/-- The keys' rows, a row per head. -/
def keyR (y : FVec Ideal S8x2048x7176 .f32) : FVec Ideal S65536x128 .f32 :=
  shapeCast S65536x128 (shapeCast S8x2048x4x128 (extractStridedSlice S8x2048x512 ![0, 0, 2568] y slices_S8x2048x7176_S8x2048x512_0_0_2568)
    shapeCasts_S8x2048x512_S8x2048x4x128) shapeCasts_S8x2048x4x128_S65536x128

/-- The values' rows, a row per head. -/
def valR (y : FVec Ideal S8x2048x7176 .f32) : FVec Ideal S65536x128 .f32 :=
  shapeCast S65536x128 (shapeCast S8x2048x4x128 (extractStridedSlice S8x2048x512 ![0, 0, 3080] y slices_S8x2048x7176_S8x2048x512_0_0_3080)
    shapeCasts_S8x2048x512_S8x2048x4x128) shapeCasts_S8x2048x4x128_S65536x128

variable (m : (ℓ : Loc nD τ sig) → Buf (Elt Ideal) ℓ) (c : Dev nD)

/-- The first result is that function of the arguments. -/
theorem result_eq : (res_main_v27 m c : FVec Ideal S16384x6144 .f32)
    = projR (dotR (m ((c.tc : Thread nD τ).loc main_arg0)) (m ((c.tc : Thread nD τ).loc main_arg1)) (m ((c.tc : Thread nD τ).loc main_arg2))) := rfl

theorem rmsR_apply (x : FVec Ideal S8x2048x1024 .f32) (g : FVec Ideal S1024 .f32) (b : Fin 8) (s : Fin 2048) (l : Fin 1024) :
    rmsR x g (ix3 b s l) = Ffn.rmsRow (fun p => x (ix3 b s p)) (fun p => g (ix1 p)) l := by
  pointwise [rmsR]
  rfl

theorem dotR_apply (x : FVec Ideal S8x2048x1024 .f32) (g : FVec Ideal S1024 .f32) (w : FVec Ideal S1024x7176 .f32)
    (b : Fin 8) (s : Fin 2048) (q : Fin 7176) :
    dotR x g w (ix3 b s q) = ∑ l, Ffn.rmsRow (fun p => x (ix3 b s p)) (fun p => g (ix1 p)) l * w (ix2 l q) := by
  simp only [← rmsR_apply]
  pointwise [dotR]

theorem projR_apply (y : FVec Ideal S8x2048x7176 .f32) (p : Fin 16384) (q : Fin 6144) : projR y (ix2 p q)
    = y (ix3 (⟨p.val / 2048, by omega⟩ : Fin 8) (⟨p.val % 2048, by omega⟩ : Fin 2048) (col ⟨q.val, by omega⟩)) := by
  pointwise [projR]
  (repeat' split) <;> refine congrArg (fun z => y (ix3 _ _ z)) (Fin.ext ?_) <;> show _ = colMap q.val <;>
    unfold colMap <;> dsimp only <;> (repeat' split) <;> omega

theorem abR_apply (y : FVec Ideal S8x2048x7176 .f32) (p : Fin 16384) (a : Fin 8) :
    abR y (ix2 p a) = y (ix3 (⟨p.val / 2048, by omega⟩ : Fin 8) (⟨p.val % 2048, by omega⟩ : Fin 2048) (⟨2048 + a.val, by omega⟩ : Fin 7176)) := by
  fin_cases a <;> pointwise [abR]

theorem keyR_apply (y : FVec Ideal S8x2048x7176 .f32) (r : Fin 65536) (l : Fin 128) :
    keyR y (ix2 r l) = y (ix3 (⟨r.val / 4 / 2048, by omega⟩ : Fin 8) (⟨r.val / 4 % 2048, by omega⟩ : Fin 2048)
      (⟨2568 + (128 * (r.val % 4) + l.val), by omega⟩ : Fin 7176)) := by
  have e0 : (⟨r.val / 4 / 2048, by omega⟩ : Fin 8) = ⟨r.val / 8192, by omega⟩ := Fin.ext (by show r.val / 4 / 2048 = r.val / 8192; omega)
  have e1 : (⟨2568 + (128 * (r.val % 4) + l.val), by omega⟩ : Fin 7176) = ⟨2568 + (r.val % 4 * 128 + l.val), by omega⟩ :=
    Fin.ext (by show 2568 + (128 * (r.val % 4) + l.val) = 2568 + (r.val % 4 * 128 + l.val); omega)
  rw [e0, e1]
  pointwise [keyR]

theorem valR_apply (y : FVec Ideal S8x2048x7176 .f32) (r : Fin 65536) (l : Fin 128) :
    valR y (ix2 r l) = y (ix3 (⟨r.val / 4 / 2048, by omega⟩ : Fin 8) (⟨r.val / 4 % 2048, by omega⟩ : Fin 2048)
      (⟨3080 + (128 * (r.val % 4) + l.val), by omega⟩ : Fin 7176)) := by
  have e0 : (⟨r.val / 4 / 2048, by omega⟩ : Fin 8) = ⟨r.val / 8192, by omega⟩ := Fin.ext (by show r.val / 4 / 2048 = r.val / 8192; omega)
  have e1 : (⟨3080 + (128 * (r.val % 4) + l.val), by omega⟩ : Fin 7176) = ⟨3080 + (r.val % 4 * 128 + l.val), by omega⟩ :=
    Fin.ext (by show 3080 + (128 * (r.val % 4) + l.val) = 3080 + (r.val % 4 * 128 + l.val); omega)
  rw [e0, e1]
  pointwise [valR]

section
variable (x : FVec Ideal S8x2048x1024 .f32) (g : FVec Ideal S1024 .f32) (w : FVec Ideal S1024x7176 .f32)

theorem proj_ref (p : Fin 16384) (q : Fin 6144) : projR (dotR x g w) (ix2 p q) = projAt x g w p q := by
  rw [projR_apply, dotR_apply]
  rfl

theorem ab_ref (p : Fin 16384) (a : Fin 8) : abR (dotR x g w) (ix2 p a) = abAt x g w p a := by
  rw [abR_apply, dotR_apply]
  rfl

theorem key_ref (r : Fin 65536) (l : Fin 128) : keyR (dotR x g w) (ix2 r l) = keyAt x g w r l := by
  rw [keyR_apply, dotR_apply]
  rfl

theorem val_ref (r : Fin 65536) (l : Fin 128) : valR (dotR x g w) (ix2 r l) = valAt x g w r l := by
  rw [valR_apply, dotR_apply]
  rfl

end

end Cert.Inp.Ref
-- ==== Proof.InProjClaims.lean ====
module

public import proofs.«01_k».proof.Defs
public import proofs.«01_k».proof.Proof.InProjArrays
public import proofs.«01_k».proof.Proof.InProjReference
public import proofs.«01_k».proof.Proof.Gen.InProj

/-! The input projection's claims: the frames, and that the kernel and its reference return the same arrays at any arguments. -/

@[expose] public section

noncomputable section

namespace Cert.Inp

open Idealize.ShloMosaic Idealize.SL.Sem Idealize.ShloMosaic.TcCoe

/-- The input projection kernel and its reference return the same projection, gates, keys and values. -/
theorem algebraic : Cert.algebraic_InProjIdeal_InProjReferenceIdeal := by
  intro m ρ m' ρ' _ hagree
  refine ⟨fun c => G4 m c, fun c => G5 m c, fun c => G6 m c, fun c => G7 m c, ?_, ?_⟩
  · exact run m ρ
  · refine (θ_run _ _ _).mono (fun _ h c => ⟨(h c).1.trans ?_, (h c).2.1.trans ?_, (h c).2.2.1.trans ?_, (h c).2.2.2.1.trans ?_,
      (h c).2.2.2.2⟩) (Cert.InProjReferenceIdeal.Value.run (F := Ideal) m' ρ')
    · obtain ⟨e0, e1, e2⟩ := hagree c
      funext y
      have e : y = ix2 (y 0) (y 1) := funext fun a => by fin_cases a <;> rfl
      rw [e]
      rw [Ref.result_eq, e0, e1, e2]
      exact Ref.proj_ref _ _ _ (y 0) (y 1)
    · obtain ⟨e0, e1, e2⟩ := hagree c
      funext y
      have e : y = ix2 (y 0) (y 1) := funext fun a => by fin_cases a <;> rfl
      rw [e]
      show Ref.abR (Ref.dotR _ _ _) _ = _
      rw [e0, e1, e2]
      exact Ref.ab_ref _ _ _ (y 0) (y 1)
    · obtain ⟨e0, e1, e2⟩ := hagree c
      funext y
      have e : y = ix2 (y 0) (y 1) := funext fun a => by fin_cases a <;> rfl
      rw [e]
      show Ref.keyR (Ref.dotR _ _ _) _ = _
      rw [e0, e1, e2]
      exact Ref.key_ref _ _ _ (y 0) (y 1)
    · obtain ⟨e0, e1, e2⟩ := hagree c
      funext y
      have e : y = ix2 (y 0) (y 1) := funext fun a => by fin_cases a <;> rfl
      rw [e]
      show Ref.valR (Ref.dotR _ _ _) _ = _
      rw [e0, e1, e2]
      exact Ref.val_ref _ _ _ (y 0) (y 1)

/-- The two programs have the same bodies. -/
theorem bodies : Cert.InProj.defs₀ (F := Bits) = Cert.InProjIdeal.defs₀ (F := Bits) := by
  unfold Cert.InProj.defs₀ Cert.InProjIdeal.defs₀
  refine congrArg Defs.onTc (funext fun l => ?_)
  funext x
  fin_cases l
  rfl

/-- The two programs have the same table. -/
theorem tables : Cert.InProj.defs (F := Bits) = Cert.InProjIdeal.defs (F := Bits) :=
  congrArg (Pipeline.defs Cert.InProjIdeal.pcfgs) bodies

/-- The input projection kernel's frame at machine words. -/
theorem frame_words : Cert.quiescent_InProj := by
  intro m ρ _
  rw [tables]
  exact Cert.InProjIdeal.Gen.frame (F := Bits) m ρ

/-- The input projection kernel's frame at the ideal numbers. -/
theorem frame_ideal : Cert.quiescent_InProjIdeal := fun m ρ _ => Cert.InProjIdeal.Gen.frame (F := Ideal) m ρ

/-- The input projection reference's frame. -/
theorem frame_reference : Cert.quiescent_InProjReferenceIdeal := fun m ρ _ =>
  (θ_run _ _ _).mono (fun r h => ⟨fun c => (h c).2.2.2.2, sem_eq_zero_of_no_sems (by decide) r.2⟩)
    (Cert.InProjReferenceIdeal.Value.run (F := Ideal) m ρ)

end Cert.Inp
-- ==== Proof.MemProjRun.lean ====
/-
The memory projection: its body with the values it stores named, and the run of that body over any values.
-/
module

public import proofs.«01_k».proof.Proof.Gen.MemProjIdeal.Frame
public import Idealize.ShloMosaic.Lib.Claim

@[expose] public section

set_option maxRecDepth 65536

noncomputable section

namespace Cert.MemProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A block's rows over their root mean squares, scaled. -/
def scaledRows (x : Vec F S1024x1024 .f32) (g : Vec F S1x1024 .f32) : FVec F S1024x1024 .f32 :=
  let v1 : FVec F S1024x1024 .f32 := shapeCast S1024x1024 x shapeCasts_S1024x1024_S1024x1024
  let v3 : FVec F S1x1024 .f32 := shapeCast S1x1024 g shapeCasts_S1x1024_S1x1024
  let v6 : FVec F S1024x1 .f32 := shapeCast S1024x1 (multiReduction .add [1] S1024 (mulf v1 v1) 0x00000000#32 reduces_S1024x1024_S1024 (.inl rfl) rfl : FVec F S1024 .f32) shapeCasts_S1024_S1024x1
  let v8 : FVec F S1024x1 .f32 := divf v6 (broadcast S1024x1 (Scalar.ofBits .f32 0x44800000#32 : F .f32))
  let v11 : FVec F S1024x1 .f32 := rsqrt (addf v8 (broadcast S1024x1 (Scalar.ofBits .f32 0x358637BD#32 : F .f32)))
  mulf (mulf v1 (broadcastTo S1024x1024 v11 broadcasts_S1024x1_S1024x1024)) (broadcastTo S1024x1024 v3 broadcasts_S1x1024_S1024x1024)

/-- Their product with the weights: four heads' keys, then four heads' values. -/
def rowsProduct (x : Vec F S1024x1024 .f32) (g : Vec F S1x1024 .f32) (w : Vec F S1024x1024 .bf16) : FVec F S1024x1024 .f32 :=
  matmul dot_S1024x1024_S1024x1024_S1024x1024_1_0_0_1_n_n none (truncf .bf16 (scaledRows x g) bitsLt_bf16_f32 : FVec F S1024x1024 .bf16)
    (shapeCast S1024x1024 w shapeCasts_S1024x1024_S1024x1024 : FVec F S1024x1024 .bf16) (constant S1024x1024 .f32 0x00000000#32 : FVec F S1024x1024 .f32)

/-- The body's first part over those values. -/
def part1Body (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole)
    (arg4 : Memref sig .tc .vmem S4096x128 .f32) (harg4 : arg4.IsWhole) (arg5 : Memref sig .tc .vmem S4096x128 .f32) (harg5 : arg5.IsWhole) :
    Prog (TpuEff nD τ sig (Elt F) Λ₀ .tc) (Σ' (v19 : FVec F S1024x1024 .f32), FVec F S1024x128 .f32) := do
  let v0 : Vec F S1024x1024 .f32 ← Prog.lift (.load arg1 (Rect.unit (s := S1024x1024) ![0, 0] S1024x1024.size inb_S1024x1024_S1024x1024_0_0).toLoadRect (View.loadsAt_vmem h_S1024x1024))
  let v2 : Vec F S1x1024 .f32 ← Prog.lift (.load arg2 (Rect.unit (s := S1x1024) ![0, 0] S1x1024.size inb_S1x1024_S1x1024_0_0).toLoadRect (View.loadsAt_vmem h_S1x1024))
  let v17 : Vec F S1024x1024 .bf16 ← Prog.lift (.load arg3 (Rect.unit (s := S1024x1024) ![0, 0] S1024x1024.size inb_S1024x1024_S1024x1024_0_0).toLoadRect (View.loadsAt_vmem h_S1024x1024))
  let _21 : Vec F S1024x128 .f32 ← Prog.lift (.load arg4 (⟨![0, 0], S1024x128.size, ![4, 1], inb_S4096x128_S1024x128_0_0_s_4_1⟩ : LoadRect S4096x128) (View.loadsAt_vmem h_S1024x128))
  Prog.lift (.store arg4 ⟨(⟨![0, 0], S1024x128.size, ![4, 1], inb_S4096x128_S1024x128_0_0_s_4_1⟩ : LoadRect S4096x128), spos_4_1⟩ (extractStridedSlice S1024x128 ![0, 0] (rowsProduct v0 v2 v17) slices_S1024x1024_o0_0_S1024x128 : FVec F S1024x128 .f32) Finset.univ (View.stores_vmem_bits_univ h_S1024x128 rfl) (.inl rfl))
  let _23 : Vec F S1024x128 .f32 ← Prog.lift (.load arg5 (⟨![0, 0], S1024x128.size, ![4, 1], inb_S4096x128_S1024x128_0_0_s_4_1⟩ : LoadRect S4096x128) (View.loadsAt_vmem h_S1024x128))
  Prog.lift (.store arg5 ⟨(⟨![0, 0], S1024x128.size, ![4, 1], inb_S4096x128_S1024x128_0_0_s_4_1⟩ : LoadRect S4096x128), spos_4_1⟩ (extractStridedSlice S1024x128 ![0, 512] (rowsProduct v0 v2 v17) slices_S1024x1024_o0_512_S1024x128 : FVec F S1024x128 .f32) Finset.univ (View.stores_vmem_bits_univ h_S1024x128 rfl) (.inl rfl))
  let _25 : Vec F S1024x128 .f32 ← Prog.lift (.load arg4 (⟨![1, 0], S1024x128.size, ![4, 1], inb_S4096x128_S1024x128_1_0_s_4_1⟩ : LoadRect S4096x128) (View.loadsAt_vmem h_S1024x128))
  Prog.lift (.store arg4 ⟨(⟨![1, 0], S1024x128.size, ![4, 1], inb_S4096x128_S1024x128_1_0_s_4_1⟩ : LoadRect S4096x128), spos_4_1⟩ (extractStridedSlice S1024x128 ![0, 128] (rowsProduct v0 v2 v17) slices_S1024x1024_o0_128_S1024x128 : FVec F S1024x128 .f32) Finset.univ (View.stores_vmem_bits_univ h_S1024x128 rfl) (.inl rfl))
  let _27 : Vec F S1024x128 .f32 ← Prog.lift (.load arg5 (⟨![1, 0], S1024x128.size, ![4, 1], inb_S4096x128_S1024x128_1_0_s_4_1⟩ : LoadRect S4096x128) (View.loadsAt_vmem h_S1024x128))
  Prog.lift (.store arg5 ⟨(⟨![1, 0], S1024x128.size, ![4, 1], inb_S4096x128_S1024x128_1_0_s_4_1⟩ : LoadRect S4096x128), spos_4_1⟩ (extractStridedSlice S1024x128 ![0, 640] (rowsProduct v0 v2 v17) slices_S1024x1024_o0_640_S1024x128 : FVec F S1024x128 .f32) Finset.univ (View.stores_vmem_bits_univ h_S1024x128 rfl) (.inl rfl))
  let _29 : Vec F S1024x128 .f32 ← Prog.lift (.load arg4 (⟨![2, 0], S1024x128.size, ![4, 1], inb_S4096x128_S1024x128_2_0_s_4_1⟩ : LoadRect S4096x128) (View.loadsAt_vmem h_S1024x128))
  Prog.lift (.store arg4 ⟨(⟨![2, 0], S1024x128.size, ![4, 1], inb_S4096x128_S1024x128_2_0_s_4_1⟩ : LoadRect S4096x128), spos_4_1⟩ (extractStridedSlice S1024x128 ![0, 256] (rowsProduct v0 v2 v17) slices_S1024x1024_o0_256_S1024x128 : FVec F S1024x128 .f32) Finset.univ (View.stores_vmem_bits_univ h_S1024x128 rfl) (.inl rfl))
  let _31 : Vec F S1024x128 .f32 ← Prog.lift (.load arg5 (⟨![2, 0], S1024x128.size, ![4, 1], inb_S4096x128_S1024x128_2_0_s_4_1⟩ : LoadRect S4096x128) (View.loadsAt_vmem h_S1024x128))
  pure ⟨rowsProduct v0 v2 v17, (extractStridedSlice S1024x128 ![0, 768] (rowsProduct v0 v2 v17) slices_S1024x1024_o0_768_S1024x128 : FVec F S1024x128 .f32)⟩

/-- The body over those values. -/
def wholeBody (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole)
    (arg4 : Memref sig .tc .vmem S4096x128 .f32) (harg4 : arg4.IsWhole) (arg5 : Memref sig .tc .vmem S4096x128 .f32) (harg5 : arg5.IsWhole) :
    Prog (TpuEff nD τ sig (Elt F) Λ₀ .tc) PUnit := do
  let ⟨v19, v30⟩ : Σ' (v19 : FVec F S1024x1024 .f32), FVec F S1024x128 .f32 ← k0_part1 i arg1 harg1 arg2 harg2 arg3 harg3 arg4 harg4 arg5 harg5
  Prog.lift (.store arg5 ⟨(⟨![2, 0], S1024x128.size, ![4, 1], inb_S4096x128_S1024x128_2_0_s_4_1⟩ : LoadRect S4096x128), spos_4_1⟩ v30 Finset.univ (View.stores_vmem_bits_univ h_S1024x128 rfl) (.inl rfl))
  let _33 : Vec F S1024x128 .f32 ← Prog.lift (.load arg4 (⟨![3, 0], S1024x128.size, ![4, 1], inb_S4096x128_S1024x128_3_0_s_4_1⟩ : LoadRect S4096x128) (View.loadsAt_vmem h_S1024x128))
  Prog.lift (.store arg4 ⟨(⟨![3, 0], S1024x128.size, ![4, 1], inb_S4096x128_S1024x128_3_0_s_4_1⟩ : LoadRect S4096x128), spos_4_1⟩ (extractStridedSlice S1024x128 ![0, 384] v19 slices_S1024x1024_o0_384_S1024x128 : FVec F S1024x128 .f32) Finset.univ (View.stores_vmem_bits_univ h_S1024x128 rfl) (.inl rfl))
  let _35 : Vec F S1024x128 .f32 ← Prog.lift (.load arg5 (⟨![3, 0], S1024x128.size, ![4, 1], inb_S4096x128_S1024x128_3_0_s_4_1⟩ : LoadRect S4096x128) (View.loadsAt_vmem h_S1024x128))
  Prog.lift (.store arg5 ⟨(⟨![3, 0], S1024x128.size, ![4, 1], inb_S4096x128_S1024x128_3_0_s_4_1⟩ : LoadRect S4096x128), spos_4_1⟩ (extractStridedSlice S1024x128 ![0, 896] v19 slices_S1024x1024_o0_896_S1024x128 : FVec F S1024x128 .f32) Finset.univ (View.stores_vmem_bits_univ h_S1024x128 rfl) (.inl rfl))
  pure ⟨⟩

theorem part1_eq : k0_part1 (F := F) = part1Body (F := F) := rfl

theorem body_eq : cc0_mem_proj (F := F) = wholeBody (F := F) := rfl

set_option maxHeartbeats 1000000 in
/-- What the body stores in each output's block, with the proof that it runs. -/
def bodyRun (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole)
    (arg4 : Memref sig .tc .vmem S4096x128 .f32) (harg4 : arg4.IsWhole) (arg5 : Memref sig .tc .vmem S4096x128 .f32) (harg5 : arg5.IsWhole)
    (x0 : Vec F S1024x1024 .f32) (x1 : Vec F S1x1024 .f32) (x2 : Vec F S1024x1024 .bf16) :
    Σ' (L3 : List (View.Piece (Elt F) S4096x128 .f32)), { L4 : List (View.Piece (Elt F) S4096x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0_mem_proj i arg1 harg1 arg2 harg2 arg3 harg3 arg4 harg4 arg5 harg5) K } := by
  refine ⟨?_, ?_, fun E K => ?run⟩
  case run =>
    simp only [body_eq]; unfold wholeBody
    simp only [part1_eq]; unfold part1Body
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.MemProjIdeal.Gen
-- ==== Proof.MemProjFrame.lean ====
/-
The memory projection: what its output blocks hold, and the run of the whole program, over any values.
-/
module

public import proofs.«01_k».proof.Proof.MemProjRun
public import proofs.«01_k».proof.Proof.Gen.MemProj

@[expose] public section

set_option maxRecDepth 16384

noncomputable section

namespace Cert.MemProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Four pieces that each store every fourth row, from rows three to zero, reach every element. -/
theorem every_fourth {Val : EltTy → Type} {e : EltTy} (L : List (View.Piece Val S4096x128 e))
    (h : L.map (fun p => (p.1.off 0, p.1.off 1, p.1.size 0, p.1.size 1, p.1.stride 0, p.1.stride 1))
      = [3, 2, 1, 0].map fun k => (k, 0, 1024, 128, 4, 1))
    (y : S4096x128.Idx) : ∃ p ∈ L, y ∈ p.1.set := by
  have b0 : (y 0).val < 4096 := (y 0).isLt
  have b1 : (y 1).val < 128 := (y 1).isLt
  have hk : (y 0).val % 4 ∈ [3, 2, 1, 0] := by simp only [List.mem_cons, List.not_mem_nil, or_false]; omega
  obtain ⟨p, hp, he⟩ := List.mem_map.mp (h ▸ List.mem_map.mpr ⟨_, hk, rfl⟩ :
    ((y 0).val % 4, 0, 1024, 128, 4, 1) ∈ L.map (fun p => (p.1.off 0, p.1.off 1, p.1.size 0, p.1.size 1, p.1.stride 0, p.1.stride 1)))
  simp only [Prod.mk.injEq] at he
  obtain ⟨e0, e1, e2, e3, e4, e5⟩ := he
  refine ⟨p, hp, p.1.mem_set.mpr (Fin.forall_fin_two.mpr ⟨⟨(y 0).val / 4, ?_, ?_⟩, ⟨(y 1).val, ?_, ?_⟩⟩)⟩
  · rw [e2]; omega
  · rw [e0, e4]; omega
  · rw [e3]; omega
  · rw [e1, e5]; omega

section
variable (c : Dev nD) (i : grid0.Coords) (a1 : Memref sig .tc .vmem S1024x1024 .f32) (h1 : a1.IsWhole) (a2 : Memref sig .tc .vmem S1x1024 .f32) (h2 : a2.IsWhole)
  (a3 : Memref sig .tc .vmem S1024x1024 .bf16) (h3 : a3.IsWhole) (a4 : Memref sig .tc .vmem S4096x128 .f32) (h4 : a4.IsWhole)
  (a5 : Memref sig .tc .vmem S4096x128 .f32) (h5 : a5.IsWhole)
  (x0 : Vec F S1024x1024 .f32) (x1 : Vec F S1x1024 .f32) (x2 : Vec F S1024x1024 .bf16)

theorem keys_cover (y : S4096x128.Idx) : ∃ p ∈ (bodyRun c i a1 h1 a2 h2 a3 h3 a4 h4 a5 h5 x0 x1 x2).1, y ∈ p.1.set :=
  every_fourth (bodyRun c i a1 h1 a2 h2 a3 h3 a4 h4 a5 h5 x0 x1 x2).1 (by sl_kernel_rfl) y

theorem vals_cover (y : S4096x128.Idx) : ∃ p ∈ (bodyRun c i a1 h1 a2 h2 a3 h3 a4 h4 a5 h5 x0 x1 x2).2.1, y ∈ p.1.set :=
  every_fourth (bodyRun c i a1 h1 a2 h2 a3 h3 a4 h4 a5 h5 x0 x1 x2).2.1 (by sl_kernel_rfl) y

/-- A block's buffer of the keys, and of the values. -/
abbrev keysBuf : View sig .tc .vmem S4096x128 .f32 := (Memref.whole cc0_stg3_0 : Memref sig .tc .vmem S4096x128 .f32).view
abbrev valsBuf : View sig .tc .vmem S4096x128 .f32 := (Memref.whole cc0_stg4_0 : Memref sig .tc .vmem S4096x128 .f32).view

/-- The block of keys the body leaves. -/
def keysOut : Vec F S4096x128 .f32 :=
  keysBuf.read (Elt F) (keysBuf.writes (Elt F) keysBuf.junk (bodyRun c i a1 h1 a2 h2 a3 h3 a4 h4 a5 h5 x0 x1 x2).1)

/-- The block of values the body leaves. -/
def valsOut : Vec F S4096x128 .f32 :=
  valsBuf.read (Elt F) (valsBuf.writes (Elt F) valsBuf.junk (bodyRun c i a1 h1 a2 h2 a3 h3 a4 h4 a5 h5 x0 x1 x2).2.1)

end

variable (m : (ℓ : Loc nD τ sig) → Buf (Elt F) ℓ) (ρ : Dev nD → PrngReg)

abbrev m_0 (t : Fin cfg0.N) : Memref sig .tc .vmem S1024x1024 .f32 := win0_0.stage (cfg0.slots t 0)
abbrev w_0 (t : Fin cfg0.N) : (m_0 t).IsWhole := hstage0_0 ((cfg0.slots t 0).cast nbuf0_0)
abbrev m_1 (t : Fin cfg0.N) : Memref sig .tc .vmem S1x1024 .f32 := win0_1.stage (cfg0.slots t 1)
abbrev w_1 (t : Fin cfg0.N) : (m_1 t).IsWhole := hstage0_1 ((cfg0.slots t 1).cast nbuf0_1)
abbrev m_2 (t : Fin cfg0.N) : Memref sig .tc .vmem S1024x1024 .bf16 := win0_2.stage (cfg0.slots t 2)
abbrev w_2 (t : Fin cfg0.N) : (m_2 t).IsWhole := hstage0_2 ((cfg0.slots t 2).cast nbuf0_2)
abbrev m_3 (t : Fin cfg0.N) : Memref sig .tc .vmem S4096x128 .f32 := win0_3.stage (cfg0.slots t 3)
abbrev w_3 (t : Fin cfg0.N) : (m_3 t).IsWhole := hstage0_3 ((cfg0.slots t 3).cast nbuf0_3)
abbrev m_4 (t : Fin cfg0.N) : Memref sig .tc .vmem S4096x128 .f32 := win0_4.stage (cfg0.slots t 4)
abbrev w_4 (t : Fin cfg0.N) : (m_4 t).IsWhole := hstage0_4 ((cfg0.slots t 4).cast nbuf0_4)

/-- What the run is stated with: each input's block left as it was, each output's as the body stores it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keysOut c (grid0.coords t) (m_0 t) (w_0 t) (m_1 t) (w_1 t) (m_2 t) (w_2 t) (m_3 t) (w_3 t) (m_4 t) (w_4 t) (iblk m c 0 t) (iblk m c 1 t) (iblk m c 2 t)
    | ⟨4, _⟩ => valsOut c (grid0.coords t) (m_0 t) (w_0 t) (m_1 t) (w_1 t) (m_2 t) (w_2 t) (m_3 t) (w_3 t) (m_4 t) (w_4 t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

section
variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = keysOut c (grid0.coords t) (m_0 t) (w_0 t) (m_1 t) (w_1 t) (m_2 t) (w_2 t) (m_3 t) (w_3 t) (m_4 t) (w_4 t) (iblk m c 0 t) (iblk m c 1 t) (iblk m c 2 t) := by dsimp only [dats]
theorem after_4 : (dats m 0 c).after 4 t = valsOut c (grid0.coords t) (m_0 t) (w_0 t) (m_1 t) (w_1 t) (m_2 t) (w_2 t) (m_3 t) (w_3 t) (m_4 t) (w_4 t) (iblk m c 0 t) (iblk m c 1 t) (iblk m c 2 t) := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d

/-- What the body is called with at a point. -/
def called : sProp (MT nD τ sig Unit (Elt F) ℕ (UR sig nD τ) ℕ) :=
  iprop((dats m 0 c).Φ t.castSucc ∗ (dats m 0 c).owesAt () t.castSucc
    ∗ (∃ d, owns (c : Thread nD τ) (m_0 t) fullShare ((dats m 0 c).before 0 t d))
    ∗ (∃ d, owns (c : Thread nD τ) (m_1 t) fullShare ((dats m 0 c).before 1 t d))
    ∗ (∃ d, owns (c : Thread nD τ) (m_2 t) fullShare ((dats m 0 c).before 2 t d))
    ∗ (∃ d, owns (c : Thread nD τ) (m_3 t) fullShare ((dats m 0 c).before 3 t d))
    ∗ (∃ d, owns (c : Thread nD τ) (m_4 t) fullShare ((dats m 0 c).before 4 t d)))

/-- What it returns with. -/
def returned : sProp (MT nD τ sig Unit (Elt F) ℕ (UR sig nD τ) ℕ) :=
  iprop((dats m 0 c).Φ t.succ ∗ (dats m 0 c).owesAt () t.succ
    ∗ owns (c : Thread nD τ) (m_0 t) fullShare ((dats m 0 c).after 0 t)
    ∗ owns (c : Thread nD τ) (m_1 t) fullShare ((dats m 0 c).after 1 t)
    ∗ owns (c : Thread nD τ) (m_2 t) fullShare ((dats m 0 c).after 2 t)
    ∗ owns (c : Thread nD τ) (m_3 t) fullShare ((dats m 0 c).after 3 t)
    ∗ owns (c : Thread nD τ) (m_4 t) fullShare ((dats m 0 c).after 4 t))

/-- The body between the two. -/
theorem body_sound :
    called m c t ⊢ wp frame (wpE (defs₀ (F := F)) Variants.none c none) Set.univ (bodyAt0 t) (fun _ => returned m c t) := by
  unfold called returned bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3, after_4]
  unfold keysOut valsOut
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (keys_cover c _ _ _ _ _ _ _ _ _ _ _ _ _ _)
  unfold owns; iexists _; isplitr
  swap; · iexact H4
  ipureintro; exact View.read_writes_of_cover _ _ _ _ _ (vals_cover c _ _ _ _ _ _ _ _ _ _ _ _ _ _)

theorem body_row : defs₀ (F := F) .tc cfg0.body (cfg0.bodyArgs t (cfg0.slots t)) = bodyAt0 t := by
  unfold defs₀; rw [Defs.onTc_tc]

end

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The whole program runs, ending with the arrays as stated and every counter at zero. -/
theorem run_counters : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_counters m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_counters m ρ))

end Cert.MemProjIdeal.Gen
-- ==== Proof.MemProjRow.lean ====
module

public import proofs.«01_k».proof.Proof.MlpRow
public import proofs.«01_k».proof.Proof.MemProjFrame
public import Idealize.ShloMosaic.Lib.Pointwise
public import Idealize.ShloMosaic.Lib.Pipeline.Value

/-! The memory projection's results by element, and what the kernel's body leaves in its output blocks. -/

@[expose] public section

noncomputable section

namespace Cert.Mem

open Idealize.ShloMosaic Cert.MemProjIdeal Cert.MemProjIdeal.Gen Cert.Ffn

/-- The product of a memory row, over its root mean square and scaled, with a head's column: the rows go by memory row and head. -/
def headAt (x : FVec Ideal S8x256x1024 .f32) (g : FVec Ideal S1024 .f32) (w : FVec Ideal S1024x512 .f32) (r : Fin 8192) (l : Fin 128) : EReal :=
  ∑ k, rmsRow (fun p => x (ix3 (⟨r.val / 4 / 256, by omega⟩ : Fin 8) (⟨r.val / 4 % 256, by omega⟩ : Fin 256) p)) (fun p => g (ix1 p)) k
    * w (ix2 k (⟨128 * (r.val % 4) + l.val, by omega⟩ : Fin 512))

section
variable (x : Vec Ideal S1024x1024 .f32) (g : Vec Ideal S1x1024 .f32) (w : Vec Ideal S1024x1024 .bf16)

theorem scaledRows_apply (r l : Fin 1024) :
    scaledRows x g (ix2 r l) = rmsRow (fun p => x (ix2 r p)) (fun p => g (ix2 (0 : Fin 1) p)) l := by
  pointwise [scaledRows]
  rfl

theorem rowsProduct_apply (r j : Fin 1024) :
    rowsProduct x g w (ix2 r j) = ∑ l, rmsRow (fun p => x (ix2 r p)) (fun p => g (ix2 (0 : Fin 1) p)) l * w (ix2 l j) := by
  simp only [← scaledRows_apply]
  pointwise [rowsProduct]

end

/-- A product's heads a row each, from column `o`. -/
def headRows (o : ℕ) (ho : o ≤ 512) (p : FVec Ideal S1024x1024 .f32) : Vec Ideal S4096x128 .f32 := fun y =>
  p (ix2 (⟨(y 0).val / 4, by have : (y 0).val < 4096 := (y 0).isLt; omega⟩ : Fin 1024)
    (⟨o + (128 * ((y 0).val % 4) + (y 1).val), by have : (y 1).val < 128 := (y 1).isLt; omega⟩ : Fin 1024))

/-- Every fourth row of a block, from row `k`. -/
abbrev fourths (k : ℕ) (h : ∀ a, S1024x128.size a = 0 ∨ (![k, 0] : Fin 2 → ℕ) a + (![4, 1] : Fin 2 → ℕ) a * (S1024x128.size a - 1) < S4096x128.size a) :
    Rect S4096x128 :=
  ⟨⟨![k, 0], S1024x128.size, ![4, 1], h⟩, spos_4_1⟩

/-- One head's columns are every fourth of those rows. -/
theorem slice_at (o : ℕ) (ho : o ≤ 512) (p : FVec Ideal S1024x1024 .f32) (k q : ℕ) (hk : k < 4) (hq : q = o + 128 * k)
    (hs : S1024x1024.Slices ![0, q] S1024x128) (h) (x : S1024x128.Idx) :
    extractStridedSlice S1024x128 ![0, q] p hs x = headRows o ho p ((fourths k h).emb x) := by
  have e0 : ((fourths k h).emb x 0).val = k + 4 * (x 0).val := rfl
  have e1 : ((fourths k h).emb x 1).val = 0 + 1 * (x 1).val := rfl
  refine extractStridedSlice_apply ![0, q] p hs x _ (Fin.forall_fin_two.mpr ⟨?_, ?_⟩)
  · show ((fourths k h).emb x 0).val / 4 = 0 + (x 0).val; omega
  · show o + (128 * (((fourths k h).emb x 0).val % 4) + ((fourths k h).emb x 1).val) = q + (x 1).val; omega

theorem hz : (![0, 0] : Fin 2 → Nat) = fun _ => 0 := funext fun a => by fin_cases a <;> rfl

section
variable (c : Dev nD) (i : grid0.Coords) (a1 : Memref sig .tc .vmem S1024x1024 .f32) (h1 : a1.IsWhole) (a2 : Memref sig .tc .vmem S1x1024 .f32) (h2 : a2.IsWhole)
  (a3 : Memref sig .tc .vmem S1024x1024 .bf16) (h3 : a3.IsWhole) (a4 : Memref sig .tc .vmem S4096x128 .f32) (h4 : a4.IsWhole)
  (a5 : Memref sig .tc .vmem S4096x128 .f32) (h5 : a5.IsWhole)
  (x0 : Vec Ideal S1024x1024 .f32) (x1 : Vec Ideal S1x1024 .f32) (x2 : Vec Ideal S1024x1024 .bf16)

/-- The block of keys the body leaves. -/
theorem keysOut_eq : keysOut c i a1 h1 a2 h2 a3 h3 a4 h4 a5 h5 x0 x1 x2 = headRows 0 (by omega) (rowsProduct x0 x1 x2) := by
  unfold keysOut
  rw [View.read_writes_eq_canon _ _ _ (keys_cover c i a1 h1 a2 h2 a3 h3 a4 h4 a5 h5 x0 x1 x2)]
  funext y
  refine View.canon_apply_of_pieces (headRows 0 (by omega) (rowsProduct x0 x1 x2)) _ ?_ y (keys_cover c i a1 h1 a2 h2 a3 h3 a4 h4 a5 h5 x0 x1 x2 y)
  unfold bodyRun
  dsimp only
  sl_unfold_words
  simp only [View.readAt_eq_ld, h1.read_unread, h2.read_unread, h3.read_unread, View.ld_unit_zero (S := S1024x1024) hz,
    View.ld_unit_zero (S := S1x1024) hz]
  intro p hp x
  simp only [List.mem_cons, List.not_mem_nil, or_false] at hp
  rcases hp with rfl | rfl | rfl | rfl
  · exact slice_at 0 (by omega) (rowsProduct x0 x1 x2) 3 384 (by omega) (by omega) slices_S1024x1024_o0_384_S1024x128 inb_S4096x128_S1024x128_3_0_s_4_1 x
  · exact slice_at 0 (by omega) (rowsProduct x0 x1 x2) 2 256 (by omega) (by omega) slices_S1024x1024_o0_256_S1024x128 inb_S4096x128_S1024x128_2_0_s_4_1 x
  · exact slice_at 0 (by omega) (rowsProduct x0 x1 x2) 1 128 (by omega) (by omega) slices_S1024x1024_o0_128_S1024x128 inb_S4096x128_S1024x128_1_0_s_4_1 x
  · exact slice_at 0 (by omega) (rowsProduct x0 x1 x2) 0 0 (by omega) (by omega) slices_S1024x1024_o0_0_S1024x128 inb_S4096x128_S1024x128_0_0_s_4_1 x

/-- The block of values the body leaves. -/
theorem valsOut_eq : valsOut c i a1 h1 a2 h2 a3 h3 a4 h4 a5 h5 x0 x1 x2 = headRows 512 (by omega) (rowsProduct x0 x1 x2) := by
  unfold valsOut
  rw [View.read_writes_eq_canon _ _ _ (vals_cover c i a1 h1 a2 h2 a3 h3 a4 h4 a5 h5 x0 x1 x2)]
  funext y
  refine View.canon_apply_of_pieces (headRows 512 (by omega) (rowsProduct x0 x1 x2)) _ ?_ y (vals_cover c i a1 h1 a2 h2 a3 h3 a4 h4 a5 h5 x0 x1 x2 y)
  unfold bodyRun
  dsimp only
  sl_unfold_words
  simp only [View.readAt_eq_ld, h1.read_unread, h2.read_unread, h3.read_unread, View.ld_unit_zero (S := S1024x1024) hz,
    View.ld_unit_zero (S := S1x1024) hz]
  intro p hp x
  simp only [List.mem_cons, List.not_mem_nil, or_false] at hp
  rcases hp with rfl | rfl | rfl | rfl
  · exact slice_at 512 (by omega) (rowsProduct x0 x1 x2) 3 896 (by omega) (by omega) slices_S1024x1024_o0_896_S1024x128 inb_S4096x128_S1024x128_3_0_s_4_1 x
  · exact slice_at 512 (by omega) (rowsProduct x0 x1 x2) 2 768 (by omega) (by omega) slices_S1024x1024_o0_768_S1024x128 inb_S4096x128_S1024x128_2_0_s_4_1 x
  · exact slice_at 512 (by omega) (rowsProduct x0 x1 x2) 1 640 (by omega) (by omega) slices_S1024x1024_o0_640_S1024x128 inb_S4096x128_S1024x128_1_0_s_4_1 x
  · exact slice_at 512 (by omega) (rowsProduct x0 x1 x2) 0 512 (by omega) (by omega) slices_S1024x1024_o0_512_S1024x128 inb_S4096x128_S1024x128_0_0_s_4_1 x

end

end Cert.Mem
-- ==== Proof.MemProjArrays.lean ====
module

public import proofs.«01_k».proof.Proof.MemProjRow
public import Idealize.ShloMosaic.Lib.StableHlo.RunClose
public import Idealize.ShloMosaic.Lib.Claim
public import Idealize.ShloMosaic.Lib.Pipeline.ValueKit.Point

/-! What the memory projection's windows read at each grid point, in terms of the arguments, and its result arrays. -/

@[expose] public section

noncomputable section

namespace Cert.Mem

open Idealize.ShloMosaic Idealize.ShloMosaic.StableHlo Idealize.ShloMosaic.TcCoe Idealize.SL.Sem Cert.MemProjIdeal Cert.MemProjIdeal.Gen

variable (m : (ℓ : Loc nD τ sig) → Buf (Elt Ideal) ℓ) (c : Dev nD)

abbrev argX : FVec Ideal S8x256x1024 .f32 := m ((c.tc : Thread nD τ).loc main_arg0)
abbrev argG : FVec Ideal S1024 .f32 := m ((c.tc : Thread nD τ).loc main_arg1)
abbrev argK : FVec Ideal S1024x512 .f32 := m ((c.tc : Thread nD τ).loc main_arg2)
abbrev argV : FVec Ideal S1024x512 .f32 := m ((c.tc : Thread nD τ).loc main_arg3)

/-- The keys' weights and the values' side by side. -/
def bothW (a b : FVec Ideal S1024x512 .f32) : FVec Ideal S1024x1024 .f32 :=
  concatenate S1024x1024 1 [⟨S1024x512, a⟩, ⟨S1024x512, b⟩] concatenates_S1024x512_S1024x512_S1024x1024_d1

set_option maxRecDepth 8192 in
theorem entry0 : V m c main_v0 = (shapeCast S2048x1024 (argX m c) shapeCasts_S8x256x1024_S2048x1024 : FVec Ideal S2048x1024 .f32) := by
  show StableHlo.after hostOps0 (fun b => m (c, b)) (Proc.devRef .tc main_v0) = _
  simp only [hostOps0]
  entry_read
  rfl

set_option maxRecDepth 8192 in
theorem entry2 : V m c main_v2 = (truncf .bf16 (bothW (argK m c) (argV m c)) bitsLt_bf16_f32 : FVec Ideal S1024x1024 .bf16) := by
  show StableHlo.after hostOps0 (fun b => m (c, b)) (Proc.devRef .tc main_v2) = _
  simp only [hostOps0]
  entry_read
  rfl

set_option maxRecDepth 8192 in
theorem entry3 : V m c main_v3 = (shapeCast S1x1024 (argG m c) shapeCasts_S1024_S1x1024 : FVec Ideal S1x1024 .f32) := by
  show StableHlo.after hostOps0 (fun b => m (c, b)) (Proc.devRef .tc main_v3) = _
  simp only [hostOps0]
  entry_read
  rfl

theorem flat_apply (x : FVec Ideal S8x256x1024 .f32) (r : Fin 2048) (l : Fin 1024) :
    (shapeCast S2048x1024 x shapeCasts_S8x256x1024_S2048x1024 : FVec Ideal S2048x1024 .f32) (ix2 r l)
      = x (ix3 (⟨r.val / 256, by omega⟩ : Fin 8) (⟨r.val % 256, by omega⟩ : Fin 256) l) := by
  pointwise []

theorem row_apply (g : FVec Ideal S1024 .f32) (l : Fin 1024) :
    (shapeCast S1x1024 g shapeCasts_S1024_S1x1024 : FVec Ideal S1x1024 .f32) (ix2 (0 : Fin 1) l) = g (ix1 l) := by
  pointwise []

theorem bothW_left (a b : FVec Ideal S1024x512 .f32) (l j : Fin 1024) (q : Fin 512) (h : j.val = q.val) : bothW a b (ix2 l j) = a (ix2 l q) := by
  pointwise [bothW]
  rw [dif_pos (show j.val < 512 by omega)]
  exact congrArg (fun z => a (ix2 l z)) (Fin.ext h)

theorem bothW_right (a b : FVec Ideal S1024x512 .f32) (l j : Fin 1024) (q : Fin 512) (h : j.val = 512 + q.val) : bothW a b (ix2 l j) = b (ix2 l q) := by
  pointwise [bothW]
  rw [dif_neg (show ¬j.val < 512 by omega)]
  refine congrArg (fun z => b (ix2 l z)) (Fin.ext ?_)
  show j.val - 512 = q.val
  omega

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel

/-- The memory row that row `r` of the block at point `t` is. -/
def rowOf (t : Fin cfg0.N) (r : Fin 1024) : Fin 2048 :=
  ⟨1024 * t.val + r.val, by have h := t.isLt; have : cfg0.N = 2 := N_0; omega⟩

set_option maxHeartbeats 1000000 in
theorem blk0 (t : Fin cfg0.N) (r l : Fin 1024) :
    (iblk m c 0 t : Vec Ideal S1024x1024 .f32) (ix2 r l)
      = argX m c (ix3 (⟨(rowOf t r).val / 256, by omega⟩ : Fin 8) (⟨(rowOf t r).val % 256, by omega⟩ : Fin 256) l) := by
  refine Eq.trans ?_ (flat_apply (argX m c) (rowOf t r) l)
  show (V m c main_v0) _ = _
  rw [entry0]
  blk_ext [iblk, index0 t, rowOf]

set_option maxHeartbeats 1000000 in
theorem blk1 (t : Fin cfg0.N) (l : Fin 1024) :
    (iblk m c 1 t : Vec Ideal S1x1024 .f32) (ix2 (0 : Fin 1) l) = argG m c (ix1 l) := by
  refine Eq.trans ?_ (row_apply (argG m c) l)
  show (V m c main_v3) _ = _
  rw [entry3]
  blk_ext [iblk, index1 t]

set_option maxHeartbeats 1000000 in
theorem blk2 (t : Fin cfg0.N) (l j : Fin 1024) :
    (iblk m c 2 t : Vec Ideal S1024x1024 .bf16) (ix2 l j) = bothW (argK m c) (argV m c) (ix2 l j) := by
  show (V m c main_v2) _ = _
  rw [entry2]
  show bothW (argK m c) (argV m c) _ = _
  blk_ext [iblk, index2 t]

/-- The product at point `t`. -/
theorem product_at (t : Fin cfg0.N) (r j : Fin 1024) :
    rowsProduct (iblk m c 0 t) (iblk m c 1 t) (iblk m c 2 t) (ix2 r j)
      = ∑ l, Ffn.rmsRow (fun p => argX m c (ix3 (⟨(rowOf t r).val / 256, by omega⟩ : Fin 8) (⟨(rowOf t r).val % 256, by omega⟩ : Fin 256) p))
          (fun p => argG m c (ix1 p)) l * bothW (argK m c) (argV m c) (ix2 l j) := by
  refine (rowsProduct_apply (iblk m c 0 t) (iblk m c 1 t) (iblk m c 2 t) r j).trans ?_
  simp only [blk0, blk1, blk2]

/-- The row of the result that row `r` of the block at point `t` is. -/
def headOf (t : Fin cfg0.N) (r : Fin 4096) : Fin 8192 :=
  ⟨4096 * t.val + r.val, by have h := t.isLt; have : cfg0.N = 2 := N_0; omega⟩

theorem keys_at (t : Fin cfg0.N) (r : Fin 4096) (l : Fin 128) :
    headRows 0 (by omega) (rowsProduct (iblk m c 0 t) (iblk m c 1 t) (iblk m c 2 t)) (ix2 r l)
      = headAt (argX m c) (argG m c) (argK m c) (headOf t r) l := by
  unfold headRows headAt
  have e : rowOf t (⟨r.val / 4, by omega⟩ : Fin 1024) = ⟨(headOf t r).val / 4, by omega⟩ :=
    Fin.ext (by show 1024 * t.val + r.val / 4 = (4096 * t.val + r.val) / 4; omega)
  refine (product_at m c t _ _).trans (Finset.sum_congr rfl fun k _ => congrArg₂ (· * ·) ?_ ?_)
  · exact congrArg (fun z : Fin 2048 => Ffn.rmsRow (fun p => argX m c (ix3 (⟨z.val / 256, by omega⟩ : Fin 8) (⟨z.val % 256, by omega⟩ : Fin 256) p))
      (fun p => argG m c (ix1 p)) k) e
  · refine bothW_left _ _ _ _ _ ?_
    show 0 + (128 * (r.val % 4) + l.val) = 128 * ((4096 * t.val + r.val) % 4) + l.val
    omega

theorem vals_at (t : Fin cfg0.N) (r : Fin 4096) (l : Fin 128) :
    headRows 512 (by omega) (rowsProduct (iblk m c 0 t) (iblk m c 1 t) (iblk m c 2 t)) (ix2 r l)
      = headAt (argX m c) (argG m c) (argV m c) (headOf t r) l := by
  unfold headRows headAt
  have e : rowOf t (⟨r.val / 4, by omega⟩ : Fin 1024) = ⟨(headOf t r).val / 4, by omega⟩ :=
    Fin.ext (by show 1024 * t.val + r.val / 4 = (4096 * t.val + r.val) / 4; omega)
  refine (product_at m c t _ _).trans (Finset.sum_congr rfl fun k _ => congrArg₂ (· * ·) ?_ ?_)
  · exact congrArg (fun z : Fin 2048 => Ffn.rmsRow (fun p => argX m c (ix3 (⟨z.val / 256, by omega⟩ : Fin 8) (⟨z.val % 256, by omega⟩ : Fin 256) p))
      (fun p => argG m c (ix1 p)) k) e
  · refine bothW_right _ _ _ _ _ ?_
    show 512 + (128 * (r.val % 4) + l.val) = 512 + (128 * ((4096 * t.val + r.val) % 4) + l.val)
    omega

/-- The keys' array. -/
def G3 : FVec Ideal S8192x128 .f32 := fun y => headAt (argX m c) (argG m c) (argK m c) (y 0) (y 1)

theorem flushed3 (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after_3, keysOut_eq]
  funext y
  have hy0 : (y 0).val < 4096 := (y 0).isLt
  have hy1 : (y 1).val < 128 := (y 1).isLt
  have hb0 : (((cfg0.win 3).blk t).view.emb y 0).val = win0_3.index t (0 : Fin 2) * 4096 + 1 * (y 0).val := rfl
  have hb1 : (((cfg0.win 3).blk t).view.emb y 1).val = win0_3.index t (1 : Fin 2) * 128 + 1 * (y 1).val := rfl
  rw [show win0_3.index t (0 : Fin 2) = t.val from congrFun (index3 t) 0] at hb0
  rw [show win0_3.index t (1 : Fin 2) = 0 from congrFun (index3 t) 1] at hb1
  have hl : (cfg0.win 3).xinj (grid0.coords t) y = ix2 (⟨(y 0).val, hy0⟩ : Fin 4096) (⟨(y 1).val, hy1⟩ : Fin 128) := by
    funext a
    match a with
    | ⟨0, _⟩ => rfl
    | ⟨1, _⟩ => rfl
  show headRows 0 _ _ ((cfg0.win 3).xinj (grid0.coords t) y) = G3 m c (((cfg0.win 3).blk t).view.emb y)
  rw [hl]
  refine (keys_at m c t _ _).trans ?_
  unfold G3
  refine congrArg₂ (fun p q => headAt _ _ _ p q) (Fin.ext ?_) (Fin.ext ?_)
  · refine Eq.trans ?_ hb0.symm
    show 4096 * t.val + (y 0).val = _
    omega
  · refine Eq.trans ?_ hb1.symm
    show (y 1).val = _
    omega

theorem covered3 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hlt : (i 0).val / 4096 < cfg0.N := by rw [show cfg0.N = 2 from N_0]; omega
  let t : Fin cfg0.N := ⟨(i 0).val / 4096, hlt⟩
  have i0 : win0_3.index t (0 : Fin 2) = (i 0).val / 4096 := congrFun (index3 t) 0
  have i1 : win0_3.index t (1 : Fin 2) = 0 := congrFun (index3 t) 1
  refine ⟨t, flush0_3 t, ?_⟩
  show i ∈ ((View.whole main_v4_0).slice (win0_3.rect t)).set
  rw [View.set_slice_whole, Rect.mem_set_unit]
  intro a
  match a with
  | ⟨0, _⟩ =>
    show win0_3.index t (0 : Fin 2) * 4096 ≤ (i 0).val ∧ (i 0).val < win0_3.index t (0 : Fin 2) * 4096 + 4096
    rw [i0]; omega
  | ⟨1, _⟩ =>
    show win0_3.index t (1 : Fin 2) * 128 ≤ (i 1).val ∧ (i 1).val < win0_3.index t (1 : Fin 2) * 128 + 128
    rw [i1]; omega

theorem final3 : (dats m 0 c).arrAt 3 cfg0.N = G3 m c :=
  (dats m 0 c).arrAt_eq_of_cover 3 _ (fun t hf => flushed3 m c t hf) (fun i => covered3 i)

/-- The values' array. -/
def G4 : FVec Ideal S8192x128 .f32 := fun y => headAt (argX m c) (argG m c) (argV m c) (y 0) (y 1)

theorem flushed4 (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after_4, valsOut_eq]
  funext y
  have hy0 : (y 0).val < 4096 := (y 0).isLt
  have hy1 : (y 1).val < 128 := (y 1).isLt
  have hb0 : (((cfg0.win 4).blk t).view.emb y 0).val = win0_4.index t (0 : Fin 2) * 4096 + 1 * (y 0).val := rfl
  have hb1 : (((cfg0.win 4).blk t).view.emb y 1).val = win0_4.index t (1 : Fin 2) * 128 + 1 * (y 1).val := rfl
  rw [show win0_4.index t (0 : Fin 2) = t.val from congrFun (index4 t) 0] at hb0
  rw [show win0_4.index t (1 : Fin 2) = 0 from congrFun (index4 t) 1] at hb1
  have hl : (cfg0.win 4).xinj (grid0.coords t) y = ix2 (⟨(y 0).val, hy0⟩ : Fin 4096) (⟨(y 1).val, hy1⟩ : Fin 128) := by
    funext a
    match a with
    | ⟨0, _⟩ => rfl
    | ⟨1, _⟩ => rfl
  show headRows 512 _ _ ((cfg0.win 4).xinj (grid0.coords t) y) = G4 m c (((cfg0.win 4).blk t).view.emb y)
  rw [hl]
  refine (vals_at m c t _ _).trans ?_
  unfold G4
  refine congrArg₂ (fun p q => headAt _ _ _ p q) (Fin.ext ?_) (Fin.ext ?_)
  · refine Eq.trans ?_ hb0.symm
    show 4096 * t.val + (y 0).val = _
    omega
  · refine Eq.trans ?_ hb1.symm
    show (y 1).val = _
    omega

theorem covered4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hlt : (i 0).val / 4096 < cfg0.N := by rw [show cfg0.N = 2 from N_0]; omega
  let t : Fin cfg0.N := ⟨(i 0).val / 4096, hlt⟩
  have i0 : win0_4.index t (0 : Fin 2) = (i 0).val / 4096 := congrFun (index4 t) 0
  have i1 : win0_4.index t (1 : Fin 2) = 0 := congrFun (index4 t) 1
  refine ⟨t, flush0_4 t, ?_⟩
  show i ∈ ((View.whole main_v4_1).slice (win0_4.rect t)).set
  rw [View.set_slice_whole, Rect.mem_set_unit]
  intro a
  match a with
  | ⟨0, _⟩ =>
    show win0_4.index t (0 : Fin 2) * 4096 ≤ (i 0).val ∧ (i 0).val < win0_4.index t (0 : Fin 2) * 4096 + 4096
    rw [i0]; omega
  | ⟨1, _⟩ =>
    show win0_4.index t (1 : Fin 2) * 128 ≤ (i 1).val ∧ (i 1).val < win0_4.index t (1 : Fin 2) * 128 + 128
    rw [i1]; omega

theorem final4 : (dats m 0 c).arrAt 4 cfg0.N = G4 m c :=
  (dats m 0 c).arrAt_eq_of_cover 4 _ (fun t hf => flushed4 m c t hf) (fun i => covered4 i)

/-- The run leaves those arrays and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = G3 m c
      ∧ r.2.mem ((c : Thread nD τ).loc main_v4_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Mem
-- ==== Proof.MemProjReference.lean ====
module

public import proofs.«01_k».proof.Proof.MemProjRow
public import proofs.«01_k».proof.Proof.Gen.MemProjReferenceIdeal.Run

/-! The memory projection reference's results by element. -/

@[expose] public section

noncomputable section

namespace Cert.Mem.Ref

open Idealize.ShloMosaic Idealize.ShloMosaic.TcCoe Cert.MemProjReferenceIdeal Cert.MemProjReferenceIdeal.Gen Cert.MemProjReferenceIdeal.Value

/-- The reference's rows over their root mean squares, scaled. -/
def rmsR (x : FVec Ideal S8x256x1024 .f32) (g : FVec Ideal S1024 .f32) : FVec Ideal S8x256x1024 .f32 :=
  mulf (mulf x (broadcastInDim S8x256x1024 ![0, 1, 2] bcast_S8x256x1_S8x256x1024_0_1_2 (Host.rsqrt (addf (Host.divf
    (broadcastInDim S8x256x1 ![0, 1] bcast_S8x256_S8x256x1_0_1 (Host.reduceAdd (mulf x x) (constant S_ .f32 0x00000000#32) reducesTo_S8x256x1024_S8x256_d2 h_S_))
    (broadcastInDim S8x256x1 ![] bcast_S_S8x256x1 (constant S_ .f32 0x44800000#32))) (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))

/-- Their product with the weights, a row per memory row and head. -/
def headR (x : FVec Ideal S8x256x1024 .f32) (g : FVec Ideal S1024 .f32) (w : FVec Ideal S1024x512 .f32) : FVec Ideal S8192x128 .f32 :=
  shapeCast S8192x128 (shapeCast S8x256x4x128 (Host.dotGeneral dot_S8x256x1024_S1024x512_S8x256x512_2_0_01_1_n_n none (rmsR x g) w)
    shapeCasts_S8x256x512_S8x256x4x128) shapeCasts_S8x256x4x128_S8192x128

theorem rmsR_apply (x : FVec Ideal S8x256x1024 .f32) (g : FVec Ideal S1024 .f32) (b : Fin 8) (s : Fin 256) (l : Fin 1024) :
    rmsR x g (ix3 b s l) = Ffn.rmsRow (fun p => x (ix3 b s p)) (fun p => g (ix1 p)) l := by
  pointwise [rmsR]
  rfl

theorem headR_apply (x : FVec Ideal S8x256x1024 .f32) (g : FVec Ideal S1024 .f32) (w : FVec Ideal S1024x512 .f32) (r : Fin 8192) (l : Fin 128) :
    headR x g w (ix2 r l) = headAt x g w r l := by
  unfold headAt
  simp only [← rmsR_apply]
  have e0 : (⟨r.val / 4 / 256, by omega⟩ : Fin 8) = ⟨r.val / 1024, by omega⟩ := Fin.ext (by show r.val / 4 / 256 = r.val / 1024; omega)
  have e1 : (⟨128 * (r.val % 4) + l.val, by omega⟩ : Fin 512) = ⟨r.val % 4 * 128 + l.val, by omega⟩ :=
    Fin.ext (by show 128 * (r.val % 4) + l.val = r.val % 4 * 128 + l.val; omega)
  rw [e0, e1]
  pointwise [headR]

end Cert.Mem.Ref
-- ==== Proof.MemProjClaims.lean ====
module

public import proofs.«01_k».proof.Defs
public import proofs.«01_k».proof.Proof.MemProjArrays
public import proofs.«01_k».proof.Proof.MemProjReference
public import proofs.«01_k».proof.Proof.Gen.MemProj

/-! The memory projection's claims: the frames, and that the kernel and its reference return the same arrays at any arguments. -/

@[expose] public section

noncomputable section

namespace Cert.Mem

open Idealize.ShloMosaic Idealize.SL.Sem Idealize.ShloMosaic.TcCoe

/-- The memory projection kernel and its reference return the same keys and values. -/
theorem algebraic : Cert.algebraic_MemProjIdeal_MemProjReferenceIdeal := by
  intro m ρ m' ρ' _ hagree
  refine ⟨fun c => G3 m c, fun c => G4 m c, run m ρ, ?_⟩
  refine (θ_run _ _ _).mono (fun _ h c => ⟨(h c).1.trans ?_, (h c).2.1.trans ?_, (h c).2.2⟩)
    (Cert.MemProjReferenceIdeal.Value.run (F := Ideal) m' ρ')
  · obtain ⟨e0, e1, e2, -⟩ := hagree c
    funext y
    rw [show y = ix2 (y 0) (y 1) from funext fun a => by fin_cases a <;> rfl]
    show Ref.headR _ _ _ _ = _
    rw [e0, e1, e2]
    exact Ref.headR_apply _ _ _ (y 0) (y 1)
  · obtain ⟨e0, e1, -, e3⟩ := hagree c
    funext y
    rw [show y = ix2 (y 0) (y 1) from funext fun a => by fin_cases a <;> rfl]
    show Ref.headR _ _ _ _ = _
    rw [e0, e1, e3]
    exact Ref.headR_apply _ _ _ (y 0) (y 1)

/-- The two programs have the same bodies. -/
theorem bodies : Cert.MemProj.defs₀ (F := Bits) = Cert.MemProjIdeal.defs₀ (F := Bits) := by
  unfold Cert.MemProj.defs₀ Cert.MemProjIdeal.defs₀
  refine congrArg Defs.onTc (funext fun l => ?_)
  funext x
  fin_cases l
  rfl

/-- The two programs have the same table. -/
theorem tables : Cert.MemProj.defs (F := Bits) = Cert.MemProjIdeal.defs (F := Bits) :=
  congrArg (Pipeline.defs Cert.MemProjIdeal.pcfgs) bodies

/-- The memory projection kernel's frame at machine words. -/
theorem frame_words : Cert.quiescent_MemProj := by
  intro m ρ _
  rw [tables]
  exact Cert.MemProjIdeal.Gen.frame (F := Bits) m ρ

/-- The memory projection kernel's frame at the ideal numbers. -/
theorem frame_ideal : Cert.quiescent_MemProjIdeal := fun m ρ _ => Cert.MemProjIdeal.Gen.frame (F := Ideal) m ρ

/-- The memory projection reference's frame. -/
theorem frame_reference : Cert.quiescent_MemProjReferenceIdeal := fun m ρ _ =>
  (θ_run _ _ _).mono (fun r h => ⟨fun c => (h c).2.2, sem_eq_zero_of_no_sems (by decide) r.2⟩)
    (Cert.MemProjReferenceIdeal.Value.run (F := Ideal) m ρ)

end Cert.Mem
-- ==== Proof.CrossRow.lean ====
module

public import proofs.«01_k».proof.Proof.Scal
public import Idealize.ShloMosaic.Lib.Pointwise
public import Mathlib.Data.EReal.Inv

/-! One query's attention to the rows of a memory: the weighted sum over the weights' sum, and the same with the weights
    divided first. -/

@[expose] public section

noncomputable section

namespace Cert.Crs

open Idealize.ShloMosaic

/-- The largest of the scores. -/
def best (s : Fin 256 → EReal) : EReal := Finset.univ.fold max ⊥ s

/-- The weight of memory row `k`. -/
def weight (s : Fin 256 → EReal) (k : Fin 256) : EReal := Ideal.exp (s k - best s)

/-- The weighted sum of `v`, divided by the weights' sum. -/
def attend (s v : Fin 256 → EReal) : EReal := Ideal.div (∑ k, weight s k * v k) (∑ k, weight s k)

theorem exp_nonneg (x : EReal) : 0 ≤ Ideal.exp x := by
  induction x with
  | bot => exact le_rfl
  | top => exact le_top
  | coe r => exact EReal.coe_nonneg.2 (Real.exp_pos r).le

theorem exp_pos {x : EReal} (h : x ≠ ⊥) : 0 < Ideal.exp x := by
  induction x with
  | bot => exact absurd rfl h
  | top => exact EReal.zero_lt_top
  | coe r => exact EReal.coe_pos.2 (Real.exp_pos r)

/-- At real scores the largest one is not infinite above. -/
theorem best_lt_top (S : Fin 256 → ℝ) : best (fun k => ((S k : ℝ) : EReal)) < ⊤ :=
  (Finset.fold_max_lt _).2 ⟨bot_lt_top, fun k _ => EReal.coe_lt_top _⟩

/-- At real scores the weights' sum is positive. -/
theorem sum_pos (S : Fin 256 → ℝ) : 0 < ∑ k, weight (fun k => ((S k : ℝ) : EReal)) k := by
  refine lt_of_lt_of_le (exp_pos (x := ((S 0 : ℝ) : EReal) - best fun k => ((S k : ℝ) : EReal)) ?_)
    (Finset.single_le_sum (f := weight fun k => ((S k : ℝ) : EReal)) (fun k _ => exp_nonneg _) (Finset.mem_univ 0))
  rw [sub_eq_add_neg, Ne, EReal.add_eq_bot_iff, not_or]
  exact ⟨EReal.coe_ne_bot _, fun h => (best_lt_top S).ne (EReal.neg_eq_bot_iff.1 h)⟩

/-- A sum times a finite number that is not negative. -/
theorem sum_mul_of_nonneg {ι : Type} (t : Finset ι) (f : ι → EReal) {c : EReal} (h0 : 0 ≤ c) (ht : c ≠ ⊤) :
    (∑ k ∈ t, f k) * c = ∑ k ∈ t, f k * c := by
  classical
  induction t using Finset.induction with
  | empty => simp
  | insert a s ha ih => rw [Finset.sum_insert ha, Finset.sum_insert ha, EReal.right_distrib_of_nonneg_of_ne_top h0 ht, ih]

/-- A positive number's reciprocal is not infinite. -/
theorem inv_ne_top {d : EReal} (h : 0 < d) : d⁻¹ ≠ ⊤ := by
  induction d with
  | bot => exact absurd h (by simp)
  | top => rw [EReal.inv_top]; exact EReal.zero_ne_top
  | coe r => rw [← EReal.coe_inv]; exact EReal.coe_ne_top _

/-- The weights may be divided by their sum first. -/
theorem attend_eq (S : Fin 256 → ℝ) (v : Fin 256 → EReal) :
    ∑ k, v k * Ideal.div (weight (fun k => ((S k : ℝ) : EReal)) k) (∑ k, weight (fun k => ((S k : ℝ) : EReal)) k)
      = attend (fun k => ((S k : ℝ) : EReal)) v := by
  have hd := sum_pos S
  unfold attend Ideal.div
  rw [if_neg hd.ne', sum_mul_of_nonneg _ _ (EReal.inv_nonneg_of_nonneg hd.le) (inv_ne_top hd)]
  refine Finset.sum_congr rfl fun k _ => ?_
  rw [if_neg hd.ne', ← mul_assoc, mul_comm (v k)]

/-- The score of a query and a memory row. -/
def score (q k : Fin 128 → EReal) : EReal := ∑ x, q x * Ideal.ofBits .f32 0x3DB504F3#32 * k x

/-- At real entries the score is real. -/
theorem score_coe (q k : Fin 128 → ℝ) :
    score (fun x => ((q x : ℝ) : EReal)) (fun x => ((k x : ℝ) : EReal)) = ((∑ x, q x * Gdn.sclN * k x : ℝ) : EReal) := by
  unfold score
  rw [Gdn.lit_scl]
  simp only [← EReal.coe_mul, Gdn.coe_sum]

/-- At real entries the query may be scaled after the product. -/
theorem score_eq (q k : Fin 128 → ℝ) :
    (∑ x, ((q x : ℝ) : EReal) * ((k x : ℝ) : EReal)) * Ideal.ofBits .f32 0x3DB504F3#32
      = score (fun x => ((q x : ℝ) : EReal)) (fun x => ((k x : ℝ) : EReal)) := by
  rw [score_coe, Gdn.lit_scl]
  simp only [← EReal.coe_mul, Gdn.coe_sum]
  refine congrArg _ ?_
  rw [Finset.sum_mul]
  exact Finset.sum_congr rfl fun x _ => by ring

end Cert.Crs
-- ==== Proof.CrossHead.lean ====
module

public import proofs.«01_k».proof.Proof.CrossRow
public import proofs.«01_k».proof.Proof.Gen.CrossIdeal.Skeleton

/-! One head of the cross-attention kernel's body, by element. -/

@[expose] public section

noncomputable section

namespace Cert.Crs

open Idealize.ShloMosaic Cert.CrossIdeal Cert.CrossIdeal.Gen

/-- The scores of a head's queries and memory rows. -/
def scoreMat (q : FVec Ideal S512x128 .f32) (k : Vec Ideal S256x128 .f32) : FVec Ideal S512x256 .f32 :=
  matmul dot_S512x128_S256x128_S512x256_1_1_0_0_n_n none (truncf .bf16 q bitsLt_bf16_f32) (truncf .bf16 k bitsLt_bf16_f32 : FVec Ideal S256x128 .bf16)
    (constant S512x256 .f32 0x00000000#32)

/-- The weights: each score less its row's largest one, exponentiated. -/
def weightMat (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The weighted sums, over the weights' sums. -/
def meanMat (p : FVec Ideal S512x256 .f32) (v : Vec Ideal S256x128 .f32) : FVec Ideal S512x128 .f32 :=
  divf (matmul dot_S512x256_S256x128_S512x128_1_0_0_1_n_n none (truncf .bf16 p bitsLt_bf16_f32 : FVec Ideal S512x256 .bf16)
      (truncf .bf16 v bitsLt_bf16_f32 : FVec Ideal S256x128 .bf16) (constant S512x128 .f32 0x00000000#32))
    (broadcastTo S512x128 (shapeCast S512x1 (multiReduction .add [1] S512 p 0x00000000#32 reduces_S512x256_S512 (.inl rfl) rfl)
      shapeCasts_S512_S512x1) broadcasts_S512x1_S512x128)

theorem ninf : Ideal.ofBits .f32 0xFF800000#32 = ⊥ := by
  simp [Ideal.ofBits, Ideal.ieee]

theorem scoreMat_apply (q : FVec Ideal S512x128 .f32) (k : Vec Ideal S256x128 .f32) (r : Fin 512) (n : Fin 256) :
    scoreMat q k (ix2 r n) = ∑ x, q (ix2 r x) * k (ix2 n x) := by
  pointwise [scoreMat]

theorem weightMat_apply (s : FVec Ideal S512x256 .f32) (r : Fin 512) (n : Fin 256) :
    weightMat s (ix2 r n) = weight (fun k => s (ix2 r k)) n := by
  unfold weight best
  rw [← ninf]
  pointwise [weightMat]

theorem meanMat_apply (p : FVec Ideal S512x256 .f32) (v : Vec Ideal S256x128 .f32) (r : Fin 512) (l : Fin 128) :
    meanMat p v (ix2 r l) = Ideal.div (∑ k, p (ix2 r k) * v (ix2 k l)) (∑ k, p (ix2 r k)) := by
  pointwise [meanMat]

/-- One head's output, its queries `q` scaled already. -/
def headMat (q : FVec Ideal S512x128 .f32) (k v : Vec Ideal S256x128 .f32) : FVec Ideal S512x128 .f32 :=
  meanMat (weightMat (scoreMat q k)) v

theorem headMat_apply (q : FVec Ideal S512x128 .f32) (k v : Vec Ideal S256x128 .f32) (r : Fin 512) (l : Fin 128) :
    headMat q k v (ix2 r l) = attend (fun n => ∑ x, q (ix2 r x) * k (ix2 n x)) (fun n => v (ix2 n l)) := by
  unfold headMat attend
  rw [meanMat_apply]
  simp only [weightMat_apply, scoreMat_apply]

/-- The scaled queries. -/
theorem scaled_apply (q : Vec Ideal S512x512 .f32) (r j : Fin 512) :
    k0_pay2 q (ix2 r j) = q (ix2 r j) * Ideal.ofBits .f32 0x3DB504F3#32 := by
  pointwise [k0_pay2]

/-- What head `h` stores at row `r` and column `l`, from the blocks. -/
def headAt (q : Vec Ideal S512x512 .f32) (k v : Vec Ideal S1024x128 .f32) (h : Fin 4) (r : Fin 512) (l : Fin 128) : EReal :=
  attend (fun n => score (fun x => q (ix2 r (⟨128 * h.val + x.val, by omega⟩ : Fin 512))) (fun x => k (ix2 (⟨4 * n.val + h.val, by omega⟩ : Fin 1024) x)))
    (fun n => v (ix2 (⟨4 * n.val + h.val, by omega⟩ : Fin 1024) l))

/-- Every fourth row from row `h`. -/
def fourth (x : Vec Ideal S1024x128 .f32) (h : Fin 4) : Vec Ideal S256x128 .f32 := fun y =>
  x (ix2 (⟨4 * (y 0).val + h.val, by have : (y 0).val < 256 := (y 0).isLt; omega⟩ : Fin 1024) (y 1))

/-- Head `h`'s output. -/
theorem head_at (q : Vec Ideal S512x512 .f32) (k v : Vec Ideal S1024x128 .f32) (h : Fin 4) (o : ℕ) (ho : o = 128 * h.val)
    (hs : S512x512.Slices ![0, o] S512x128) (r : Fin 512) (l : Fin 128) :
    headMat (extractStridedSlice S512x128 ![0, o] (k0_pay2 q) hs) (fourth k h) (fourth v h) (ix2 r l) = headAt q k v h r l := by
  have es : ∀ x : Fin 128, extractStridedSlice S512x128 ![0, o] (k0_pay2 q) hs (ix2 r x)
      = q (ix2 r (⟨128 * h.val + x.val, by omega⟩ : Fin 512)) * Ideal.ofBits .f32 0x3DB504F3#32 := fun x => by
    refine (extractStridedSlice_apply ![0, o] (k0_pay2 q) hs (ix2 r x) (ix2 r (⟨128 * h.val + x.val, by omega⟩ : Fin 512))
      (Fin.forall_fin_two.mpr ⟨?_, ?_⟩)).trans (scaled_apply q r _)
    · show r.val = 0 + r.val; omega
    · show 128 * h.val + x.val = o + x.val; omega
  rw [headMat_apply]
  unfold headAt score
  simp only [es]
  rfl

end Cert.Crs
-- ==== Proof.CrossBody.lean ====
module

public import proofs.«01_k».proof.Proof.CrossHead
public import proofs.«01_k».proof.Proof.Gen.CrossIdeal.Frame
public import Idealize.ShloMosaic.Lib.Pipeline.Value

/-! What the cross-attention kernel's body leaves in its output block. -/

@[expose] public section

noncomputable section

namespace Cert.Crs

open Idealize.ShloMosaic Cert.CrossIdeal Cert.CrossIdeal.Gen

theorem hz : (![0, 0] : Fin 2 → Nat) = fun _ => 0 := funext fun a => by fin_cases a <;> rfl

/-- The block, head by head. -/
def block (q : Vec Ideal S512x512 .f32) (k v : Vec Ideal S1024x128 .f32) : Vec Ideal S512x512 .f32 := fun y =>
  headAt q k v (⟨(y 1).val / 128, by have : (y 1).val < 512 := (y 1).isLt; omega⟩ : Fin 4) (y 0)
    (⟨(y 1).val % 128, Nat.mod_lt _ (by norm_num)⟩ : Fin 128)

theorem piece (q : Vec Ideal S512x512 .f32) (k v : Vec Ideal S1024x128 .f32) (h : Fin 4) (o : ℕ) (ho : o = 128 * h.val)
    (hs : S512x512.Slices ![0, o] S512x128) (hr) (x : S512x128.Idx) :
    headMat (extractStridedSlice S512x128 ![0, o] (k0_pay2 q) hs) (fourth k h) (fourth v h) x
      = block q k v ((Rect.unit (s := S512x512) ![0, o] S512x128.size hr).emb x) := by
  have e0 : ((Rect.unit (s := S512x512) ![0, o] S512x128.size hr).emb x 0).val = 0 + 1 * (x 0).val := rfl
  have e1 : ((Rect.unit (s := S512x512) ![0, o] S512x128.size hr).emb x 1).val = o + 1 * (x 1).val := rfl
  have hx : (x 1).val < 128 := (x 1).isLt
  have ex : x = ix2 (x 0) (x 1) := funext fun a => by fin_cases a <;> rfl
  refine (congrArg _ ex).trans ((head_at q k v h o ho hs (x 0) (x 1)).trans ?_)
  unfold block
  refine congr (congr (congrArg (headAt q k v) (Fin.ext ?_)) (Fin.ext ?_)) (Fin.ext ?_)
  · show h.val = ((Rect.unit (s := S512x512) ![0, o] S512x128.size hr).emb x 1).val / 128; omega
  · show (x 0).val = ((Rect.unit (s := S512x512) ![0, o] S512x128.size hr).emb x 0).val; omega
  · show (x 1).val = ((Rect.unit (s := S512x512) ![0, o] S512x128.size hr).emb x 1).val % 128; omega

/-- A load of every fourth row from row `h`. -/
theorem fourth_read (a : Memref sig .tc .vmem S1024x128 .f32) (ha : a.IsWhole) (x : Vec Ideal S1024x128 .f32) (h : Fin 4) (o : ℕ) (ho : o = h.val) (hb) :
    View.readAt (Elt Ideal) a.view (⟨![o, 0], S256x128.size, ![4, 1], hb⟩ : LoadRect S1024x128) (ha.unread x) = fourth x h := by
  subst ho
  funext y
  rw [View.readAt_apply, ha.read_unread]
  show x _ = x _
  refine congrArg x (funext fun a => Fin.ext ?_)
  fin_cases a
  · show h.val + 4 * (y 0).val = 4 * (y 0).val + h.val; omega
  · show 0 + 1 * (y 1).val = (y 1).val; omega

section
variable (q : Vec Ideal S512x512 .f32) (k v : Vec Ideal S256x128 .f32)

theorem pay_0 : k0_pay3 q k v = headMat (extractStridedSlice S512x128 ![0, 0] (k0_pay2 q) slices_S512x512_o0_0_S512x128) k v := rfl
theorem pay_1 : k0_pay8 (k0_pay4 v) (k0_pay6 q k) (k0_pay7 q k)
    = headMat (extractStridedSlice S512x128 ![0, 128] (k0_pay2 q) slices_S512x512_o0_128_S512x128) k v := rfl
theorem pay_2 : k0_pay9 (k0_pay2 q) k v = headMat (extractStridedSlice S512x128 ![0, 256] (k0_pay2 q) slices_S512x512_o0_256_S512x128) k v := rfl
theorem pay_3 : k0_pay1 (k0_pay10 v) (k0_pay12 (k0_pay2 q) k) (k0_pay13 (k0_pay2 q) k)
    = headMat (extractStridedSlice S512x128 ![0, 384] (k0_pay2 q) slices_S512x512_o0_384_S512x128) k v := rfl

end

section
variable (c : Dev nD) (i : grid0.Coords) (a2 : Memref sig .tc .vmem S512x512 .f32) (h2 : a2.IsWhole) (a3 : Memref sig .tc .vmem S1024x128 .f32) (h3 : a3.IsWhole)
  (a4 : Memref sig .tc .vmem S1024x128 .f32) (h4 : a4.IsWhole) (a5 : Memref sig .tc .vmem S512x512 .f32) (h5 : a5.IsWhole)
  (x0 : Vec Ideal S512x512 .f32) (x1 x2 : Vec Ideal S1024x128 .f32)

/-- The block the body leaves. -/
theorem out_eq : out0_A_3 c i a2 h2 a3 h3 a4 h4 a5 h5 x0 x1 x2 = block x0 x1 x2 := by
  unfold out0_A_3
  rw [View.read_writes_eq_canon _ _ _ (cover0_A_3 c i a2 h2 a3 h3 a4 h4 a5 h5 x0 x1 x2)]
  funext y
  refine View.canon_apply_of_pieces (block x0 x1 x2) _ ?_ y (cover0_A_3 c i a2 h2 a3 h3 a4 h4 a5 h5 x0 x1 x2 y)
  unfold kernelRun0_A
  dsimp only
  sl_unfold_words
  simp only [View.readAt_eq_ld, h2.read_unread, h3.read_unread, h4.read_unread, View.ld_unit_zero (S := S512x512) hz]
  rw [fourth_read a3 h3 x1 0 0 rfl, fourth_read a3 h3 x1 1 1 rfl, fourth_read a3 h3 x1 2 2 rfl, fourth_read a3 h3 x1 3 3 rfl,
    fourth_read a4 h4 x2 0 0 rfl, fourth_read a4 h4 x2 1 1 rfl, fourth_read a4 h4 x2 2 2 rfl, fourth_read a4 h4 x2 3 3 rfl,
    pay_0, pay_1, pay_2, pay_3]
  intro p hp x
  simp only [List.mem_cons, List.not_mem_nil, or_false] at hp
  rcases hp with rfl | rfl | rfl | rfl
  · exact piece x0 x1 x2 3 384 (by decide) slices_S512x512_o0_384_S512x128 inb_S512x512_S512x128_0_384 x
  · exact piece x0 x1 x2 2 256 (by decide) slices_S512x512_o0_256_S512x128 inb_S512x512_S512x128_0_256 x
  · exact piece x0 x1 x2 1 128 (by decide) slices_S512x512_o0_128_S512x128 inb_S512x512_S512x128_0_128 x
  · exact piece x0 x1 x2 0 0 (by decide) slices_S512x512_o0_0_S512x128 inb_S512x512_S512x128_0_0 x

end

end Cert.Crs
-- ==== Proof.CrossBlocks.lean ====
module

public import proofs.«01_k».proof.Proof.CrossBody
public import proofs.«01_k».proof.Proof.Gen.CrossIdeal.Value
public import Idealize.ShloMosaic.Lib.StableHlo.RunClose
public import Idealize.ShloMosaic.Lib.Claim
public import Idealize.ShloMosaic.Lib.Pipeline.ValueKit.Point

/-! What the cross-attention's windows read at each grid point, in terms of the arguments, and its result array by element. -/

@[expose] public section

noncomputable section

namespace Cert.Crs

open Idealize.ShloMosaic Idealize.ShloMosaic.TcCoe Cert.CrossIdeal Cert.CrossIdeal.Gen

/-- The result at row `p` and column `j`: the attention of row `p`'s query of the column's head to the rows of its sequence's memory. -/
def outAt (proj : FVec Ideal S16384x6144 .f32) (k v : FVec Ideal S8192x128 .f32) (p : Fin 16384) (j : Fin 512) : EReal :=
  attend (fun n => score (fun x => proj (ix2 p (⟨2560 + (128 * (j.val / 128) + x.val), by omega⟩ : Fin 6144)))
      (fun x => k (ix2 (⟨1024 * (p.val / 2048) + (4 * n.val + j.val / 128), by omega⟩ : Fin 8192) x)))
    (fun n => v (ix2 (⟨1024 * (p.val / 2048) + (4 * n.val + j.val / 128), by omega⟩ : Fin 8192) (⟨j.val % 128, Nat.mod_lt _ (by norm_num)⟩ : Fin 128)))

variable (m : (ℓ : Loc nD τ sig) → Buf (Elt Ideal) ℓ) (c : Dev nD)

abbrev argP : FVec Ideal S16384x6144 .f32 := m ((c.tc : Thread nD τ).loc main_arg0)
abbrev argK : FVec Ideal S8192x128 .f32 := m ((c.tc : Thread nD τ).loc main_arg1)
abbrev argV : FVec Ideal S8192x128 .f32 := m ((c.tc : Thread nD τ).loc main_arg2)

theorem index0 : ∀ t : Fin grid0.N, win0_0.index t = ![t.val, 5] := by decide +kernel
theorem index1 : ∀ t : Fin grid0.N, win0_1.index t = ![t.val / 4, 0] := by decide +kernel
theorem index2 : ∀ t : Fin grid0.N, win0_2.index t = ![t.val / 4, 0] := by decide +kernel
theorem index3 : ∀ t : Fin grid0.N, win0_3.index t = ![t.val, 0] := by decide +kernel

/-- The row of the arrays that row `r` of the block at point `t` is. -/
def rowOf (t : Fin cfg0.N) (r : Fin 512) : Fin 16384 :=
  ⟨512 * t.val + r.val, by have h := t.isLt; have : cfg0.N = 32 := N_0; omega⟩

/-- The memory row that row `n` of the memory's block at point `t` is. -/
def memOf (t : Fin cfg0.N) (n : Fin 1024) : Fin 8192 :=
  ⟨1024 * (t.val / 4) + n.val, by have h := t.isLt; have : cfg0.N = 32 := N_0; omega⟩

/-- The column of the queries' column `j`. -/
def queryCol (j : Fin 512) : Fin 6144 := ⟨2560 + j.val, by omega⟩

set_option maxHeartbeats 1000000 in
theorem blk0 (t : Fin cfg0.N) (r j : Fin 512) :
    (iblk m c 0 t : Vec Ideal S512x512 .f32) (ix2 r j) = argP m c (ix2 (rowOf t r) (queryCol j)) := by
  show (V m c main_arg0) _ = _
  rw [V_main_arg0]
  show argP m c _ = _
  blk_ext [iblk, index0 t, rowOf, queryCol]

set_option maxHeartbeats 1000000 in
theorem blk1 (t : Fin cfg0.N) (n : Fin 1024) (l : Fin 128) :
    (iblk m c 1 t : Vec Ideal S1024x128 .f32) (ix2 n l) = argK m c (ix2 (memOf t n) l) := by
  show (V m c main_arg1) _ = _
  rw [V_main_arg1]
  show argK m c _ = _
  blk_ext [iblk, index1 t, memOf]

set_option maxHeartbeats 1000000 in
theorem blk2 (t : Fin cfg0.N) (n : Fin 1024) (l : Fin 128) :
    (iblk m c 2 t : Vec Ideal S1024x128 .f32) (ix2 n l) = argV m c (ix2 (memOf t n) l) := by
  show (V m c main_arg2) _ = _
  rw [V_main_arg2]
  show argV m c _ = _
  blk_ext [iblk, index2 t, memOf]

/-- The block the body leaves at point `t`. -/
theorem out_at (t : Fin cfg0.N) (r j : Fin 512) :
    block (iblk m c 0 t) (iblk m c 1 t) (iblk m c 2 t) (ix2 r j) = outAt (argP m c) (argK m c) (argV m c) (rowOf t r) j := by
  have em : ∀ (n : Fin 256), memOf t (⟨4 * n.val + j.val / 128, by omega⟩ : Fin 1024)
      = ⟨1024 * ((rowOf t r).val / 2048) + (4 * n.val + j.val / 128), by omega⟩ := fun n => Fin.ext (by
    show 1024 * (t.val / 4) + (4 * n.val + j.val / 128) = 1024 * ((512 * t.val + r.val) / 2048) + (4 * n.val + j.val / 128)
    omega)
  show headAt (iblk m c 0 t) (iblk m c 1 t) (iblk m c 2 t) (⟨j.val / 128, by omega⟩ : Fin 4) r (⟨j.val % 128, Nat.mod_lt _ (by norm_num)⟩ : Fin 128) = _
  unfold headAt outAt
  simp only [blk0, blk1, blk2, em]
  rfl

set_option maxHeartbeats 1000000 in
/-- The kernel's result array. -/
theorem final_apply (p : Fin 16384) (j : Fin 512) :
    ((dats m 0 c).arrAt 3 cfg0.N : FVec Ideal S16384x512 .f32) (ix2 p j) = outAt (argP m c) (argK m c) (argV m c) p j := by
  have hN : cfg0.N = 32 := N_0
  let t : Fin cfg0.N := ⟨p.val / 512, by omega⟩
  let r : Fin 512 := ⟨p.val % 512, by omega⟩
  have hp : rowOf t r = p := Fin.ext (by show 512 * (p.val / 512) + p.val % 512 = p.val; omega)
  have h := congrFun (Value.blocks3 m c t (by have : ∀ t : Fin cfg0.N, (cfg0.win 3).flush t = true := (by decide +kernel); exact this t)) (ix2 r j)
  rw [Value.flushed3_A, out_eq] at h
  refine Eq.trans ?_ (h.trans ((out_at m c t r j).trans (by rw [hp])))
  show _ = ((dats m 0 c).arrAt 3 cfg0.N : FVec Ideal S16384x512 .f32) _
  refine congrArg _ ?_
  rw [← hp]
  funext a
  refine Fin.ext ?_
  have e := index3 t
  fin_cases a
  · show 512 * t.val + r.val = win0_3.index t 0 * 512 + 1 * r.val
    rw [e]; show _ = t.val * 512 + 1 * r.val; omega
  · show j.val = win0_3.index t 1 * 512 + 1 * j.val
    rw [e]; show _ = 0 * 512 + 1 * j.val; omega

end Cert.Crs
-- ==== Proof.CrossReference.lean ====
module

public import proofs.«01_k».proof.Proof.CrossBlocks
public import proofs.«01_k».proof.Proof.Gen.CrossReferenceIdeal.Run

/-! The cross-attention reference's result by element. -/

@[expose] public section

noncomputable section

namespace Cert.Crs.Ref

open Idealize.ShloMosaic Idealize.ShloMosaic.TcCoe Cert.CrossReferenceIdeal Cert.CrossReferenceIdeal.Gen Cert.CrossReferenceIdeal.Value

/-- The scaled scores of every query and memory row. -/
def scoreR (proj : FVec Ideal S16384x6144 .f32) (k : FVec Ideal S8192x128 .f32) : FVec Ideal S8x4x2048x256 .f32 :=
  mulf (Host.dotGeneral dot_S8x2048x4x128_S8x256x4x128_S8x4x2048x256_3_3_1_1_02_02 none
      (shapeCast S8x2048x4x128 (extractStridedSlice S16384x512 ![0, 2560] proj slices_S16384x6144_S16384x512_0_2560) shapeCasts_S16384x512_S8x2048x4x128)
      (shapeCast S8x256x4x128 k shapeCasts_S8192x128_S8x256x4x128))
    (broadcastInDim S8x4x2048x256 ![] bcast_S_S8x4x2048x256 (constant S_ .f32 0x3DB504F3#32))

/-- Every query's largest score. -/
def bestR (s : FVec Ideal S8x4x2048x256 .f32) : FVec Ideal S8x4x2048 .f32 :=
  maximumf (broadcastInDim S8x4x2048 ![] bcast_S_S8x4x2048 (constant S_ .f32 0xFF800000#32))
    (Host.reduce FloatOps.maximumf s (constant S_ .f32 0xFF800000#32) reducesTo_S8x4x2048x256_S8x4x2048_d3 h_S_)

/-- A number per query, as a row of 256. -/
def spreadR (x : FVec Ideal S8x4x2048 .f32) : FVec Ideal S8x4x2048x256 .f32 :=
  broadcastInDim S8x4x2048x256 ![0, 1, 2, 3] bcast_S8x4x2048x1_S8x4x2048x256_0_1_2_3
    (broadcastInDim S8x4x2048x1 ![0, 1, 2] bcast_S8x4x2048_S8x4x2048x1_0_1_2 x)

/-- The weights. -/
def weightR (s : FVec Ideal S8x4x2048x256 .f32) : FVec Ideal S8x4x2048x256 .f32 := Host.exp (subf s (spreadR (bestR s)))

/-- The weights over their sums. -/
def softR (p : FVec Ideal S8x4x2048x256 .f32) : FVec Ideal S8x4x2048x256 .f32 :=
  Host.divf p (spreadR (Host.reduceAdd p (constant S_ .f32 0x00000000#32) reducesTo_S8x4x2048x256_S8x4x2048_d3 h_S_))

/-- The weighted sums of the values, a row per query. -/
def sumsR (p : FVec Ideal S8x4x2048x256 .f32) (v : FVec Ideal S8192x128 .f32) : FVec Ideal S16384x512 .f32 :=
  shapeCast S16384x512 (transpose S8x2048x4x128 [0, 3, 1, 2]
    (Host.dotGeneral dot_S8x256x4x128_S8x4x2048x256_S8x4x128x2048_1_3_3_2_02_01 none (shapeCast S8x256x4x128 v shapeCasts_S8192x128_S8x256x4x128) p)
    transposes_S8x4x128x2048_S8x2048x4x128_0_3_1_2) shapeCasts_S8x2048x4x128_S16384x512

/-- The reference's result from its arguments. -/
def refR (proj : FVec Ideal S16384x6144 .f32) (k v : FVec Ideal S8192x128 .f32) : FVec Ideal S16384x512 .f32 :=
  sumsR (softR (weightR (scoreR proj k))) v

/-- The memory row of sequence `b`, row `n` and head `h`. -/
def memRow (b : Fin 8) (n : Fin 256) (h : Fin 4) : Fin 8192 := ⟨b.val * 1024 + n.val * 4 + h.val, by omega⟩

/-- The query's column `x` of head `h`. -/
def queryAt (h : Fin 4) (x : Fin 128) : Fin 6144 := ⟨2560 + (h.val * 128 + x.val), by omega⟩

theorem scoreR_apply (proj : FVec Ideal S16384x6144 .f32) (k : FVec Ideal S8192x128 .f32) (b : Fin 8) (h : Fin 4) (t : Fin 2048) (n : Fin 256) :
    scoreR proj k (ix4 b h t n)
      = (∑ x, proj (ix2 (⟨b.val * 2048 + t.val, by omega⟩ : Fin 16384) (queryAt h x)) * k (ix2 (memRow b n h) x)) * Ideal.ofBits .f32 0x3DB504F3#32 := by
  unfold queryAt memRow
  pointwise [scoreR]

/-- A row's largest score is the fold of its 256 scores. -/
theorem largest_apply (s : FVec Ideal S8x4x2048x256 .f32) (b : Fin 8) (h : Fin 4) (t : Fin 2048) :
    Host.reduce FloatOps.maximumf s (constant S_ .f32 0xFF800000#32) reducesTo_S8x4x2048x256_S8x4x2048_d3 h_S_ (ix3 b h t)
      = (Finset.univ : Finset (Fin 256)).fold max (Ideal.ofBits .f32 0xFF800000#32) (fun n => s (ix4 b h t n)) := by
  pointwise []

theorem bestR_apply (s : FVec Ideal S8x4x2048x256 .f32) (b : Fin 8) (h : Fin 4) (t : Fin 2048) :
    bestR s (ix3 b h t) = best (fun n => s (ix4 b h t n)) := by
  unfold bestR
  rw [maximumf_apply, largest_apply]
  unfold best
  rw [ninf]
  have e : (broadcastInDim S8x4x2048 ![] bcast_S_S8x4x2048 (constant S_ .f32 0xFF800000#32) : FVec Ideal S8x4x2048 .f32) (ix3 b h t) = ⊥ := ninf
  rw [e]
  exact max_eq_right bot_le

theorem spreadR_apply (x : FVec Ideal S8x4x2048 .f32) (b : Fin 8) (h : Fin 4) (t : Fin 2048) (n : Fin 256) :
    spreadR x (ix4 b h t n) = x (ix3 b h t) := by
  pointwise [spreadR]

theorem weightR_apply (s : FVec Ideal S8x4x2048x256 .f32) (b : Fin 8) (h : Fin 4) (t : Fin 2048) (n : Fin 256) :
    weightR s (ix4 b h t n) = weight (fun k => s (ix4 b h t k)) n := by
  unfold weight
  rw [← bestR_apply, ← spreadR_apply (bestR s) b h t n]
  pointwise [weightR]

theorem softR_apply (p : FVec Ideal S8x4x2048x256 .f32) (b : Fin 8) (h : Fin 4) (t : Fin 2048) (n : Fin 256) :
    softR p (ix4 b h t n) = Ideal.div (p (ix4 b h t n)) (∑ k, p (ix4 b h t k)) := by
  pointwise [softR, spreadR]

theorem sumsR_apply (p : FVec Ideal S8x4x2048x256 .f32) (v : FVec Ideal S8192x128 .f32) (r : Fin 16384) (j : Fin 512) :
    sumsR p v (ix2 r j) = ∑ n, v (ix2 (memRow (⟨r.val / 2048, by omega⟩ : Fin 8) n (⟨j.val / 128, by omega⟩ : Fin 4)) (⟨j.val % 128, Nat.mod_lt _ (by norm_num)⟩ : Fin 128))
      * p (ix4 (⟨r.val / 2048, by omega⟩ : Fin 8) (⟨j.val / 128, by omega⟩ : Fin 4) (⟨r.val % 2048, Nat.mod_lt _ (by norm_num)⟩ : Fin 2048) n) := by
  unfold memRow
  pointwise [sumsR]

/-- At real queries and keys the reference's result is the kernel's. -/
theorem refR_apply (proj : FVec Ideal S16384x6144 .f32) (k v : FVec Ideal S8192x128 .f32) (P : Fin 16384 → Fin 6144 → ℝ) (K : Fin 8192 → Fin 128 → ℝ)
    (hP : ∀ r (x : Fin 512), proj (ix2 r (⟨2560 + x.val, by omega⟩ : Fin 6144)) = ((P r ⟨2560 + x.val, by omega⟩ : ℝ) : EReal)) (hK : ∀ n l, k (ix2 n l) = ((K n l : ℝ) : EReal)) (r : Fin 16384) (j : Fin 512) :
    refR proj k v (ix2 r j) = outAt proj k v r j := by
  have er : (⟨(⟨r.val / 2048, by omega⟩ : Fin 8).val * 2048 + (⟨r.val % 2048, Nat.mod_lt _ (by norm_num)⟩ : Fin 2048).val, by simp only; omega⟩ : Fin 16384) = r :=
    Fin.ext (by show r.val / 2048 * 2048 + r.val % 2048 = r.val; omega)
  have em : ∀ n : Fin 256, memRow (⟨r.val / 2048, by omega⟩ : Fin 8) n (⟨j.val / 128, by omega⟩ : Fin 4)
      = ⟨1024 * (r.val / 2048) + (4 * n.val + j.val / 128), by omega⟩ := fun n =>
    Fin.ext (by show r.val / 2048 * 1024 + n.val * 4 + j.val / 128 = 1024 * (r.val / 2048) + (4 * n.val + j.val / 128); omega)
  have eq : ∀ x : Fin 128, queryAt (⟨j.val / 128, by omega⟩ : Fin 4) x = ⟨2560 + (128 * (j.val / 128) + x.val), by omega⟩ := fun x =>
    Fin.ext (by show 2560 + (j.val / 128 * 128 + x.val) = 2560 + (128 * (j.val / 128) + x.val); omega)
  have hQ : ∀ x : Fin 128, proj (ix2 r (⟨2560 + (128 * (j.val / 128) + x.val), by omega⟩ : Fin 6144))
      = ((P r ⟨2560 + (128 * (j.val / 128) + x.val), by omega⟩ : ℝ) : EReal) := fun x => hP r ⟨128 * (j.val / 128) + x.val, by omega⟩
  unfold refR outAt
  rw [sumsR_apply]
  simp only [softR_apply, weightR_apply, scoreR_apply, er, em, eq, hQ, hK, score_eq, score_coe]
  exact attend_eq _ _

end Cert.Crs.Ref
-- ==== Proof.CrossClaims.lean ====
module

public import proofs.«01_k».proof.Defs
public import proofs.«01_k».proof.Proof.CrossReference
public import proofs.«01_k».proof.Proof.Finite
public import proofs.«01_k».proof.Proof.Gen.Pre_finite_scores
public import proofs.«01_k».proof.Proof.Gen.Cross.Frame

/-! The cross-attention's claims: the frames, and that at finite queries and keys the kernel and its reference return the same array. -/

@[expose] public section

noncomputable section

namespace Cert.Crs

open Idealize.ShloMosaic Idealize.SL.Sem Idealize.ShloMosaic.TcCoe

/-- The predicate gives real queries and keys. -/
theorem real_of_pre {proj : FVec Ideal Cert.Pre_finite_scores.S16384x6144 .f32} {k v : FVec Ideal Cert.Pre_finite_scores.S8192x128 .f32}
    (h : Cert.Pre_finite_scores.fn (F := Ideal) proj k v = fun _ => 1#1) :
    (∀ (r : Fin 16384) (x : Fin 512), proj (ix2 r (⟨2560 + x.val, by omega⟩ : Fin 6144))
        = (((proj (ix2 r (⟨2560 + x.val, by omega⟩ : Fin 6144)) : EReal).toReal : ℝ) : EReal))
      ∧ (∀ n l, k (ix2 n l) = (((k (ix2 n l) : EReal).toReal : ℝ) : EReal)) := by
  obtain ⟨e0, e1⟩ := IntOp.andi_eq_one.1 (congrFun h (fun a => a.elim0))
  refine ⟨fun r x => ?_, fun n l => (Gdn.real_of_all k _ _ _ _ e1 _).symm⟩
  have h := Gdn.real_of_all _ _ _ _ _ e0 (ix2 r x)
  have e : extractStridedSlice Cert.Pre_finite_scores.S16384x512 ![0, 2560] proj Cert.Pre_finite_scores.Facts.slices_S16384x6144_S16384x512_0_2560 (ix2 r x)
      = proj (ix2 r (⟨2560 + x.val, by omega⟩ : Fin 6144)) := by
    pointwise []
  beta_reduce at h
  rw [e] at h
  exact h.symm

/-- The cross-attention kernel and its reference return the same rows. -/
theorem algebraic : Cert.algebraic_CrossIdeal_CrossReferenceIdeal_pre_finite_scores := by
  intro m ρ m' ρ' hpre hagree
  refine ⟨fun c => (Cert.CrossIdeal.Gen.dats m 0 c).arrAt 3 Cert.CrossIdeal.cfg0.N, ?_, ?_⟩
  · exact Cert.CrossIdeal.Value.run_blocks (F := Ideal) m ρ
  · refine (θ_run _ _ _).mono (fun _ h c => ⟨(h c).1.trans ?_, (h c).2⟩) (Cert.CrossReferenceIdeal.Value.run (F := Ideal) m' ρ')
    obtain ⟨e0, e1, e2⟩ := hagree c
    obtain ⟨hP, hK⟩ := real_of_pre (hpre c)
    show Ref.refR _ _ _ = _
    rw [e0, e1, e2]
    funext y
    have e : y = ix2 (y 0) (y 1) := funext fun a => by fin_cases a <;> rfl
    rw [e]
    exact (Ref.refR_apply _ _ _ (fun r j => (argP m c (ix2 r j) : EReal).toReal) _ hP hK (y 0) (y 1)).trans (final_apply m c (y 0) (y 1)).symm

/-- The cross-attention kernel's frame at machine words. -/
theorem frame_words : Cert.quiescent_Cross := fun m ρ _ => Cert.Cross.Gen.frame (F := Bits) m ρ

/-- The cross-attention kernel's frame at the ideal numbers. -/
theorem frame_ideal : Cert.quiescent_CrossIdeal := fun m ρ _ => Cert.CrossIdeal.Gen.frame (F := Ideal) m ρ

/-- The cross-attention reference's frame. -/
theorem frame_reference : Cert.quiescent_CrossReferenceIdeal := fun m ρ _ =>
  (θ_run _ _ _).mono (fun r h => ⟨fun c => (h c).2, sem_eq_zero_of_no_sems (by decide) r.2⟩)
    (Cert.CrossReferenceIdeal.Value.run (F := Ideal) m ρ)

end Cert.Crs
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.MlpIdeal.Value
public import proofs.«01_k».proof.Proof.Gen.Mlp.Frame
public import proofs.«01_k».proof.Proof.Gen.MlpReferenceIdeal.Run
public import proofs.«01_k».proof.Proof.Gen.MergeIdeal.Value
public import proofs.«01_k».proof.Proof.Gen.Merge.Frame
public import proofs.«01_k».proof.Proof.Gen.MergeReferenceIdeal.Run
public import proofs.«01_k».proof.Proof.Gen.InProjIdeal.Frame
public import proofs.«01_k».proof.Proof.Gen.InProj.Frame
public import proofs.«01_k».proof.Proof.Gen.InProjReferenceIdeal.Run
public import proofs.«01_k».proof.Proof.Gen.MemProjIdeal.Frame
public import proofs.«01_k».proof.Proof.Gen.MemProj
public import proofs.«01_k».proof.Proof.Gen.MemProjReferenceIdeal.Run
public import proofs.«01_k».proof.Proof.Gen.CrossIdeal.Value
public import proofs.«01_k».proof.Proof.Gen.Cross.Frame
public import proofs.«01_k».proof.Proof.Gen.CrossReferenceIdeal.Run
public import proofs.«01_k».proof.Proof.Gen.Pre_finite_inputs
public import proofs.«01_k».proof.Proof.Gen.Pre_finite_scores
public import proofs.«01_k».proof.Proof.Claims
public import proofs.«01_k».proof.Proof.MlpClaims
public import proofs.«01_k».proof.Proof.MergeClaims
public import proofs.«01_k».proof.Proof.InProjClaims
public import proofs.«01_k».proof.Proof.MemProjClaims
public import proofs.«01_k».proof.Proof.CrossClaims
public import Idealize.ShloMosaic.Adequacy
public import Idealize.ShloMosaic.Init

@[expose] public section

noncomputable section

namespace Cert.Proof

open Idealize.ShloMosaic Idealize.SL.Sem

/-- The kernel's frame at machine words. -/
theorem frame_kernel : Cert.quiescent_Kernel := fun m ρ _ => Cert.Kernel.Gen.frame (F := Bits) m ρ

/-- Everything claimed: the frames, and the equality of the results. -/
theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Merge.Gen.facts, Cert.MergeIdeal.Gen.facts, Cert.MergeReferenceIdeal.Gen.facts,
  Cert.InProj.Gen.facts, Cert.InProjIdeal.Gen.facts, Cert.InProjReferenceIdeal.Gen.facts,
  Cert.MemProj.Gen.facts, Cert.MemProjIdeal.Gen.facts, Cert.MemProjReferenceIdeal.Gen.facts,
  Cert.Cross.Gen.facts, Cert.CrossIdeal.Gen.facts, Cert.CrossReferenceIdeal.Gen.facts,
  Cert.Pre_finite_inputs.Gen.facts, Cert.Pre_finite_scores.Gen.facts,
  frame_kernel, Cert.Gdn.frame_ideal, fun m ρ _ => Cert.Gdn.frame_ideal m ρ trivial, Cert.Gdn.frame_reference,
  fun m ρ _ => Cert.Gdn.frame_reference m ρ trivial,
  Cert.Ffn.frame_words, Cert.Ffn.frame_ideal, Cert.Ffn.frame_reference,
  Cert.Mrg.frame_words, Cert.Mrg.frame_ideal, Cert.Mrg.frame_reference,
  Cert.Inp.frame_words, Cert.Inp.frame_ideal, Cert.Inp.frame_reference,
  Cert.Mem.frame_words, Cert.Mem.frame_ideal, Cert.Mem.frame_reference,
  Cert.Crs.frame_words, Cert.Crs.frame_ideal, fun m ρ _ => Cert.Crs.frame_ideal m ρ trivial, Cert.Crs.frame_reference,
  fun m ρ _ => Cert.Crs.frame_reference m ρ trivial,
  trivial, Cert.Gdn.algebraic, trivial, Cert.Ffn.algebraic, trivial, Cert.Mrg.algebraic, trivial, Cert.Inp.algebraic,
  trivial, Cert.Mem.algebraic, trivial, Cert.Crs.algebraic⟩

end Cert.Proof

end
